-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attnf_finite [hPre_attnf_finite : Cert.Pre_attnf_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.2.1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.2.2.1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))).2.2.2.2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attnf_finite [hPre_attnf_finite : Cert.Pre_attnf_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.2.1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.2.2.1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))).2.2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2 = (fun _ => 1#1)

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFRefIdeal (m : (ℓ : Loc Cert.MlpFRefIdeal.nD Cert.MlpFRefIdeal.τ Cert.MlpFRefIdeal.sig) → Buf (Elt Ideal) ℓ) : Prop :=
  True

def Pre_MlpD (m : (ℓ : Loc Cert.MlpD.nD Cert.MlpD.τ Cert.MlpD.sig) → Buf (Elt Bits) ℓ) : Prop :=
  True

def Pre_MlpDIdeal (m : (ℓ : Loc Cert.MlpDIdeal.nD Cert.MlpDIdeal.τ Cert.MlpDIdeal.sig) → Buf (Elt Ideal) ℓ) : Prop :=
  True

def Pre_MlpDIdeal_mlpd_finite [hPre_mlpd_finite : Cert.Pre_mlpd_finite.Facts] (m : (ℓ : Loc Cert.MlpDIdeal.nD Cert.MlpDIdeal.τ Cert.MlpDIdeal.sig) → Buf (Elt Ideal) ℓ) : Prop :=
  ∀ c : Dev Cert.MlpDIdeal.nD,
    (Cert.Pre_mlpd_finite.fn (F := Ideal) (m ((c.tc : Thread Cert.MlpDIdeal.nD Cert.MlpDIdeal.τ).loc Cert.MlpDIdeal.main_arg0)) (m ((c.tc : Thread Cert.MlpDIdeal.nD Cert.MlpDIdeal.τ).loc Cert.MlpDIdeal.main_arg1)) (m ((c.tc : Thread Cert.MlpDIdeal.nD Cert.MlpDIdeal.τ).loc Cert.MlpDIdeal.main_arg2)) (m ((c.tc : Thread Cert.MlpDIdeal.nD Cert.MlpDIdeal.τ).loc Cert.MlpDIdeal.main_arg3)) (m ((c.tc : Thread Cert.MlpDIdeal.nD Cert.MlpDIdeal.τ).loc Cert.MlpDIdeal.main_arg4))).1 = (fun _ => 1#1)
    ∧ (Cert.Pre_mlpd_finite.fn (F := Ideal) (m ((c.tc : Thread Cert.MlpDIdeal.nD Cert.MlpDIdeal.τ).loc Cert.MlpDIdeal.main_arg0)) (m ((c.tc : Thread Cert.MlpDIdeal.nD Cert.MlpDIdeal.τ).loc Cert.MlpDIdeal.main_arg1)) (m ((c.tc : Thread Cert.MlpDIdeal.nD Cert.MlpDIdeal.τ).loc Cert.MlpDIdeal.main_arg2)) (m ((c.tc : Thread Cert.MlpDIdeal.nD Cert.MlpDIdeal.τ).loc Cert.MlpDIdeal.main_arg3)) (m ((c.tc : Thread Cert.MlpDIdeal.nD Cert.MlpDIdeal.τ).loc Cert.MlpDIdeal.main_arg4))).2.1 = (fun _ => 1#1)
    ∧ (Cert.Pre_mlpd_finite.fn (F := Ideal) (m ((c.tc : Thread Cert.MlpDIdeal.nD Cert.MlpDIdeal.τ).loc Cert.MlpDIdeal.main_arg0)) (m ((c.tc : Thread Cert.MlpDIdeal.nD Cert.MlpDIdeal.τ).loc Cert.MlpDIdeal.main_arg1)) (m ((c.tc : Thread Cert.MlpDIdeal.nD Cert.MlpDIdeal.τ).loc Cert.MlpDIdeal.main_arg2)) (m ((c.tc : Thread Cert.MlpDIdeal.nD Cert.MlpDIdeal.τ).loc Cert.MlpDIdeal.main_arg3)) (m ((c.tc : Thread Cert.MlpDIdeal.nD Cert.MlpDIdeal.τ).loc Cert.MlpDIdeal.main_arg4))).2.2.1 = (fun _ => 1#1)
    ∧ (Cert.Pre_mlpd_finite.fn (F := Ideal) (m ((c.tc : Thread Cert.MlpDIdeal.nD Cert.MlpDIdeal.τ).loc Cert.MlpDIdeal.main_arg0)) (m ((c.tc : Thread Cert.MlpDIdeal.nD Cert.MlpDIdeal.τ).loc Cert.MlpDIdeal.main_arg1)) (m ((c.tc : Thread Cert.MlpDIdeal.nD Cert.MlpDIdeal.τ).loc Cert.MlpDIdeal.main_arg2)) (m ((c.tc : Thread Cert.MlpDIdeal.nD Cert.MlpDIdeal.τ).loc Cert.MlpDIdeal.main_arg3)) (m ((c.tc : Thread Cert.MlpDIdeal.nD Cert.MlpDIdeal.τ).loc Cert.MlpDIdeal.main_arg4))).2.2.2.1 = (fun _ => 1#1)
    ∧ (Cert.Pre_mlpd_finite.fn (F := Ideal) (m ((c.tc : Thread Cert.MlpDIdeal.nD Cert.MlpDIdeal.τ).loc Cert.MlpDIdeal.main_arg0)) (m ((c.tc : Thread Cert.MlpDIdeal.nD Cert.MlpDIdeal.τ).loc Cert.MlpDIdeal.main_arg1)) (m ((c.tc : Thread Cert.MlpDIdeal.nD Cert.MlpDIdeal.τ).loc Cert.MlpDIdeal.main_arg2)) (m ((c.tc : Thread Cert.MlpDIdeal.nD Cert.MlpDIdeal.τ).loc Cert.MlpDIdeal.main_arg3)) (m ((c.tc : Thread Cert.MlpDIdeal.nD Cert.MlpDIdeal.τ).loc Cert.MlpDIdeal.main_arg4))).2.2.2.2 = (fun _ => 1#1)

def Pre_MlpDRefIdeal (m : (ℓ : Loc Cert.MlpDRefIdeal.nD Cert.MlpDRefIdeal.τ Cert.MlpDRefIdeal.sig) → Buf (Elt Ideal) ℓ) : Prop :=
  True

def Pre_MlpDRefIdeal_mlpd_finite [hPre_mlpd_finite : Cert.Pre_mlpd_finite.Facts] (m : (ℓ : Loc Cert.MlpDRefIdeal.nD Cert.MlpDRefIdeal.τ Cert.MlpDRefIdeal.sig) → Buf (Elt Ideal) ℓ) : Prop :=
  ∀ c : Dev Cert.MlpDRefIdeal.nD,
    (Cert.Pre_mlpd_finite.fn (F := Ideal) (m ((c.tc : Thread Cert.MlpDRefIdeal.nD Cert.MlpDRefIdeal.τ).loc Cert.MlpDRefIdeal.main_arg0)) (m ((c.tc : Thread Cert.MlpDRefIdeal.nD Cert.MlpDRefIdeal.τ).loc Cert.MlpDRefIdeal.main_arg1)) (m ((c.tc : Thread Cert.MlpDRefIdeal.nD Cert.MlpDRefIdeal.τ).loc Cert.MlpDRefIdeal.main_arg2)) (m ((c.tc : Thread Cert.MlpDRefIdeal.nD Cert.MlpDRefIdeal.τ).loc Cert.MlpDRefIdeal.main_arg3)) (m ((c.tc : Thread Cert.MlpDRefIdeal.nD Cert.MlpDRefIdeal.τ).loc Cert.MlpDRefIdeal.main_arg4))).1 = (fun _ => 1#1)
    ∧ (Cert.Pre_mlpd_finite.fn (F := Ideal) (m ((c.tc : Thread Cert.MlpDRefIdeal.nD Cert.MlpDRefIdeal.τ).loc Cert.MlpDRefIdeal.main_arg0)) (m ((c.tc : Thread Cert.MlpDRefIdeal.nD Cert.MlpDRefIdeal.τ).loc Cert.MlpDRefIdeal.main_arg1)) (m ((c.tc : Thread Cert.MlpDRefIdeal.nD Cert.MlpDRefIdeal.τ).loc Cert.MlpDRefIdeal.main_arg2)) (m ((c.tc : Thread Cert.MlpDRefIdeal.nD Cert.MlpDRefIdeal.τ).loc Cert.MlpDRefIdeal.main_arg3)) (m ((c.tc : Thread Cert.MlpDRefIdeal.nD Cert.MlpDRefIdeal.τ).loc Cert.MlpDRefIdeal.main_arg4))).2.1 = (fun _ => 1#1)
    ∧ (Cert.Pre_mlpd_finite.fn (F := Ideal) (m ((c.tc : Thread Cert.MlpDRefIdeal.nD Cert.MlpDRefIdeal.τ).loc Cert.MlpDRefIdeal.main_arg0)) (m ((c.tc : Thread Cert.MlpDRefIdeal.nD Cert.MlpDRefIdeal.τ).loc Cert.MlpDRefIdeal.main_arg1)) (m ((c.tc : Thread Cert.MlpDRefIdeal.nD Cert.MlpDRefIdeal.τ).loc Cert.MlpDRefIdeal.main_arg2)) (m ((c.tc : Thread Cert.MlpDRefIdeal.nD Cert.MlpDRefIdeal.τ).loc Cert.MlpDRefIdeal.main_arg3)) (m ((c.tc : Thread Cert.MlpDRefIdeal.nD Cert.MlpDRefIdeal.τ).loc Cert.MlpDRefIdeal.main_arg4))).2.2.1 = (fun _ => 1#1)
    ∧ (Cert.Pre_mlpd_finite.fn (F := Ideal) (m ((c.tc : Thread Cert.MlpDRefIdeal.nD Cert.MlpDRefIdeal.τ).loc Cert.MlpDRefIdeal.main_arg0)) (m ((c.tc : Thread Cert.MlpDRefIdeal.nD Cert.MlpDRefIdeal.τ).loc Cert.MlpDRefIdeal.main_arg1)) (m ((c.tc : Thread Cert.MlpDRefIdeal.nD Cert.MlpDRefIdeal.τ).loc Cert.MlpDRefIdeal.main_arg2)) (m ((c.tc : Thread Cert.MlpDRefIdeal.nD Cert.MlpDRefIdeal.τ).loc Cert.MlpDRefIdeal.main_arg3)) (m ((c.tc : Thread Cert.MlpDRefIdeal.nD Cert.MlpDRefIdeal.τ).loc Cert.MlpDRefIdeal.main_arg4))).2.2.2.1 = (fun _ => 1#1)
    ∧ (Cert.Pre_mlpd_finite.fn (F := Ideal) (m ((c.tc : Thread Cert.MlpDRefIdeal.nD Cert.MlpDRefIdeal.τ).loc Cert.MlpDRefIdeal.main_arg0)) (m ((c.tc : Thread Cert.MlpDRefIdeal.nD Cert.MlpDRefIdeal.τ).loc Cert.MlpDRefIdeal.main_arg1)) (m ((c.tc : Thread Cert.MlpDRefIdeal.nD Cert.MlpDRefIdeal.τ).loc Cert.MlpDRefIdeal.main_arg2)) (m ((c.tc : Thread Cert.MlpDRefIdeal.nD Cert.MlpDRefIdeal.τ).loc Cert.MlpDRefIdeal.main_arg3)) (m ((c.tc : Thread Cert.MlpDRefIdeal.nD Cert.MlpDRefIdeal.τ).loc Cert.MlpDRefIdeal.main_arg4))).2.2.2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3)
      ∧ r.2.mem ((c.tc : Thread Cert.AttnF.nD Cert.AttnF.τ).loc Cert.AttnF.main_arg4) = m ((c.tc : Thread Cert.AttnF.nD Cert.AttnF.τ).loc Cert.AttnF.main_arg4))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFIdeal_pre_attnf_finite [hAttnFIdeal : Cert.AttnFIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attnf_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_AttnFRefIdeal_pre_attnf_finite [hAttnFRefIdeal : Cert.AttnFRefIdeal.Facts] [hPre_attnf_finite : Cert.Pre_attnf_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attnf_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3))
      ∧ r.2.sem = fun _ => 0)

def quiescent_MlpD [hMlpD : Cert.MlpD.Facts] : Prop :=
  ∀ (m : (ℓ : Loc Cert.MlpD.nD Cert.MlpD.τ Cert.MlpD.sig) → Buf (Elt Bits) ℓ) (g : Dev Cert.MlpD.nD → PrngReg), Pre_MlpD m →
    θ_run (Cert.MlpD.defs (F := Bits)) (onTc (τ := Cert.MlpD.τ) (Cert.MlpD.main (F := Bits))) ⟨m, fun _ => 0, g⟩ (fun r => (∀ c : Dev Cert.MlpD.nD,
      r.2.mem ((c.tc : Thread Cert.MlpD.nD Cert.MlpD.τ).loc Cert.MlpD.main_arg0) = m ((c.tc : Thread Cert.MlpD.nD Cert.MlpD.τ).loc Cert.MlpD.main_arg0)
      ∧ r.2.mem ((c.tc : Thread Cert.MlpD.nD Cert.MlpD.τ).loc Cert.MlpD.main_arg1) = m ((c.tc : Thread Cert.MlpD.nD Cert.MlpD.τ).loc Cert.MlpD.main_arg1)
      ∧ r.2.mem ((c.tc : Thread Cert.MlpD.nD Cert.MlpD.τ).loc Cert.MlpD.main_arg2) = m ((c.tc : Thread Cert.MlpD.nD Cert.MlpD.τ).loc Cert.MlpD.main_arg2)
      ∧ r.2.mem ((c.tc : Thread Cert.MlpD.nD Cert.MlpD.τ).loc Cert.MlpD.main_arg3) = m ((c.tc : Thread Cert.MlpD.nD Cert.MlpD.τ).loc Cert.MlpD.main_arg3)
      ∧ r.2.mem ((c.tc : Thread Cert.MlpD.nD Cert.MlpD.τ).loc Cert.MlpD.main_arg4) = m ((c.tc : Thread Cert.MlpD.nD Cert.MlpD.τ).loc Cert.MlpD.main_arg4))
      ∧ r.2.sem = fun _ => 0)

def quiescent_MlpDIdeal [hMlpDIdeal : Cert.MlpDIdeal.Facts] : Prop :=
  ∀ (m : (ℓ : Loc Cert.MlpDIdeal.nD Cert.MlpDIdeal.τ Cert.MlpDIdeal.sig) → Buf (Elt Ideal) ℓ) (g : Dev Cert.MlpDIdeal.nD → PrngReg), Pre_MlpDIdeal m →
    θ_run (Cert.MlpDIdeal.defs (F := Ideal)) (onTc (τ := Cert.MlpDIdeal.τ) (Cert.MlpDIdeal.main (F := Ideal))) ⟨m, fun _ => 0, g⟩ (fun r => (∀ c : Dev Cert.MlpDIdeal.nD,
      r.2.mem ((c.tc : Thread Cert.MlpDIdeal.nD Cert.MlpDIdeal.τ).loc Cert.MlpDIdeal.main_arg0) = m ((c.tc : Thread Cert.MlpDIdeal.nD Cert.MlpDIdeal.τ).loc Cert.MlpDIdeal.main_arg0)
      ∧ r.2.mem ((c.tc : Thread Cert.MlpDIdeal.nD Cert.MlpDIdeal.τ).loc Cert.MlpDIdeal.main_arg1) = m ((c.tc : Thread Cert.MlpDIdeal.nD Cert.MlpDIdeal.τ).loc Cert.MlpDIdeal.main_arg1)
      ∧ r.2.mem ((c.tc : Thread Cert.MlpDIdeal.nD Cert.MlpDIdeal.τ).loc Cert.MlpDIdeal.main_arg2) = m ((c.tc : Thread Cert.MlpDIdeal.nD Cert.MlpDIdeal.τ).loc Cert.MlpDIdeal.main_arg2)
      ∧ r.2.mem ((c.tc : Thread Cert.MlpDIdeal.nD Cert.MlpDIdeal.τ).loc Cert.MlpDIdeal.main_arg3) = m ((c.tc : Thread Cert.MlpDIdeal.nD Cert.MlpDIdeal.τ).loc Cert.MlpDIdeal.main_arg3)
      ∧ r.2.mem ((c.tc : Thread Cert.MlpDIdeal.nD Cert.MlpDIdeal.τ).loc Cert.MlpDIdeal.main_arg4) = m ((c.tc : Thread Cert.MlpDIdeal.nD Cert.MlpDIdeal.τ).loc Cert.MlpDIdeal.main_arg4))
      ∧ r.2.sem = fun _ => 0)

def quiescent_MlpDIdeal_pre_mlpd_finite [hMlpDIdeal : Cert.MlpDIdeal.Facts] [hPre_mlpd_finite : Cert.Pre_mlpd_finite.Facts] : Prop :=
  ∀ (m : (ℓ : Loc Cert.MlpDIdeal.nD Cert.MlpDIdeal.τ Cert.MlpDIdeal.sig) → Buf (Elt Ideal) ℓ) (g : Dev Cert.MlpDIdeal.nD → PrngReg), Pre_MlpDIdeal_mlpd_finite m →
    θ_run (Cert.MlpDIdeal.defs (F := Ideal)) (onTc (τ := Cert.MlpDIdeal.τ) (Cert.MlpDIdeal.main (F := Ideal))) ⟨m, fun _ => 0, g⟩ (fun r => (∀ c : Dev Cert.MlpDIdeal.nD,
      r.2.mem ((c.tc : Thread Cert.MlpDIdeal.nD Cert.MlpDIdeal.τ).loc Cert.MlpDIdeal.main_arg0) = m ((c.tc : Thread Cert.MlpDIdeal.nD Cert.MlpDIdeal.τ).loc Cert.MlpDIdeal.main_arg0)
      ∧ r.2.mem ((c.tc : Thread Cert.MlpDIdeal.nD Cert.MlpDIdeal.τ).loc Cert.MlpDIdeal.main_arg1) = m ((c.tc : Thread Cert.MlpDIdeal.nD Cert.MlpDIdeal.τ).loc Cert.MlpDIdeal.main_arg1)
      ∧ r.2.mem ((c.tc : Thread Cert.MlpDIdeal.nD Cert.MlpDIdeal.τ).loc Cert.MlpDIdeal.main_arg2) = m ((c.tc : Thread Cert.MlpDIdeal.nD Cert.MlpDIdeal.τ).loc Cert.MlpDIdeal.main_arg2)
      ∧ r.2.mem ((c.tc : Thread Cert.MlpDIdeal.nD Cert.MlpDIdeal.τ).loc Cert.MlpDIdeal.main_arg3) = m ((c.tc : Thread Cert.MlpDIdeal.nD Cert.MlpDIdeal.τ).loc Cert.MlpDIdeal.main_arg3)
      ∧ r.2.mem ((c.tc : Thread Cert.MlpDIdeal.nD Cert.MlpDIdeal.τ).loc Cert.MlpDIdeal.main_arg4) = m ((c.tc : Thread Cert.MlpDIdeal.nD Cert.MlpDIdeal.τ).loc Cert.MlpDIdeal.main_arg4))
      ∧ r.2.sem = fun _ => 0)

def quiescent_MlpDRefIdeal [hMlpDRefIdeal : Cert.MlpDRefIdeal.Facts] : Prop :=
  ∀ (m : (ℓ : Loc Cert.MlpDRefIdeal.nD Cert.MlpDRefIdeal.τ Cert.MlpDRefIdeal.sig) → Buf (Elt Ideal) ℓ) (g : Dev Cert.MlpDRefIdeal.nD → PrngReg), Pre_MlpDRefIdeal m →
    θ_run (Cert.MlpDRefIdeal.defs (F := Ideal)) (onTc (τ := Cert.MlpDRefIdeal.τ) (Cert.MlpDRefIdeal.main (F := Ideal))) ⟨m, fun _ => 0, g⟩ (fun r => (∀ c : Dev Cert.MlpDRefIdeal.nD,
      r.2.mem ((c.tc : Thread Cert.MlpDRefIdeal.nD Cert.MlpDRefIdeal.τ).loc Cert.MlpDRefIdeal.main_arg0) = m ((c.tc : Thread Cert.MlpDRefIdeal.nD Cert.MlpDRefIdeal.τ).loc Cert.MlpDRefIdeal.main_arg0)
      ∧ r.2.mem ((c.tc : Thread Cert.MlpDRefIdeal.nD Cert.MlpDRefIdeal.τ).loc Cert.MlpDRefIdeal.main_arg1) = m ((c.tc : Thread Cert.MlpDRefIdeal.nD Cert.MlpDRefIdeal.τ).loc Cert.MlpDRefIdeal.main_arg1)
      ∧ r.2.mem ((c.tc : Thread Cert.MlpDRefIdeal.nD Cert.MlpDRefIdeal.τ).loc Cert.MlpDRefIdeal.main_arg2) = m ((c.tc : Thread Cert.MlpDRefIdeal.nD Cert.MlpDRefIdeal.τ).loc Cert.MlpDRefIdeal.main_arg2)
      ∧ r.2.mem ((c.tc : Thread Cert.MlpDRefIdeal.nD Cert.MlpDRefIdeal.τ).loc Cert.MlpDRefIdeal.main_arg3) = m ((c.tc : Thread Cert.MlpDRefIdeal.nD Cert.MlpDRefIdeal.τ).loc Cert.MlpDRefIdeal.main_arg3)
      ∧ r.2.mem ((c.tc : Thread Cert.MlpDRefIdeal.nD Cert.MlpDRefIdeal.τ).loc Cert.MlpDRefIdeal.main_arg4) = m ((c.tc : Thread Cert.MlpDRefIdeal.nD Cert.MlpDRefIdeal.τ).loc Cert.MlpDRefIdeal.main_arg4))
      ∧ r.2.sem = fun _ => 0)

def quiescent_MlpDRefIdeal_pre_mlpd_finite [hMlpDRefIdeal : Cert.MlpDRefIdeal.Facts] [hPre_mlpd_finite : Cert.Pre_mlpd_finite.Facts] : Prop :=
  ∀ (m : (ℓ : Loc Cert.MlpDRefIdeal.nD Cert.MlpDRefIdeal.τ Cert.MlpDRefIdeal.sig) → Buf (Elt Ideal) ℓ) (g : Dev Cert.MlpDRefIdeal.nD → PrngReg), Pre_MlpDRefIdeal_mlpd_finite m →
    θ_run (Cert.MlpDRefIdeal.defs (F := Ideal)) (onTc (τ := Cert.MlpDRefIdeal.τ) (Cert.MlpDRefIdeal.main (F := Ideal))) ⟨m, fun _ => 0, g⟩ (fun r => (∀ c : Dev Cert.MlpDRefIdeal.nD,
      r.2.mem ((c.tc : Thread Cert.MlpDRefIdeal.nD Cert.MlpDRefIdeal.τ).loc Cert.MlpDRefIdeal.main_arg0) = m ((c.tc : Thread Cert.MlpDRefIdeal.nD Cert.MlpDRefIdeal.τ).loc Cert.MlpDRefIdeal.main_arg0)
      ∧ r.2.mem ((c.tc : Thread Cert.MlpDRefIdeal.nD Cert.MlpDRefIdeal.τ).loc Cert.MlpDRefIdeal.main_arg1) = m ((c.tc : Thread Cert.MlpDRefIdeal.nD Cert.MlpDRefIdeal.τ).loc Cert.MlpDRefIdeal.main_arg1)
      ∧ r.2.mem ((c.tc : Thread Cert.MlpDRefIdeal.nD Cert.MlpDRefIdeal.τ).loc Cert.MlpDRefIdeal.main_arg2) = m ((c.tc : Thread Cert.MlpDRefIdeal.nD Cert.MlpDRefIdeal.τ).loc Cert.MlpDRefIdeal.main_arg2)
      ∧ r.2.mem ((c.tc : Thread Cert.MlpDRefIdeal.nD Cert.MlpDRefIdeal.τ).loc Cert.MlpDRefIdeal.main_arg3) = m ((c.tc : Thread Cert.MlpDRefIdeal.nD Cert.MlpDRefIdeal.τ).loc Cert.MlpDRefIdeal.main_arg3)
      ∧ r.2.mem ((c.tc : Thread Cert.MlpDRefIdeal.nD Cert.MlpDRefIdeal.τ).loc Cert.MlpDRefIdeal.main_arg4) = m ((c.tc : Thread Cert.MlpDRefIdeal.nD Cert.MlpDRefIdeal.τ).loc Cert.MlpDRefIdeal.main_arg4))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v9_1)) (v2 : (c : Dev Cert.ConvIdeal.nD) → Buf (Elt Ideal) ((c.tc : Thread Cert.ConvIdeal.nD Cert.ConvIdeal.τ).loc Cert.ConvIdeal.main_v9_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_v9_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v89) = v0 c
          ∧ r.2.mem ((c.tc : Thread Cert.ConvRefIdeal.nD Cert.ConvRefIdeal.τ).loc Cert.ConvRefIdeal.main_v87) = v1 c
          ∧ r.2.mem ((c.tc : Thread Cert.ConvRefIdeal.nD Cert.ConvRefIdeal.τ).loc Cert.ConvRefIdeal.main_v90) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v27_0)) (v1 : (c : Dev Cert.AttnIdeal.nD) → Buf (Elt Ideal) ((c.tc : Thread Cert.AttnIdeal.nD Cert.AttnIdeal.τ).loc Cert.AttnIdeal.main_v27_1)) (v2 : (c : Dev Cert.AttnIdeal.nD) → Buf (Elt Ideal) ((c.tc : Thread Cert.AttnIdeal.nD Cert.AttnIdeal.τ).loc Cert.AttnIdeal.main_v27_2)) (v3 : (c : Dev Cert.AttnIdeal.nD) → Buf (Elt Ideal) ((c.tc : Thread Cert.AttnIdeal.nD Cert.AttnIdeal.τ).loc Cert.AttnIdeal.main_v27_3)) (v4 : (c : Dev Cert.AttnIdeal.nD) → Buf (Elt Ideal) ((c.tc : Thread Cert.AttnIdeal.nD Cert.AttnIdeal.τ).loc Cert.AttnIdeal.main_v27_4)) (v5 : (c : Dev Cert.AttnIdeal.nD) → Buf (Elt Ideal) ((c.tc : Thread Cert.AttnIdeal.nD Cert.AttnIdeal.τ).loc Cert.AttnIdeal.main_v27_5)) (v6 : (c : Dev Cert.AttnIdeal.nD) → Buf (Elt Ideal) ((c.tc : Thread Cert.AttnIdeal.nD Cert.AttnIdeal.τ).loc Cert.AttnIdeal.main_v27_6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v27_0) = v0 c
          ∧ r.2.mem ((c.tc : Thread Cert.AttnIdeal.nD Cert.AttnIdeal.τ).loc Cert.AttnIdeal.main_v27_1) = v1 c
          ∧ r.2.mem ((c.tc : Thread Cert.AttnIdeal.nD Cert.AttnIdeal.τ).loc Cert.AttnIdeal.main_v27_2) = v2 c
          ∧ r.2.mem ((c.tc : Thread Cert.AttnIdeal.nD Cert.AttnIdeal.τ).loc Cert.AttnIdeal.main_v27_3) = v3 c
          ∧ r.2.mem ((c.tc : Thread Cert.AttnIdeal.nD Cert.AttnIdeal.τ).loc Cert.AttnIdeal.main_v27_4) = v4 c
          ∧ r.2.mem ((c.tc : Thread Cert.AttnIdeal.nD Cert.AttnIdeal.τ).loc Cert.AttnIdeal.main_v27_5) = v5 c
          ∧ r.2.mem ((c.tc : Thread Cert.AttnIdeal.nD Cert.AttnIdeal.τ).loc Cert.AttnIdeal.main_v27_6) = v6 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v223) = v0 c
          ∧ r.2.mem ((c.tc : Thread Cert.AttnRefIdeal.nD Cert.AttnRefIdeal.τ).loc Cert.AttnRefIdeal.main_v204) = v1 c
          ∧ r.2.mem ((c.tc : Thread Cert.AttnRefIdeal.nD Cert.AttnRefIdeal.τ).loc Cert.AttnRefIdeal.main_v185) = v2 c
          ∧ r.2.mem ((c.tc : Thread Cert.AttnRefIdeal.nD Cert.AttnRefIdeal.τ).loc Cert.AttnRefIdeal.main_v224) = v3 c
          ∧ r.2.mem ((c.tc : Thread Cert.AttnRefIdeal.nD Cert.AttnRefIdeal.τ).loc Cert.AttnRefIdeal.main_v225) = v4 c
          ∧ r.2.mem ((c.tc : Thread Cert.AttnRefIdeal.nD Cert.AttnRefIdeal.τ).loc Cert.AttnRefIdeal.main_v226) = v5 c
          ∧ r.2.mem ((c.tc : Thread Cert.AttnRefIdeal.nD Cert.AttnRefIdeal.τ).loc Cert.AttnRefIdeal.main_v227) = v6 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_AttnF_AttnFIdeal : Prop :=
  IdealRules.named_const.Statement Cert.AttnFIdeal.κ "mask" .f32 0xF149F2CA#32 ⊥

def algebraic_AttnFIdeal_AttnFRefIdeal_pre_attnf_finite [hAttnFIdeal : Cert.AttnFIdeal.Facts] [hAttnFRefIdeal : Cert.AttnFRefIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attnf_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)
      ∧ m' ((c.tc : Thread Cert.AttnFRefIdeal.nD Cert.AttnFRefIdeal.τ).loc Cert.AttnFRefIdeal.main_arg4) = m ((c.tc : Thread Cert.AttnFIdeal.nD Cert.AttnFIdeal.τ).loc Cert.AttnFIdeal.main_arg4)) →
    ∃ (v0 : (c : Dev Cert.AttnFIdeal.nD) → Buf (Elt Ideal) ((c.tc : Thread Cert.AttnFIdeal.nD Cert.AttnFIdeal.τ).loc Cert.AttnFIdeal.main_v27)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v27) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
          ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v105) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3)
          ∧ r.2.mem ((c.tc : Thread Cert.AttnFRefIdeal.nD Cert.AttnFRefIdeal.τ).loc Cert.AttnFRefIdeal.main_arg4) = m' ((c.tc : Thread Cert.AttnFRefIdeal.nD Cert.AttnFRefIdeal.τ).loc Cert.AttnFRefIdeal.main_arg4))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v17_0)) (v1 : (c : Dev Cert.InIdeal.nD) → Buf (Elt Ideal) ((c.tc : Thread Cert.InIdeal.nD Cert.InIdeal.τ).loc Cert.InIdeal.main_v17_1)) (v2 : (c : Dev Cert.InIdeal.nD) → Buf (Elt Ideal) ((c.tc : Thread Cert.InIdeal.nD Cert.InIdeal.τ).loc Cert.InIdeal.main_v17_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v17_0) = v0 c
          ∧ r.2.mem ((c.tc : Thread Cert.InIdeal.nD Cert.InIdeal.τ).loc Cert.InIdeal.main_v17_1) = v1 c
          ∧ r.2.mem ((c.tc : Thread Cert.InIdeal.nD Cert.InIdeal.τ).loc Cert.InIdeal.main_v17_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v40) = v0 c
          ∧ r.2.mem ((c.tc : Thread Cert.InRefIdeal.nD Cert.InRefIdeal.τ).loc Cert.InRefIdeal.main_v48) = v1 c
          ∧ r.2.mem ((c.tc : Thread Cert.InRefIdeal.nD Cert.InRefIdeal.τ).loc Cert.InRefIdeal.main_v49) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v9)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v9) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v40) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v10)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v10) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v21) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2))

def preserves_MlpF_MlpFIdeal : Prop :=
  True

def algebraic_MlpFIdeal_MlpFRefIdeal [hMlpFIdeal : Cert.MlpFIdeal.Facts] [hMlpFRefIdeal : Cert.MlpFRefIdeal.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)) →
    ∃ (v0 : (c : Dev Cert.MlpFIdeal.nD) → Buf (Elt Ideal) ((c.tc : Thread Cert.MlpFIdeal.nD Cert.MlpFIdeal.τ).loc Cert.MlpFIdeal.main_v6_0)) (v1 : (c : Dev Cert.MlpFIdeal.nD) → Buf (Elt Ideal) ((c.tc : Thread Cert.MlpFIdeal.nD Cert.MlpFIdeal.τ).loc Cert.MlpFIdeal.main_v6_1)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v6_0) = v0 c
          ∧ r.2.mem ((c.tc : Thread Cert.MlpFIdeal.nD Cert.MlpFIdeal.τ).loc Cert.MlpFIdeal.main_v6_1) = v1 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v17) = v0 c
          ∧ r.2.mem ((c.tc : Thread Cert.MlpFRefIdeal.nD Cert.MlpFRefIdeal.τ).loc Cert.MlpFRefIdeal.main_v13) = v1 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3))

def preserves_MlpD_MlpDIdeal : Prop :=
  True

def algebraic_MlpDIdeal_MlpDRefIdeal_pre_mlpd_finite [hMlpDIdeal : Cert.MlpDIdeal.Facts] [hMlpDRefIdeal : Cert.MlpDRefIdeal.Facts] [hPre_mlpd_finite : Cert.Pre_mlpd_finite.Facts] : Prop :=
  ∀ (m : (ℓ : Loc Cert.MlpDIdeal.nD Cert.MlpDIdeal.τ Cert.MlpDIdeal.sig) → Buf (Elt Ideal) ℓ) (g : Dev Cert.MlpDIdeal.nD → PrngReg)
    (m' : (ℓ : Loc Cert.MlpDRefIdeal.nD Cert.MlpDRefIdeal.τ Cert.MlpDRefIdeal.sig) → Buf (Elt Ideal) ℓ) (g' : Dev Cert.MlpDRefIdeal.nD → PrngReg), Pre_MlpDIdeal_mlpd_finite m →
    (∀ c : Dev Cert.MlpDIdeal.nD,
      m' ((c.tc : Thread Cert.MlpDRefIdeal.nD Cert.MlpDRefIdeal.τ).loc Cert.MlpDRefIdeal.main_arg0) = m ((c.tc : Thread Cert.MlpDIdeal.nD Cert.MlpDIdeal.τ).loc Cert.MlpDIdeal.main_arg0)
      ∧ m' ((c.tc : Thread Cert.MlpDRefIdeal.nD Cert.MlpDRefIdeal.τ).loc Cert.MlpDRefIdeal.main_arg1) = m ((c.tc : Thread Cert.MlpDIdeal.nD Cert.MlpDIdeal.τ).loc Cert.MlpDIdeal.main_arg1)
      ∧ m' ((c.tc : Thread Cert.MlpDRefIdeal.nD Cert.MlpDRefIdeal.τ).loc Cert.MlpDRefIdeal.main_arg2) = m ((c.tc : Thread Cert.MlpDIdeal.nD Cert.MlpDIdeal.τ).loc Cert.MlpDIdeal.main_arg2)
      ∧ m' ((c.tc : Thread Cert.MlpDRefIdeal.nD Cert.MlpDRefIdeal.τ).loc Cert.MlpDRefIdeal.main_arg3) = m ((c.tc : Thread Cert.MlpDIdeal.nD Cert.MlpDIdeal.τ).loc Cert.MlpDIdeal.main_arg3)
      ∧ m' ((c.tc : Thread Cert.MlpDRefIdeal.nD Cert.MlpDRefIdeal.τ).loc Cert.MlpDRefIdeal.main_arg4) = m ((c.tc : Thread Cert.MlpDIdeal.nD Cert.MlpDIdeal.τ).loc Cert.MlpDIdeal.main_arg4)) →
    ∃ (v0 : (c : Dev Cert.MlpDIdeal.nD) → Buf (Elt Ideal) ((c.tc : Thread Cert.MlpDIdeal.nD Cert.MlpDIdeal.τ).loc Cert.MlpDIdeal.main_v20_0)) (v1 : (c : Dev Cert.MlpDIdeal.nD) → Buf (Elt Ideal) ((c.tc : Thread Cert.MlpDIdeal.nD Cert.MlpDIdeal.τ).loc Cert.MlpDIdeal.main_v20_1)) (v2 : (c : Dev Cert.MlpDIdeal.nD) → Buf (Elt Ideal) ((c.tc : Thread Cert.MlpDIdeal.nD Cert.MlpDIdeal.τ).loc Cert.MlpDIdeal.main_v20_2)),
      θ_run (Cert.MlpDIdeal.defs (F := Ideal)) (onTc (τ := Cert.MlpDIdeal.τ) (Cert.MlpDIdeal.main (F := Ideal))) ⟨m, fun _ => 0, g⟩ (fun r => ∀ c : Dev Cert.MlpDIdeal.nD,
          r.2.mem ((c.tc : Thread Cert.MlpDIdeal.nD Cert.MlpDIdeal.τ).loc Cert.MlpDIdeal.main_v20_0) = v0 c
          ∧ r.2.mem ((c.tc : Thread Cert.MlpDIdeal.nD Cert.MlpDIdeal.τ).loc Cert.MlpDIdeal.main_v20_1) = v1 c
          ∧ r.2.mem ((c.tc : Thread Cert.MlpDIdeal.nD Cert.MlpDIdeal.τ).loc Cert.MlpDIdeal.main_v20_2) = v2 c
          ∧ r.2.mem ((c.tc : Thread Cert.MlpDIdeal.nD Cert.MlpDIdeal.τ).loc Cert.MlpDIdeal.main_arg0) = m ((c.tc : Thread Cert.MlpDIdeal.nD Cert.MlpDIdeal.τ).loc Cert.MlpDIdeal.main_arg0)
          ∧ r.2.mem ((c.tc : Thread Cert.MlpDIdeal.nD Cert.MlpDIdeal.τ).loc Cert.MlpDIdeal.main_arg1) = m ((c.tc : Thread Cert.MlpDIdeal.nD Cert.MlpDIdeal.τ).loc Cert.MlpDIdeal.main_arg1)
          ∧ r.2.mem ((c.tc : Thread Cert.MlpDIdeal.nD Cert.MlpDIdeal.τ).loc Cert.MlpDIdeal.main_arg2) = m ((c.tc : Thread Cert.MlpDIdeal.nD Cert.MlpDIdeal.τ).loc Cert.MlpDIdeal.main_arg2)
          ∧ r.2.mem ((c.tc : Thread Cert.MlpDIdeal.nD Cert.MlpDIdeal.τ).loc Cert.MlpDIdeal.main_arg3) = m ((c.tc : Thread Cert.MlpDIdeal.nD Cert.MlpDIdeal.τ).loc Cert.MlpDIdeal.main_arg3)
          ∧ r.2.mem ((c.tc : Thread Cert.MlpDIdeal.nD Cert.MlpDIdeal.τ).loc Cert.MlpDIdeal.main_arg4) = m ((c.tc : Thread Cert.MlpDIdeal.nD Cert.MlpDIdeal.τ).loc Cert.MlpDIdeal.main_arg4))
      ∧ θ_run (Cert.MlpDRefIdeal.defs (F := Ideal)) (onTc (τ := Cert.MlpDRefIdeal.τ) (Cert.MlpDRefIdeal.main (F := Ideal))) ⟨m', fun _ => 0, g'⟩ (fun r => ∀ c : Dev Cert.MlpDRefIdeal.nD,
          r.2.mem ((c.tc : Thread Cert.MlpDRefIdeal.nD Cert.MlpDRefIdeal.τ).loc Cert.MlpDRefIdeal.main_v52) = v0 c
          ∧ r.2.mem ((c.tc : Thread Cert.MlpDRefIdeal.nD Cert.MlpDRefIdeal.τ).loc Cert.MlpDRefIdeal.main_v53) = v1 c
          ∧ r.2.mem ((c.tc : Thread Cert.MlpDRefIdeal.nD Cert.MlpDRefIdeal.τ).loc Cert.MlpDRefIdeal.main_v54) = v2 c
          ∧ r.2.mem ((c.tc : Thread Cert.MlpDRefIdeal.nD Cert.MlpDRefIdeal.τ).loc Cert.MlpDRefIdeal.main_arg0) = m' ((c.tc : Thread Cert.MlpDRefIdeal.nD Cert.MlpDRefIdeal.τ).loc Cert.MlpDRefIdeal.main_arg0)
          ∧ r.2.mem ((c.tc : Thread Cert.MlpDRefIdeal.nD Cert.MlpDRefIdeal.τ).loc Cert.MlpDRefIdeal.main_arg1) = m' ((c.tc : Thread Cert.MlpDRefIdeal.nD Cert.MlpDRefIdeal.τ).loc Cert.MlpDRefIdeal.main_arg1)
          ∧ r.2.mem ((c.tc : Thread Cert.MlpDRefIdeal.nD Cert.MlpDRefIdeal.τ).loc Cert.MlpDRefIdeal.main_arg2) = m' ((c.tc : Thread Cert.MlpDRefIdeal.nD Cert.MlpDRefIdeal.τ).loc Cert.MlpDRefIdeal.main_arg2)
          ∧ r.2.mem ((c.tc : Thread Cert.MlpDRefIdeal.nD Cert.MlpDRefIdeal.τ).loc Cert.MlpDRefIdeal.main_arg3) = m' ((c.tc : Thread Cert.MlpDRefIdeal.nD Cert.MlpDRefIdeal.τ).loc Cert.MlpDRefIdeal.main_arg3)
          ∧ r.2.mem ((c.tc : Thread Cert.MlpDRefIdeal.nD Cert.MlpDRefIdeal.τ).loc Cert.MlpDRefIdeal.main_arg4) = m' ((c.tc : Thread Cert.MlpDRefIdeal.nD Cert.MlpDRefIdeal.τ).loc Cert.MlpDRefIdeal.main_arg4))

def Claim : Prop :=
  ∃ (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hAttnF : Cert.AttnF.Facts) (hAttnFIdeal : Cert.AttnFIdeal.Facts) (hAttnFRefIdeal : Cert.AttnFRefIdeal.Facts) (hIn : Cert.In.Facts) (hInIdeal : Cert.InIdeal.Facts) (hInRefIdeal : Cert.InRefIdeal.Facts) (hConvF : Cert.ConvF.Facts) (hConvFIdeal : Cert.ConvFIdeal.Facts) (hConvFRefIdeal : Cert.ConvFRefIdeal.Facts) (hInF : Cert.InF.Facts) (hInFIdeal : Cert.InFIdeal.Facts) (hInFRefIdeal : Cert.InFRefIdeal.Facts) (hMlpF : Cert.MlpF.Facts) (hMlpFIdeal : Cert.MlpFIdeal.Facts) (hMlpFRefIdeal : Cert.MlpFRefIdeal.Facts) (hMlpD : Cert.MlpD.Facts) (hMlpDIdeal : Cert.MlpDIdeal.Facts) (hMlpDRefIdeal : Cert.MlpDRefIdeal.Facts) (hPre_conv_finite : Cert.Pre_conv_finite.Facts) (hPre_attn_finite : Cert.Pre_attn_finite.Facts) (hPre_attnf_finite : Cert.Pre_attnf_finite.Facts) (hPre_in_finite : Cert.Pre_in_finite.Facts) (hPre_mlpd_finite : Cert.Pre_mlpd_finite.Facts),
    quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnF (hAttnF := hAttnF)
    ∧ quiescent_AttnFIdeal (hAttnFIdeal := hAttnFIdeal)
    ∧ quiescent_AttnFIdeal_pre_attnf_finite (hAttnFIdeal := hAttnFIdeal) (hPre_attnf_finite := hPre_attnf_finite)
    ∧ quiescent_AttnFRefIdeal (hAttnFRefIdeal := hAttnFRefIdeal)
    ∧ quiescent_AttnFRefIdeal_pre_attnf_finite (hAttnFRefIdeal := hAttnFRefIdeal) (hPre_attnf_finite := hPre_attnf_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_ConvF (hConvF := hConvF)
    ∧ quiescent_ConvFIdeal (hConvFIdeal := hConvFIdeal)
    ∧ quiescent_ConvFRefIdeal (hConvFRefIdeal := hConvFRefIdeal)
    ∧ quiescent_InF (hInF := hInF)
    ∧ quiescent_InFIdeal (hInFIdeal := hInFIdeal)
    ∧ quiescent_InFRefIdeal (hInFRefIdeal := hInFRefIdeal)
    ∧ quiescent_MlpF (hMlpF := hMlpF)
    ∧ quiescent_MlpFIdeal (hMlpFIdeal := hMlpFIdeal)
    ∧ quiescent_MlpFRefIdeal (hMlpFRefIdeal := hMlpFRefIdeal)
    ∧ quiescent_MlpD (hMlpD := hMlpD)
    ∧ quiescent_MlpDIdeal (hMlpDIdeal := hMlpDIdeal)
    ∧ quiescent_MlpDIdeal_pre_mlpd_finite (hMlpDIdeal := hMlpDIdeal) (hPre_mlpd_finite := hPre_mlpd_finite)
    ∧ quiescent_MlpDRefIdeal (hMlpDRefIdeal := hMlpDRefIdeal)
    ∧ quiescent_MlpDRefIdeal_pre_mlpd_finite (hMlpDRefIdeal := hMlpDRefIdeal) (hPre_mlpd_finite := hPre_mlpd_finite)
    ∧ preserves_Loss_LossIdeal
    ∧ algebraic_LossIdeal_LossRefIdeal (hLossIdeal := hLossIdeal) (hLossRefIdeal := hLossRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_AttnF_AttnFIdeal
    ∧ algebraic_AttnFIdeal_AttnFRefIdeal_pre_attnf_finite (hAttnFIdeal := hAttnFIdeal) (hAttnFRefIdeal := hAttnFRefIdeal) (hPre_attnf_finite := hPre_attnf_finite)
    ∧ preserves_In_InIdeal
    ∧ algebraic_InIdeal_InRefIdeal_pre_in_finite (hInIdeal := hInIdeal) (hInRefIdeal := hInRefIdeal) (hPre_in_finite := hPre_in_finite)
    ∧ preserves_ConvF_ConvFIdeal
    ∧ algebraic_ConvFIdeal_ConvFRefIdeal (hConvFIdeal := hConvFIdeal) (hConvFRefIdeal := hConvFRefIdeal)
    ∧ preserves_InF_InFIdeal
    ∧ algebraic_InFIdeal_InFRefIdeal (hInFIdeal := hInFIdeal) (hInFRefIdeal := hInFRefIdeal)
    ∧ preserves_MlpF_MlpFIdeal
    ∧ algebraic_MlpFIdeal_MlpFRefIdeal (hMlpFIdeal := hMlpFIdeal) (hMlpFRefIdeal := hMlpFRefIdeal)
    ∧ preserves_MlpD_MlpDIdeal
    ∧ algebraic_MlpDIdeal_MlpDRefIdeal_pre_mlpd_finite (hMlpDIdeal := hMlpDIdeal) (hMlpDRefIdeal := hMlpDRefIdeal) (hPre_mlpd_finite := hPre_mlpd_finite)
-- ==== Pre_attn_finite.lean ====
abbrev S2048x2312 : Shape := ⟨2, ![2048, 2312]⟩
abbrev S2048x512 : Shape := ⟨2, ![2048, 512]⟩
abbrev S64 : Shape := ⟨1, ![64]⟩
abbrev S8 : Shape := ⟨1, ![8]⟩
abbrev S8x128x256 : Shape := ⟨3, ![8, 128, 256]⟩
abbrev S2048x768 : Shape := ⟨2, ![2048, 768]⟩
abbrev S_ : Shape := ⟨0, ![]⟩

class Facts : Prop where
  slices_S2048x2312_S2048x768_0_0 : S2048x2312.Slices ![0, 0] S2048x768
  bcast_S_S2048x768 : S_.BroadcastsInDim S2048x768 (![] : Fin 0 → Fin S2048x768.rank)
  bcast_S_S2048x512 : S_.BroadcastsInDim S2048x512 (![] : Fin 0 → Fin S2048x512.rank)
  bcast_S_S64 : S_.BroadcastsInDim S64 (![] : Fin 0 → Fin S64.rank)
  bcast_S_S8 : S_.BroadcastsInDim S8 (![] : Fin 0 → Fin S8.rank)
  bcast_S_S8x128x256 : S_.BroadcastsInDim S8x128x256 (![] : Fin 0 → Fin S8x128x256.rank)

variable [Facts]

def fn_part1 {F : FTy → Type} [FloatOps F] (main_v3 : IVec S2048x768 1) (main_v6 : IVec S2048x512 1) (main_v9 : IVec S64 1) (main_v12 : IVec S64 1) (main_v15 : IVec S8 1) (main_v16 : FVec F S8x128x256 .f32) (main_v17 : FVec F S8x128x256 .f32) : IVec S2048x768 1 × IVec S2048x512 1 × IVec S64 1 × IVec S64 1 × IVec S8 1 × IVec S8x128x256 1 :=
  let main_v18 : IVec S8x128x256 1 := cmpf .olt main_v16 main_v17
  (main_v3, main_v6, main_v9, main_v12, main_v15, main_v18)

def fn {F : FTy → Type} [FloatOps F] (main_arg0 : FVec F S2048x2312 .f32) (main_arg1 : FVec F S2048x512 .f32) (main_arg2 : FVec F S64 .f32) (main_arg3 : FVec F S64 .f32) (main_arg4 : FVec F S8 .f32) (main_arg5 : FVec F S8x128x256 .f32) : IVec S2048x768 1 × IVec S2048x512 1 × IVec S64 1 × IVec S64 1 × IVec S8 1 × IVec S8x128x256 1 :=
  let main_v0 : FVec F S2048x768 .f32 := (extractStridedSlice S2048x768 ![0, 0] · slices_S2048x2312_S2048x768_0_0) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg3
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S8 .f32 := Host.absf main_arg4
  let main_cst_3 : FVec F S_ .f32 := constant S_ .f32 0x7F800000#32
  let main_v14 : FVec F S8 .f32 := broadcastInDim S8 ![] bcast_S_S8 main_cst_3
  let main_v15 : IVec S8 1 := cmpf .olt main_v13 main_v14
  let main_v16 : FVec F S8x128x256 .f32 := Host.absf main_arg5
  let main_cst_4 : FVec F S_ .f32 := constant S_ .f32 0x7F800000#32
  let main_v17 : FVec F S8x128x256 .f32 := broadcastInDim S8x128x256 ![] bcast_S_S8x128x256 main_cst_4
  fn_part1 (F := F) main_v3 main_v6 main_v9 main_v12 main_v15 main_v16 main_v17
-- ==== Pre_attnf_finite.lean ====
abbrev S2048x2312 : Shape := ⟨2, ![2048, 2312]⟩
abbrev S64 : Shape := ⟨1, ![64]⟩
abbrev S8 : Shape := ⟨1, ![8]⟩
abbrev S8x128x256 : Shape := ⟨3, ![8, 128, 256]⟩
abbrev S2048x768 : Shape := ⟨2, ![2048, 768]⟩
abbrev S_ : Shape := ⟨0, ![]⟩

class Facts : Prop where
  slices_S2048x2312_S2048x768_0_0 : S2048x2312.Slices ![0, 0] S2048x768
  bcast_S_S2048x768 : S_.BroadcastsInDim S2048x768 (![] : Fin 0 → Fin S2048x768.rank)
  bcast_S_S64 : S_.BroadcastsInDim S64 (![] : Fin 0 → Fin S64.rank)
  bcast_S_S8 : S_.BroadcastsInDim S8 (![] : Fin 0 → Fin S8.rank)
  bcast_S_S8x128x256 : S_.BroadcastsInDim S8x128x256 (![] : Fin 0 → Fin S8x128x256.rank)

variable [Facts]

def fn {F : FTy → Type} [FloatOps F] (main_arg0 : FVec F S2048x2312 .f32) (main_arg1 : FVec F S64 .f32) (main_arg2 : FVec F S64 .f32) (main_arg3 : FVec F S8 .f32) (main_arg4 : FVec F S8x128x256 .f32) : IVec S2048x768 1 × IVec S64 1 × IVec S64 1 × IVec S8 1 × IVec S8x128x256 1 :=
  let main_v0 : FVec F S2048x768 .f32 := (extractStridedSlice S2048x768 ![0, 0] · slices_S2048x2312_S2048x768_0_0) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S8 .f32 := Host.absf main_arg3
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_v13 : FVec F S8x128x256 .f32 := Host.absf main_arg4
  let main_cst_3 : FVec F S_ .f32 := constant S_ .f32 0x7F800000#32
  let main_v14 : FVec F S8x128x256 .f32 := broadcastInDim S8x128x256 ![] bcast_S_S8x128x256 main_cst_3
  let main_v15 : IVec S8x128x256 1 := cmpf .olt main_v13 main_v14
  (main_v3, main_v6, main_v9, main_v12, main_v15)
-- ==== Pre_conv_finite.lean ====
abbrev S2048x2312 : Shape := ⟨2, ![2048, 2312]⟩
abbrev S2048x1024 : Shape := ⟨2, ![2048, 1024]⟩
abbrev S4x1024 : Shape := ⟨2, ![4, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x2312 .f32) (main_arg1 : FVec F S2048x1024 .f32) (main_arg2 : FVec F S4x1024 .f32) (main_arg3 : FVec F S1024 .f32) : IVec S2048x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_in_finite.lean ====
abbrev S2048x2312 : Shape := ⟨2, ![2048, 2312]⟩
abbrev S2048x1024 : Shape := ⟨2, ![2048, 1024]⟩
abbrev S1024 : Shape := ⟨1, ![1024]⟩
abbrev S1024x2312 : Shape := ⟨2, ![1024, 2312]⟩
abbrev S_ : Shape := ⟨0, ![]⟩

class Facts : Prop where
  bcast_S_S2048x2312 : S_.BroadcastsInDim S2048x2312 (![] : Fin 0 → Fin S2048x2312.rank)
  bcast_S_S2048x1024 : S_.BroadcastsInDim S2048x1024 (![] : Fin 0 → Fin S2048x1024.rank)
  bcast_S_S1024 : S_.BroadcastsInDim S1024 (![] : Fin 0 → Fin S1024.rank)
  bcast_S_S1024x2312 : S_.BroadcastsInDim S1024x2312 (![] : Fin 0 → Fin S1024x2312.rank)

variable [Facts]

def fn {F : FTy → Type} [FloatOps F] (main_arg0 : FVec F S2048x2312 .f32) (main_arg1 : FVec F S2048x1024 .f32) (main_arg2 : FVec F S1024 .f32) (main_arg3 : FVec F S1024x2312 .f32) (main_arg4 : FVec F S2048x1024 .f32) : IVec S2048x2312 1 × IVec S2048x1024 1 × IVec S1024 1 × IVec S1024x2312 1 :=
  let main_v0 : FVec F S2048x2312 .f32 := Host.absf main_arg0
  let main_cst : FVec F S_ .f32 := constant S_ .f32 0x7F800000#32
  let main_v1 : FVec F S2048x2312 .f32 := broadcastInDim S2048x2312 ![] bcast_S_S2048x2312 main_cst
  let main_v2 : IVec S2048x2312 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2312 .f32 := Host.absf main_arg3
  let main_cst_2 : FVec F S_ .f32 := constant S_ .f32 0x7F800000#32
  let main_v10 : FVec F S1024x2312 .f32 := broadcastInDim S1024x2312 ![] bcast_S_S1024x2312 main_cst_2
  let main_v11 : IVec S1024x2312 1 := cmpf .olt main_v9 main_v10
  (main_v2, main_v5, main_v8, main_v11)
-- ==== Pre_mlpd_finite.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2048x1024 .f32) (main_arg1 : FVec F S2048x1024 .f32) (main_arg2 : FVec F S1024 .f32) (main_arg3 : FVec F S1024x4096 .f32) (main_arg4 : FVec F S4096x1024 .f32) : IVec S2048x1024 1 × IVec S2048x1024 1 × IVec S1024 1 × IVec S1024x4096 1 × IVec S4096x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Loss.lean ====
abbrev S2048x1024 : Shape := ⟨2, ![2048, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Conv.lean ====
abbrev S2048x2312 : Shape := ⟨2, ![2048, 2312]⟩
abbrev S2048x1024 : Shape := ⟨2, ![2048, 1024]⟩
abbrev S4x1024 : Shape := ⟨2, ![4, 1024]⟩
abbrev S1024 : Shape := ⟨1, ![1024]⟩
abbrev S2048x512 : Shape := ⟨2, ![2048, 512]⟩
abbrev S2048x128 : Shape := ⟨2, ![2048, 128]⟩
abbrev S2048x8 : Shape := ⟨2, ![2048, 8]⟩
abbrev S_ : Shape := ⟨0, ![]⟩
abbrev S2048x2432 : Shape := ⟨2, ![2048, 2432]⟩
abbrev S1x1024 : Shape := ⟨2, ![1, 1024]⟩
abbrev S4x128 : Shape := ⟨2, ![4, 128]⟩
abbrev S1x128 : Shape := ⟨2, ![1, 128]⟩
abbrev S8x128 : Shape := ⟨2, ![8, 128]⟩
abbrev S2040x128 : Shape := ⟨2, ![2040, 128]⟩
abbrev S128 : Shape := ⟨1, ![128]⟩

abbrev nBuf : Space → Nat
  | .hbm => 18
  | .vmem => 14
  | .smem => 0
  | _ => 0

abbrev bufTy : (tb : Table) → Fin (tcTables nBuf tb) → BufTy
  | .hbm, ⟨0, _⟩ => ⟨S2048x2312, .f32⟩
  | .hbm, ⟨1, _⟩ => ⟨S2048x1024, .f32⟩
  | .hbm, ⟨2, _⟩ => ⟨S4x1024, .f32⟩
  | .hbm, ⟨3, _⟩ => ⟨S1024, .f32⟩
  | .hbm, ⟨4, _⟩ => ⟨S2048x512, .f32⟩
  | .hbm, ⟨5, _⟩ => ⟨S2048x128, .f32⟩
  | .hbm, ⟨6, _⟩ => ⟨S2048x128, .f32⟩
  | .hbm, ⟨7, _⟩ => ⟨S2048x512, .f32⟩
  | .hbm, ⟨8, _⟩ => ⟨S2048x1024, .f32⟩
  | .hbm, ⟨9, _⟩ => ⟨S2048x8, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x2432, .f32⟩
  | .hbm, ⟨14, _⟩ => ⟨S1x1024, .f32⟩
  | .hbm, ⟨15, _⟩ => ⟨S2048x1024, .f32⟩
  | .hbm, ⟨16, _⟩ => ⟨S4x1024, .f32⟩
  | .hbm, ⟨17, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S2048x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S2048x2312 : Shape := ⟨2, ![2048, 2312]⟩
abbrev S2048x1024 : Shape := ⟨2, ![2048, 1024]⟩
abbrev S4x1024 : Shape := ⟨2, ![4, 1024]⟩
abbrev S1024 : Shape := ⟨1, ![1024]⟩
abbrev S2048x512 : Shape := ⟨2, ![2048, 512]⟩
abbrev S2048x128 : Shape := ⟨2, ![2048, 128]⟩
abbrev S2048x8 : Shape := ⟨2, ![2048, 8]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩

abbrev nBuf : Space → Nat
  | .hbm => 131
  | .vmem => 0
  | .smem => 0
  | _ => 0

abbrev hbmTy0_0 (i : Nat) : BufTy := match i % 128 with
  | 0 => ⟨S2048x2312, .f32⟩
  | 1 => ⟨S2048x1024, .f32⟩
  | 2 => ⟨S4x1024, .f32⟩
  | 3 => ⟨S1024, .f32⟩
  | 4 => ⟨S2048x512, .f32⟩
  | 5 => ⟨S2048x128, .f32⟩
  | 6 => ⟨S2048x128, .f32⟩
  | 7 => ⟨S2048x512, .f32⟩
  | 8 => ⟨S2048x1024, .f32⟩
  | 9 => ⟨S2048x8, .f32⟩
  | 10 => ⟨S_, .f32⟩
  | 11 => ⟨S3x1024, .f32⟩
  | 12 => ⟨S2051x1024, .f32⟩
  | 13 => ⟨S_, .f32⟩
  | 14 => ⟨S3x1024, .f32⟩
  | 15 => ⟨S1x1024, .f32⟩
  | 16 => ⟨S1024, .f32⟩
  | 17 => ⟨S2048x1024, .f32⟩
  | 18 => ⟨S1x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S1x1024, .f32⟩
  | 25 => ⟨S1024, .f32⟩
  | 26 => ⟨S2048x1024, .f32⟩
  | 27 => ⟨S1x1024, .f32⟩
  | 28 => ⟨S2048x1024, .f32⟩
  | 29 => ⟨S2048x1024, .f32⟩
  | 30 => ⟨S2048x1024, .f32⟩
  | 31 => ⟨S1x1024, .f32⟩
  | 32 => ⟨S1024, .f32⟩
  | 33 => ⟨S2048x1024, .f32⟩
  | 34 => ⟨S1x1024, .f32⟩
  | 35 => ⟨S2048x1024, .f32⟩
  | 36 => ⟨S2048x1024, .f32⟩
  | 37 => ⟨S2048x1024, .f32⟩
  | 38 => ⟨S1x1024, .f32⟩
  | 39 => ⟨S1024, .f32⟩
  | 40 => ⟨S2048x1024, .f32⟩
  | 41 => ⟨S1x1024, .f32⟩
  | 42 => ⟨S2048x1024, .f32⟩
  | 43 => ⟨S2048x1024, .f32⟩
  | 44 => ⟨S2048x1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S_, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S2048x1024, .f32⟩
  | 65 => ⟨S_, .f32⟩
  | 66 => ⟨S1024, .f32⟩
  | 67 => ⟨S1x1024, .f32⟩
  | 68 => ⟨S_, .f32⟩
  | 69 => ⟨S1024, .f32⟩
  | 70 => ⟨S2048x1024, .f32⟩
  | 71 => ⟨S2048x1024, .f32⟩
  | 72 => ⟨S2048x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S_, .f32⟩
  | 79 => ⟨S2051x1024, .f32⟩
  | 80 => ⟨S1x1024, .f32⟩
  | 81 => ⟨S_, .f32⟩
  | 82 => ⟨S4x1024, .f32⟩
  | 83 => ⟨S2048x1024, .f32⟩
  | 84 => ⟨S2048x1024, .f32⟩
  | 85 => ⟨S2048x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S_, .f32⟩
  | 92 => ⟨S2051x1024, .f32⟩
  | 93 => ⟨S2051x1024, .f32⟩
  | 94 => ⟨S1x1024, .f32⟩
  | 95 => ⟨S_, .f32⟩
  | 96 => ⟨S4x1024, .f32⟩
  | 97 => ⟨S4x1024, .f32⟩
  | 98 => ⟨S2048x1024, .f32⟩
  | 99 => ⟨S2048x1024, .f32⟩
  | 100 => ⟨S2048x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S_, .f32⟩
  | 107 => ⟨S2051x1024, .f32⟩
  | 108 => ⟨S2051x1024, .f32⟩
  | 109 => ⟨S1x1024, .f32⟩
  | 110 => ⟨S_, .f32⟩
  | 111 => ⟨S4x1024, .f32⟩
  | 112 => ⟨S4x1024, .f32⟩
  | 113 => ⟨S2048x1024, .f32⟩
  | 114 => ⟨S2048x1024, .f32⟩
  | 115 => ⟨S2048x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S_, .f32⟩
  | 122 => ⟨S2051x1024, .f32⟩
  | 123 => ⟨S2051x1024, .f32⟩
  | 124 => ⟨S1x1024, .f32⟩
  | 125 => ⟨S_, .f32⟩
  | 126 => ⟨S4x1024, .f32⟩
  | 127 => ⟨S4x1024, .f32⟩
  | _ => ⟨S2048x2312, .f32⟩

abbrev hbmTy0_1 (i : Nat) : BufTy := match i % 128 with
  | 0 => ⟨S3x1024, .f32⟩
  | 1 => ⟨S2048x1024, .f32⟩
  | 2 => ⟨S1x1024, .f32⟩
  | _ => ⟨S2048x2312, .f32⟩

abbrev hbmTy (i : Nat) : BufTy := match i / 128 with
  | 0 => hbmTy0_0 i
  | 1 => hbmTy0_1 i
  | _ => ⟨S2048x2312, .f32⟩

abbrev bufTy : (tb : Table) → Fin (tcTables nBuf tb) → BufTy
  | .hbm, ⟨i, _⟩ => hbmTy i
  | _, _ => ⟨S2048x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v41_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v41_1 : Ref sig .tc := ⟨.hbm, 59, rfl⟩
abbrev main_v41_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩

abbrev nD : Nat := 1
abbrev τ : Topo := Topo.v7x

variable {F : FTy → Type} [FloatOps F]
-- ==== Attn.lean ====
abbrev S2048x2312 : Shape := ⟨2, ![2048, 2312]⟩
abbrev S2048x512 : Shape := ⟨2, ![2048, 512]⟩
abbrev S64 : Shape := ⟨1, ![64]⟩
abbrev S8 : Shape := ⟨1, ![8]⟩
abbrev S8x128x256 : Shape := ⟨3, ![8, 128, 256]⟩
abbrev S2048x128 : Shape := ⟨2, ![2048, 128]⟩
abbrev S2048x1024 : Shape := ⟨2, ![2048, 1024]⟩
abbrev S2048x8 : Shape := ⟨2, ![2048, 8]⟩
abbrev S_ : Shape := ⟨0, ![]⟩
abbrev S2048x2432 : Shape := ⟨2, ![2048, 2432]⟩
abbrev S64x1 : Shape := ⟨2, ![64, 1]⟩
abbrev S1x64 : Shape := ⟨2, ![1, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S8x256x128 : Shape := ⟨3, ![8, 256, 128]⟩
abbrev S8x1 : Shape := ⟨2, ![8, 1]⟩
abbrev S128x512 : Shape := ⟨2, ![128, 512]⟩
abbrev S128x128 : Shape := ⟨2, ![128, 128]⟩
abbrev S512x128 : Shape := ⟨2, ![512, 128]⟩
abbrev S8x128 : Shape := ⟨2, ![8, 128]⟩
abbrev S64x128 : Shape := ⟨2, ![64, 128]⟩
abbrev S256x128 : Shape := ⟨2, ![256, 128]⟩
abbrev S256x64 : Shape := ⟨2, ![256, 64]⟩
abbrev S256x1 : Shape := ⟨2, ![256, 1]⟩
abbrev S1x128 : Shape := ⟨2, ![1, 128]⟩
abbrev S1x256x128 : Shape := ⟨3, ![1, 256, 128]⟩
abbrev S1 : Shape := ⟨1, ![1]⟩
abbrev S128x64 : Shape := ⟨2, ![128, 64]⟩

abbrev nBuf : Space → Nat
  | .hbm => 49
  | .vmem => 30
  | .smem => 1
  | _ => 0

abbrev bufTy : (tb : Table) → Fin (tcTables nBuf tb) → BufTy
  | .hbm, ⟨0, _⟩ => ⟨S2048x2312, .f32⟩
  | .hbm, ⟨1, _⟩ => ⟨S2048x512, .f32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S8x128x256, .f32⟩
  | .hbm, ⟨6, _⟩ => ⟨S2048x512, .f32⟩
  | .hbm, ⟨7, _⟩ => ⟨S2048x128, .f32⟩
  | .hbm, ⟨8, _⟩ => ⟨S2048x128, .f32⟩
  | .hbm, ⟨9, _⟩ => ⟨S2048x512, .f32⟩
  | .hbm, ⟨10, _⟩ => ⟨S2048x1024, .f32⟩
  | .hbm, ⟨11, _⟩ => ⟨S2048x8, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x2432, .f32⟩
  | .hbm, ⟨16, _⟩ => ⟨S64x1, .f32⟩
  | .hbm, ⟨17, _⟩ => ⟨S1x64, .f32⟩
  | .hbm, ⟨18, _⟩ => ⟨S128, .i32⟩
  | .hbm, ⟨19, _⟩ => ⟨S128x1, .i32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i1⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S128x256, .i1⟩
  | .hbm, ⟨35, _⟩ => ⟨S1x128x256, .i1⟩
  | .hbm, ⟨36, _⟩ => ⟨S_, .f32⟩
  | .hbm, ⟨37, _⟩ => ⟨S_, .f32⟩
  | .hbm, ⟨38, _⟩ => ⟨S8x128x256, .i1⟩
  | .hbm, ⟨39, _⟩ => ⟨S8x128x256, .f32⟩
  | .hbm, ⟨40, _⟩ => ⟨S8x128x256, .f32⟩
  | .hbm, ⟨41, _⟩ => ⟨S8x256x128, .f32⟩
  | .hbm, ⟨42, _⟩ => ⟨S2048x512, .f32⟩
  | .hbm, ⟨43, _⟩ => ⟨S2048x128, .f32⟩
  | .hbm, ⟨44, _⟩ => ⟨S2048x128, .f32⟩
  | .hbm, ⟨45, _⟩ => ⟨S8x256x128, .f32⟩
  | .hbm, ⟨46, _⟩ => ⟨S8x1, .f32⟩
  | .hbm, ⟨47, _⟩ => ⟨S64x1, .f32⟩
  | .hbm, ⟨48, _⟩ => ⟨S1x64, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S128x512, .f32⟩
  | .local _ .vmem, ⟨12, _⟩ => ⟨S64x1, .f32⟩
  | .local _ .vmem, ⟨13, _⟩ => ⟨S1x64, .f32⟩
  | .local _ .vmem, ⟨14, _⟩ => ⟨S8x256x128, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S8x256x128, .f32⟩
  | .local _ .vmem, ⟨22, _⟩ => ⟨S8x1, .f32⟩
  | .local _ .vmem, ⟨23, _⟩ => ⟨S64x1, .f32⟩
  | .local _ .vmem, ⟨24, _⟩ => ⟨S1x64, .f32⟩
  | .local _ .vmem, ⟨25, _⟩ => ⟨S128x128, .f32⟩
  | .local _ .vmem, ⟨26, _⟩ => ⟨S128x128, .f32⟩
  | .local _ .vmem, ⟨27, _⟩ => ⟨S512x128, .f32⟩
  | .local _ .vmem, ⟨28, _⟩ => ⟨S8x128, .f32⟩
  | .local _ .vmem, ⟨29, _⟩ => ⟨S64x128, .f32⟩
  | .local _ .smem, ⟨0, _⟩ => ⟨S8, .f32⟩
  | _, _ => ⟨S2048x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_372 : BitVec 32 := 15#32
  let v923 : BitVec 1 := Scalar.cmpi .eq arg0 c15_i32_372
  let v924 : BitVec 32 := Scalar.extui v923
  let c0_i32_373 : BitVec 32 := 0#32
  let v925 : BitVec 1 := Scalar.cmpi .ne v924 c0_i32_373
  v925

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let c0_i32 : BitVec 32 := 0#32
  ![v0.toNat, c16_i32.toNat]

def cc0_transform_2 (i : grid0.Coords) : Fin 2 → Nat :=
  let arg0 : BitVec 32 := BitVec.ofNat 32 (i 0).val
  let c14_i32 : BitVec 32 := 14#32
  let v0 : BitVec 32 := Scalar.subi c14_i32 arg0
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c17_i32 : BitVec 32 := 17#32
  let c0_i32 : BitVec 32 := 0#32
  ![v0.toNat, c17_i32.toNat]

def cc0_transform_4 (i : grid0.Coords) : Fin 2 → Nat :=
  let arg0 : BitVec 32 := BitVec.ofNat 32 (i 0).val
  let c14_i32 : BitVec 32 := 14#32
  let v0 : BitVec 32 := Scalar.subi c14_i32 arg0
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S2048x2312 : Shape := ⟨2, ![2048, 2312]⟩
abbrev S2048x512 : Shape := ⟨2, ![2048, 512]⟩
abbrev S64 : Shape := ⟨1, ![64]⟩
abbrev S8 : Shape := ⟨1, ![8]⟩
abbrev S8x128x256 : Shape := ⟨3, ![8, 128, 256]⟩
abbrev S2048x128 : Shape := ⟨2, ![2048, 128]⟩
abbrev S2048x1024 : Shape := ⟨2, ![2048, 1024]⟩
abbrev S2048x8 : Shape := ⟨2, ![2048, 8]⟩
abbrev S2048x8x64 : Shape := ⟨3, ![2048, 8, 64]⟩
abbrev S_ : Shape := ⟨0, ![]⟩
abbrev S2048x8x1 : Shape := ⟨3, ![2048, 8, 1]⟩
abbrev S1x1x64 : Shape := ⟨3, ![1, 1, 64]⟩
abbrev S2048x2x64 : Shape := ⟨3, ![2048, 2, 64]⟩
abbrev S2048x2 : Shape := ⟨2, ![2048, 2]⟩
abbrev S2048x2x1 : Shape := ⟨3, ![2048, 2, 1]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S2x4x128x256 : Shape := ⟨4, ![2, 4, 128, 256]⟩
abbrev S1x2x4x128x256 : Shape := ⟨5, ![1, 2, 4, 128, 256]⟩
abbrev S16 : Shape := ⟨1, ![16]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S2x4x1x1 : Shape := ⟨4, ![2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S16x2x64x256 : Shape := ⟨4, ![16, 2, 64, 256]⟩
abbrev S2x4 : Shape := ⟨2, ![2, 4]⟩
abbrev S16x2x128x4x64 : Shape := ⟨5, ![16, 2, 128, 4, 64]⟩
abbrev S16x2x256x64 : Shape := ⟨4, ![16, 2, 256, 64]⟩
abbrev S8x256x128 : Shape := ⟨3, ![8, 256, 128]⟩
abbrev S8x1 : Shape := ⟨2, ![8, 1]⟩
abbrev S64x1 : Shape := ⟨2, ![64, 1]⟩
abbrev S1x64 : Shape := ⟨2, ![1, 64]⟩

abbrev nBuf : Space → Nat
  | .hbm => 292
  | .vmem => 0
  | .smem => 0
  | _ => 0

abbrev hbmTy0_0 (i : Nat) : BufTy := match i % 128 with
  | 0 => ⟨S2048x2312, .f32⟩
  | 1 => ⟨S2048x512, .f32⟩
  | 2 => ⟨S64, .f32⟩
  | 3 => ⟨S64, .f32⟩
  | 4 => ⟨S8, .f32⟩
  | 5 => ⟨S8x128x256, .f32⟩
  | 6 => ⟨S2048x512, .f32⟩
  | 7 => ⟨S2048x128, .f32⟩
  | 8 => ⟨S2048x128, .f32⟩
  | 9 => ⟨S2048x512, .f32⟩
  | 10 => ⟨S2048x1024, .f32⟩
  | 11 => ⟨S2048x8, .f32⟩
  | 12 => ⟨S2048x8x64, .f32⟩
  | 13 => ⟨S2048x8x64, .f32⟩
  | 14 => ⟨S_, .f32⟩
  | 15 => ⟨S2048x8x64, .f32⟩
  | 16 => ⟨S2048x8x64, .f32⟩
  | 17 => ⟨S_, .f32⟩
  | 18 => ⟨S2048x8, .f32⟩
  | 19 => ⟨S2048x8x1, .f32⟩
  | 20 => ⟨S_, .f32⟩
  | 21 => ⟨S2048x8x1, .f32⟩
  | 22 => ⟨S2048x8x1, .f32⟩
  | 23 => ⟨S_, .f32⟩
  | 24 => ⟨S2048x8x1, .f32⟩
  | 25 => ⟨S2048x8x1, .f32⟩
  | 26 => ⟨S2048x8x1, .f32⟩
  | 27 => ⟨S2048x8x1, .f32⟩
  | 28 => ⟨S_, .f32⟩
  | 29 => ⟨S2048x8x1, .f32⟩
  | 30 => ⟨S2048x8x1, .f32⟩
  | 31 => ⟨S2048x8x64, .f32⟩
  | 32 => ⟨S2048x8x64, .f32⟩
  | 33 => ⟨S1x1x64, .f32⟩
  | 34 => ⟨S2048x8x64, .f32⟩
  | 35 => ⟨S2048x8x64, .f32⟩
  | 36 => ⟨S2048x2x64, .f32⟩
  | 37 => ⟨S2048x2x64, .f32⟩
  | 38 => ⟨S_, .f32⟩
  | 39 => ⟨S2048x2x64, .f32⟩
  | 40 => ⟨S2048x2x64, .f32⟩
  | 41 => ⟨S_, .f32⟩
  | 42 => ⟨S2048x2, .f32⟩
  | 43 => ⟨S2048x2x1, .f32⟩
  | 44 => ⟨S_, .f32⟩
  | 45 => ⟨S2048x2x1, .f32⟩
  | 46 => ⟨S2048x2x1, .f32⟩
  | 47 => ⟨S_, .f32⟩
  | 48 => ⟨S2048x2x1, .f32⟩
  | 49 => ⟨S2048x2x1, .f32⟩
  | 50 => ⟨S2048x2x1, .f32⟩
  | 51 => ⟨S2048x2x1, .f32⟩
  | 52 => ⟨S_, .f32⟩
  | 53 => ⟨S2048x2x1, .f32⟩
  | 54 => ⟨S2048x2x1, .f32⟩
  | 55 => ⟨S2048x2x64, .f32⟩
  | 56 => ⟨S2048x2x64, .f32⟩
  | 57 => ⟨S1x1x64, .f32⟩
  | 58 => ⟨S2048x2x64, .f32⟩
  | 59 => ⟨S2048x2x64, .f32⟩
  | 60 => ⟨S2048x2x64, .f32⟩
  | 61 => ⟨S16x128x2x4x64, .f32⟩
  | 62 => ⟨S16x128x2x64, .f32⟩
  | 63 => ⟨S_, .f32⟩
  | 64 => ⟨S1x128x2x64, .f32⟩
  | 65 => ⟨S15x128x2x64, .f32⟩
  | 66 => ⟨S16x128x2x64, .f32⟩
  | 67 => ⟨S_, .f32⟩
  | 68 => ⟨S1x128x2x64, .f32⟩
  | 69 => ⟨S16x256x2x64, .f32⟩
  | 70 => ⟨S16x128x2x64, .f32⟩
  | 71 => ⟨S_, .f32⟩
  | 72 => ⟨S1x128x2x64, .f32⟩
  | 73 => ⟨S15x128x2x64, .f32⟩
  | 74 => ⟨S16x128x2x64, .f32⟩
  | 75 => ⟨S_, .f32⟩
  | 76 => ⟨S1x128x2x64, .f32⟩
  | 77 => ⟨S16x256x2x64, .f32⟩
  | 78 => ⟨S16x2x256x128x4, .f32⟩
  | 79 => ⟨S16x2x4x128x256, .f32⟩
  | 80 => ⟨S_, .f32⟩
  | 81 => ⟨S16x2x4x128x256, .f32⟩
  | 82 => ⟨S16x2x4x128x256, .f32⟩
  | 83 => ⟨S2x4x128x256, .f32⟩
  | 84 => ⟨S1x2x4x128x256, .f32⟩
  | 85 => ⟨S16x2x4x128x256, .f32⟩
  | 86 => ⟨S16x2x4x128x256, .f32⟩
  | 87 => ⟨S16, .i32⟩
  | 88 => ⟨S16x1, .i32⟩
  | 89 => ⟨S_, .i32⟩
  | 90 => ⟨S16x1, .i32⟩
  | 91 => ⟨S16x1, .i32⟩
  | 92 => ⟨S256, .i32⟩
  | 93 => ⟨S1x256, .i32⟩
  | 94 => ⟨S16x256, .i32⟩
  | 95 => ⟨S16x256, .i32⟩
  | 96 => ⟨S16x256, .i32⟩
  | 97 => ⟨S_, .i32⟩
  | 98 => ⟨S16x256, .i32⟩
  | 99 => ⟨S16x256, .i32⟩
  | 100 => ⟨S128, .i32⟩
  | 101 => ⟨S128x1, .i32⟩
  | 102 => ⟨S_, .i32⟩
  | 103 => ⟨S128x1, .i32⟩
  | 104 => ⟨S128x1, .i32⟩
  | 105 => ⟨S256, .i32⟩
  | 106 => ⟨S1x256, .i32⟩
  | 107 => ⟨S128x256, .i32⟩
  | 108 => ⟨S128x256, .i32⟩
  | 109 => ⟨S128x256, .i32⟩
  | 110 => ⟨S_, .i32⟩
  | 111 => ⟨S128x256, .i32⟩
  | 112 => ⟨S128x256, .i1⟩
  | 113 => ⟨S_, .i32⟩
  | 114 => ⟨S128x256, .i32⟩
  | 115 => ⟨S128x256, .i1⟩
  | 116 => ⟨S128x256, .i1⟩
  | 117 => ⟨S1x128x256, .i1⟩
  | 118 => ⟨S_, .i32⟩
  | 119 => ⟨S16x256, .i32⟩
  | 120 => ⟨S16x256, .i1⟩
  | 121 => ⟨S16x1x256, .i1⟩
  | 122 => ⟨S16x128x256, .i1⟩
  | 123 => ⟨S16x128x256, .i1⟩
  | 124 => ⟨S16x128x256, .i1⟩
  | 125 => ⟨S16x1x1x128x256, .i1⟩
  | 126 => ⟨S_, .f32⟩
  | 127 => ⟨S_, .f32⟩
  | _ => ⟨S2048x2312, .f32⟩

abbrev hbmTy0_1 (i : Nat) : BufTy := match i % 128 with
  | 0 => ⟨S16x2x4x128x256, .i1⟩
  | 1 => ⟨S16x2x4x128x256, .f32⟩
  | 2 => ⟨S16x2x4x128x256, .f32⟩
  | 3 => ⟨S_, .f32⟩
  | 4 => ⟨S16x2x4x128x256, .f32⟩
  | 5 => ⟨S2x4x1x1, .f32⟩
  | 6 => ⟨S16x2x4x128x1, .f32⟩
  | 7 => ⟨S16x2x4x128x257, .f32⟩
  | 8 => ⟨S_, .f32⟩
  | 9 => ⟨S16x2x4x128, .f32⟩
  | 10 => ⟨S16x2x4x128x1, .f32⟩
  | 11 => ⟨S16x2x4x128x257, .f32⟩
  | 12 => ⟨S16x2x4x128x257, .i1⟩
  | 13 => ⟨S16x2x4x128x257, .f32⟩
  | 14 => ⟨S_, .f32⟩
  | 15 => ⟨S16x2x4x128, .f32⟩
  | 16 => ⟨S_, .f32⟩
  | 17 => ⟨S16x2x4x128, .f32⟩
  | 18 => ⟨S16x2x4x128, .f32⟩
  | 19 => ⟨S_, .f32⟩
  | 20 => ⟨S16x2x4x128, .f32⟩
  | 21 => ⟨S16x2x4x128, .i1⟩
  | 22 => ⟨S_, .f32⟩
  | 23 => ⟨S16x2x4x128, .f32⟩
  | 24 => ⟨S16x2x4x128, .i1⟩
  | 25 => ⟨S_, .f32⟩
  | 26 => ⟨S16x2x4x128, .f32⟩
  | 27 => ⟨S_, .f32⟩
  | 28 => ⟨S16x2x4x128, .f32⟩
  | 29 => ⟨S_, .f32⟩
  | 30 => ⟨S16x2x4x128, .f32⟩
  | 31 => ⟨S16x2x4x128, .f32⟩
  | 32 => ⟨S16x2x4x128, .f32⟩
  | 33 => ⟨S16x2x4x128x1, .f32⟩
  | 34 => ⟨S16x2x4x128x257, .f32⟩
  | 35 => ⟨S16x2x4x128x257, .f32⟩
  | 36 => ⟨S16x2x4x128x257, .f32⟩
  | 37 => ⟨S_, .f32⟩
  | 38 => ⟨S16x2x4x128, .f32⟩
  | 39 => ⟨S16x2x4x128x1, .f32⟩
  | 40 => ⟨S16x2x4x128x257, .f32⟩
  | 41 => ⟨S16x2x4x128x257, .f32⟩
  | 42 => ⟨S16x2x4x128x1, .f32⟩
  | 43 => ⟨S_, .f32⟩
  | 44 => ⟨S16x2x4x128x1, .f32⟩
  | 45 => ⟨S16x2x4x128x1, .f32⟩
  | 46 => ⟨S16x2x4x128x256, .f32⟩
  | 47 => ⟨S16x2x64x4x128, .f32⟩
  | 48 => ⟨S16x128x2x4x64, .f32⟩
  | 49 => ⟨S2048x512, .f32⟩
  | 50 => ⟨S16x128x2x4x64, .f32⟩
  | 51 => ⟨S16x2x64x4x128, .f32⟩
  | 52 => ⟨S16x2x4x128x256, .f32⟩
  | 53 => ⟨S16x2x64x256, .f32⟩
  | 54 => ⟨S16x256x2x64, .f32⟩
  | 55 => ⟨S_, .f32⟩
  | 56 => ⟨S16x2x4x128x257, .f32⟩
  | 57 => ⟨S16x2x4x128x257, .f32⟩
  | 58 => ⟨S16x2x4x128x257, .f32⟩
  | 59 => ⟨S16x2x4x128x257, .f32⟩
  | 60 => ⟨S_, .f32⟩
  | 61 => ⟨S16x2x4x128, .f32⟩
  | 62 => ⟨S16x2x4x128x1, .f32⟩
  | 63 => ⟨S16x2x4x128x1, .f32⟩
  | 64 => ⟨S16x2x4x128x257, .f32⟩
  | 65 => ⟨S16x2x4x128x257, .f32⟩
  | 66 => ⟨S_, .f32⟩
  | 67 => ⟨S16x2x4x128, .f32⟩
  | 68 => ⟨S16x2x4x128x257, .f32⟩
  | 69 => ⟨S16x2x4x128x257, .f32⟩
  | 70 => ⟨S16x2x4x128x257, .f32⟩
  | 71 => ⟨S16x2x4x128x256, .f32⟩
  | 72 => ⟨S16x2x4x128x1, .f32⟩
  | 73 => ⟨S_, .f32⟩
  | 74 => ⟨S2x4, .f32⟩
  | 75 => ⟨S2x4x1x1, .f32⟩
  | 76 => ⟨S8, .f32⟩
  | 77 => ⟨S_, .f32⟩
  | 78 => ⟨S16x2x4x128x256, .f32⟩
  | 79 => ⟨S16x2x4x128x256, .f32⟩
  | 80 => ⟨S_, .f32⟩
  | 81 => ⟨S2x4x128x256, .f32⟩
  | 82 => ⟨S1x2x4x128x256, .f32⟩
  | 83 => ⟨S_, .f32⟩
  | 84 => ⟨S2x4x128x256, .f32⟩
  | 85 => ⟨S8x128x256, .f32⟩
  | 86 => ⟨S_, .f32⟩
  | 87 => ⟨S16x2x4x128x256, .f32⟩
  | 88 => ⟨S16x2x4x128x256, .f32⟩
  | 89 => ⟨S16x2x256x128x4, .f32⟩
  | 90 => ⟨S16x2x128x4x64, .f32⟩
  | 91 => ⟨S16x128x2x4x64, .f32⟩
  | 92 => ⟨S16x2x256x64, .f32⟩
  | 93 => ⟨S16x256x2x64, .f32⟩
  | 94 => ⟨S16x128x2x64, .f32⟩
  | 95 => ⟨S16x128x2x64, .f32⟩
  | 96 => ⟨S1x128x2x64, .f32⟩
  | 97 => ⟨S15x128x2x64, .f32⟩
  | 98 => ⟨S_, .f32⟩
  | 99 => ⟨S16x128x2x64, .f32⟩
  | 100 => ⟨S16x128x2x64, .f32⟩
  | 101 => ⟨S2048x2x64, .f32⟩
  | 102 => ⟨S16x128x2x64, .f32⟩
  | 103 => ⟨S16x128x2x64, .f32⟩
  | 104 => ⟨S1x128x2x64, .f32⟩
  | 105 => ⟨S15x128x2x64, .f32⟩
  | 106 => ⟨S_, .f32⟩
  | 107 => ⟨S16x128x2x64, .f32⟩
  | 108 => ⟨S16x128x2x64, .f32⟩
  | 109 => ⟨S2048x2x64, .f32⟩
  | 110 => ⟨S2048x8x64, .f32⟩
  | 111 => ⟨S2048x128, .f32⟩
  | 112 => ⟨S2048x2x64, .f32⟩
  | 113 => ⟨S_, .f32⟩
  | 114 => ⟨S64, .f32⟩
  | 115 => ⟨S1x1x64, .f32⟩
  | 116 => ⟨S2048x2x64, .f32⟩
  | 117 => ⟨S2048x2x64, .f32⟩
  | 118 => ⟨S_, .f32⟩
  | 119 => ⟨S64, .f32⟩
  | 120 => ⟨S2048x2x64, .f32⟩
  | 121 => ⟨S_, .f32⟩
  | 122 => ⟨S2048x2, .f32⟩
  | 123 => ⟨S2048x2x1, .f32⟩
  | 124 => ⟨S2048x2x64, .f32⟩
  | 125 => ⟨S2048x2x64, .f32⟩
  | 126 => ⟨S2048x2x1, .f32⟩
  | 127 => ⟨S_, .f32⟩
  | _ => ⟨S2048x2312, .f32⟩

abbrev hbmTy0_2 (i : Nat) : BufTy := match i % 128 with
  | 0 => ⟨S2048x2x1, .f32⟩
  | 1 => ⟨S2048x2x1, .f32⟩
  | 2 => ⟨S_, .f32⟩
  | 3 => ⟨S2048x2, .f32⟩
  | 4 => ⟨S2048x2x64, .f32⟩
  | 5 => ⟨S2048x2x64, .f32⟩
  | 6 => ⟨S2048x2x64, .f32⟩
  | 7 => ⟨S2048x128, .f32⟩
  | 8 => ⟨S2048x8x64, .f32⟩
  | 9 => ⟨S_, .f32⟩
  | 10 => ⟨S64, .f32⟩
  | 11 => ⟨S1x1x64, .f32⟩
  | 12 => ⟨S2048x8x64, .f32⟩
  | 13 => ⟨S2048x8x64, .f32⟩
  | 14 => ⟨S_, .f32⟩
  | 15 => ⟨S64, .f32⟩
  | 16 => ⟨S2048x8x64, .f32⟩
  | 17 => ⟨S_, .f32⟩
  | 18 => ⟨S2048x8, .f32⟩
  | 19 => ⟨S2048x8x1, .f32⟩
  | 20 => ⟨S2048x8x64, .f32⟩
  | 21 => ⟨S2048x8x64, .f32⟩
  | 22 => ⟨S2048x8x1, .f32⟩
  | 23 => ⟨S_, .f32⟩
  | 24 => ⟨S2048x8x1, .f32⟩
  | 25 => ⟨S2048x8x1, .f32⟩
  | 26 => ⟨S_, .f32⟩
  | 27 => ⟨S2048x8, .f32⟩
  | 28 => ⟨S2048x8x64, .f32⟩
  | 29 => ⟨S2048x8x64, .f32⟩
  | 30 => ⟨S2048x8x64, .f32⟩
  | 31 => ⟨S2048x512, .f32⟩
  | 32 => ⟨S8x256x128, .f32⟩
  | 33 => ⟨S8x1, .f32⟩
  | 34 => ⟨S64x1, .f32⟩
  | 35 => ⟨S1x64, .f32⟩
  | _ => ⟨S2048x2312, .f32⟩

abbrev hbmTy (i : Nat) : BufTy := match i / 128 with
  | 0 => hbmTy0_0 i
  | 1 => hbmTy0_1 i
  | 2 => hbmTy0_2 i
  | _ => ⟨S2048x2312, .f32⟩

abbrev bufTy : (tb : Table) → Fin (tcTables nBuf tb) → BufTy
  | .hbm, ⟨i, _⟩ => hbmTy i
  | _, _ => ⟨S2048x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_15 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_16 : Ref sig .tc := ⟨.hbm, 110, rfl⟩
abbrev main_v86 : Ref sig .tc := ⟨.hbm, 111, rfl⟩
abbrev main_v87 : Ref sig .tc := ⟨.hbm, 112, rfl⟩
abbrev main_c_17 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_18 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_call0_v0 : Ref sig .tc := ⟨.hbm, 127, rfl⟩
abbrev main_v99_1 : Ref sig .tc := ⟨.hbm, 128, rfl⟩
abbrev main_call0_v2 : Ref sig .tc := ⟨.hbm, 129, rfl⟩
abbrev main_v99_0 : Ref sig .tc := ⟨.hbm, 130, rfl⟩
abbrev main_call0_cst : Ref sig .tc := ⟨.hbm, 131, rfl⟩
abbrev main_v99_2 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_20 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_21 : Ref sig .tc := ⟨.hbm, 142, rfl⟩
abbrev main_v108 : Ref sig .tc := ⟨.hbm, 143, rfl⟩
abbrev main_cst_22 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_v112 : Ref sig .tc := ⟨.hbm, 149, rfl⟩
abbrev main_cst_24 : Ref sig .tc := ⟨.hbm, 150, rfl⟩
abbrev main_v113 : Ref sig .tc := ⟨.hbm, 151, rfl⟩
abbrev main_v114 : Ref sig .tc := ⟨.hbm, 152, rfl⟩
abbrev main_cst_25 : Ref sig .tc := ⟨.hbm, 153, rfl⟩
abbrev main_v115 : Ref sig .tc := ⟨.hbm, 154, rfl⟩
abbrev main_cst_26 : Ref sig .tc := ⟨.hbm, 155, rfl⟩
abbrev main_v116 : Ref sig .tc := ⟨.hbm, 156, rfl⟩
abbrev main_cst_27 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_28 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_29 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_30 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_31 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_32 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_33 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_call1_cst : Ref sig .tc := ⟨.hbm, 205, rfl⟩
abbrev main_call1_v0 : Ref sig .tc := ⟨.hbm, 206, rfl⟩
abbrev main_v158 : Ref sig .tc := ⟨.hbm, 207, rfl⟩
abbrev main_cst_34 : Ref sig .tc := ⟨.hbm, 208, rfl⟩
abbrev main_v159 : Ref sig .tc := ⟨.hbm, 209, rfl⟩
abbrev main_v160 : Ref sig .tc := ⟨.hbm, 210, rfl⟩
abbrev main_cst_35 : Ref sig .tc := ⟨.hbm, 211, rfl⟩
abbrev main_v161 : Ref sig .tc := ⟨.hbm, 212, rfl⟩
abbrev main_v162 : Ref sig .tc := ⟨.hbm, 213, rfl⟩
abbrev main_cst_36 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_37 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_38 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_39 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_40 : Ref sig .tc := ⟨.hbm, 246, rfl⟩
abbrev main_v191 : Ref sig .tc := ⟨.hbm, 247, rfl⟩
abbrev main_v192 : Ref sig .tc := ⟨.hbm, 248, rfl⟩
abbrev main_cst_41 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_42 : Ref sig .tc := ⟨.hbm, 255, rfl⟩
abbrev main_v198 : Ref sig .tc := ⟨.hbm, 256, rfl⟩
abbrev main_v199 : Ref sig .tc := ⟨.hbm, 257, rfl⟩
abbrev main_cst_43 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_cst_44 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_cst_45 : Ref sig .tc := ⟨.hbm, 270, rfl⟩
abbrev main_v210 : Ref sig .tc := ⟨.hbm, 271, rfl⟩
abbrev main_v211 : Ref sig .tc := ⟨.hbm, 272, rfl⟩
abbrev main_cst_46 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_cst_47 : Ref sig .tc := ⟨.hbm, 279, rfl⟩
abbrev main_v217 : Ref sig .tc := ⟨.hbm, 280, rfl⟩
abbrev main_v218 : Ref sig .tc := ⟨.hbm, 281, rfl⟩
abbrev main_cst_48 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩

abbrev nD : Nat := 1
abbrev τ : Topo := Topo.v7x

variable {F : FTy → Type} [FloatOps F]
-- ==== AttnF.lean ====
abbrev S2048x2312 : Shape := ⟨2, ![2048, 2312]⟩
abbrev S64 : Shape := ⟨1, ![64]⟩
abbrev S8 : Shape := ⟨1, ![8]⟩
abbrev S8x128x256 : Shape := ⟨3, ![8, 128, 256]⟩
abbrev S2048x512 : Shape := ⟨2, ![2048, 512]⟩
abbrev S2048x128 : Shape := ⟨2, ![2048, 128]⟩
abbrev S2048x1024 : Shape := ⟨2, ![2048, 1024]⟩
abbrev S2048x8 : Shape := ⟨2, ![2048, 8]⟩
abbrev S_ : Shape := ⟨0, ![]⟩
abbrev S2048x2432 : Shape := ⟨2, ![2048, 2432]⟩
abbrev S64x1 : Shape := ⟨2, ![64, 1]⟩
abbrev S1x64 : Shape := ⟨2, ![1, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S8x256x128 : Shape := ⟨3, ![8, 256, 128]⟩
abbrev S128x512 : Shape := ⟨2, ![128, 512]⟩
abbrev S128x128 : Shape := ⟨2, ![128, 128]⟩
abbrev S512x128 : Shape := ⟨2, ![512, 128]⟩
abbrev S256x128 : Shape := ⟨2, ![256, 128]⟩
abbrev S64x128 : Shape := ⟨2, ![64, 128]⟩
abbrev S256x64 : Shape := ⟨2, ![256, 64]⟩
abbrev S256x1 : Shape := ⟨2, ![256, 1]⟩
abbrev S64x256 : Shape := ⟨2, ![64, 256]⟩
abbrev S1x128 : Shape := ⟨2, ![1, 128]⟩
abbrev S1x256x128 : Shape := ⟨3, ![1, 256, 128]⟩
abbrev S1 : Shape := ⟨1, ![1]⟩

abbrev nBuf : Space → Nat
  | .hbm => 42
  | .vmem => 16
  | .smem => 1
  | _ => 0

abbrev bufTy : (tb : Table) → Fin (tcTables nBuf tb) → BufTy
  | .hbm, ⟨0, _⟩ => ⟨S2048x2312, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S8x128x256, .f32⟩
  | .hbm, ⟨5, _⟩ => ⟨S2048x512, .f32⟩
  | .hbm, ⟨6, _⟩ => ⟨S2048x128, .f32⟩
  | .hbm, ⟨7, _⟩ => ⟨S2048x128, .f32⟩
  | .hbm, ⟨8, _⟩ => ⟨S2048x512, .f32⟩
  | .hbm, ⟨9, _⟩ => ⟨S2048x1024, .f32⟩
  | .hbm, ⟨10, _⟩ => ⟨S2048x8, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x2432, .f32⟩
  | .hbm, ⟨15, _⟩ => ⟨S64x1, .f32⟩
  | .hbm, ⟨16, _⟩ => ⟨S1x64, .f32⟩
  | .hbm, ⟨17, _⟩ => ⟨S128, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S256, .i32⟩
  | .hbm, ⟨23, _⟩ => ⟨S1x256, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S128x256, .i1⟩
  | .hbm, ⟨34, _⟩ => ⟨S1x128x256, .i1⟩
  | .hbm, ⟨35, _⟩ => ⟨S_, .f32⟩
  | .hbm, ⟨36, _⟩ => ⟨S_, .f32⟩
  | .hbm, ⟨37, _⟩ => ⟨S8x128x256, .i1⟩
  | .hbm, ⟨38, _⟩ => ⟨S8x128x256, .f32⟩
  | .hbm, ⟨39, _⟩ => ⟨S8x128x256, .f32⟩
  | .hbm, ⟨40, _⟩ => ⟨S8x256x128, .f32⟩
  | .hbm, ⟨41, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S64x1, .f32⟩
  | .local _ .vmem, ⟨11, _⟩ => ⟨S1x64, .f32⟩
  | .local _ .vmem, ⟨12, _⟩ => ⟨S8x256x128, .f32⟩
  | .local _ .vmem, ⟨13, _⟩ => ⟨S128x512, .f32⟩
  | .local _ .vmem, ⟨14, _⟩ => ⟨S128x512, .f32⟩
  | .local _ .vmem, ⟨15, _⟩ => ⟨S512x128, .f32⟩
  | .local _ .smem, ⟨0, _⟩ => ⟨S8, .f32⟩
  | _, _ => ⟨S2048x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_3 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFIdeal.lean ====
variable {F : FTy → Type} [FloatOps F] [Named F]
def κ : String → Option EReal := fun
  | "mask" => some ⊥
  | _ => none
-- ==== AttnFRefIdeal.lean ====
abbrev S2048x2312 : Shape := ⟨2, ![2048, 2312]⟩
abbrev S64 : Shape := ⟨1, ![64]⟩
abbrev S8 : Shape := ⟨1, ![8]⟩
abbrev S8x128x256 : Shape := ⟨3, ![8, 128, 256]⟩
abbrev S2048x512 : Shape := ⟨2, ![2048, 512]⟩
abbrev S2048x128 : Shape := ⟨2, ![2048, 128]⟩
abbrev S2048x1024 : Shape := ⟨2, ![2048, 1024]⟩
abbrev S2048x8 : Shape := ⟨2, ![2048, 8]⟩
abbrev S2048x8x64 : Shape := ⟨3, ![2048, 8, 64]⟩
abbrev S_ : Shape := ⟨0, ![]⟩
abbrev S2048x8x1 : Shape := ⟨3, ![2048, 8, 1]⟩
abbrev S1x1x64 : Shape := ⟨3, ![1, 1, 64]⟩
abbrev S2048x2x64 : Shape := ⟨3, ![2048, 2, 64]⟩
abbrev S2048x2 : Shape := ⟨2, ![2048, 2]⟩
abbrev S2048x2x1 : Shape := ⟨3, ![2048, 2, 1]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S2x4x128x256 : Shape := ⟨4, ![2, 4, 128, 256]⟩
abbrev S1x2x4x128x256 : Shape := ⟨5, ![1, 2, 4, 128, 256]⟩
abbrev S16 : Shape := ⟨1, ![16]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S2x4x1x1 : Shape := ⟨4, ![2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩

abbrev nBuf : Space → Nat
  | .hbm => 133
  | .vmem => 0
  | .smem => 0
  | _ => 0

abbrev hbmTy0_0 (i : Nat) : BufTy := match i % 128 with
  | 0 => ⟨S2048x2312, .f32⟩
  | 1 => ⟨S64, .f32⟩
  | 2 => ⟨S64, .f32⟩
  | 3 => ⟨S8, .f32⟩
  | 4 => ⟨S8x128x256, .f32⟩
  | 5 => ⟨S2048x512, .f32⟩
  | 6 => ⟨S2048x128, .f32⟩
  | 7 => ⟨S2048x128, .f32⟩
  | 8 => ⟨S2048x512, .f32⟩
  | 9 => ⟨S2048x1024, .f32⟩
  | 10 => ⟨S2048x8, .f32⟩
  | 11 => ⟨S2048x8x64, .f32⟩
  | 12 => ⟨S2048x8x64, .f32⟩
  | 13 => ⟨S_, .f32⟩
  | 14 => ⟨S2048x8, .f32⟩
  | 15 => ⟨S2048x8x1, .f32⟩
  | 16 => ⟨S_, .f32⟩
  | 17 => ⟨S2048x8x1, .f32⟩
  | 18 => ⟨S2048x8x1, .f32⟩
  | 19 => ⟨S_, .f32⟩
  | 20 => ⟨S2048x8x1, .f32⟩
  | 21 => ⟨S2048x8x1, .f32⟩
  | 22 => ⟨S2048x8x1, .f32⟩
  | 23 => ⟨S2048x8x64, .f32⟩
  | 24 => ⟨S2048x8x64, .f32⟩
  | 25 => ⟨S1x1x64, .f32⟩
  | 26 => ⟨S2048x8x64, .f32⟩
  | 27 => ⟨S2048x8x64, .f32⟩
  | 28 => ⟨S2048x2x64, .f32⟩
  | 29 => ⟨S2048x2x64, .f32⟩
  | 30 => ⟨S_, .f32⟩
  | 31 => ⟨S2048x2, .f32⟩
  | 32 => ⟨S2048x2x1, .f32⟩
  | 33 => ⟨S_, .f32⟩
  | 34 => ⟨S2048x2x1, .f32⟩
  | 35 => ⟨S2048x2x1, .f32⟩
  | 36 => ⟨S_, .f32⟩
  | 37 => ⟨S2048x2x1, .f32⟩
  | 38 => ⟨S2048x2x1, .f32⟩
  | 39 => ⟨S2048x2x1, .f32⟩
  | 40 => ⟨S2048x2x64, .f32⟩
  | 41 => ⟨S2048x2x64, .f32⟩
  | 42 => ⟨S1x1x64, .f32⟩
  | 43 => ⟨S2048x2x64, .f32⟩
  | 44 => ⟨S2048x2x64, .f32⟩
  | 45 => ⟨S2048x2x64, .f32⟩
  | 46 => ⟨S16x128x2x4x64, .f32⟩
  | 47 => ⟨S16x128x2x64, .f32⟩
  | 48 => ⟨S_, .f32⟩
  | 49 => ⟨S1x128x2x64, .f32⟩
  | 50 => ⟨S15x128x2x64, .f32⟩
  | 51 => ⟨S16x128x2x64, .f32⟩
  | 52 => ⟨S16x256x2x64, .f32⟩
  | 53 => ⟨S16x128x2x64, .f32⟩
  | 54 => ⟨S_, .f32⟩
  | 55 => ⟨S1x128x2x64, .f32⟩
  | 56 => ⟨S15x128x2x64, .f32⟩
  | 57 => ⟨S16x128x2x64, .f32⟩
  | 58 => ⟨S16x256x2x64, .f32⟩
  | 59 => ⟨S16x2x256x128x4, .f32⟩
  | 60 => ⟨S16x2x4x128x256, .f32⟩
  | 61 => ⟨S_, .f32⟩
  | 62 => ⟨S16x2x4x128x256, .f32⟩
  | 63 => ⟨S16x2x4x128x256, .f32⟩
  | 64 => ⟨S2x4x128x256, .f32⟩
  | 65 => ⟨S1x2x4x128x256, .f32⟩
  | 66 => ⟨S16x2x4x128x256, .f32⟩
  | 67 => ⟨S16x2x4x128x256, .f32⟩
  | 68 => ⟨S16, .i32⟩
  | 69 => ⟨S16x1, .i32⟩
  | 70 => ⟨S_, .i32⟩
  | 71 => ⟨S16x1, .i32⟩
  | 72 => ⟨S16x1, .i32⟩
  | 73 => ⟨S256, .i32⟩
  | 74 => ⟨S1x256, .i32⟩
  | 75 => ⟨S16x256, .i32⟩
  | 76 => ⟨S16x256, .i32⟩
  | 77 => ⟨S16x256, .i32⟩
  | 78 => ⟨S_, .i32⟩
  | 79 => ⟨S16x256, .i32⟩
  | 80 => ⟨S16x256, .i32⟩
  | 81 => ⟨S128, .i32⟩
  | 82 => ⟨S128x1, .i32⟩
  | 83 => ⟨S_, .i32⟩
  | 84 => ⟨S128x1, .i32⟩
  | 85 => ⟨S128x1, .i32⟩
  | 86 => ⟨S256, .i32⟩
  | 87 => ⟨S1x256, .i32⟩
  | 88 => ⟨S128x256, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S_, .i32⟩
  | 95 => ⟨S128x256, .i32⟩
  | 96 => ⟨S128x256, .i1⟩
  | 97 => ⟨S128x256, .i1⟩
  | 98 => ⟨S1x128x256, .i1⟩
  | 99 => ⟨S_, .i32⟩
  | 100 => ⟨S16x256, .i32⟩
  | 101 => ⟨S16x256, .i1⟩
  | 102 => ⟨S16x1x256, .i1⟩
  | 103 => ⟨S16x128x256, .i1⟩
  | 104 => ⟨S16x128x256, .i1⟩
  | 105 => ⟨S16x128x256, .i1⟩
  | 106 => ⟨S16x1x1x128x256, .i1⟩
  | 107 => ⟨S_, .f32⟩
  | 108 => ⟨S_, .f32⟩
  | 109 => ⟨S16x2x4x128x256, .i1⟩
  | 110 => ⟨S16x2x4x128x256, .f32⟩
  | 111 => ⟨S16x2x4x128x256, .f32⟩
  | 112 => ⟨S2x4x1x1, .f32⟩
  | 113 => ⟨S16x2x4x128x1, .f32⟩
  | 114 => ⟨S16x2x4x128x257, .f32⟩
  | 115 => ⟨S_, .f32⟩
  | 116 => ⟨S16x2x4x128, .f32⟩
  | 117 => ⟨S_, .f32⟩
  | 118 => ⟨S16x2x4x128, .f32⟩
  | 119 => ⟨S16x2x4x128, .f32⟩
  | 120 => ⟨S16x2x4x128x1, .f32⟩
  | 121 => ⟨S16x2x4x128x257, .f32⟩
  | 122 => ⟨S16x2x4x128x257, .f32⟩
  | 123 => ⟨S16x2x4x128x257, .f32⟩
  | 124 => ⟨S_, .f32⟩
  | 125 => ⟨S16x2x4x128, .f32⟩
  | 126 => ⟨S16x2x4x128x1, .f32⟩
  | 127 => ⟨S16x2x4x128x257, .f32⟩
  | _ => ⟨S2048x2312, .f32⟩

abbrev hbmTy0_1 (i : Nat) : BufTy := match i % 128 with
  | 0 => ⟨S16x2x4x128x257, .f32⟩
  | 1 => ⟨S16x2x4x128x256, .f32⟩
  | 2 => ⟨S16x2x64x4x128, .f32⟩
  | 3 => ⟨S16x128x2x4x64, .f32⟩
  | 4 => ⟨S2048x512, .f32⟩
  | _ => ⟨S2048x2312, .f32⟩

abbrev hbmTy (i : Nat) : BufTy := match i / 128 with
  | 0 => hbmTy0_0 i
  | 1 => hbmTy0_1 i
  | _ => ⟨S2048x2312, .f32⟩

abbrev bufTy : (tb : Table) → Fin (tcTables nBuf tb) → BufTy
  | .hbm, ⟨i, _⟩ => hbmTy i
  | _, _ => ⟨S2048x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_10 : Ref sig .tc := ⟨.hbm, 91, rfl⟩
abbrev main_v74 : Ref sig .tc := ⟨.hbm, 92, rfl⟩
abbrev main_v75 : Ref sig .tc := ⟨.hbm, 93, rfl⟩
abbrev main_c_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_13 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_14 : Ref sig .tc := ⟨.hbm, 115, rfl⟩
abbrev main_v91 : Ref sig .tc := ⟨.hbm, 116, rfl⟩
abbrev main_cst_15 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_16 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== In.lean ====
abbrev S2048x2312 : Shape := ⟨2, ![2048, 2312]⟩
abbrev S2048x1024 : Shape := ⟨2, ![2048, 1024]⟩
abbrev S1024 : Shape := ⟨1, ![1024]⟩
abbrev S1024x2312 : Shape := ⟨2, ![1024, 2312]⟩
abbrev S2048x512 : Shape := ⟨2, ![2048, 512]⟩
abbrev S2048x128 : Shape := ⟨2, ![2048, 128]⟩
abbrev S2048x8 : Shape := ⟨2, ![2048, 8]⟩
abbrev S_ : Shape := ⟨0, ![]⟩
abbrev S1x1024 : Shape := ⟨2, ![1, 1024]⟩
abbrev S1024x512 : Shape := ⟨2, ![1024, 512]⟩
abbrev S1024x128 : Shape := ⟨2, ![1024, 128]⟩
abbrev S1024x1024 : Shape := ⟨2, ![1024, 1024]⟩
abbrev S1024x8 : Shape := ⟨2, ![1024, 8]⟩
abbrev S1024x2432 : Shape := ⟨2, ![1024, 2432]⟩
abbrev S512x512 : Shape := ⟨2, ![512, 512]⟩
abbrev S512x1024 : Shape := ⟨2, ![512, 1024]⟩
abbrev S512x128 : Shape := ⟨2, ![512, 128]⟩
abbrev S512x2432 : Shape := ⟨2, ![512, 2432]⟩
abbrev S512 : Shape := ⟨1, ![512]⟩
abbrev S512x1 : Shape := ⟨2, ![512, 1]⟩

abbrev nBuf : Space → Nat
  | .hbm => 29
  | .vmem => 22
  | .smem => 0
  | _ => 0

abbrev bufTy : (tb : Table) → Fin (tcTables nBuf tb) → BufTy
  | .hbm, ⟨0, _⟩ => ⟨S2048x2312, .f32⟩
  | .hbm, ⟨1, _⟩ => ⟨S2048x1024, .f32⟩
  | .hbm, ⟨2, _⟩ => ⟨S1024, .f32⟩
  | .hbm, ⟨3, _⟩ => ⟨S1024x2312, .f32⟩
  | .hbm, ⟨4, _⟩ => ⟨S2048x1024, .f32⟩
  | .hbm, ⟨5, _⟩ => ⟨S2048x512, .f32⟩
  | .hbm, ⟨6, _⟩ => ⟨S2048x128, .f32⟩
  | .hbm, ⟨7, _⟩ => ⟨S2048x128, .f32⟩
  | .hbm, ⟨8, _⟩ => ⟨S2048x512, .f32⟩
  | .hbm, ⟨9, _⟩ => ⟨S2048x1024, .f32⟩
  | .hbm, ⟨10, _⟩ => ⟨S2048x8, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S1x1024, .f32⟩
  | .hbm, ⟨15, _⟩ => ⟨S1024x512, .f32⟩
  | .hbm, ⟨16, _⟩ => ⟨S1024x128, .f32⟩
  | .hbm, ⟨17, _⟩ => ⟨S1024x128, .f32⟩
  | .hbm, ⟨18, _⟩ => ⟨S1024x512, .f32⟩
  | .hbm, ⟨19, _⟩ => ⟨S1024x1024, .f32⟩
  | .hbm, ⟨20, _⟩ => ⟨S1024x8, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x2432, .f32⟩
  | .hbm, ⟨25, _⟩ => ⟨S1024x2432, .bf16⟩
  | .hbm, ⟨26, _⟩ => ⟨S2048x1024, .f32⟩
  | .hbm, ⟨27, _⟩ => ⟨S1024x2432, .f32⟩
  | .hbm, ⟨28, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x2432, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1024x2432, .f32⟩
  | .local _ .vmem, ⟨21, _⟩ => ⟨S1x1024, .f32⟩
  | _, _ => ⟨S2048x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2432 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InRefIdeal.lean ====
abbrev S2048x2312 : Shape := ⟨2, ![2048, 2312]⟩
abbrev S2048x1024 : Shape := ⟨2, ![2048, 1024]⟩
abbrev S1024 : Shape := ⟨1, ![1024]⟩
abbrev S1024x2312 : Shape := ⟨2, ![1024, 2312]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2312x1024 : Shape := ⟨2, ![2312, 1024]⟩
abbrev S1024x512 : Shape := ⟨2, ![1024, 512]⟩
abbrev S1024x128 : Shape := ⟨2, ![1024, 128]⟩
abbrev S1024x1024 : Shape := ⟨2, ![1024, 1024]⟩
abbrev S1024x8 : Shape := ⟨2, ![1024, 8]⟩
abbrev S1024x2432 : Shape := ⟨2, ![1024, 2432]⟩

abbrev nBuf : Space → Nat
  | .hbm => 67
  | .vmem => 0
  | .smem => 0
  | _ => 0

abbrev bufTy : (tb : Table) → Fin (tcTables nBuf tb) → BufTy
  | .hbm, ⟨0, _⟩ => ⟨S2048x2312, .f32⟩
  | .hbm, ⟨1, _⟩ => ⟨S2048x1024, .f32⟩
  | .hbm, ⟨2, _⟩ => ⟨S1024, .f32⟩
  | .hbm, ⟨3, _⟩ => ⟨S1024x2312, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x2312, .f32⟩
  | .hbm, ⟨29, _⟩ => ⟨S2312x1024, .f32⟩
  | .hbm, ⟨30, _⟩ => ⟨S1024x2312, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1024x512, .f32⟩
  | .hbm, ⟨57, _⟩ => ⟨S1024x128, .f32⟩
  | .hbm, ⟨58, _⟩ => ⟨S1024x128, .f32⟩
  | .hbm, ⟨59, _⟩ => ⟨S1024x512, .f32⟩
  | .hbm, ⟨60, _⟩ => ⟨S1024x1024, .f32⟩
  | .hbm, ⟨61, _⟩ => ⟨S1024x8, .f32⟩
  | .hbm, ⟨62, _⟩ => ⟨S_, .i32⟩
  | .hbm, ⟨63, _⟩ => ⟨S_, .f32⟩
  | .hbm, ⟨64, _⟩ => ⟨S1024x128, .f32⟩
  | .hbm, ⟨65, _⟩ => ⟨S1024x2432, .f32⟩
  | .hbm, ⟨66, _⟩ => ⟨S1x1024, .f32⟩
  | _, _ => ⟨S2048x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call0_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== ConvF.lean ====
abbrev S2048x2312 : Shape := ⟨2, ![2048, 2312]⟩
abbrev S4x1024 : Shape := ⟨2, ![4, 1024]⟩
abbrev S1024 : Shape := ⟨1, ![1024]⟩
abbrev S2048x512 : Shape := ⟨2, ![2048, 512]⟩
abbrev S2048x128 : Shape := ⟨2, ![2048, 128]⟩
abbrev S2048x1024 : Shape := ⟨2, ![2048, 1024]⟩
abbrev S2048x8 : Shape := ⟨2, ![2048, 8]⟩
abbrev S_ : Shape := ⟨0, ![]⟩
abbrev S2048x2432 : Shape := ⟨2, ![2048, 2432]⟩
abbrev S1x1024 : Shape := ⟨2, ![1, 1024]⟩
abbrev S4x128 : Shape := ⟨2, ![4, 128]⟩
abbrev S1x128 : Shape := ⟨2, ![1, 128]⟩
abbrev S8x128 : Shape := ⟨2, ![8, 128]⟩
abbrev S2040x128 : Shape := ⟨2, ![2040, 128]⟩

abbrev nBuf : Space → Nat
  | .hbm => 15
  | .vmem => 8
  | .smem => 0
  | _ => 0

abbrev bufTy : (tb : Table) → Fin (tcTables nBuf tb) → BufTy
  | .hbm, ⟨0, _⟩ => ⟨S2048x2312, .f32⟩
  | .hbm, ⟨1, _⟩ => ⟨S4x1024, .f32⟩
  | .hbm, ⟨2, _⟩ => ⟨S1024, .f32⟩
  | .hbm, ⟨3, _⟩ => ⟨S2048x512, .f32⟩
  | .hbm, ⟨4, _⟩ => ⟨S2048x128, .f32⟩
  | .hbm, ⟨5, _⟩ => ⟨S2048x128, .f32⟩
  | .hbm, ⟨6, _⟩ => ⟨S2048x512, .f32⟩
  | .hbm, ⟨7, _⟩ => ⟨S2048x1024, .f32⟩
  | .hbm, ⟨8, _⟩ => ⟨S2048x8, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x2432, .f32⟩
  | .hbm, ⟨13, _⟩ => ⟨S1x1024, .f32⟩
  | .hbm, ⟨14, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2048x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFRefIdeal.lean ====
abbrev S2048x2312 : Shape := ⟨2, ![2048, 2312]⟩
abbrev S4x1024 : Shape := ⟨2, ![4, 1024]⟩
abbrev S1024 : Shape := ⟨1, ![1024]⟩
abbrev S2048x512 : Shape := ⟨2, ![2048, 512]⟩
abbrev S2048x128 : Shape := ⟨2, ![2048, 128]⟩
abbrev S2048x1024 : Shape := ⟨2, ![2048, 1024]⟩
abbrev S2048x8 : Shape := ⟨2, ![2048, 8]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x2312, .f32⟩
  | .hbm, ⟨1, _⟩ => ⟨S4x1024, .f32⟩
  | .hbm, ⟨2, _⟩ => ⟨S1024, .f32⟩
  | .hbm, ⟨3, _⟩ => ⟨S2048x512, .f32⟩
  | .hbm, ⟨4, _⟩ => ⟨S2048x128, .f32⟩
  | .hbm, ⟨5, _⟩ => ⟨S2048x128, .f32⟩
  | .hbm, ⟨6, _⟩ => ⟨S2048x512, .f32⟩
  | .hbm, ⟨7, _⟩ => ⟨S2048x1024, .f32⟩
  | .hbm, ⟨8, _⟩ => ⟨S2048x8, .f32⟩
  | .hbm, ⟨9, _⟩ => ⟨S_, .f32⟩
  | .hbm, ⟨10, _⟩ => ⟨S3x1024, .f32⟩
  | .hbm, ⟨11, _⟩ => ⟨S2051x1024, .f32⟩
  | .hbm, ⟨12, _⟩ => ⟨S1x1024, .f32⟩
  | .hbm, ⟨13, _⟩ => ⟨S1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== InF.lean ====
abbrev S2048x1024 : Shape := ⟨2, ![2048, 1024]⟩
abbrev S1024 : Shape := ⟨1, ![1024]⟩
abbrev S1024x2312 : Shape := ⟨2, ![1024, 2312]⟩
abbrev S1x1024 : Shape := ⟨2, ![1, 1024]⟩
abbrev S1024x512 : Shape := ⟨2, ![1024, 512]⟩
abbrev S1024x128 : Shape := ⟨2, ![1024, 128]⟩
abbrev S1024x1024 : Shape := ⟨2, ![1024, 1024]⟩
abbrev S1024x8 : Shape := ⟨2, ![1024, 8]⟩
abbrev S_ : Shape := ⟨0, ![]⟩
abbrev S1024x2432 : Shape := ⟨2, ![1024, 2432]⟩
abbrev S2048x2432 : Shape := ⟨2, ![2048, 2432]⟩
abbrev S512x1024 : Shape := ⟨2, ![512, 1024]⟩
abbrev S512x2432 : Shape := ⟨2, ![512, 2432]⟩
abbrev S512 : Shape := ⟨1, ![512]⟩
abbrev S512x1 : Shape := ⟨2, ![512, 1]⟩

abbrev nBuf : Space → Nat
  | .hbm => 16
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2312, .f32⟩
  | .hbm, ⟨3, _⟩ => ⟨S1x1024, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x1024, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x2432, .f32⟩
  | .hbm, ⟨14, _⟩ => ⟨S1024x2432, .bf16⟩
  | .hbm, ⟨15, _⟩ => ⟨S2048x2432, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x2432, .f32⟩
  | .local _ .vmem, ⟨5, _⟩ => ⟨S512x2432, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InFRefIdeal.lean ====
abbrev S2048x1024 : Shape := ⟨2, ![2048, 1024]⟩
abbrev S1024 : Shape := ⟨1, ![1024]⟩
abbrev S1024x2312 : Shape := ⟨2, ![1024, 2312]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2312 : Shape := ⟨2, ![2048, 2312]⟩
abbrev S2048x512 : Shape := ⟨2, ![2048, 512]⟩
abbrev S2048x128 : Shape := ⟨2, ![2048, 128]⟩
abbrev S2048x8 : Shape := ⟨2, ![2048, 8]⟩
abbrev S2048x2432 : Shape := ⟨2, ![2048, 2432]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2312, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x2312, .f32⟩
  | .hbm, ⟨20, _⟩ => ⟨S2048x512, .f32⟩
  | .hbm, ⟨21, _⟩ => ⟨S2048x128, .f32⟩
  | .hbm, ⟨22, _⟩ => ⟨S2048x128, .f32⟩
  | .hbm, ⟨23, _⟩ => ⟨S2048x512, .f32⟩
  | .hbm, ⟨24, _⟩ => ⟨S2048x1024, .f32⟩
  | .hbm, ⟨25, _⟩ => ⟨S2048x8, .f32⟩
  | .hbm, ⟨26, _⟩ => ⟨S_, .i32⟩
  | .hbm, ⟨27, _⟩ => ⟨S_, .f32⟩
  | .hbm, ⟨28, _⟩ => ⟨S2048x128, .f32⟩
  | .hbm, ⟨29, _⟩ => ⟨S2048x2432, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== MlpF.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S2048x4096 : Shape := ⟨2, ![2048, 4096]⟩
abbrev S1024x1024 : Shape := ⟨2, ![1024, 1024]⟩
abbrev S1x1024x1024 : Shape := ⟨3, ![1, 1024, 1024]⟩
abbrev S1024x1 : Shape := ⟨2, ![1024, 1]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S1x1024, .f32⟩
  | .hbm, ⟨8, _⟩ => ⟨S4x1024x1024, .f32⟩
  | .hbm, ⟨9, _⟩ => ⟨S4x1024x1024, .bf16⟩
  | .hbm, ⟨10, _⟩ => ⟨S2048x1024, .f32⟩
  | .hbm, ⟨11, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpFRefIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== MlpD.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x1024 : Shape := ⟨2, ![1024, 1024]⟩
abbrev S1x1024x1024 : Shape := ⟨3, ![1, 1024, 1024]⟩
abbrev S256x1024 : Shape := ⟨2, ![256, 1024]⟩
abbrev S1024x1 : Shape := ⟨2, ![1024, 1]⟩

abbrev nBuf : Space → Nat
  | .hbm => 31
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4x1024x1024, .f32⟩
  | .hbm, ⟨9, _⟩ => ⟨S4x1024x1024, .bf16⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x4096, .f32⟩
  | .hbm, ⟨27, _⟩ => ⟨S1x1024, .f32⟩
  | .hbm, ⟨28, _⟩ => ⟨S2048x1024, .f32⟩
  | .hbm, ⟨29, _⟩ => ⟨S2048x4096, .bf16⟩
  | .hbm, ⟨30, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v96 : BitVec 1 := Scalar.cmpi .eq arg1 c3_i32
  let v97 : BitVec 32 := Scalar.extui v96
  let c0_i32_79 : BitVec 32 := 0#32
  let v98 : BitVec 1 := Scalar.cmpi .ne v97 c0_i32_79
  v98

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== MlpDRefIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .i1⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S_, .f32⟩
  | .hbm, ⟨39, _⟩ => ⟨S2048x4096, .f32⟩
  | .hbm, ⟨40, _⟩ => ⟨S2048x4096, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x4096, .f32⟩
  | .hbm, ⟨45, _⟩ => ⟨S2048x4096, .f32⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x4096, .bf16⟩
  | .hbm, ⟨75, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Alg.lean ====
/-
  Extended-real arithmetic used by the value proofs, stated without any program: a positive real scale passes through sums
  and products, the constants of the programs as reals, and a re-indexing of rows by blocks of rows.
-/
module

public import Idealize.ShloMosaic.PureOps.Ideal
public import Idealize.ShloMosaic.PureOps.Ideal.Laws

@[expose] public section

noncomputable section

namespace Cert.Alg

open Idealize.ShloMosaic

/-- A non-negative real scale distributes over any finite sum of extended reals. -/
theorem scale_sum {ι : Type*} (s : Finset ι) (k : ℝ) (hk : 0 ≤ k) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha, ← ih,
      EReal.left_distrib_of_nonneg_of_ne_top (by exact_mod_cast hk) (EReal.coe_ne_top k)]

theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem inv_width : Ideal.ofBits .f32 0x3A800000#32 = ((1 / 1024 : ℝ) : EReal) := by
  simp [Ideal.ofBits, Ideal.ieee, -EReal.coe_mul]; norm_num

theorem infinity : Ideal.ofBits .f32 0x7F800000#32 = (⊤ : EReal) := by simp [Ideal.ofBits, Ideal.ieee]

/-- An element whose absolute value compares below infinity is a real number. -/
theorem finite_of_abs_lt (x : EReal) (h : Ideal.cmp .olt (max x (-x)) (Ideal.ofBits .f32 0x7F800000#32) = 1#1) : ∃ a : ℝ, x = a := by
  rw [infinity] at h
  induction x with
  | bot => simp [Ideal.cmp] at h
  | top => simp [Ideal.cmp] at h
  | coe a => exact ⟨a, rfl⟩

/-- Summing over `a * b` rows is summing over `a` blocks of `b` rows. -/
theorem sum_blocks {M : Type*} [AddCommMonoid M] (a b : ℕ) (f : ℕ → M) :
    ∑ i : Fin (a * b), f i = ∑ p ∈ Finset.range a, ∑ r : Fin b, f (p * b + r) := by
  rw [Fin.sum_univ_eq_sum_range (fun i => f i)]
  induction a with
  | zero => simp
  | succ a ih =>
    rw [Finset.sum_range_succ, ← ih, add_mul, one_mul, Finset.sum_range_add]
    congr 1
    exact (Fin.sum_univ_eq_sum_range (fun r => f (a * b + r)) b).symm

end Cert.Alg

end
-- ==== Proof.Loss.lean ====
/-
  The loss and its gradient. The kernel takes the rows in four blocks of 512; each point writes its rows of
  `(y - t) / 1024` and adds half of its rows' mean squares to one cell that stays in place until the last point.
-/
module

public import proofs.«01_k».proof.Defs
public import proofs.«01_k».proof.Proof.Alg
public import proofs.«01_k».proof.Proof.Gen.LossIdeal.Value
public import proofs.«01_k».proof.Proof.Gen.LossRefIdeal.Run
public import proofs.«01_k».proof.Proof.Gen.LossRefIdeal.Read
public import Idealize.ShloMosaic.Lib.Tactic
public import Idealize.ShloMosaic.Lib.Pointwise

@[expose] public section

set_option maxRecDepth 16384

noncomputable section

namespace Cert.LossIdeal.Hand

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

section Bodies
variable {F : FTy → Type} [FloatOps F]
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1 .f32) (h4 : a4.IsWhole) (x0 x1 : Vec F S512x1024 .f32) (xo : Vec F S1x1 .f32)

/-- At the first point the gradient block is the first store's value. -/
theorem grad_A (hc : cond0_0 i) : out0_A_2 c i a1 h1 a2 h2 a3 h3 a4 h4 hc x0 x1 = k0_pay3 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S512x1024) hz]

/-- Likewise at every later point. -/
theorem grad_B (hc : ¬cond0_0 i) : out0_B_2 c i a1 h1 a2 h2 a3 h3 a4 h4 hc x0 x1 xo = k0_pay3 x0 x1 := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz]
  simp only [View.readAt_eq_ld, h1.read_unread, h2.read_unread, View.ld_unit_zero (S := S512x1024) hz]

/-- The first point resets the loss cell to zero and adds its block. -/
theorem cell_A (hc : cond0_0 i) : out0_A_3 c i a1 h1 a2 h2 a3 h3 a4 h4 hc x0 x1 = k0_pay4 x0 x1 (k0_pay1 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x1024) hz]

/-- A later point adds its block to what the cell held. -/
theorem cell_B (hc : ¬cond0_0 i) : out0_B_3 c i a1 h1 a2 h2 a3 h3 a4 h4 hc x0 x1 xo = k0_pay4 x0 x1 xo := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz]
  simp only [View.readAt_eq_ld, h1.read_unread, h2.read_unread, h4.read_unread, View.ld_unit_zero (S := S512x1024) hz,
    View.ld_unit_zero (S := S1x1) hz]

end Bodies

/-- The two arguments as launched. -/
abbrev Y (c : Dev nD) : Vec Ideal S2048x1024 .f32 := m ((c : Thread nD τ).loc main_arg0)
abbrev T (c : Dev nD) : Vec Ideal S2048x1024 .f32 := m ((c : Thread nD τ).loc main_arg1)

/-- The gradient of the loss, element by element. -/
def dY (c : Dev nD) : Vec Ideal S2048x1024 .f32 := fun i => (Y m c i - T m c i) * ((1 / 1024 : ℝ) : EReal)

/-- One row's share of the loss, by its number. -/
def row (c : Dev nD) (r : ℕ) : EReal :=
  if h : r < 2048 then (∑ k : Fin 1024, (Y m c (ix2 ⟨r, h⟩ k) - T m c (ix2 ⟨r, h⟩ k)) * (Y m c (ix2 ⟨r, h⟩ k) - T m c (ix2 ⟨r, h⟩ k)))
    * ((1 / 1024 : ℝ) : EReal) else 0

theorem idx_facts : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

theorem blk0 (c : Dev nD) (t : Fin cfg0.N) (r : Fin 512) (k : Fin 1024) (h : t.val * 512 + r.val < 2048) :
    (iblk m c 0 t : Vec Ideal S512x1024 .f32) (ix2 r k) = Y m c (ix2 ⟨t.val * 512 + r.val, h⟩ k) := by
  obtain ⟨e, -, -, -⟩ := idx_facts t
  unfold iblk
  rw [View.read_apply]
  refine congrArg (m ((c : Thread nD τ).loc main_arg0)) (funext fun a => Fin.ext ?_)
  match a with
  | ⟨0, _⟩ => show win0_0.index t 0 * 512 + 1 * r.val = _; rw [e]; show t.val * 512 + 1 * r.val = t.val * 512 + r.val; omega
  | ⟨1, _⟩ => show win0_0.index t 1 * 1024 + 1 * k.val = _; rw [e]; show 0 * 1024 + 1 * k.val = k.val; omega

theorem blk1 (c : Dev nD) (t : Fin cfg0.N) (r : Fin 512) (k : Fin 1024) (h : t.val * 512 + r.val < 2048) :
    (iblk m c 1 t : Vec Ideal S512x1024 .f32) (ix2 r k) = T m c (ix2 ⟨t.val * 512 + r.val, h⟩ k) := by
  obtain ⟨-, e, -, -⟩ := idx_facts t
  unfold iblk
  rw [View.read_apply]
  refine congrArg (m ((c : Thread nD τ).loc main_arg1)) (funext fun a => Fin.ext ?_)
  match a with
  | ⟨0, _⟩ => show win0_1.index t 0 * 512 + 1 * r.val = _; rw [e]; show t.val * 512 + 1 * r.val = t.val * 512 + r.val; omega
  | ⟨1, _⟩ => show win0_1.index t 1 * 1024 + 1 * k.val = _; rw [e]; show 0 * 1024 + 1 * k.val = k.val; omega

theorem pay3_apply (x0 x1 : Vec Ideal S512x1024 .f32) (j : S512x1024.Idx) :
    k0_pay3 x0 x1 j = (x0 j - x1 j) * ((1 / 1024 : ℝ) : EReal) := by
  unfold_payloads
  pointwise [Alg.inv_width]

theorem pay4_apply (x0 x1 : Vec Ideal S512x1024 .f32) (xo : Vec Ideal S1x1 .f32) (j : S1x1.Idx) :
    k0_pay4 x0 x1 xo j = xo j + ((1 / 2 : ℝ) : EReal) * ∑ r : Fin 512,
      (∑ k : Fin 1024, (x0 (ix2 r k) - x1 (ix2 r k)) * (x0 (ix2 r k) - x1 (ix2 r k))) * ((1 / 1024 : ℝ) : EReal) := by
  unfold_payloads
  pointwise [Alg.half, Alg.width, Ideal.div_coe (by norm_num : (1024 : ℝ) ≠ 0)]

/-- The two blocks point `t` reads. -/
abbrev B0 (c : Dev nD) (t : Fin cfg0.N) : Vec Ideal S512x1024 .f32 := iblk m c 0 t
abbrev B1 (c : Dev nD) (t : Fin cfg0.N) : Vec Ideal S512x1024 .f32 := iblk m c 1 t

/-- A block's share of the loss is the share of its rows. -/
theorem block_rows (c : Dev nD) (t : Fin cfg0.N) :
    (∑ r : Fin 512, (∑ k : Fin 1024, (B0 m c t (ix2 r k) - B1 m c t (ix2 r k)) * (B0 m c t (ix2 r k) - B1 m c t (ix2 r k)))
      * ((1 / 1024 : ℝ) : EReal))
    = ∑ r : Fin 512, row m c (t.val * 512 + r) := by
  have hN : t.val < 4 := lt_of_lt_of_eq t.isLt (show cfg0.N = 4 from N_0)
  refine Finset.sum_congr rfl fun r _ => ?_
  have h : t.val * 512 + r.val < 2048 := by have := r.isLt; omega
  rw [row, dif_pos h]
  simp only [blk0 m c t r _ h, blk1 m c t r _ h]

/-- What the points up to `n` left in the loss cell. -/
theorem cell_eq (c : Dev nD) (j : S1x1.Idx) : ∀ (n : ℕ) (h : n < cfg0.N), (outsAt0 m c n h).2 j
    = ∑ p ∈ Finset.range (n + 1), ((1 / 2 : ℝ) : EReal) * ∑ r : Fin 512, row m c (p * 512 + r)
  | 0, h => by
    rw [show outsAt0 m c 0 h = _ from outsAt0_A m c ⟨0, h⟩ rfl]
    dsimp only
    rw [cell_A, pay4_apply, block_rows]
    simp only [k0_pay1]
    pointwise [Finset.sum_range_one]
  | n + 1, h => by
    have hN : n + 1 < 4 := lt_of_lt_of_eq h (show cfg0.N = 4 from N_0)
    rw [show outsAt0 m c (n + 1) h = _ from outsAt0_B m c ⟨n + 1, h⟩ (by show ¬ (n + 1) % 4 = 0; omega)]
    dsimp only
    rw [cell_B, pay4_apply, block_rows, Finset.sum_range_succ]
    exact congrArg (· + _) (cell_eq c j n _)

/-- Every point leaves its rows of the gradient. -/
theorem grad_eq (c : Dev nD) (t : Fin cfg0.N) : (outsAt0 m c t.val t.isLt).1 = k0_pay3 (B0 m c t) (B1 m c t) := by
  by_cases h : t.val % 4 = 0
  · rw [outsAt0_A m c t h]; dsimp only; rw [grad_A]
  · rw [outsAt0_B m c t h]; dsimp only; rw [grad_B]

theorem mem_blk2 (t : Fin cfg0.N) (i : S2048x1024.Idx) (h : (i 0).val / 512 = t.val) : i ∈ ((cfg0.win 2).blk t).view.set := by
  obtain ⟨-, -, e, -⟩ := idx_facts t
  have h1 : (i 1).val < 1024 := (i 1).isLt
  show i ∈ ((View.whole main_v0_0).slice (win0_2.rect t)).set
  rw [View.set_slice_whole, Rect.mem_set_unit]
  intro a
  match a with
  | ⟨0, _⟩ => show win0_2.index t 0 * 512 ≤ (i 0).val ∧ (i 0).val < win0_2.index t 0 * 512 + 512; rw [e]; show t.val * 512 ≤ _ ∧ _ < t.val * 512 + 512; omega
  | ⟨1, _⟩ => show win0_2.index t 1 * 1024 ≤ (i 1).val ∧ (i 1).val < win0_2.index t 1 * 1024 + 1024; rw [e]; show 0 * 1024 ≤ _ ∧ _ < 0 * 1024 + 1024; omega

theorem mem_blk3 (t : Fin cfg0.N) (i : S1x1.Idx) : i ∈ ((cfg0.win 3).blk t).view.set := by
  obtain ⟨-, -, -, e⟩ := idx_facts t
  have h0 : (i 0).val < 1 := (i 0).isLt
  have h1 : (i 1).val < 1 := (i 1).isLt
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e]; show 0 * 1 ≤ _ ∧ _ < 0 * 1 + 1; omega
  | ⟨1, _⟩ => show win0_3.index t 1 * 1 ≤ (i 1).val ∧ (i 1).val < win0_3.index t 1 * 1 + 1; rw [e]; show 0 * 1 ≤ _ ∧ _ < 0 * 1 + 1; omega

theorem grad_final (c : Dev nD) : (dats m 0 c).arrAt 2 cfg0.N = dY m c := by
  refine (dats m 0 c).arrAt_eq_of_cover 2 (dY m c) (fun t _ => ?_) fun i => ?_
  · rw [Value.flushed2, grad_eq]
    have hN : t.val < 4 := lt_of_lt_of_eq t.isLt (show cfg0.N = 4 from N_0)
    obtain ⟨-, -, e, -⟩ := idx_facts t
    refine funext fun (j : S512x1024.Idx) => ?_
    obtain ⟨r, k, rfl⟩ : ∃ (r : Fin 512) (k : Fin 1024), j = ix2 r k := ⟨_, _, eq_ix2 j⟩
    have h : t.val * 512 + r.val < 2048 := by have := r.isLt; omega
    show k0_pay3 (B0 m c t) (B1 m c t) (ix2 r k) = dY m c (((cfg0.win 2).blk t).view.emb (ix2 r k))
    rw [pay3_apply, show B0 m c t (ix2 r k) = _ from blk0 m c t r k h, show B1 m c t (ix2 r k) = _ from blk1 m c t r k h]
    refine congrArg (dY m c) (funext fun a => Fin.ext ?_ : ix2 ⟨t.val * 512 + r.val, h⟩ k = _)
    match a with
    | ⟨0, _⟩ => show t.val * 512 + r.val = win0_2.index t 0 * 512 + 1 * r.val; rw [e]; show _ = t.val * 512 + 1 * r.val; omega
    | ⟨1, _⟩ => show k.val = win0_2.index t 1 * 1024 + 1 * k.val; rw [e]; show _ = 0 * 1024 + 1 * k.val; omega
  · have h : (i 0).val < 2048 := (i 0).isLt
    exact ⟨⟨(i 0).val / 512, by rw [show cfg0.N = 4 from N_0]; omega⟩, flush0_2 _, mem_blk2 _ i rfl⟩

/-- The loss as the cell holds it at the end. -/
def total (c : Dev nD) : EReal := ∑ p ∈ Finset.range 4, ((1 / 2 : ℝ) : EReal) * ∑ r : Fin 512, row m c (p * 512 + r)

theorem loss_final (c : Dev nD) : (dats m 0 c).arrAt 3 cfg0.N = (fun _ => total m c : Vec Ideal S1x1 .f32) := by
  refine (dats m 0 c).arrAt_eq_of_cover 3 (fun _ => total m c : Vec Ideal S1x1 .f32) (fun t hf => ?_) fun i => ?_
  · have h3 : t.val = 3 := by
      have := (flush0_3 t).mp hf; have := lt_of_lt_of_eq t.isLt (show cfg0.N = 4 from N_0); omega
    rw [Value.flushed3]
    refine funext fun (j : S1x1.Idx) => ?_
    show (outsAt0 m c t.val t.isLt).2 j = total m c
    rw [cell_eq, total, h3]
  · exact ⟨⟨3, by rw [show cfg0.N = 4 from N_0]; omega⟩, (flush0_3 _).mpr rfl, mem_blk3 _ i⟩

section Reference
open Cert.LossRefIdeal.Read

theorem ref_grad (x0 x1 : Vec Ideal S2048x1024 .f32) (i : S2048x1024.Idx) :
    val_main_v14 (F := Ideal) x0 x1 i = (x0 i - x1 i) * ((1 / 1024 : ℝ) : EReal) := by
  unfold val_main_v14 val_main_v13 val_main_v12 val_main_v11 val_main_v10 val_main_v9 val_main_v3 val_main_v2 val_main_v0
    val_main_cst val_main_cst_4 val_main_cst_5 val_main_cst_6
  pointwise [Alg.half, Alg.width, Alg.one, Alg.two, Ideal.div_coe (by norm_num : (1024 : ℝ) ≠ 0)]
  rw [mul_comm, mul_comm ((2 : ℝ) : EReal), mul_assoc]
  congr 1
  norm_cast
  norm_num

theorem ref_loss (x0 x1 : Vec Ideal S2048x1024 .f32) (i : S1x1.Idx) :
    val_main_v15 (F := Ideal) x0 x1 i = ((1 / 2 : ℝ) : EReal) * ∑ r : Fin 2048,
      (∑ k : Fin 1024, (x0 (ix2 r k) - x1 (ix2 r k)) * (x0 (ix2 r k) - x1 (ix2 r k))) * ((1 / 1024 : ℝ) : EReal) := by
  unfold val_main_v15 val_main_v8 val_main_v7 val_main_v6 val_main_v5 val_main_v4 val_main_v1 val_main_v0
    val_main_cst_0 val_main_cst_1 val_main_cst_2 val_main_cst_3
  pointwise [Alg.half, Alg.width, Ideal.div_coe (by norm_num : (1024 : ℝ) ≠ 0)]

/-- Both losses: four blocks of rows, or all rows at once. -/
theorem total_eq (c : Dev nD) (i : S1x1.Idx) : total m c = val_main_v15 (F := Ideal) (Y m c) (T m c) i := by
  rw [ref_loss, total, ← Alg.scale_sum _ _ (by norm_num), ← Alg.sum_blocks 4 512]
  refine congrArg (_ * ·) (Finset.sum_congr rfl fun r _ => ?_)
  rw [row, dif_pos r.isLt]

end Reference

/-- The claim: both programs end with the same gradient and the same loss. -/
theorem values [hK : Cert.LossIdeal.Facts] [hR : Cert.LossRefIdeal.Facts] : algebraic_LossIdeal_LossRefIdeal := fun m ρ m' ρ' _ hag => by
  refine ⟨fun c => dY m c, fun c => (fun _ => total m c : Vec Ideal S1x1 .f32), ?_, ?_⟩
  · exact (θ_run defs _ _).mono (fun _ h c => ⟨(h c).1.trans (grad_final m c), (h c).2.1.trans (loss_final m c), (h c).2.2⟩)
      (Value.run_blocks m ρ)
  · refine (θ_run _ _ _).mono (fun r h c => ⟨(h c).1.trans ?_, (h c).2.1.trans ?_, (h c).2.2⟩) (Cert.LossRefIdeal.Value.run m' ρ')
    · rw [Cert.LossRefIdeal.Read.val_main_v14_eq, (hag c).1, (hag c).2]
      exact funext fun i => ref_grad _ _ i
    · rw [Cert.LossRefIdeal.Read.val_main_v15_eq, (hag c).1, (hag c).2]
      exact funext fun i => (total_eq m c i).symm

end Cert.LossIdeal.Hand

end
-- ==== Proof.ConvCol.lean ====
/-
  One column of the causal convolution's backward pass, over the extended reals: four taps reach back three rows, the silu
  gate's derivative scales the cotangent, and the same four taps reach forward for the gradient of the input.
-/
module

public import Idealize.ShloMosaic.PureOps.Ideal
public import Idealize.ShloMosaic.PureOps.Ideal.Laws

@[expose] public section

noncomputable section

namespace Cert.ConvCol

open Idealize.ShloMosaic

/-- The column `s` rows earlier; zero before its first row. -/
def back (X : Fin 2048 → EReal) (s : ℕ) (r : Fin 2048) : EReal := if h : s ≤ r.val then X ⟨r.val - s, by omega⟩ else 0

/-- The column `s` rows later; zero past its last row. -/
def ahead (X : Fin 2048 → EReal) (s : ℕ) (r : Fin 2048) : EReal := if h : r.val + s < 2048 then X ⟨r.val + s, h⟩ else 0

/-- What the gate is applied to: the bias and the four taps. -/
def pre (X : Fin 2048 → EReal) (w : Fin 4 → EReal) (b : EReal) (r : Fin 2048) : EReal :=
  b + w 0 * back X 3 r + w 1 * back X 2 r + w 2 * back X 1 r + w 3 * X r

/-- The derivative of `p * logistic p`. -/
def gate (p : EReal) : EReal := Ideal.logistic p * (1 + p * (1 - Ideal.logistic p))

/-- The gradient at the gate's argument. -/
def dpre (X A : Fin 2048 → EReal) (w : Fin 4 → EReal) (b : EReal) (r : Fin 2048) : EReal := A r * gate (pre X w b r)

/-- The gradient of the input, from the gradient `D` at the gate's argument. -/
def dinp (D : Fin 2048 → EReal) (w : Fin 4 → EReal) (r : Fin 2048) : EReal :=
  w 0 * ahead D 3 r + w 1 * ahead D 2 r + w 2 * ahead D 1 r + w 3 * D r

/-- The gradient of tap `k`. -/
def dtap (X D : Fin 2048 → EReal) (k : Fin 4) : EReal := ∑ r, D r * back X (3 - k.val) r

theorem back_zero (X : Fin 2048 → EReal) (r : Fin 2048) : back X 0 r = X r := by simp [back]

/-- The product rule at the gate, as the reference writes it: equal wherever the cotangent is finite. -/
theorem gate_split (a : ℝ) (p : EReal) :
    (a : EReal) * Ideal.logistic p + p * (a : EReal) * (Ideal.logistic p * (1 - Ideal.logistic p)) = a * gate p := by
  unfold gate
  induction p with
  | bot => simp
  | top =>
    have h : (1 : EReal) - 1 = 0 := by rw [← EReal.coe_one, ← EReal.coe_sub, sub_self, EReal.coe_zero]
    simp [h]
  | coe p =>
    rw [Ideal.logistic_coe]
    norm_cast
    ring

end Cert.ConvCol

end
-- ==== Proof.Conv.lean ====
/-
  The backward pass of the causal convolution and its gate. The kernel takes the 1024 columns in eight tiles of 128; every
  point computes its tile's three gradients from whole columns, so each result is read column by column (`ConvCol`).
-/
module

public import proofs.«01_k».proof.Defs
public import proofs.«01_k».proof.Proof.Alg
public import proofs.«01_k».proof.Proof.ConvCol
public import proofs.«01_k».proof.Proof.Gen.ConvIdeal.Value
public import proofs.«01_k».proof.Proof.Gen.ConvRefIdeal.Run
public import proofs.«01_k».proof.Proof.Gen.ConvRefIdeal.Read
public import Idealize.ShloMosaic.Lib.Tactic
public import Idealize.ShloMosaic.Lib.Pointwise
public import Idealize.ShloMosaic.Lib.Pipeline.ValueKit.Tiles
public import Idealize.ShloMosaic.Lib.StableHlo.ReadAt

@[expose] public section

set_option maxRecDepth 16384

noncomputable section

namespace Cert.ConvIdeal.Hand

open Cert.ConvIdeal Cert.ConvIdeal.Gen Idealize.ShloMosaic Idealize.ShloMosaic.TcCoe Idealize.SL.Sem
open Idealize.ShloMosaic.Pipeline (Dat)
open Cert.ConvCol

/-! ### The body's values at an index -/

section Body
variable (v v1 v26 v39 v55 v62 : Vec Ideal S2048x128 .f32) (r : Fin 2048) (k : Fin 128)

/-- The column `k` of a tile. -/
abbrev col (v : Vec Ideal S2048x128 .f32) (k : Fin 128) : Fin 2048 → EReal := fun r => v (ix2 r k)

/-- The comparison of a row's number with a shift, both below eight, as a bit. -/
theorem guard_ge : ∀ s r : Fin 8, IntOp.cmpi .sge (BitVec.ofNat 32 r.val) (BitVec.ofNat 32 s.val) = if s.val ≤ r.val then 1#1 else 0#1 := by
  decide

theorem guard_lt : ∀ s r : Fin 8, IntOp.cmpi .slt (BitVec.ofNat 32 r.val) (BitVec.ofNat 32 s.val) = if r.val < s.val then 1#1 else 0#1 := by
  decide

/-- A guarded read of a rotated column is the shifted column. -/
theorem back_of (X : Fin 2048 → EReal) (s : Fin 8) (h1 : (r.val + 2048 - s.val) % 2048 < 2048)
    (h2 : ¬r.val < 8 → (8 + (r.val - 8) + 2048 - s.val) % 2048 < 2048) :
    (if h : r.val < 8 then Scalar.select (IntOp.cmpi .sge (BitVec.ofNat 32 r.val) (BitVec.ofNat 32 s.val)) (X ⟨(r.val + 2048 - s.val) % 2048, h1⟩) 0
      else X ⟨(8 + (r.val - 8) + 2048 - s.val) % 2048, h2 h⟩) = back X s.val r := by
  have hs := s.isLt
  have hr := r.isLt
  unfold back
  by_cases h : r.val < 8
  · rw [dif_pos h, guard_ge s ⟨r.val, h⟩]
    by_cases hk : s.val ≤ r.val
    · rw [if_pos hk, dif_pos hk]
      exact congrArg X (Fin.ext (by show (r.val + 2048 - s.val) % 2048 = r.val - s.val; omega))
    · rw [if_neg hk, dif_neg hk]
      rfl
  · rw [dif_neg h, dif_pos (by omega)]
    exact congrArg X (Fin.ext (by show (8 + (r.val - 8) + 2048 - s.val) % 2048 = r.val - s.val; omega))

/-- Likewise forward: the last `s` rows read zero. -/
theorem ahead_of (X : Fin 2048 → EReal) (s n : ℕ) (hs : 0 < s) (hs8 : s < 8) (hn : n = 2048 - s) (w : BitVec 32) (hw : w = BitVec.ofNat 32 (8 - s))
    (h1 : r.val < 2040 → (r.val + 2048 - n) % 2048 < 2048) (h2 : ¬r.val < 2040 → (2040 + (r.val - 2040) + 2048 - n) % 2048 < 2048) :
    (if h : r.val < 2040 then X ⟨(r.val + 2048 - n) % 2048, h1 h⟩
      else Scalar.select (IntOp.cmpi .slt (BitVec.ofNat 32 (r.val - 2040)) w) (X ⟨(2040 + (r.val - 2040) + 2048 - n) % 2048, h2 h⟩) 0)
      = ahead X s r := by
  subst hn hw
  have hr := r.isLt
  unfold ahead
  by_cases h : r.val < 2040
  · rw [dif_pos h, dif_pos (by omega)]
    exact congrArg X (Fin.ext (by show (r.val + 2048 - (2048 - s)) % 2048 = r.val + s; omega))
  · rw [dif_neg h, guard_lt ⟨8 - s, by omega⟩ ⟨r.val - 2040, by omega⟩]
    by_cases hk : r.val + s < 2048
    · rw [if_pos (show r.val - 2040 < 8 - s by omega), dif_pos hk]
      exact congrArg X (Fin.ext (by show (2040 + (r.val - 2040) + 2048 - (2048 - s)) % 2048 = r.val + s; omega))
    · rw [if_neg (show ¬(r.val - 2040 < 8 - s) by omega), dif_neg hk]
      rfl

theorem pay4_apply : k0_pay4 v (ix2 r k) = back (col v k) 3 r := by
  unfold_payloads
  pointwise
  exact back_of r (col v k) 3 _ fun _ => Nat.mod_lt _ (by norm_num)

theorem pay5_apply : k0_pay5 v (ix2 r k) = back (col v k) 2 r := by
  unfold_payloads
  pointwise
  exact back_of r (col v k) 2 _ fun _ => Nat.mod_lt _ (by norm_num)

theorem pay6_apply : k0_pay6 v (ix2 r k) = back (col v k) 1 r := by
  unfold_payloads
  pointwise
  exact back_of r (col v k) 1 _ fun _ => Nat.mod_lt _ (by norm_num)

theorem pay3_eq : k0_pay3 v = v := by
  funext j
  unfold_payloads
  pointwise

end Body

theorem hz : (![0, 0] : Fin 2 → Nat) = fun _ => 0 := funext fun a => by fin_cases a <;> rfl

section Block
variable (x0 x1 : Vec Ideal S2048x128 .f32) (x2 : Vec Ideal S4x128 .f32) (x3 : Vec Ideal S1x128 .f32) (k : Fin 128)

/-- The gradient at the gate's argument, down column `k` of a block. -/
abbrev D : Fin 2048 → EReal := dpre (col x0 k) (col x1 k) (fun a => x2 (ix2 a k)) (x3 (ix2 0 k))

theorem dpre_apply (r : Fin 2048) : k0_pay24 x0 x1 x2 x3 (ix2 r k) = D x0 x1 x2 x3 k r := by
  unfold k0_pay24 k0_pay23 k0_pay22 k0_pay21 k0_pay8 k0_pay7
  pointwise [pay4_apply, pay5_apply, pay6_apply, pay3_eq]
  rw [View.ld_unit_zero (S := S2048x128) hz]
  simp only [zero_sub]
  rfl

theorem out4_apply (r : Fin 2048) : out0_4 x0 x1 x2 x3 (ix2 r k) = dinp (D x0 x1 x2 x3 k) (fun a => x2 (ix2 a k)) r := by
  have hD : (D x0 x1 x2 x3 k) = col (k0_pay24 x0 x1 x2 x3) k := funext fun r => (dpre_apply x0 x1 x2 x3 k r).symm
  unfold out0_4
  rw [View.canon_unit_zero hz, hD]
  unfold k0_pay2 k0_pay18 k0_pay10 k0_pay13 k0_pay14 k0_pay15 k0_pay12 k0_pay20
  rw [show k0_pay8 (k0_pay21 x0 x1 x2 x3) (k0_pay22 x0 x1 x2 x3) (k0_pay23 x0 x1 x2 x3) (View.ld x2 r0_4) (View.ld x2 r0_5) (View.ld x1 r0_0) = k0_pay24 x0 x1 x2 x3 from rfl]
  pointwise
  have hm : ∀ n, n % 2048 < 2048 := fun n => Nat.mod_lt _ (by norm_num)
  refine congrArg₂ (· + ·) (congrArg₂ (· + ·) (congrArg₂ (· + ·) (congrArg (_ * ·) ?_) (congrArg (_ * ·) ?_)) (congrArg (_ * ·) ?_)) rfl
  · exact ahead_of r (col (k0_pay24 x0 x1 x2 x3) k) 3 2045 (by norm_num) (by norm_num) rfl _ rfl (fun _ => hm _) fun _ => hm _
  · exact ahead_of r (col (k0_pay24 x0 x1 x2 x3) k) 2 2046 (by norm_num) (by norm_num) rfl _ rfl (fun _ => hm _) fun _ => hm _
  · exact ahead_of r (col (k0_pay24 x0 x1 x2 x3) k) 1 2047 (by norm_num) (by norm_num) rfl _ rfl (fun _ => hm _) fun _ => hm _

/-- The four stores of the taps' gradients, one row each. -/
theorem out5_apply (a : Fin 4) : out0_5 x0 x1 x2 x3 (ix2 a k) = dtap (col x0 k) (D x0 x1 x2 x3 k) a := by
  unfold out0_5
  refine View.canon_eq_of_allAt _ _ _ (cover0_5 _ _ _ _ _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    intro (y : S1x128.Idx) hy
    obtain ⟨p, q, rfl⟩ : ∃ (p : Fin 1) (q : Fin 128), y = ix2 p q := ⟨_, _, eq_ix2 y⟩
    have h0 := hy 0
    have h1 := hy 1
    have hp := p.isLt
    obtain rfl : k = q := Fin.ext (by simpa using h1)
    obtain rfl : p = 0 := Fin.ext (by omega)
    obtain ⟨n, hn⟩ := a
    replace h0 : n = _ := h0
    subst h0
  · show k0_pay1 (k0_pay19 (k0_pay21 x0 x1 x2 x3) (k0_pay24 x0 x1 x2 x3)) (ix2 0 k) = dtap (col x0 k) (D x0 x1 x2 x3 k) 3
    unfold k0_pay1 k0_pay19 k0_pay21 dtap
    rw [View.ld_unit_zero (S := S2048x128) hz, pay3_eq]
    pointwise [dpre_apply]
    refine Finset.sum_congr rfl fun r _ => ?_
    show _ = _ * back _ 0 r
    rw [back_zero]
  · show k0_pay17 (k0_pay22 x0 x1 x2 x3) (k0_pay24 x0 x1 x2 x3) (ix2 0 k) = dtap (col x0 k) (D x0 x1 x2 x3 k) 2
    unfold k0_pay17 k0_pay22 dtap
    rw [View.ld_unit_zero (S := S2048x128) hz]
    pointwise [dpre_apply, pay6_apply]
  · show k0_pay16 (k0_pay5 (View.ld x0 r0_0)) (k0_pay24 x0 x1 x2 x3) (ix2 0 k) = dtap (col x0 k) (D x0 x1 x2 x3 k) 1
    unfold k0_pay16 dtap
    rw [View.ld_unit_zero (S := S2048x128) hz]
    pointwise [dpre_apply, pay5_apply]
  · show k0_pay11 (k0_pay21 x0 x1 x2 x3) (k0_pay4 (View.ld x0 r0_0)) (k0_pay22 x0 x1 x2 x3) (k0_pay23 x0 x1 x2 x3)
      (View.ld x2 r0_4) (View.ld x2 r0_5) (View.ld x1 r0_0) (ix2 0 k) = dtap (col x0 k) (D x0 x1 x2 x3 k) 0
    unfold k0_pay11 dtap
    rw [show k0_pay8 (k0_pay21 x0 x1 x2 x3) (k0_pay22 x0 x1 x2 x3) (k0_pay23 x0 x1 x2 x3) (View.ld x2 r0_4) (View.ld x2 r0_5) (View.ld x1 r0_0) = k0_pay24 x0 x1 x2 x3 from rfl,
      View.ld_unit_zero (S := S2048x128) hz]
    pointwise [dpre_apply, pay4_apply]

theorem out6_apply (z : Fin 1) : out0_6 x0 x1 x2 x3 (ix2 z k) = ∑ r, D x0 x1 x2 x3 k r := by
  unfold out0_6
  rw [View.canon_unit_zero hz]
  unfold k0_pay9
  rw [show k0_pay8 (k0_pay21 x0 x1 x2 x3) (k0_pay22 x0 x1 x2 x3) (k0_pay23 x0 x1 x2 x3) (View.ld x2 r0_4) (View.ld x2 r0_5) (View.ld x1 r0_0) = k0_pay24 x0 x1 x2 x3 from rfl]
  pointwise [dpre_apply]

end Block

/-! ### The blocks -/

section Array
variable (m : (ℓ : Loc nD τ sig) → Buf (Elt Ideal) ℓ) (ρ : Dev nD → PrngReg)

abbrev P (c : Dev nD) : Vec Ideal S2048x2312 .f32 := m ((c : Thread nD τ).loc main_arg0)
abbrev A (c : Dev nD) : Vec Ideal S2048x1024 .f32 := m ((c : Thread nD τ).loc main_arg1)
abbrev W (c : Dev nD) : Vec Ideal S4x1024 .f32 := m ((c : Thread nD τ).loc main_arg2)
abbrev Bz (c : Dev nD) : Vec Ideal S1024 .f32 := m ((c : Thread nD τ).loc main_arg3)

theorem V_proj (c : Dev nD) (r : Fin 2048) (k : Fin 1024) :
    (V m c main_v7 : Vec Ideal S2048x2432 .f32) (ix2 r ⟨1024 + k.val, by omega⟩) = P m c (ix2 r ⟨1280 + k.val, by omega⟩) := by
  unfold V
  after_reads_at
  rw [dif_neg (by omega), dif_neg (by omega), dif_pos (by omega)]
  refine (congrFun (StableHlo.unary_result ..) _).trans ?_
  pointwise
  rw [show (⟨1280 + (1024 + k.val - 512 - 512), by omega⟩ : Fin 2312) = ⟨1280 + k.val, by omega⟩ from Fin.ext (by show 1280 + (1024 + k.val - 512 - 512) = 1280 + k.val; omega)]
  exact congrFun (StableHlo.upto_unwritten [main_v0, main_v1, main_v2, main_v3] rfl (by decide) _) _

theorem V_bias (c : Dev nD) (k : Fin 1024) :
    (V m c main_v8 : Vec Ideal S1x1024 .f32) (ix2 0 k) = Bz m c (ix1 k) := by
  unfold V
  simp only [hostOps0, hostOps0_1, hostOps0_2, List.flatten_cons, List.flatten_nil, List.append_nil, List.cons_append, List.nil_append]
  after_results
  pointwise

/-- Where each window's block of point `t` begins, in blocks. -/
theorem idx_facts : ∀ t : Fin cfg0.N, win0_0.index t = ![0, 8 + t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val] := by decide +kernel

/-- The four blocks of point `t`. -/
abbrev B0 (c : Dev nD) (t : Fin cfg0.N) : Vec Ideal S2048x128 .f32 := iblk m c 0 t
abbrev B1 (c : Dev nD) (t : Fin cfg0.N) : Vec Ideal S2048x128 .f32 := iblk m c 1 t
abbrev B2 (c : Dev nD) (t : Fin cfg0.N) : Vec Ideal S4x128 .f32 := iblk m c 2 t
abbrev B3 (c : Dev nD) (t : Fin cfg0.N) : Vec Ideal S1x128 .f32 := iblk m c 3 t

theorem lt_col (t : Fin cfg0.N) (k : Fin 128) : t.val * 128 + k.val < 1024 := by
  have := lt_of_lt_of_eq t.isLt (show cfg0.N = 8 from N_0); have := k.isLt; omega

/-- Column `k` of tile `t`, among all the columns. -/
abbrev kk (t : Fin cfg0.N) (k : Fin 128) : Fin 1024 := ⟨t.val * 128 + k.val, lt_col t k⟩

theorem blk0 (c : Dev nD) (t : Fin cfg0.N) (r : Fin 2048) (k : Fin 128) :
    B0 m c t (ix2 r k) = P m c (ix2 r ⟨1280 + (kk t k).val, by omega⟩) := by
  obtain ⟨e, -⟩ := idx_facts t
  rw [← V_proj]
  show iblk m c 0 t (ix2 r k) = _
  unfold iblk
  rw [View.read_apply]
  refine congrArg (V m c main_v7) (funext fun a => Fin.ext ?_)
  match a with
  | ⟨0, _⟩ => show win0_0.index t 0 * 2048 + 1 * r.val = _; rw [e]; show 0 * 2048 + 1 * r.val = r.val; omega
  | ⟨1, _⟩ => show win0_0.index t 1 * 128 + 1 * k.val = _; rw [e]; show (8 + t.val) * 128 + 1 * k.val = 1024 + (t.val * 128 + k.val); omega

theorem blk1 (c : Dev nD) (t : Fin cfg0.N) (r : Fin 2048) (k : Fin 128) : B1 m c t (ix2 r k) = A m c (ix2 r (kk t k)) := by
  obtain ⟨-, e, -⟩ := idx_facts t
  show iblk m c 1 t (ix2 r k) = _
  unfold iblk
  rw [View.read_apply]
  refine congrArg (m ((c : Thread nD τ).loc main_arg1)) (funext fun a => Fin.ext ?_)
  match a with
  | ⟨0, _⟩ => show win0_1.index t 0 * 2048 + 1 * r.val = _; rw [e]; show 0 * 2048 + 1 * r.val = r.val; omega
  | ⟨1, _⟩ => show win0_1.index t 1 * 128 + 1 * k.val = _; rw [e]; show t.val * 128 + 1 * k.val = t.val * 128 + k.val; omega

theorem blk2 (c : Dev nD) (t : Fin cfg0.N) (r : Fin 4) (k : Fin 128) : B2 m c t (ix2 r k) = W m c (ix2 r (kk t k)) := by
  obtain ⟨-, -, e, -⟩ := idx_facts t
  show iblk m c 2 t (ix2 r k) = _
  unfold iblk
  rw [View.read_apply]
  refine congrArg (m ((c : Thread nD τ).loc main_arg2)) (funext fun a => Fin.ext ?_)
  match a with
  | ⟨0, _⟩ => show win0_2.index t 0 * 4 + 1 * r.val = _; rw [e]; show 0 * 4 + 1 * r.val = r.val; omega
  | ⟨1, _⟩ => show win0_2.index t 1 * 128 + 1 * k.val = _; rw [e]; show t.val * 128 + 1 * k.val = t.val * 128 + k.val; omega

theorem blk3 (c : Dev nD) (t : Fin cfg0.N) (k : Fin 128) : B3 m c t (ix2 0 k) = Bz m c (ix1 (kk t k)) := by
  obtain ⟨-, -, -, e, -⟩ := idx_facts t
  rw [← V_bias]
  show iblk m c 3 t (ix2 0 k) = _
  unfold iblk
  rw [View.read_apply]
  refine congrArg (V m c main_v8) (funext fun a => Fin.ext ?_)
  match a with
  | ⟨0, _⟩ => show win0_3.index t 0 * 1 + 1 * 0 = _; rw [e]; show 0 * 1 + 1 * 0 = 0; omega
  | ⟨1, _⟩ => show win0_3.index t 1 * 128 + 1 * k.val = _; rw [e]; show t.val * 128 + 1 * k.val = t.val * 128 + k.val; omega

/-! ### The three results -/

/-- The input's column `k`, and the gradient at the gate's argument down it. -/
abbrev Xk (c : Dev nD) (k : Fin 1024) : Fin 2048 → EReal := fun r => P m c (ix2 r ⟨1280 + k.val, by omega⟩)
abbrev Dk (c : Dev nD) (k : Fin 1024) : Fin 2048 → EReal :=
  dpre (Xk m c k) (fun r => A m c (ix2 r k)) (fun a => W m c (ix2 a k)) (Bz m c (ix1 k))

def dU (c : Dev nD) : Vec Ideal S2048x1024 .f32 := fun i => dinp (Dk m c (i 1)) (fun a => W m c (ix2 a (i 1))) (i 0)
def dW (c : Dev nD) : Vec Ideal S4x1024 .f32 := fun i => dtap (Xk m c (i 1)) (Dk m c (i 1)) (i 0)
def dB (c : Dev nD) : Vec Ideal S1x1024 .f32 := fun i => ∑ r, Dk m c (i 1) r

theorem D_block (c : Dev nD) (t : Fin cfg0.N) (k : Fin 128) :
    D (B0 m c t) (B1 m c t) (B2 m c t) (B3 m c t) k = Dk m c (kk t k) := by
  unfold D col
  simp only [blk0, blk1, blk2, blk3]

theorem dU_final (c : Dev nD) : (dats m 0 c).arrAt 4 cfg0.N = dU m c := by
  refine (dats m 0 c).arrAt_eq_of_cover 4 (dU m c) (fun t _ => ?_) fun (i : S2048x1024.Idx) => ?_
  · rw [Value.flushed4]
    obtain ⟨-, -, -, -, e, -⟩ := idx_facts t
    refine funext fun (j : S2048x128.Idx) => ?_
    obtain ⟨r, k, rfl⟩ : ∃ (r : Fin 2048) (k : Fin 128), j = ix2 r k := ⟨_, _, eq_ix2 j⟩
    show out0_4 (B0 m c t) (B1 m c t) (B2 m c t) (B3 m c t) (ix2 r k) = dU m c (((cfg0.win 4).blk t).view.emb (ix2 r k))
    rw [out4_apply, D_block]
    simp only [blk2]
    refine congrArg (dU m c) (funext fun a => Fin.ext ?_ : ix2 r (kk t k) = _)
    match a with
    | ⟨0, _⟩ => show r.val = win0_4.index t 0 * 2048 + 1 * r.val; rw [e]; show _ = 0 * 2048 + 1 * r.val; omega
    | ⟨1, _⟩ => show t.val * 128 + k.val = win0_4.index t 1 * 128 + 1 * k.val; rw [e]; show _ = t.val * 128 + 1 * k.val; omega
  · have h0 : (i 0).val < 2048 := (i 0).isLt
    have h1 : (i 1).val < 1024 := (i 1).isLt
    obtain ⟨t, ht⟩ : ∃ t : Fin cfg0.N, t.val = (i 1).val / 128 := ⟨⟨(i 1).val / 128, by rw [show cfg0.N = 8 from N_0]; omega⟩, rfl⟩
    refine ⟨t, flush0_4 t, ?_⟩
    obtain ⟨-, -, -, -, e, -⟩ := idx_facts t
    show i ∈ ((View.whole main_v9_0).slice (win0_4.rect t)).set
    rw [View.set_slice_whole, Rect.mem_set_unit]
    intro a
    match a with
    | ⟨0, _⟩ => show win0_4.index t 0 * 2048 ≤ (i 0).val ∧ (i 0).val < win0_4.index t 0 * 2048 + 2048; rw [e]; show 0 * 2048 ≤ _ ∧ _ < 0 * 2048 + 2048; omega
    | ⟨1, _⟩ => show win0_4.index t 1 * 128 ≤ (i 1).val ∧ (i 1).val < win0_4.index t 1 * 128 + 128; rw [e]; show t.val * 128 ≤ _ ∧ _ < t.val * 128 + 128; omega

theorem dW_final (c : Dev nD) : (dats m 0 c).arrAt 5 cfg0.N = dW m c := by
  refine (dats m 0 c).arrAt_eq_of_cover 5 (dW m c) (fun t _ => ?_) fun (i : S4x1024.Idx) => ?_
  · rw [Value.flushed5]
    obtain ⟨-, -, -, -, -, e, -⟩ := idx_facts t
    refine funext fun (j : S4x128.Idx) => ?_
    obtain ⟨r, k, rfl⟩ : ∃ (r : Fin 4) (k : Fin 128), j = ix2 r k := ⟨_, _, eq_ix2 j⟩
    show out0_5 (B0 m c t) (B1 m c t) (B2 m c t) (B3 m c t) (ix2 r k) = dW m c (((cfg0.win 5).blk t).view.emb (ix2 r k))
    rw [out5_apply, D_block, show col (B0 m c t) k = Xk m c (kk t k) from funext fun r => blk0 m c t r k]
    refine congrArg (dW m c) (funext fun a => Fin.ext ?_ : ix2 r (kk t k) = _)
    match a with
    | ⟨0, _⟩ => show r.val = win0_5.index t 0 * 4 + 1 * r.val; rw [e]; show _ = 0 * 4 + 1 * r.val; omega
    | ⟨1, _⟩ => show t.val * 128 + k.val = win0_5.index t 1 * 128 + 1 * k.val; rw [e]; show _ = t.val * 128 + 1 * k.val; omega
  · have h0 : (i 0).val < 4 := (i 0).isLt
    have h1 : (i 1).val < 1024 := (i 1).isLt
    obtain ⟨t, ht⟩ : ∃ t : Fin cfg0.N, t.val = (i 1).val / 128 := ⟨⟨(i 1).val / 128, by rw [show cfg0.N = 8 from N_0]; omega⟩, rfl⟩
    refine ⟨t, flush0_5 t, ?_⟩
    obtain ⟨-, -, -, -, -, e, -⟩ := idx_facts t
    show i ∈ ((View.whole main_v9_1).slice (win0_5.rect t)).set
    rw [View.set_slice_whole, Rect.mem_set_unit]
    intro a
    match a with
    | ⟨0, _⟩ => show win0_5.index t 0 * 4 ≤ (i 0).val ∧ (i 0).val < win0_5.index t 0 * 4 + 4; rw [e]; show 0 * 4 ≤ _ ∧ _ < 0 * 4 + 4; omega
    | ⟨1, _⟩ => show win0_5.index t 1 * 128 ≤ (i 1).val ∧ (i 1).val < win0_5.index t 1 * 128 + 128; rw [e]; show t.val * 128 ≤ _ ∧ _ < t.val * 128 + 128; omega

theorem dB_final (c : Dev nD) : (dats m 0 c).arrAt 6 cfg0.N = dB m c := by
  refine (dats m 0 c).arrAt_eq_of_cover 6 (dB m c) (fun t _ => ?_) fun (i : S1x1024.Idx) => ?_
  · rw [Value.flushed6]
    obtain ⟨-, -, -, -, -, -, e⟩ := idx_facts t
    refine funext fun (j : S1x128.Idx) => ?_
    obtain ⟨r, k, rfl⟩ : ∃ (r : Fin 1) (k : Fin 128), j = ix2 r k := ⟨_, _, eq_ix2 j⟩
    show out0_6 (B0 m c t) (B1 m c t) (B2 m c t) (B3 m c t) (ix2 r k) = dB m c (((cfg0.win 6).blk t).view.emb (ix2 r k))
    rw [out6_apply, D_block]
    refine congrArg (dB m c) (funext fun a => Fin.ext ?_ : ix2 r (kk t k) = _)
    match a with
    | ⟨0, _⟩ => show r.val = win0_6.index t 0 * 1 + 1 * r.val; rw [e]; show _ = 0 * 1 + 1 * r.val; omega
    | ⟨1, _⟩ => show t.val * 128 + k.val = win0_6.index t 1 * 128 + 1 * k.val; rw [e]; show _ = t.val * 128 + 1 * k.val; omega
  · have h0 : (i 0).val < 1 := (i 0).isLt
    have h1 : (i 1).val < 1024 := (i 1).isLt
    obtain ⟨t, ht⟩ : ∃ t : Fin cfg0.N, t.val = (i 1).val / 128 := ⟨⟨(i 1).val / 128, by rw [show cfg0.N = 8 from N_0]; omega⟩, rfl⟩
    refine ⟨t, flush0_6 t, ?_⟩
    obtain ⟨-, -, -, -, -, -, e⟩ := idx_facts t
    show i ∈ ((View.whole main_v9_2).slice (win0_6.rect t)).set
    rw [View.set_slice_whole, Rect.mem_set_unit]
    intro a
    match a with
    | ⟨0, _⟩ => show win0_6.index t 0 * 1 ≤ (i 0).val ∧ (i 0).val < win0_6.index t 0 * 1 + 1; rw [e]; show 0 * 1 ≤ _ ∧ _ < 0 * 1 + 1; omega
    | ⟨1, _⟩ => show win0_6.index t 1 * 128 ≤ (i 1).val ∧ (i 1).val < win0_6.index t 1 * 128 + 128; rw [e]; show t.val * 128 ≤ _ ∧ _ < t.val * 128 + 128; omega

end Array

section Reference
open Cert.ConvRefIdeal.Read
variable (x0 : Vec Ideal S2048x2312 .f32) (x1 : Vec Ideal S2048x1024 .f32) (x2 : Vec Ideal S4x1024 .f32) (x3 : Vec Ideal S1024 .f32)

/-- A tap's slice of the padded input: the input moved down. -/
theorem tap_back (X : Fin 2048 → EReal) (n s : ℕ) (r : Fin 2048) (hn : n = 3 - s + r.val) (hs : s ≤ 3) (h : ¬ n < 3 → n - 3 < 2048) :
    (if h' : n < 3 then 0 else X ⟨n - 3, h h'⟩) = back X s r := by
  unfold back
  by_cases h' : n < 3
  · rw [dif_pos h', dif_neg (by omega)]
  · rw [dif_neg h', dif_pos (by omega)]
    exact congrArg X (Fin.ext (by show n - 3 = r.val - s; omega))

/-- The transpose of such a slice: the column moved up. -/
theorem pad_ahead (X : Fin 2048 → EReal) (w : EReal) (n s t : ℕ) (r : Fin 2048) (hn : n = 3 + r.val) (hs : s + t = 3)
    (h : t ≤ n ∧ n - t < 2048 → n - t < 2048) :
    (if h' : t ≤ n ∧ n - t < 2048 then w * X ⟨n - t, h h'⟩ else 0) = w * ahead X s r := by
  unfold ahead
  by_cases h' : t ≤ n ∧ n - t < 2048
  · rw [dif_pos h', dif_pos (by omega)]
    exact congrArg (w * X ·) (Fin.ext (by show n - t = r.val + s; omega))
  · rw [dif_neg h', dif_neg (by omega), mul_zero]

theorem move_last (a b c d e : EReal) : a + b + c + d + e = e + a + b + c + d := by ac_rfl
theorem turn (a b c d : EReal) : a + b + c + d = d + c + b + a := by ac_rfl

/-- The reference's column `k` of the convolved part. -/
abbrev Xc (k : Fin 1024) : Fin 2048 → EReal := fun r => x0 (ix2 r ⟨1280 + k.val, by omega⟩)

theorem ref_tap0 (r : Fin 2048) (k : Fin 1024) : val_main_v11 (F := Ideal) x0 (ix2 r k) = back (Xc x0 k) 3 r := by
  unfold val_main_v11 val_main_v7 val_main_v6 val_main_v4 val_main_cst
  pointwise
  exact tap_back (Xc x0 k) _ 3 r (by omega) le_rfl _

theorem ref_tap1 (r : Fin 2048) (k : Fin 1024) : val_main_v19 (F := Ideal) x0 (ix2 r k) = back (Xc x0 k) 2 r := by
  unfold val_main_v19 val_main_v7 val_main_v6 val_main_v4 val_main_cst
  pointwise
  exact tap_back (Xc x0 k) _ 2 r (by omega) (by omega) _

theorem ref_tap2 (r : Fin 2048) (k : Fin 1024) : val_main_v26 (F := Ideal) x0 (ix2 r k) = back (Xc x0 k) 1 r := by
  unfold val_main_v26 val_main_v7 val_main_v6 val_main_v4 val_main_cst
  pointwise
  exact tap_back (Xc x0 k) _ 1 r (by omega) (by omega) _

theorem ref_tap3 (r : Fin 2048) (k : Fin 1024) : val_main_v33 (F := Ideal) x0 (ix2 r k) = back (Xc x0 k) 0 r := by
  rw [back_zero]
  unfold val_main_v33 val_main_v7 val_main_v6 val_main_v4 val_main_cst
  pointwise

theorem ref_pre (r : Fin 2048) (k : Fin 1024) : val_main_v40 (F := Ideal) x0 x2 x3 (ix2 r k)
    = pre (Xc x0 k) (fun a => x2 (ix2 a k)) (x3 (ix1 k)) r := by
  unfold val_main_v40 val_main_v39 val_main_v38 val_main_v37 val_main_v36 val_main_v35 val_main_v34 val_main_v32 val_main_v31
    val_main_v30 val_main_v29 val_main_v28 val_main_v27 val_main_v25 val_main_v24 val_main_v23 val_main_v22 val_main_v21
    val_main_v20 val_main_v18 val_main_v17 val_main_v16 val_main_v15 val_main_v14 val_main_v13 val_main_v12
    val_main_v10 val_main_v9 val_main_cst_1
  pointwise [ref_tap0, ref_tap1, ref_tap2, ref_tap3]
  rw [back_zero]
  exact move_last _ _ _ _ _

theorem ref_dpre (h : ∀ i, ∃ a : ℝ, x1 i = a) (r : Fin 2048) (k : Fin 1024) : val_main_v42 (F := Ideal) x0 x1 x2 x3 (ix2 r k)
    = dpre (Xc x0 k) (fun r => x1 (ix2 r k)) (fun a => x2 (ix2 a k)) (x3 (ix1 k)) r := by
  obtain ⟨a, ha⟩ := h (ix2 r k)
  unfold val_main_v42 val_main_call1_v2 val_main_call1_v1 val_main_call1_v0 val_main_v41_1 val_main_call0_v7 val_main_call0_v6
    val_main_call0_cst_1 val_main_v41_2 val_main_call0_v4 val_main_call0_cst_0 val_main_call0_v3 val_main_call0_v2 val_main_call0_cst
    val_main_call0_v1 val_main_call0_v0
  pointwise [ref_pre, Alg.one, ha]
  rw [dpre, ha, ← gate_split]
  rfl

theorem ref_du (r : Fin 2048) (k : Fin 1024) : val_main_v89 (F := Ideal) x0 x1 x2 x3 (ix2 r k)
    = dinp (fun r => val_main_v42 (F := Ideal) x0 x1 x2 x3 (ix2 r k)) (fun a => x2 (ix2 a k)) r := by
  unfold val_main_v89 val_main_v84 val_main_v83 val_main_v78 val_main_v77 val_main_v73 val_main_v72 val_main_v67 val_main_v66 val_main_v62
    val_main_v61 val_main_v56 val_main_v55 val_main_v52 val_main_v47 val_main_v46 val_main_v34 val_main_v32 val_main_v31 val_main_v27 val_main_v25 val_main_v24
    val_main_v20 val_main_v18 val_main_v17 val_main_v12 val_main_v10 val_main_v9 val_main_cst_6 val_main_cst_10 val_main_cst_14 val_main_cst_18
  pointwise
  generalize hX : (fun r => val_main_v42 (F := Ideal) x0 x1 x2 x3 (ix2 r k)) = X
  have e (n : Fin 2048) : val_main_v42 (F := Ideal) x0 x1 x2 x3 (ix2 n k) = X n := congrFun hX n
  simp only [e]
  rw [pad_ahead X _ _ 1 2 r rfl rfl, pad_ahead X _ _ 2 1 r rfl rfl]
  unfold dinp
  rw [show (if h : 3 + r.val < 2048 then x2 (ix2 0 k) * X ⟨3 + r.val, h⟩ else 0) = x2 (ix2 0 k) * ahead X 3 r from by
    unfold ahead
    by_cases h : 3 + r.val < 2048
    · rw [dif_pos h, dif_pos (by omega)]
      exact congrArg (_ * X ·) (Fin.ext (Nat.add_comm _ _))
    · rw [dif_neg h, dif_neg (by omega), mul_zero]]
  exact turn _ _ _ _

theorem ref_db (z : Fin 1) (k : Fin 1024) : val_main_v90 (F := Ideal) x0 x1 x2 x3 (ix2 z k) = ∑ r : Fin 2048, val_main_v42 (F := Ideal) x0 x1 x2 x3 (ix2 r k) := by
  unfold val_main_v90 val_main_v45 val_main_v44 val_main_v43 val_main_cst_2 val_main_cst_3
  pointwise
  simp only [Finset.univ_unique, Finset.sum_singleton]

theorem ref_dw (a : Fin 4) (k : Fin 1024) : val_main_v87 (F := Ideal) x0 x1 x2 x3 (ix2 a k)
    = dtap (Xc x0 k) (fun r => val_main_v42 (F := Ideal) x0 x1 x2 x3 (ix2 r k)) a := by
  unfold val_main_v87 val_main_v86 val_main_v85 val_main_v82 val_main_v81 val_main_v80 val_main_v79 val_main_v76 val_main_v75 val_main_v74
    val_main_v71 val_main_v70 val_main_v69 val_main_v68 val_main_v65 val_main_v64 val_main_v63 val_main_v60 val_main_v59 val_main_v58 val_main_v57
    val_main_v54 val_main_v53 val_main_v51 val_main_v50 val_main_v49 val_main_v48 val_main_cst_4 val_main_cst_5 val_main_cst_7 val_main_cst_8
    val_main_cst_9 val_main_cst_11 val_main_cst_12 val_main_cst_13 val_main_cst_15 val_main_cst_16 val_main_cst_17 val_main_cst_19
  pointwise [ref_tap0, ref_tap1, ref_tap2, ref_tap3]
  simp only [Finset.univ_unique, Finset.sum_singleton]
  unfold dtap
  fin_cases a <;> simp

end Reference

/-- What the precondition says: the cotangent is finite. -/
theorem finite_of_pre [Cert.Pre_conv_finite.Facts] (x0 : Vec Ideal S2048x2312 .f32) (x1 : Vec Ideal S2048x1024 .f32) (x2 : Vec Ideal S4x1024 .f32)
    (x3 : Vec Ideal S1024 .f32) (h : Cert.Pre_conv_finite.fn (F := Ideal) x0 x1 x2 x3 = fun _ => 1#1) (i : S2048x1024.Idx) : ∃ a : ℝ, x1 i = a := by
  exact Alg.finite_of_abs_lt _ (congrFun h i)

/-- The claim: where the cotangent is finite, both programs end with the same three gradients. -/
theorem values [hK : Cert.ConvIdeal.Facts] [hR : Cert.ConvRefIdeal.Facts] [hP : Cert.Pre_conv_finite.Facts] :
    algebraic_ConvIdeal_ConvRefIdeal_pre_conv_finite := fun m ρ m' ρ' hpre hag => by
  refine ⟨fun c => dU m c, fun c => dW m c, fun c => dB m c, ?_, ?_⟩
  · exact (θ_run defs _ _).mono (fun _ h c => ⟨(h c).1.trans (dU_final m c), (h c).2.1.trans (dW_final m c), (h c).2.2.1.trans (dB_final m c), (h c).2.2.2⟩)
      (Value.run_blocks m ρ)
  · have hD (c : Dev nD) (k : Fin 1024) := funext fun r => ref_dpre (P m c) (A m c) (W m c) (Bz m c) (finite_of_pre _ _ _ _ (hpre c)) r k
    refine (θ_run _ _ _).mono (fun r h c => ⟨(h c).1.trans ?_, (h c).2.1.trans ?_, (h c).2.2.1.trans ?_, (h c).2.2.2⟩) (Cert.ConvRefIdeal.Value.run m' ρ')
    · rw [Cert.ConvRefIdeal.Read.val_main_v89_eq, (hag c).1, (hag c).2.1, (hag c).2.2.1, (hag c).2.2.2]
      refine funext fun (i : S2048x1024.Idx) => ?_
      obtain ⟨r, k, rfl⟩ : ∃ (r : Fin 2048) (k : Fin 1024), i = ix2 r k := ⟨_, _, eq_ix2 i⟩
      exact (ref_du _ _ _ _ r k).trans (congrArg (dinp · _ r) (hD c k))
    · rw [Cert.ConvRefIdeal.Read.val_main_v87_eq, (hag c).1, (hag c).2.1, (hag c).2.2.1, (hag c).2.2.2]
      refine funext fun (i : S4x1024.Idx) => ?_
      obtain ⟨r, k, rfl⟩ : ∃ (r : Fin 4) (k : Fin 1024), i = ix2 r k := ⟨_, _, eq_ix2 i⟩
      exact (ref_dw _ _ _ _ r k).trans (congrArg (dtap _ · r) (hD c k))
    · rw [Cert.ConvRefIdeal.Read.val_main_v90_eq, (hag c).1, (hag c).2.1, (hag c).2.2.1, (hag c).2.2.2]
      refine funext fun (i : S1x1024.Idx) => ?_
      obtain ⟨r, k, rfl⟩ : ∃ (r : Fin 1) (k : Fin 1024), i = ix2 r k := ⟨_, _, eq_ix2 i⟩
      exact (ref_db _ _ _ _ r k).trans (Finset.sum_congr rfl fun r _ => congrFun (hD c k) r)

end Cert.ConvIdeal.Hand

end
-- ==== Proof.AttnSpec.lean ====
/-
  Windowed attention with a sink, over the real numbers. One block of 128 queries of one head looks at 256 keys; a mask says
  which of them a query may see, and a sink takes part of each query's weight. The forward lines and the gradients are
  written here once, as sums of real numbers; the readings of the kernel and of the reference both end in these functions.
-/
module

public import Mathlib.Analysis.SpecialFunctions.Exp
public import Mathlib.Analysis.SpecialFunctions.Pow.Real

@[expose] public section

namespace Cert.AttnSpec

open Finset

/-! ## Scaling a row to unit mean square -/

/-- The reciprocal root mean square of a head's row. -/
noncomputable def rr (ε : ℝ) (x : Fin 64 → ℝ) : ℝ := (√((∑ e, x e * x e) / 64 + ε))⁻¹

/-- The row scaled to unit mean square. -/
noncomputable def hat (ε : ℝ) (x : Fin 64 → ℝ) (d : Fin 64) : ℝ := x d * rr ε x

/-- The scaled row times the gain. -/
noncomputable def nrm (ε : ℝ) (x g : Fin 64 → ℝ) (d : Fin 64) : ℝ := hat ε x d * g d

/-- The gradient that reaches the row before the scaling. -/
noncomputable def nbwd (ε : ℝ) (x t : Fin 64 → ℝ) (d : Fin 64) : ℝ :=
  rr ε x * (t d - hat ε x d * ((∑ e, t e * hat ε x e) / 64))

/-! ## One block of one head -/

section Block
variable (qn : Fin 128 → Fin 64 → ℝ) (kb vb : Fin 256 → Fin 64 → ℝ) (g : Fin 128 → Fin 64 → ℝ)
  (b : Fin 128 → Fin 256 → ℝ) (σ : ℝ) (M : Fin 128 → Fin 256 → Prop) [∀ q k, Decidable (M q k)]

/-- The score of a query and a key. -/
noncomputable def score (q : Fin 128) (k : Fin 256) : ℝ := (∑ d, kb k d * qn q d) * (1/8) + b q k

/-- The weight of a key before division; none where the mask hides it. -/
noncomputable def wt (q : Fin 128) (k : Fin 256) : ℝ :=
  if M q k then Real.exp (score qn kb b q k) else 0

/-- The sum of all weights of a query, the sink's among them. -/
noncomputable def tot (q : Fin 128) : ℝ := ∑ k, wt qn kb b M q k + Real.exp σ

/-- The part of the attention a key gets. -/
noncomputable def prob (q : Fin 128) (k : Fin 256) : ℝ := wt qn kb b M q k / tot qn kb b σ M q

/-- The part of the attention the sink gets. -/
noncomputable def psink (q : Fin 128) : ℝ := Real.exp σ / tot qn kb b σ M q

/-- The gradient of a part of the attention. -/
noncomputable def dp (q : Fin 128) (k : Fin 256) : ℝ := ∑ d, vb k d * g q d

/-- The mean of those gradients under the attention. -/
noncomputable def delta (q : Fin 128) : ℝ := ∑ k, prob qn kb b σ M q k * dp vb g q k

/-- The gradient of a score. -/
noncomputable def ds (q : Fin 128) (k : Fin 256) : ℝ :=
  prob qn kb b σ M q k * (dp vb g q k - delta qn kb vb g b σ M q)

/-- The gradient of the sink from one query. -/
noncomputable def dsk (q : Fin 128) : ℝ := -(psink qn kb b σ M q * delta qn kb vb g b σ M q)

/-- The gradient of a scaled query. -/
noncomputable def dqn (q : Fin 128) (d : Fin 64) : ℝ :=
  (∑ k, ds qn kb vb g b σ M q k * kb k d) * (1/8)

/-- The gradient of a scaled key, from this block and this head. -/
noncomputable def dkn (k : Fin 256) (d : Fin 64) : ℝ :=
  (∑ q, ds qn kb vb g b σ M q k * qn q d) * (1/8)

/-- The gradient of a value, from this block and this head. -/
noncomputable def dv (k : Fin 256) (d : Fin 64) : ℝ := ∑ q, prob qn kb b σ M q k * g q d

theorem tot_pos (q : Fin 128) : 0 < tot qn kb b σ M q := by
  unfold tot
  have : 0 ≤ ∑ k, wt qn kb b M q k :=
    Finset.sum_nonneg fun k _ => by unfold wt; split <;> positivity
  positivity

end Block

/-! ## What the mask hides does not matter -/

section Hidden
variable {qn : Fin 128 → Fin 64 → ℝ} {kb kb' vb vb' : Fin 256 → Fin 64 → ℝ} {g : Fin 128 → Fin 64 → ℝ}
  {b : Fin 128 → Fin 256 → ℝ} {σ : ℝ} {M : Fin 128 → Fin 256 → Prop} [∀ q k, Decidable (M q k)]
  (hk : ∀ q k, M q k → kb k = kb' k) (hv : ∀ q k, M q k → vb k = vb' k)

include hk in
theorem wt_congr (q : Fin 128) (k : Fin 256) : wt qn kb b M q k = wt qn kb' b M q k := by
  unfold wt score
  split
  · rename_i h; rw [hk q k h]
  · rfl

include hk in
theorem prob_congr (q : Fin 128) (k : Fin 256) : prob qn kb b σ M q k = prob qn kb' b σ M q k := by
  unfold prob tot; simp only [wt_congr hk]

include hk in
theorem psink_congr (q : Fin 128) : psink qn kb b σ M q = psink qn kb' b σ M q := by
  unfold psink tot; simp only [wt_congr hk]

theorem prob_hidden {q : Fin 128} {k : Fin 256} (h : ¬ M q k) : prob qn kb b σ M q k = 0 := by
  unfold prob wt; rw [if_neg h, zero_div]

include hk hv in
theorem delta_congr (q : Fin 128) : delta qn kb vb g b σ M q = delta qn kb' vb' g b σ M q := by
  unfold delta
  refine Finset.sum_congr rfl fun k _ => ?_
  by_cases h : M q k
  · rw [prob_congr hk]; unfold dp; rw [hv q k h]
  · rw [prob_hidden h, prob_hidden h, zero_mul, zero_mul]

include hk hv in
theorem ds_congr (q : Fin 128) (k : Fin 256) :
    ds qn kb vb g b σ M q k = ds qn kb' vb' g b σ M q k := by
  unfold ds
  rw [delta_congr hk hv]
  by_cases h : M q k
  · rw [prob_congr hk]; unfold dp; rw [hv q k h]
  · rw [prob_hidden h, prob_hidden h, zero_mul, zero_mul]

theorem ds_hidden {q : Fin 128} {k : Fin 256} (h : ¬ M q k) : ds qn kb vb g b σ M q k = 0 := by
  unfold ds; rw [prob_hidden h, zero_mul]

include hk hv in
theorem dsk_congr (q : Fin 128) : dsk qn kb vb g b σ M q = dsk qn kb' vb' g b σ M q := by
  unfold dsk; rw [delta_congr hk hv, psink_congr hk]

include hk hv in
theorem dqn_congr (q : Fin 128) (d : Fin 64) :
    dqn qn kb vb g b σ M q d = dqn qn kb' vb' g b σ M q d := by
  unfold dqn
  refine congrArg (· * _) (Finset.sum_congr rfl fun k _ => ?_)
  by_cases h : M q k
  · rw [ds_congr hk hv, hk q k h]
  · rw [ds_hidden h, ds_hidden h, zero_mul, zero_mul]

include hk hv in
theorem dkn_congr (k : Fin 256) (d : Fin 64) :
    dkn qn kb vb g b σ M k d = dkn qn kb' vb' g b σ M k d := by
  unfold dkn; simp only [ds_congr hk hv]

include hk in
theorem dv_congr (k : Fin 256) (d : Fin 64) :
    dv qn kb g b σ M k d = dv qn kb' g b σ M k d := by
  unfold dv; simp only [prob_congr hk]

end Hidden

/-! ## The weights from shifted exponentials -/

/-- Taking any number off every score leaves the attention unchanged. -/
theorem shift {ι : Type*} [Fintype ι] (w : ι → ℝ) (c s m : ℝ) (W : ι → ℝ)
    (hW : ∀ k, W k = w k * Real.exp (-m)) :
    ∑ k, W k + Real.exp (s - m) = (∑ k, w k + Real.exp s) * Real.exp (-m) := by
  simp only [hW, ← Finset.sum_mul, sub_eq_add_neg, Real.exp_add]; ring

/-- The gradient of a score where the quotient is differentiated as it stands. -/
theorem quotient_grad {p z d t D : ℝ} (hz : z ≠ 0) (hD : D = t * z * z) :
    (d / z + -(D * (1 / (z * z)) )) * p = p / z * (d - t * z) := by
  subst hD; field_simp; ring

end Cert.AttnSpec
-- ==== Proof.AttnReal.lean ====
/-
  Extended-real arithmetic on finite values: sums, quotients, square roots and exponentials of real numbers stay real. The
  rounded constants of the attention are named here as reals.
-/
module

public import proofs.«01_k».proof.Proof.Alg
public import proofs.«01_k».proof.Proof.AttnSpec

@[expose] public section

noncomputable section

namespace Cert.AttnReal

open Idealize.ShloMosaic Cert.AttnSpec

theorem sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div {x y : ℝ} (h : y ≠ 0) : Ideal.div (x : EReal) (y : EReal) = ((x / y : ℝ) : EReal) := by
  rw [Ideal.div_coe h, ← EReal.coe_mul, mul_one_div]

theorem rsqrt {x : ℝ} (h : 0 < x) : Ideal.rsqrt (x : EReal) = (((√x)⁻¹ : ℝ) : EReal) := by
  rw [Ideal.rsqrt_coe, if_neg (not_lt.mpr h.le), if_neg h.ne']

/-- What the norms add below the root. -/
def eps : ℝ := 8796093 / 8796093022208

theorem eps_pos : 0 < eps := by unfold eps; norm_num

theorem eps_bits : Ideal.ofBits .f32 0x358637BD#32 = (eps : EReal) := by
  unfold eps; simp [Ideal.ofBits, Ideal.ieee, -EReal.coe_mul]; norm_num
theorem head_bits : Ideal.ofBits .f32 0x42800000#32 = ((64 : ℝ) : EReal) := by
  simp [Ideal.ofBits, Ideal.ieee, -EReal.coe_mul]; norm_num
theorem eighth_bits : Ideal.ofBits .f32 0x3E000000#32 = ((1 / 8 : ℝ) : EReal) := by
  simp [Ideal.ofBits, Ideal.ieee, -EReal.coe_mul]; norm_num
theorem neg_half_bits : Ideal.ofBits .f32 0xBF000000#32 = ((-(1 / 2) : ℝ) : EReal) := by
  simp [Ideal.ofBits, Ideal.ieee, -EReal.coe_mul]; norm_num
theorem bot_bits : Ideal.ofBits .f32 0xFF800000#32 = (⊥ : EReal) := by simp [Ideal.ofBits, Ideal.ieee]

/-- The mean square of a row, with the constant below the root. -/
def ms (x : Fin 64 → ℝ) : ℝ := (∑ e, x e * x e) / 64 + eps

theorem ms_pos (x : Fin 64 → ℝ) : 0 < ms x := by
  have : 0 ≤ ∑ e, x e * x e := Finset.sum_nonneg fun e _ => mul_self_nonneg _
  have := eps_pos
  unfold ms; positivity

theorem rr_eq (x : Fin 64 → ℝ) : rr eps x = (√(ms x))⁻¹ := rfl

theorem rr_rsqrt (x : Fin 64 → ℝ) : Ideal.rsqrt (ms x : EReal) = (rr eps x : EReal) := rsqrt (ms_pos x)

theorem rr_sq (x : Fin 64 → ℝ) : rr eps x / ms x = rr eps x * rr eps x * rr eps x := by
  have h := ms_pos x
  have h2 : √(ms x) * √(ms x) = ms x := Real.mul_self_sqrt h.le
  have h3 : √(ms x) ≠ 0 := by positivity
  rw [rr_eq, div_eq_iff h.ne']
  nth_rewrite 5 [← h2]
  field_simp

/-- A finite number of reals above a real has a real maximum. -/
theorem max_real {ι : Type*} (s : Finset ι) (f : ι → EReal) (hf : ∀ i ∈ s, f i ≠ ⊤) (x : ℝ) :
    ∃ m : ℝ, max (s.fold max ⊥ f) (x : EReal) = m := by
  classical
  have h : s.fold max ⊥ f ≠ ⊤ := by
    induction s using Finset.induction_on with
    | empty => simp
    | insert a s ha ih =>
      rw [Finset.fold_insert ha]
      have h1 := hf a (Finset.mem_insert_self _ _)
      have h2 := ih fun i hi => hf i (Finset.mem_insert_of_mem hi)
      rcases max_choice (f a) (s.fold max ⊥ f) with h | h <;> rw [h] <;> assumption
  generalize s.fold max ⊥ f = y at h
  induction y with
  | bot => exact ⟨x, by simp⟩
  | top => exact absurd rfl h
  | coe y => exact ⟨max y x, (EReal.coe_strictMono.monotone.map_max ..).symm⟩

end Cert.AttnReal

end
-- ==== Proof.AttnFull.lean ====
/-
  The gradients of the windowed attention over all 2048 tokens, written from the blocks of `AttnSpec`: each block of 128 queries
  sees its own 128 keys and the 128 before. Both readings, the kernel's and the reference's, end in the functions of this file.
-/
module

public import proofs.«01_k».proof.Proof.AttnSpec
public import proofs.«01_k».proof.Proof.AttnReal

@[expose] public section

noncomputable section

namespace Cert.AttnSpec

open Finset Cert.AttnReal

/-- Token `t` of block `n`. -/
abbrev tok (n : Fin 16) (t : Fin 128) : Fin 2048 := ⟨128 * n.val + t.val, by omega⟩
/-- The block before, the first its own. -/
abbrev prev (n : Fin 16) : Fin 16 := ⟨n.val - 1, by omega⟩
/-- The key head of a query head. -/
abbrev kvh (h : Fin 8) : Fin 2 := ⟨h.val / 4, by omega⟩
/-- Query head `g` of key head `j`. -/
abbrev qhd (j : Fin 2) (g : Fin 4) : Fin 8 := ⟨4 * j.val + g.val, by omega⟩
/-- A key of the block itself, as the pair of blocks counts it. -/
abbrev ownk (t : Fin 128) : Fin 256 := ⟨128 + t.val, by omega⟩
/-- A key of the block before. -/
abbrev befk (t : Fin 128) : Fin 256 := ⟨t.val, by omega⟩

/-- The window: a query sees itself and the 127 tokens before it. -/
abbrev inWin (q : Fin 128) (k : Fin 256) : Prop := k.val ≤ q.val + 128 ∧ q.val < k.val
/-- The mask of block `n`: before the first block there is nothing. -/
abbrev mask (n : Fin 16) (q : Fin 128) (k : Fin 256) : Prop := inWin q k ∧ ¬ (n.val = 0 ∧ k.val < 128)

/-- The arguments as real numbers: the projection's columns of queries, keys and values, the cotangent, the gains, the
sinks and the bias. -/
structure Inp where
  X : Fin 2048 → Fin 768 → ℝ
  G : Fin 2048 → Fin 512 → ℝ
  qg : Fin 64 → ℝ
  kg : Fin 64 → ℝ
  sk : Fin 8 → ℝ
  b : Fin 8 → Fin 128 → Fin 256 → ℝ

variable (I : Inp)

namespace Inp

def Q (s : Fin 2048) (h : Fin 8) (d : Fin 64) : ℝ := I.X s ⟨64 * h.val + d.val, by omega⟩
def K (s : Fin 2048) (j : Fin 2) (d : Fin 64) : ℝ := I.X s ⟨512 + (64 * j.val + d.val), by omega⟩
def V (s : Fin 2048) (j : Fin 2) (d : Fin 64) : ℝ := I.X s ⟨640 + (64 * j.val + d.val), by omega⟩
def O (s : Fin 2048) (h : Fin 8) (d : Fin 64) : ℝ := I.G s ⟨64 * h.val + d.val, by omega⟩

end Inp

/-- A key head's rows in the pair of blocks that block `n` sees. -/
def band (f : Fin 2048 → Fin 2 → Fin 64 → ℝ) (n : Fin 16) (j : Fin 2) (k : Fin 256) (d : Fin 64) : ℝ :=
  if h : k.val < 128 then f (tok (prev n) ⟨k.val, h⟩) j d else f (tok n ⟨k.val - 128, by omega⟩) j d

namespace Inp

/-- The scaled queries of block `n`, head `h`. -/
def qn (n : Fin 16) (h : Fin 8) (q : Fin 128) : Fin 64 → ℝ := nrm eps (I.Q (tok n q) h) I.qg
/-- The scaled keys block `n` sees. -/
def kn (n : Fin 16) (j : Fin 2) (k : Fin 256) : Fin 64 → ℝ := nrm eps (band I.K n j k) I.kg
/-- The values block `n` sees. -/
def vb (n : Fin 16) (j : Fin 2) (k : Fin 256) : Fin 64 → ℝ := band I.V n j k
/-- The cotangent of block `n`. -/
def og (n : Fin 16) (h : Fin 8) (q : Fin 128) : Fin 64 → ℝ := I.O (tok n q) h

def DS (n : Fin 16) (h : Fin 8) (q : Fin 128) (k : Fin 256) : ℝ :=
  ds (I.qn n h) (I.kn n (kvh h)) (I.vb n (kvh h)) (I.og n h) (I.b h) (I.sk h) (mask n) q k
def DSK (n : Fin 16) (h : Fin 8) (q : Fin 128) : ℝ :=
  dsk (I.qn n h) (I.kn n (kvh h)) (I.vb n (kvh h)) (I.og n h) (I.b h) (I.sk h) (mask n) q
def DQN (n : Fin 16) (h : Fin 8) (q : Fin 128) (d : Fin 64) : ℝ :=
  dqn (I.qn n h) (I.kn n (kvh h)) (I.vb n (kvh h)) (I.og n h) (I.b h) (I.sk h) (mask n) q d
def DKN (n : Fin 16) (h : Fin 8) (k : Fin 256) (d : Fin 64) : ℝ :=
  dkn (I.qn n h) (I.kn n (kvh h)) (I.vb n (kvh h)) (I.og n h) (I.b h) (I.sk h) (mask n) k d
def DV (n : Fin 16) (h : Fin 8) (k : Fin 256) (d : Fin 64) : ℝ :=
  dv (I.qn n h) (I.kn n (kvh h)) (I.og n h) (I.b h) (I.sk h) (mask n) k d

end Inp

/-- What the query heads of one key head give together. -/
def heads4 (f : Fin 16 → Fin 8 → Fin 256 → Fin 64 → ℝ) (n : Fin 16) (j : Fin 2) (k : Fin 256) (d : Fin 64) : ℝ :=
  ∑ g : Fin 4, f n (qhd j g) k d

/-- What the queries of the next block give to a key, none after the last block. -/
def later (f : Fin 16 → Fin 8 → Fin 256 → Fin 64 → ℝ) (n : Fin 16) (j : Fin 2) (t : Fin 128) (d : Fin 64) : ℝ :=
  if h : n.val + 1 < 16 then heads4 f ⟨n.val + 1, h⟩ j (befk t) d else 0

/-- The whole gradient of a key's row: from its own block and from the next. -/
def both (f : Fin 16 → Fin 8 → Fin 256 → Fin 64 → ℝ) (n : Fin 16) (j : Fin 2) (t : Fin 128) (d : Fin 64) : ℝ :=
  heads4 f n j (ownk t) d + later f n j t d

namespace Inp

/-- The gradient of the queries. -/
def dQ (n : Fin 16) (t : Fin 128) (h : Fin 8) (d : Fin 64) : ℝ :=
  nbwd eps (I.Q (tok n t) h) (fun e => I.DQN n h t e * I.qg e) d
/-- The gradient of the keys. -/
def dK (n : Fin 16) (t : Fin 128) (j : Fin 2) (d : Fin 64) : ℝ :=
  nbwd eps (I.K (tok n t) j) (fun e => both I.DKN n j t e * I.kg e) d
/-- The gradient of the values. -/
def dV (n : Fin 16) (t : Fin 128) (j : Fin 2) (d : Fin 64) : ℝ := both I.DV n j t d
/-- The gradient of the bias. -/
def dB (h : Fin 8) (k : Fin 256) (q : Fin 128) : ℝ := ∑ n, I.DS n h q k
/-- The gradient of the sinks. -/
def dS (h : Fin 8) : ℝ := ∑ n, ∑ q, I.DSK n h q
/-- The gradient of the queries' gain. -/
def dQG (d : Fin 64) : ℝ := ∑ n, ∑ q, ∑ h, I.DQN n h q d * hat eps (I.Q (tok n q) h) d
/-- What one block's keys give to the keys' gain. -/
def dKGb (n : Fin 16) (d : Fin 64) : ℝ := ∑ j, ∑ t, both I.DKN n j t d * hat eps (I.K (tok n t) j) d
/-- The gradient of the keys' gain. -/
def dKG (d : Fin 64) : ℝ := ∑ n, I.dKGb n d

end Inp

/-! ## Indices of a whole array -/

abbrev blk (s : Fin 2048) : Fin 16 := ⟨s.val / 128, by omega⟩
abbrev pos (s : Fin 2048) : Fin 128 := ⟨s.val % 128, by omega⟩
abbrev feat {w : ℕ} (c : Fin w) : Fin 64 := ⟨c.val % 64, by omega⟩
abbrev qhead (c : Fin 512) : Fin 8 := ⟨c.val / 64, by omega⟩
abbrev khead (c : Fin 128) : Fin 2 := ⟨c.val / 64, by omega⟩

/-- Summing the blocks from the last to the first sums them all. -/
theorem sum_rev (F : Fin 16 → ℝ) : ∑ i ∈ Finset.range 16, F ⟨15 - i, by omega⟩ = ∑ n, F n := by
  rw [Finset.sum_range]
  exact Fintype.sum_equiv Fin.revPerm _ _ fun i => congrArg F (Fin.ext (by simp [Fin.val_rev]))

end Cert.AttnSpec

end
-- ==== Proof.AttnBody.lean ====
/-
  What one grid point of the attention's backward pass computes for one query head, written once for any head: queries and
  cotangents lie with the head's features in rows and the block's tokens in columns, keys and values with tokens in rows.
  Every function is read at an index as a real number of `AttnSpec`.
-/
module

public import proofs.«01_k».proof.Defs
public import proofs.«01_k».proof.Proof.AttnReal
public import proofs.«01_k».proof.Proof.Gen.AttnIdeal.Skeleton
public import Idealize.ShloMosaic.Lib.Tactic
public import Idealize.ShloMosaic.Lib.Pointwise

@[expose] public section

set_option maxRecDepth 16384

noncomputable section

namespace Cert.AttnIdeal.Hand

open Cert.AttnIdeal Cert.AttnIdeal.Gen Idealize.ShloMosaic Idealize.ShloMosaic.TcCoe
open Cert.AttnSpec Cert.AttnReal

/-! ### The body's steps -/

section Steps

/-- Two blocks of tokens, the earlier first. -/
def pair (p c : FVec Ideal S128x128 .f32) : FVec Ideal S256x128 .f32 :=
  concatenate S256x128 0 [⟨S128x128, shapeCast S128x128 p shapeCasts_S128x128_S128x128⟩, ⟨S128x128, shapeCast S128x128 c shapeCasts_S128x128_S128x128⟩]
    concatenates_S128x128_S128x128_S256x128_d0

/-- The reciprocal root mean square of each token's features, features in rows. -/
def rqT (q : FVec Ideal S64x128 .f32) : FVec Ideal S1x128 .f32 :=
  rsqrt (addf (divf (shapeCast S1x128 (multiReduction .add [0] S128 (mulf q q) 0x00000000#32 reduces_S64x128_S128 (.inl rfl) rfl) shapeCasts_S128_S1x128)
    (broadcast S1x128 (Scalar.ofBits .f32 0x42800000#32))) (broadcast S1x128 (Scalar.ofBits .f32 0x358637BD#32)))

/-- The features scaled to unit mean square. -/
def hatT (q : FVec Ideal S64x128 .f32) : FVec Ideal S64x128 .f32 := mulf q (broadcastTo S64x128 (rqT q) broadcasts_S1x128_S64x128)

/-- The gain beside every token. -/
def gainT (g : FVec Ideal S64x1 .f32) : FVec Ideal S64x128 .f32 :=
  broadcastTo S64x128 (shapeCast S64x1 (shapeCast S64x1 g shapeCasts_S64x1_S64x1) shapeCasts_S64x1_S64x1) broadcasts_S64x1_S64x128

/-- The scaled queries. -/
def qnT (q : FVec Ideal S64x128 .f32) (g : FVec Ideal S64x1 .f32) : FVec Ideal S64x128 .bf16 := truncf .bf16 (mulf (hatT q) (gainT g)) bitsLt_bf16_f32

/-- The reciprocal root mean square of each token's features, tokens in rows. -/
def rk (k : FVec Ideal S256x64 .f32) : FVec Ideal S256x1 .f32 :=
  rsqrt (addf (divf (shapeCast S256x1 (multiReduction .add [1] S256 (mulf k k) 0x00000000#32 reduces_S256x64_S256 (.inl rfl) rfl) shapeCasts_S256_S256x1)
    (broadcast S256x1 (Scalar.ofBits .f32 0x42800000#32))) (broadcast S256x1 (Scalar.ofBits .f32 0x358637BD#32)))

def khat (k : FVec Ideal S256x64 .f32) : FVec Ideal S256x64 .f32 := mulf k (broadcastTo S256x64 (rk k) broadcasts_S256x1_S256x64)

/-- The scaled keys. -/
def knB (k : FVec Ideal S256x64 .f32) (g : FVec Ideal S1x64 .f32) : FVec Ideal S256x64 .bf16 :=
  truncf .bf16 (mulf (khat k) (broadcastTo S256x64 (shapeCast S1x64 g shapeCasts_S1x64_S1x64) broadcasts_S1x64_S256x64)) bitsLt_bf16_f32

/-- The scores: scaled products plus the bias, masked in the first block where no earlier block exists. -/
def scT (first : BitVec 1) (kn : FVec Ideal S256x64 .bf16) (qn : FVec Ideal S64x128 .bf16) (b : Vec Ideal S1x256x128 .f32) : FVec Ideal S256x128 .f32 :=
  select (andi (broadcast S256x128 first) (cmpi .slt (iota .tc S256x128 32 [0] iota_S256x128_d0_w32) (broadcast S256x128 128#32)))
    (broadcast S256x128 (Named.named κ "mask" 0xF149F2CA#32))
    (addf (mulf (matmul dot_S256x64_S64x128_S256x128_1_0_0_1_n_n none kn qn (constant S256x128 .f32 0x00000000#32))
      (broadcast S256x128 (Scalar.ofBits .f32 0x3E000000#32))) (shapeCast S256x128 b shapeCasts_S1x256x128_S256x128))

/-- The largest score of each query, the sink's among them. -/
def mxT (s : FVec Ideal S256x128 .f32) (σ : Elt Ideal .f32) : FVec Ideal S1x128 .f32 :=
  maximumf (shapeCast S1x128 (multiReduction .maximumf [0] S128 s 0xFF800000#32 reduces_S256x128_S128 (.inl rfl) rfl) shapeCasts_S128_S1x128) (broadcast S1x128 σ)

def peT (s : FVec Ideal S256x128 .f32) (σ : Elt Ideal .f32) : FVec Ideal S256x128 .f32 :=
  exp (subf s (broadcastTo S256x128 (mxT s σ) broadcasts_S1x128_S256x128))

def seT (s : FVec Ideal S256x128 .f32) (σ : Elt Ideal .f32) : FVec Ideal S1x128 .f32 := exp (subf (broadcast S1x128 σ) (mxT s σ))

def sumT (p : FVec Ideal S256x128 .f32) : FVec Ideal S1x128 .f32 :=
  shapeCast S1x128 (multiReduction .add [0] S128 p 0x00000000#32 reduces_S256x128_S128 (.inl rfl) rfl) shapeCasts_S128_S1x128

def invT (s : FVec Ideal S256x128 .f32) (σ : Elt Ideal .f32) : FVec Ideal S1x128 .f32 :=
  divf (broadcast S1x128 (Scalar.ofBits .f32 0x3F800000#32)) (addf (sumT (peT s σ)) (seT s σ))

/-- The attention, keys in rows. -/
def prT (s : FVec Ideal S256x128 .f32) (σ : Elt Ideal .f32) : FVec Ideal S256x128 .f32 :=
  mulf (peT s σ) (broadcastTo S256x128 (invT s σ) broadcasts_S1x128_S256x128)

/-- The sink's part of the attention. -/
def psT (s : FVec Ideal S256x128 .f32) (σ : Elt Ideal .f32) : FVec Ideal S1x128 .f32 := mulf (seT s σ) (invT s σ)

/-- The gradient of the attention. -/
def dpT (v : FVec Ideal S256x64 .bf16) (g : FVec Ideal S64x128 .bf16) : FVec Ideal S256x128 .f32 :=
  matmul dot_S256x64_S64x128_S256x128_1_0_0_1_n_n none v g (constant S256x128 .f32 0x00000000#32)

def dlT (p d : FVec Ideal S256x128 .f32) : FVec Ideal S1x128 .f32 := sumT (mulf p d)

/-- The gradient of the scores. -/
def dsT (p d : FVec Ideal S256x128 .f32) : FVec Ideal S256x128 .f32 := mulf p (subf d (broadcastTo S256x128 (dlT p d) broadcasts_S1x128_S256x128))

/-- The gradient of the sink, query by query. -/
def dskT (ps : FVec Ideal S1x128 .f32) (p d : FVec Ideal S256x128 .f32) : FVec Ideal S1x128 .f32 :=
  subf (broadcast S1x128 (Scalar.ofBits .f32 0x00000000#32)) (mulf ps (dlT p d))

/-- The gradient of the scaled queries. -/
def dqnT (kn : FVec Ideal S256x64 .bf16) (ds : FVec Ideal S256x128 .f32) : FVec Ideal S64x128 .f32 :=
  mulf (matmul dot_S256x64_S256x128_S64x128_0_0_1_1_n_n none kn (truncf .bf16 ds bitsLt_bf16_f32) (constant S64x128 .f32 0x00000000#32))
    (broadcast S64x128 (Scalar.ofBits .f32 0x3E000000#32))

/-- The gradient of the queries themselves. -/
def dqT (q : FVec Ideal S64x128 .f32) (g : FVec Ideal S64x1 .f32) (dqn : FVec Ideal S64x128 .f32) : FVec Ideal S64x128 .f32 :=
  mulf (broadcastTo S64x128 (rqT q) broadcasts_S1x128_S64x128) (subf (mulf dqn (gainT g)) (mulf (hatT q) (broadcastTo S64x128
    (divf (shapeCast S1x128 (multiReduction .add [0] S128 (mulf (mulf dqn (gainT g)) (hatT q)) 0x00000000#32 reduces_S64x128_S128 (.inl rfl) rfl)
      shapeCasts_S128_S1x128) (broadcast S1x128 (Scalar.ofBits .f32 0x42800000#32))) broadcasts_S1x128_S64x128)))

/-- The gradient of the scaled keys from one head. -/
def dknT (ds : FVec Ideal S256x128 .f32) (qn : FVec Ideal S64x128 .bf16) : FVec Ideal S256x64 .f32 :=
  mulf (matmul dot_S256x128_S64x128_S256x64_1_1_0_0_n_n none (truncf .bf16 ds bitsLt_bf16_f32) qn (constant S256x64 .f32 0x00000000#32))
    (broadcast S256x64 (Scalar.ofBits .f32 0x3E000000#32))

/-- The gradient of the values from one head. -/
def dvT (p : FVec Ideal S256x128 .f32) (g : FVec Ideal S64x128 .bf16) : FVec Ideal S256x64 .f32 :=
  matmul dot_S256x128_S64x128_S256x64_1_1_0_0_n_n none (truncf .bf16 p bitsLt_bf16_f32) g (constant S256x64 .f32 0x00000000#32)

/-- Zero plus four heads' parts. -/
def sum4 (a b c d : FVec Ideal S256x64 .f32) : FVec Ideal S256x64 .f32 :=
  addf (addf (addf (addf (broadcast S256x64 (Scalar.ofBits .f32 0x00000000#32)) a) b) c) d

/-- The half of a pair of blocks that is this block's. -/
abbrev lower (x : FVec Ideal S256x64 .f32) : FVec Ideal S128x64 .f32 := extractStridedSlice S128x64 ![128, 0] x slices_S256x64_o128_0_S128x64
/-- The half of a pair of blocks that is the block's before. -/
abbrev upper (x : FVec Ideal S256x64 .f32) : FVec Ideal S128x64 .f32 := extractStridedSlice S128x64 ![0, 0] x slices_S256x64_o0_0_S128x64

/-- The gradient of the keys themselves. -/
def dkB (k : FVec Ideal S256x64 .f32) (g : FVec Ideal S1x64 .f32) (dkn : FVec Ideal S128x64 .f32) : FVec Ideal S128x64 .f32 :=
  let t := mulf dkn (broadcastTo S128x64 (shapeCast S1x64 g shapeCasts_S1x64_S1x64) broadcasts_S1x64_S128x64)
  mulf (broadcastTo S128x64 (extractStridedSlice S128x1 ![128, 0] (rk k) slices_S256x1_o128_0_S128x1) broadcasts_S128x1_S128x64)
    (subf t (mulf (lower (khat k)) (broadcastTo S128x64
      (divf (shapeCast S128x1 (multiReduction .add [1] S128 (mulf t (lower (khat k))) 0x00000000#32 reduces_S128x64_S128 (.inl rfl) rfl)
        shapeCasts_S128_S128x1) (broadcast S128x1 (Scalar.ofBits .f32 0x42800000#32))) broadcasts_S128x1_S128x64)))

/-- The gradient of the keys' gain, token by token summed. -/
def dkgB (k : FVec Ideal S256x64 .f32) (dkn : FVec Ideal S128x64 .f32) : FVec Ideal S1x64 .f32 :=
  shapeCast S1x64 (multiReduction .add [0] S64 (mulf dkn (lower (khat k))) 0x00000000#32 reduces_S128x64_S64 (.inl rfl) rfl) shapeCasts_S64_S1x64

end Steps

/-! ### The steps read as real numbers -/

section Queries
variable {q : FVec Ideal S64x128 .f32} {g : FVec Ideal S64x1 .f32} {Q : Fin 128 → Fin 64 → ℝ} {G : Fin 64 → ℝ}
  (hq : ∀ d t, q (ix2 d t) = (Q t d : EReal)) (hg : ∀ d, g (ix2 d 0) = (G d : EReal))

include hq in
theorem rqT_apply (t : Fin 128) : rqT q (ix2 0 t) = (rr eps (Q t) : EReal) := by
  unfold rqT
  pointwise [hq]
  rw [head_bits, eps_bits]
  simp only [← EReal.coe_mul, sum]
  rw [div (by norm_num), ← EReal.coe_add]
  exact rr_rsqrt _

include hq in
theorem hatT_apply (d : Fin 64) (t : Fin 128) : hatT q (ix2 d t) = (hat eps (Q t) d : EReal) := by
  unfold hatT
  pointwise [hq, rqT_apply hq]
  rw [← EReal.coe_mul]; rfl

include hg in
theorem gainT_apply (d : Fin 64) (t : Fin 128) : gainT g (ix2 d t) = (G d : EReal) := by
  unfold gainT
  pointwise [hg]

include hq hg in
theorem qnT_apply (d : Fin 64) (t : Fin 128) : qnT q g (ix2 d t) = (nrm eps (Q t) G d : EReal) := by
  unfold qnT
  pointwise [hatT_apply hq, gainT_apply hg]
  rw [← EReal.coe_mul]; rfl

include hq hg in
theorem dqT_apply {dqn : FVec Ideal S64x128 .f32} {D : Fin 128 → Fin 64 → ℝ} (hd : ∀ d t, dqn (ix2 d t) = (D t d : EReal)) (d : Fin 64) (t : Fin 128) :
    dqT q g dqn (ix2 d t) = (nbwd eps (Q t) (fun e => D t e * G e) d : EReal) := by
  unfold dqT
  pointwise [hatT_apply hq, gainT_apply hg, rqT_apply hq, hd]
  rw [head_bits]
  simp only [← EReal.coe_mul, sum]
  rw [div (by norm_num), ← EReal.coe_mul, ← EReal.coe_sub, ← EReal.coe_mul]
  rfl
end Queries

section Keys
variable {k : FVec Ideal S256x64 .f32} {g : FVec Ideal S1x64 .f32} {K : Fin 256 → Fin 64 → ℝ} {G : Fin 64 → ℝ}
  (hk : ∀ t d, k (ix2 t d) = (K t d : EReal)) (hg : ∀ d, g (ix2 0 d) = (G d : EReal))

include hk in
theorem rk_apply (t : Fin 256) : rk k (ix2 t 0) = (rr eps (K t) : EReal) := by
  unfold rk
  pointwise [hk]
  rw [head_bits, eps_bits]
  simp only [← EReal.coe_mul, sum]
  rw [div (by norm_num), ← EReal.coe_add]
  exact rr_rsqrt _

include hk in
theorem khat_apply (t : Fin 256) (d : Fin 64) : khat k (ix2 t d) = (hat eps (K t) d : EReal) := by
  unfold khat
  pointwise [hk, rk_apply hk]
  rw [← EReal.coe_mul]; rfl

include hk hg in
theorem knB_apply (t : Fin 256) (d : Fin 64) : knB k g (ix2 t d) = (nrm eps (K t) G d : EReal) := by
  unfold knB
  pointwise [khat_apply hk, hg]
  rw [← EReal.coe_mul]; rfl

/-- This block's token `t` in the pair of blocks. -/
abbrev own (t : Fin 128) : Fin 256 := ⟨128 + t.val, by omega⟩
/-- The token `t` of the block before in the pair of blocks. -/
abbrev bef (t : Fin 128) : Fin 256 := ⟨t.val, by omega⟩

include hk hg in
theorem dkB_apply {dkn : FVec Ideal S128x64 .f32} {D : Fin 128 → Fin 64 → ℝ} (hd : ∀ t d, dkn (ix2 t d) = (D t d : EReal)) (t : Fin 128) (d : Fin 64) :
    dkB k g dkn (ix2 t d) = (nbwd eps (K (own t)) (fun e => D t e * G e) d : EReal) := by
  unfold dkB
  pointwise [khat_apply hk, rk_apply hk, hg, hd]
  rw [head_bits]
  simp only [← EReal.coe_mul, sum]
  rw [div (by norm_num), ← EReal.coe_mul, ← EReal.coe_sub, ← EReal.coe_mul]
  rfl

include hk in
theorem dkgB_apply {dkn : FVec Ideal S128x64 .f32} {D : Fin 128 → Fin 64 → ℝ} (hd : ∀ t d, dkn (ix2 t d) = (D t d : EReal)) (d : Fin 64) :
    dkgB k dkn (ix2 0 d) = ((∑ t, D t d * hat eps (K (own t)) d : ℝ) : EReal) := by
  unfold dkgB
  pointwise [khat_apply hk, hd]
  simp only [← EReal.coe_mul, sum]
end Keys

section Scores
variable {first : BitVec 1} {kn vb : FVec Ideal S256x64 .bf16} {qn go : FVec Ideal S64x128 .bf16} {b : Vec Ideal S1x256x128 .f32}
  {KN VB : Fin 256 → Fin 64 → ℝ} {QN GO : Fin 128 → Fin 64 → ℝ} {B : Fin 128 → Fin 256 → ℝ} {W M : Fin 128 → Fin 256 → Prop}
  [∀ q k, Decidable (W q k)] [∀ q k, Decidable (M q k)] {σ : ℝ}
  (hk : ∀ t d, kn (ix2 t d) = (KN t d : EReal)) (hq : ∀ d t, qn (ix2 d t) = (QN t d : EReal))
  (hv : ∀ t d, vb (ix2 t d) = (VB t d : EReal)) (hgo : ∀ d t, go (ix2 d t) = (GO t d : EReal))
  (hb : ∀ k q, b (ix3 0 k q) = if W q k then (B q k : EReal) else ⊥)
  (hM : ∀ q k, M q k ↔ W q k ∧ ¬ (first = 1#1 ∧ k.val < 128))

theorem named_mask : Named.named (F := Ideal) κ "mask" (φ := .f32) 0xF149F2CA#32 = (⊥ : EReal) := rfl

theorem guard : ∀ k : Fin 256, IntOp.cmpi .slt (BitVec.ofNat 32 k.val) 128#32 = if k.val < 128 then 1#1 else 0#1 := by decide +kernel

include hk hq hb hM in
theorem scT_apply (k : Fin 256) (q : Fin 128) :
    scT first kn qn b (ix2 k q) = if M q k then (score QN KN B q k : EReal) else ⊥ := by
  have hz : ∀ x y : EReal, Scalar.select (0#1) x y = y := fun _ _ => rfl
  have ho : ∀ x y : EReal, Scalar.select (1#1) x y = x := fun _ _ => rfl
  have ha : ∀ x : BitVec 1, IntOp.andi x 0#1 = 0#1 := by decide
  have hc : ∀ x : BitVec 1, IntOp.andi x 1#1 = x := by decide
  have h1 : ∀ x : BitVec 1, x ≠ 1#1 → x = 0#1 := by decide
  unfold scT
  pointwise [hk, hq, hb]
  rw [eighth_bits, named_mask, guard]
  simp only [← EReal.coe_mul, sum]
  have hw : ((((∑ x, KN k x * QN q x) * (1 / 8) : ℝ) : EReal) + if W q k then (B q k : EReal) else ⊥)
      = if W q k then (score QN KN B q k : EReal) else ⊥ := by
    split
    · rw [← EReal.coe_add]; rfl
    · exact EReal.add_bot _
  rw [hw]
  have hm := hM q k
  by_cases hk8 : k.val < 128
  · rw [if_pos hk8, hc]
    by_cases hf : first = 1#1
    · rw [hf, ho, if_neg fun h => (hm.mp h).2 ⟨hf, hk8⟩]
    · rw [h1 _ hf, hz]
      exact if_congr (by rw [hm]; tauto) rfl rfl
  · rw [if_neg hk8, ha, hz]
    exact if_congr (by rw [hm]; tauto) rfl rfl

theorem mxT_real {s : FVec Ideal S256x128 .f32} {S : Fin 128 → Fin 256 → ℝ} (hs : ∀ k q, s (ix2 k q) = if M q k then (S q k : EReal) else ⊥) (q : Fin 128) :
    ∃ m : ℝ, mxT s (σ : EReal) (ix2 0 q) = (m : EReal) := by
  unfold mxT
  pointwise [hs]
  rw [bot_bits]
  exact max_real _ _ (fun k _ => by split <;> simp) σ

end Scores

section Softmax
variable {s : FVec Ideal S256x128 .f32} {QN : Fin 128 → Fin 64 → ℝ} {KN VB : Fin 256 → Fin 64 → ℝ} {GO : Fin 128 → Fin 64 → ℝ} {B : Fin 128 → Fin 256 → ℝ}
  {M : Fin 128 → Fin 256 → Prop} [∀ q k, Decidable (M q k)] {σ : ℝ}
  (hs : ∀ k q, s (ix2 k q) = if M q k then (score QN KN B q k : EReal) else ⊥)

theorem peT_apply (hs : ∀ k q, s (ix2 k q) = if M q k then (score QN KN B q k : EReal) else ⊥) (q : Fin 128) (m : ℝ)
    (hm : mxT s (σ : EReal) (ix2 0 q) = (m : EReal)) (k : Fin 256) :
    peT s (σ : EReal) (ix2 k q) = ((wt QN KN B M q k * Real.exp (-m) : ℝ) : EReal) := by
  unfold peT
  pointwise [hs, hm]
  unfold wt
  split
  · rw [← EReal.coe_sub, Ideal.exp_coe, sub_eq_add_neg, Real.exp_add]
  · rw [EReal.bot_sub, Ideal.exp_bot, zero_mul, EReal.coe_zero]

theorem seT_apply (q : Fin 128) (m : ℝ) (hm : mxT s (σ : EReal) (ix2 0 q) = (m : EReal)) :
    seT s (σ : EReal) (ix2 0 q) = ((Real.exp σ * Real.exp (-m) : ℝ) : EReal) := by
  unfold seT
  pointwise [hm]
  rw [← EReal.coe_sub, Ideal.exp_coe, sub_eq_add_neg, Real.exp_add]

theorem sumT_apply {p : FVec Ideal S256x128 .f32} {P : Fin 128 → Fin 256 → ℝ} (q : Fin 128) (hp : ∀ k, p (ix2 k q) = (P q k : EReal)) :
    sumT p (ix2 0 q) = ((∑ k, P q k : ℝ) : EReal) := by
  unfold sumT
  pointwise [hp]
  exact sum _ _

theorem invT_apply (hs : ∀ k q, s (ix2 k q) = if M q k then (score QN KN B q k : EReal) else ⊥) (q : Fin 128) (m : ℝ)
    (hm : mxT s (σ : EReal) (ix2 0 q) = (m : EReal)) :
    invT s (σ : EReal) (ix2 0 q) = ((1 / (tot QN KN B σ M q * Real.exp (-m)) : ℝ) : EReal) := by
  have ht := tot_pos QN KN B σ M q
  have he := Real.exp_pos (-m)
  unfold invT
  pointwise [seT_apply q m hm, sumT_apply (P := fun q k => wt QN KN B M q k * Real.exp (-m)) q (peT_apply hs q m hm)]
  rw [← EReal.coe_add, ← Finset.sum_mul, ← add_mul, ← EReal.coe_one]
  exact div (by unfold tot at ht; positivity)

include hs in
/-- The attention, whatever the largest score is. -/
theorem prT_apply (k : Fin 256) (q : Fin 128) : prT s (σ : EReal) (ix2 k q) = (prob QN KN B σ M q k : EReal) := by
  obtain ⟨m, hm⟩ := mxT_real (σ := σ) hs q
  have ht := tot_pos QN KN B σ M q
  have he := Real.exp_pos (-m)
  unfold prT
  pointwise [peT_apply hs q m hm, invT_apply hs q m hm]
  rw [← EReal.coe_mul]
  unfold prob
  exact congrArg Real.toEReal (by field_simp)

include hs in
theorem psT_apply (q : Fin 128) : psT s (σ : EReal) (ix2 0 q) = (psink QN KN B σ M q : EReal) := by
  obtain ⟨m, hm⟩ := mxT_real (σ := σ) hs q
  have ht := tot_pos QN KN B σ M q
  have he := Real.exp_pos (-m)
  unfold psT
  pointwise [seT_apply q m hm, invT_apply hs q m hm]
  rw [← EReal.coe_mul]
  unfold psink
  exact congrArg Real.toEReal (by field_simp)

end Softmax

section Grads
variable {kn vb : FVec Ideal S256x64 .bf16} {qn go : FVec Ideal S64x128 .bf16} {p d : FVec Ideal S256x128 .f32} {ps : FVec Ideal S1x128 .f32}
  {KN VB : Fin 256 → Fin 64 → ℝ} {QN GO : Fin 128 → Fin 64 → ℝ} {B : Fin 128 → Fin 256 → ℝ} {M : Fin 128 → Fin 256 → Prop} [∀ q k, Decidable (M q k)] {σ : ℝ}

theorem dpT_apply (hv : ∀ t d, vb (ix2 t d) = (VB t d : EReal)) (hgo : ∀ d t, go (ix2 d t) = (GO t d : EReal)) (k : Fin 256) (q : Fin 128) :
    dpT vb go (ix2 k q) = (dp VB GO q k : EReal) := by
  unfold dpT
  pointwise [hv, hgo]
  simp only [← EReal.coe_mul, sum]
  rfl

variable (hp : ∀ k q, p (ix2 k q) = (prob QN KN B σ M q k : EReal)) (hd : ∀ k q, d (ix2 k q) = (dp VB GO q k : EReal))

include hp hd in
theorem dlT_apply (q : Fin 128) : dlT p d (ix2 0 q) = (delta QN KN VB GO B σ M q : EReal) := by
  unfold dlT
  rw [sumT_apply (P := fun q k => prob QN KN B σ M q k * dp VB GO q k) q]
  · rfl
  · intro k
    pointwise [hp, hd]
    rw [← EReal.coe_mul]

include hp hd in
theorem dsT_apply (k : Fin 256) (q : Fin 128) : dsT p d (ix2 k q) = (ds QN KN VB GO B σ M q k : EReal) := by
  unfold dsT
  pointwise [hp, hd, dlT_apply hp hd]
  rw [← EReal.coe_sub, ← EReal.coe_mul]; rfl

include hp hd in
theorem dskT_apply (hps : ∀ q, ps (ix2 0 q) = (psink QN KN B σ M q : EReal)) (q : Fin 128) :
    dskT ps p d (ix2 0 q) = (dsk QN KN VB GO B σ M q : EReal) := by
  unfold dskT
  pointwise [hps, dlT_apply hp hd]
  rw [← EReal.coe_mul, zero_sub, ← EReal.coe_neg]; rfl

variable {e : FVec Ideal S256x128 .f32} (he : ∀ k q, e (ix2 k q) = (ds QN KN VB GO B σ M q k : EReal))

include he in
theorem dqnT_apply (hk : ∀ t d, kn (ix2 t d) = (KN t d : EReal)) (d : Fin 64) (q : Fin 128) :
    dqnT kn e (ix2 d q) = (dqn QN KN VB GO B σ M q d : EReal) := by
  unfold dqnT
  pointwise [hk, he]
  rw [eighth_bits]
  simp only [← EReal.coe_mul, sum]
  unfold dqn
  simp only [mul_comm]

include he in
theorem dknT_apply (hq : ∀ d t, qn (ix2 d t) = (QN t d : EReal)) (k : Fin 256) (d : Fin 64) :
    dknT e qn (ix2 k d) = (dkn QN KN VB GO B σ M k d : EReal) := by
  unfold dknT
  pointwise [hq, he]
  rw [eighth_bits]
  simp only [← EReal.coe_mul, sum]
  rfl

include hp in
theorem dvT_apply (hgo : ∀ d t, go (ix2 d t) = (GO t d : EReal)) (k : Fin 256) (d : Fin 64) :
    dvT p go (ix2 k d) = (dv QN KN GO B σ M k d : EReal) := by
  unfold dvT
  pointwise [hp, hgo]
  simp only [← EReal.coe_mul, sum]
  rfl
end Grads

theorem sum4_apply {a b c d : FVec Ideal S256x64 .f32} {A B C D : Fin 256 → Fin 64 → ℝ} (ha : ∀ k e, a (ix2 k e) = (A k e : EReal))
    (hb : ∀ k e, b (ix2 k e) = (B k e : EReal)) (hc : ∀ k e, c (ix2 k e) = (C k e : EReal)) (hd : ∀ k e, d (ix2 k e) = (D k e : EReal))
    (k : Fin 256) (e : Fin 64) : sum4 a b c d (ix2 k e) = ((A k e + B k e + C k e + D k e : ℝ) : EReal) := by
  unfold sum4
  pointwise [ha, hb, hc, hd]
  simp only [EReal.coe_add, zero_add]

end Cert.AttnIdeal.Hand

end
-- ==== Proof.AttnHost.lean ====
/-
  What the host prepares for the attention's backward pass: the aligned projection, whose columns of queries, keys and values
  are read here, the gains as a column and a row, and the bias with the window in it.
-/
module

public import proofs.«01_k».proof.Proof.AttnFull
public import proofs.«01_k».proof.Proof.AttnBody
public import proofs.«01_k».proof.Proof.Gen.AttnIdeal.Value
public import Idealize.ShloMosaic.Lib.StableHlo.ReadAt

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnSpec Cert.AttnReal

section In
variable (m : (ℓ : Loc nD τ sig) → Buf (Elt Ideal) ℓ) (c : Dev nD)

abbrev A0 : Vec Ideal S2048x2312 .f32 := m ((c : Thread nD τ).loc main_arg0)
abbrev A1 : Vec Ideal S2048x512 .f32 := m ((c : Thread nD τ).loc main_arg1)
abbrev A2 : Vec Ideal S64 .f32 := m ((c : Thread nD τ).loc main_arg2)
abbrev A3 : Vec Ideal S64 .f32 := m ((c : Thread nD τ).loc main_arg3)
abbrev A4 : Vec Ideal S8 .f32 := m ((c : Thread nD τ).loc main_arg4)
abbrev A5 : Vec Ideal S8x128x256 .f32 := m ((c : Thread nD τ).loc main_arg5)

/-- The arguments are these real numbers. -/
structure Reads (I : Inp) : Prop where
  x : ∀ s (k : Fin 768), A0 m c (ix2 s ⟨k.val, by omega⟩) = (I.X s k : EReal)
  g : ∀ s k, A1 m c (ix2 s k) = (I.G s k : EReal)
  qg : ∀ d, A2 m c (ix1 d) = (I.qg d : EReal)
  kg : ∀ d, A3 m c (ix1 d) = (I.kg d : EReal)
  sk : ∀ h, A4 m c (ix1 h) = (I.sk h : EReal)
  b : ∀ h q k, A5 m c (ix3 h q k) = (I.b h q k : EReal)

/-! ### What the host prepares -/

theorem V_q (s : Fin 2048) (k : Fin 512) : (V m c main_v7 : Vec Ideal S2048x2432 .f32) (ix2 s ⟨k.val, by omega⟩) = A0 m c (ix2 s ⟨k.val, by omega⟩) := by
  unfold V
  after_reads_at
  refine (congrFun (StableHlo.unary_result ..) _).trans ?_
  pointwise
  rfl

theorem V_k (s : Fin 2048) (k : Fin 128) : (V m c main_v7 : Vec Ideal S2048x2432 .f32) (ix2 s ⟨2048 + k.val, by omega⟩) = A0 m c (ix2 s ⟨512 + k.val, by omega⟩) := by
  unfold V
  after_reads_at
  rw [dif_neg (by omega), dif_neg (by omega), dif_neg (by omega), dif_pos (by omega)]
  refine (congrFun (StableHlo.unary_result ..) _).trans ?_
  pointwise
  rw [show (⟨512 + (2048 + k.val - 512 - 512 - 1024), by omega⟩ : Fin 2312) = ⟨512 + k.val, by omega⟩ from Fin.ext (by show 512 + (2048 + k.val - 512 - 512 - 1024) = 512 + k.val; omega)]
  exact congrFun (StableHlo.upto_unwritten [main_v0] rfl (by decide) _) _

theorem V_v (s : Fin 2048) (k : Fin 128) : (V m c main_v7 : Vec Ideal S2048x2432 .f32) (ix2 s ⟨2176 + k.val, by omega⟩) = A0 m c (ix2 s ⟨640 + k.val, by omega⟩) := by
  unfold V
  after_reads_at
  rw [dif_neg (by omega), dif_neg (by omega), dif_neg (by omega), dif_neg (by omega), dif_pos (by omega)]
  refine (congrFun (StableHlo.unary_result ..) _).trans ?_
  pointwise
  rw [show (⟨640 + (2176 + k.val - 512 - 512 - 1024 - 128), by omega⟩ : Fin 2312) = ⟨640 + k.val, by omega⟩ from Fin.ext (by show 640 + (2176 + k.val - 512 - 512 - 1024 - 128) = 640 + k.val; omega)]
  exact congrFun (StableHlo.upto_unwritten [main_v0, main_v1] rfl (by decide) _) _

theorem V_qg (d : Fin 64) : (V m c main_v8 : Vec Ideal S64x1 .f32) (ix2 d 0) = A2 m c (ix1 d) := by
  unfold V
  simp only [hostOps0, hostOps0_1, hostOps0_2, hostOps0_3, hostOps0_4, List.flatten_cons, List.flatten_nil, List.append_nil, List.cons_append, List.nil_append]
  after_results
  pointwise

theorem V_kg (d : Fin 64) : (V m c main_v9 : Vec Ideal S1x64 .f32) (ix2 0 d) = A3 m c (ix1 d) := by
  unfold V
  simp only [hostOps0, hostOps0_1, hostOps0_2, hostOps0_3, hostOps0_4, List.flatten_cons, List.flatten_nil, List.append_nil, List.cons_append, List.nil_append]
  after_results
  pointwise

/-- The window's test on the distance between query and key, as a bit. -/
theorem win_bit : ∀ (q : Fin 128) (k : Fin 256),
    IntOp.andi (IntOp.cmpi .sge (IntOp.subi (IntOp.addi (BitVec.ofNat 32 q.val) 128#32) (BitVec.ofNat 32 k.val)) 0#32)
      (IntOp.cmpi .slt (IntOp.subi (IntOp.addi (BitVec.ofNat 32 q.val) 128#32) (BitVec.ofNat 32 k.val)) 128#32)
      = if inWin q k then 1#1 else 0#1 := by decide +kernel

/-- How far behind the query a key lies, as the host counts it. -/
def window_dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

theorem V_b (h : Fin 8) (k : Fin 256) (q : Fin 128) : (V m c main_v26 : Vec Ideal S8x256x128 .f32) (ix3 h k q)
    = if inWin q k then A5 m c (ix3 h q k) else ⊥ := by
  unfold V
  simp only [hostOps0, hostOps0_1, hostOps0_2, hostOps0_3, hostOps0_4, List.flatten_cons, List.flatten_nil, List.append_nil, List.cons_append, List.nil_append]
  after_results
  pointwise
  show select (broadcastInDim S8x128x256 ![0, 1, 2] bcast_S1x128x256_S8x128x256_0_1_2 (broadcastInDim S1x128x256 ![1, 2] bcast_S128x256_S1x128x256_1_2
    (andi (cmpi .sge window_dist (broadcastInDim S128x256 ![] bcast_S_S128x256 (constantI S_ 32 0#32)))
      (cmpi .slt window_dist (broadcastInDim S128x256 ![] bcast_S_S128x256 (constantI S_ 32 128#32))))))
    (A5 m c) (broadcastInDim S8x128x256 ![] bcast_S_S8x128x256 (constant (F := Ideal) S_ .f32 0xFF800000#32)) (ix3 h q k) = _
  unfold window_dist
  pointwise [win_bit, bot_bits]
  split <;> rfl

end In

end Cert.AttnIdeal.Hand

end
-- ==== Proof.AttnPoint.lean ====
/-
  One grid point of the attention's backward pass, head by head, from the blocks it loads: the queries and cotangents of one
  block of tokens, the keys and values of that block and of the one before. Read as real numbers where the loaded blocks are.
-/
module

public import proofs.«01_k».proof.Proof.AttnBody

@[expose] public section

set_option maxRecDepth 16384

noncomputable section

namespace Cert.AttnIdeal.Hand

open Cert.AttnIdeal Cert.AttnIdeal.Gen Idealize.ShloMosaic Idealize.ShloMosaic.TcCoe
open Cert.AttnSpec Cert.AttnReal

/-- The key head of a query head. -/
abbrev kv (h : Fin 8) : Fin 2 := ⟨h.val / 4, by omega⟩
/-- The column of a query head's feature. -/
abbrev qc (h : Fin 8) (d : Fin 64) : Fin 512 := ⟨64 * h.val + d.val, by omega⟩
/-- The column of a key head's feature. -/
abbrev kc (j : Fin 2) (d : Fin 64) : Fin 128 := ⟨64 * j.val + d.val, by omega⟩

theorem slice_q : ∀ h : Fin 8, S512x128.Slices ![64 * h.val, 0] S64x128 := by decide
theorem slice_k : ∀ j : Fin 2, S256x128.Slices ![0, 64 * j.val] S256x64 := by decide

/-! ### The steps on the loaded blocks -/

section Loaded
variable (first : BitVec 1) (lq lo : FVec Ideal S128x512 .f32) (lk lkp lv lvp : FVec Ideal S128x128 .f32) (lqg : FVec Ideal S64x1 .f32) (lkg : FVec Ideal S1x64 .f32)
  (σ : Fin 8 → Elt Ideal .f32) (b : Fin 8 → Vec Ideal S1x256x128 .f32) (h : Fin 8) (j : Fin 2)

def headQ : FVec Ideal S64x128 .f32 :=
  extractStridedSlice S64x128 ![64 * h.val, 0] (transpose S512x128 [1, 0] (shapeCast S128x512 lq shapeCasts_S128x512_S128x512) transposes_S128x512_p1_0_S512x128) (slice_q h)
def headO : FVec Ideal S64x128 .bf16 :=
  truncf .bf16 (extractStridedSlice S64x128 ![64 * h.val, 0] (transpose S512x128 [1, 0] lo transposes_S128x512_p1_0_S512x128) (slice_q h)) bitsLt_bf16_f32
def headK : FVec Ideal S256x64 .f32 := extractStridedSlice S256x64 ![0, 64 * j.val] (pair lkp lk) (slice_k j)
def headV : FVec Ideal S256x64 .bf16 := truncf .bf16 (headK lv lvp j) bitsLt_bf16_f32

def hS : FVec Ideal S256x128 .f32 := scT first (knB (headK lk lkp (kv h)) lkg) (qnT (headQ lq h) lqg) (b h)
def hP : FVec Ideal S256x128 .f32 := prT (hS first lq lk lkp lqg lkg b h) (σ h)
def hPs : FVec Ideal S1x128 .f32 := psT (hS first lq lk lkp lqg lkg b h) (σ h)
def hD : FVec Ideal S256x128 .f32 := dpT (headV lv lvp (kv h)) (headO lo h)
def hDs : FVec Ideal S256x128 .f32 := dsT (hP first lq lk lkp lqg lkg σ b h) (hD lo lv lvp h)
def hDsk : FVec Ideal S1x128 .f32 := dskT (hPs first lq lk lkp lqg lkg σ b h) (hP first lq lk lkp lqg lkg σ b h) (hD lo lv lvp h)
def hDqn : FVec Ideal S64x128 .f32 := dqnT (knB (headK lk lkp (kv h)) lkg) (hDs first lq lo lk lkp lv lvp lqg lkg σ b h)
def hDq : FVec Ideal S64x128 .f32 := dqT (headQ lq h) lqg (hDqn first lq lo lk lkp lv lvp lqg lkg σ b h)
def hDqg : FVec Ideal S64x128 .f32 := mulf (hDqn first lq lo lk lkp lv lvp lqg lkg σ b h) (hatT (headQ lq h))
def hDk : FVec Ideal S256x64 .f32 := dknT (hDs first lq lo lk lkp lv lvp lqg lkg σ b h) (qnT (headQ lq h) lqg)
def hDv : FVec Ideal S256x64 .f32 := dvT (hP first lq lk lkp lqg lkg σ b h) (headO lo h)

/-- Query head `g` of key head `j`. -/
abbrev qh (j : Fin 2) (g : Fin 4) : Fin 8 := ⟨4 * j.val + g.val, by omega⟩

def kvDk : FVec Ideal S256x64 .f32 :=
  sum4 (hDk first lq lo lk lkp lv lvp lqg lkg σ b (qh j 0)) (hDk first lq lo lk lkp lv lvp lqg lkg σ b (qh j 1))
    (hDk first lq lo lk lkp lv lvp lqg lkg σ b (qh j 2)) (hDk first lq lo lk lkp lv lvp lqg lkg σ b (qh j 3))
def kvDv : FVec Ideal S256x64 .f32 :=
  sum4 (hDv first lq lo lk lkp lqg lkg σ b (qh j 0)) (hDv first lq lo lk lkp lqg lkg σ b (qh j 1))
    (hDv first lq lo lk lkp lqg lkg σ b (qh j 2)) (hDv first lq lo lk lkp lqg lkg σ b (qh j 3))
end Loaded

/-! ### Read as real numbers -/

/-- The row of a query head in a block of queries. -/
abbrev rq (A : Fin 128 → Fin 512 → ℝ) (h : Fin 8) (t : Fin 128) (d : Fin 64) : ℝ := A t (qc h d)
/-- The row of a key head in a pair of blocks. -/
abbrev rk2 (P C : Fin 128 → Fin 128 → ℝ) (j : Fin 2) (t : Fin 256) (d : Fin 64) : ℝ :=
  if h : t.val < 128 then P ⟨t.val, h⟩ (kc j d) else C ⟨t.val - 128, by omega⟩ (kc j d)

section Read
variable {first : BitVec 1} {lq lo : FVec Ideal S128x512 .f32} {lk lkp lv lvp : FVec Ideal S128x128 .f32} {lqg : FVec Ideal S64x1 .f32} {lkg : FVec Ideal S1x64 .f32}
  {σ : Fin 8 → Elt Ideal .f32} {b : Fin 8 → Vec Ideal S1x256x128 .f32}
  {Q O : Fin 128 → Fin 512 → ℝ} {K Kp V Vp : Fin 128 → Fin 128 → ℝ} {QG KG : Fin 64 → ℝ} {SK : Fin 8 → ℝ} {B : Fin 8 → Fin 128 → Fin 256 → ℝ}
  {W M : Fin 128 → Fin 256 → Prop} [∀ q k, Decidable (W q k)] [∀ q k, Decidable (M q k)]

/-- The loaded blocks hold these real numbers, the mask of the bias apart. -/
structure Holds (first : BitVec 1) (lq lo : FVec Ideal S128x512 .f32) (lk lkp lv lvp : FVec Ideal S128x128 .f32) (lqg : FVec Ideal S64x1 .f32) (lkg : FVec Ideal S1x64 .f32)
    (σ : Fin 8 → Elt Ideal .f32) (b : Fin 8 → Vec Ideal S1x256x128 .f32)
    (Q O : Fin 128 → Fin 512 → ℝ) (K Kp V Vp : Fin 128 → Fin 128 → ℝ) (QG KG : Fin 64 → ℝ) (SK : Fin 8 → ℝ) (B : Fin 8 → Fin 128 → Fin 256 → ℝ)
    (W M : Fin 128 → Fin 256 → Prop) [∀ q k, Decidable (W q k)] [∀ q k, Decidable (M q k)] : Prop where
  q : ∀ t c, lq (ix2 t c) = (Q t c : EReal)
  o : ∀ t c, lo (ix2 t c) = (O t c : EReal)
  k : ∀ t c, lk (ix2 t c) = (K t c : EReal)
  kp : ∀ t c, lkp (ix2 t c) = (Kp t c : EReal)
  v : ∀ t c, lv (ix2 t c) = (V t c : EReal)
  vp : ∀ t c, lvp (ix2 t c) = (Vp t c : EReal)
  qg : ∀ d, lqg (ix2 d 0) = (QG d : EReal)
  kg : ∀ d, lkg (ix2 0 d) = (KG d : EReal)
  s : ∀ h, σ h = (SK h : EReal)
  b : ∀ h k q, b h (ix3 0 k q) = if W q k then (B h q k : EReal) else ⊥
  m : ∀ q k, M q k ↔ W q k ∧ ¬ (first = 1#1 ∧ k.val < 128)

variable (H : Holds first lq lo lk lkp lv lvp lqg lkg σ b Q O K Kp V Vp QG KG SK B W M) (h : Fin 8) (j : Fin 2)

/-- The scaled queries of a head. -/
abbrev rqn (QG : Fin 64 → ℝ) (Q : Fin 128 → Fin 512 → ℝ) (h : Fin 8) (t : Fin 128) : Fin 64 → ℝ := nrm eps (rq Q h t) QG
/-- The scaled keys of a head. -/
abbrev rkn (KG : Fin 64 → ℝ) (Kp K : Fin 128 → Fin 128 → ℝ) (j : Fin 2) (t : Fin 256) : Fin 64 → ℝ := nrm eps (rk2 Kp K j t) KG

include H

theorem headQ_apply (d : Fin 64) (t : Fin 128) : headQ lq h (ix2 d t) = (rq Q h t d : EReal) := by
  unfold headQ
  pointwise [H.q]

theorem headO_apply (d : Fin 64) (t : Fin 128) : headO lo h (ix2 d t) = (rq O h t d : EReal) := by
  unfold headO
  pointwise [H.o]

theorem headK_apply (t : Fin 256) (d : Fin 64) : headK lk lkp j (ix2 t d) = (rk2 Kp K j t d : EReal) := by
  unfold headK pair
  pointwise [H.k, H.kp]
  unfold rk2
  split <;> rfl

theorem headV_apply (t : Fin 256) (d : Fin 64) : headV lv lvp j (ix2 t d) = (rk2 Vp V j t d : EReal) := by
  unfold headV headK pair
  pointwise [H.v, H.vp]
  unfold rk2
  split <;> rfl

theorem hS_apply (k : Fin 256) (q : Fin 128) : hS first lq lk lkp lqg lkg b h (ix2 k q)
    = if M q k then (score (rqn QG Q h) (rkn KG Kp K (kv h)) (B h) q k : EReal) else ⊥ :=
  scT_apply (W := W) (knB_apply (headK_apply H _) H.kg) (qnT_apply (headQ_apply H h) H.qg) (H.b h) H.m k q

theorem hP_apply (k : Fin 256) (q : Fin 128) : hP first lq lk lkp lqg lkg σ b h (ix2 k q)
    = (prob (rqn QG Q h) (rkn KG Kp K (kv h)) (B h) (SK h) M q k : EReal) := by
  unfold hP; rw [H.s]; exact prT_apply (hS_apply H h) k q

theorem hPs_apply (q : Fin 128) : hPs first lq lk lkp lqg lkg σ b h (ix2 0 q)
    = (psink (rqn QG Q h) (rkn KG Kp K (kv h)) (B h) (SK h) M q : EReal) := by
  unfold hPs; rw [H.s]; exact psT_apply (hS_apply H h) q

theorem hD_apply (k : Fin 256) (q : Fin 128) : hD lo lv lvp h (ix2 k q) = (dp (rk2 Vp V (kv h)) (rq O h) q k : EReal) :=
  dpT_apply (headV_apply H _) (headO_apply H h) k q

theorem hDs_apply (k : Fin 256) (q : Fin 128) : hDs first lq lo lk lkp lv lvp lqg lkg σ b h (ix2 k q)
    = (ds (rqn QG Q h) (rkn KG Kp K (kv h)) (rk2 Vp V (kv h)) (rq O h) (B h) (SK h) M q k : EReal) :=
  dsT_apply (hP_apply H h) (hD_apply H h) k q

theorem hDsk_apply (q : Fin 128) : hDsk first lq lo lk lkp lv lvp lqg lkg σ b h (ix2 0 q)
    = (dsk (rqn QG Q h) (rkn KG Kp K (kv h)) (rk2 Vp V (kv h)) (rq O h) (B h) (SK h) M q : EReal) :=
  dskT_apply (hP_apply H h) (hD_apply H h) (hPs_apply H h) q

theorem hDqn_apply (d : Fin 64) (q : Fin 128) : hDqn first lq lo lk lkp lv lvp lqg lkg σ b h (ix2 d q)
    = (dqn (rqn QG Q h) (rkn KG Kp K (kv h)) (rk2 Vp V (kv h)) (rq O h) (B h) (SK h) M q d : EReal) :=
  dqnT_apply (hDs_apply H h) (knB_apply (headK_apply H _) H.kg) d q

theorem hDq_apply (d : Fin 64) (q : Fin 128) : hDq first lq lo lk lkp lv lvp lqg lkg σ b h (ix2 d q)
    = (nbwd eps (rq Q h q) (fun e => dqn (rqn QG Q h) (rkn KG Kp K (kv h)) (rk2 Vp V (kv h)) (rq O h) (B h) (SK h) M q e * QG e) d : EReal) :=
  dqT_apply (headQ_apply H h) H.qg (hDqn_apply H h) d q

theorem hDqg_apply (d : Fin 64) (q : Fin 128) : hDqg first lq lo lk lkp lv lvp lqg lkg σ b h (ix2 d q)
    = ((dqn (rqn QG Q h) (rkn KG Kp K (kv h)) (rk2 Vp V (kv h)) (rq O h) (B h) (SK h) M q d * hat eps (rq Q h q) d : ℝ) : EReal) := by
  unfold hDqg
  pointwise [hDqn_apply H h, hatT_apply (headQ_apply H h)]
  rw [← EReal.coe_mul]

theorem hDk_apply (k : Fin 256) (d : Fin 64) : hDk first lq lo lk lkp lv lvp lqg lkg σ b h (ix2 k d)
    = (dkn (rqn QG Q h) (rkn KG Kp K (kv h)) (rk2 Vp V (kv h)) (rq O h) (B h) (SK h) M k d : EReal) :=
  dknT_apply (hDs_apply H h) (qnT_apply (headQ_apply H h) H.qg) k d

theorem hDv_apply (k : Fin 256) (d : Fin 64) : hDv first lq lo lk lkp lqg lkg σ b h (ix2 k d)
    = (dv (rqn QG Q h) (rkn KG Kp K (kv h)) (rq O h) (B h) (SK h) M k d : EReal) :=
  dvT_apply (hP_apply H h) (headO_apply H h) k d

end Read

end Cert.AttnIdeal.Hand

end
-- ==== Proof.AttnTiles.lean ====
/-
  The stores of one grid point of the attention's backward pass: head by head into blocks of heads, of rows and of columns, and read
  back.
-/
module

public import proofs.«01_k».proof.Proof.AttnPoint
public import Idealize.ShloMosaic.Lib.Pipeline.ValueKit.Tiles

@[expose] public section

set_option maxRecDepth 16384

noncomputable section

namespace Cert.AttnIdeal.Hand

open Cert.AttnIdeal Cert.AttnIdeal.Gen Idealize.ShloMosaic Idealize.ShloMosaic.TcCoe
open Cert.AttnSpec Cert.AttnReal

/-! ### The body's loads -/

abbrev ldq (arg : Memref sig .tc .vmem S128x512 .f32) (h : arg.IsWhole) (x : Vec Ideal S128x512 .f32) : FVec Ideal S128x512 .f32 :=
  View.readAt (Elt Ideal) arg.view (Rect.unit (s := S128x512) ![0, 0] S128x512.size inb_S128x512_S128x512_0_0).toLoadRect (h.unread x)
abbrev ldk (arg : Memref sig .tc .vmem S128x128 .f32) (h : arg.IsWhole) (x : Vec Ideal S128x128 .f32) : FVec Ideal S128x128 .f32 :=
  View.readAt (Elt Ideal) arg.view (Rect.unit (s := S128x128) ![0, 0] S128x128.size inb_S128x128_S128x128_0_0).toLoadRect (h.unread x)
abbrev ldqg (arg : Memref sig .tc .vmem S64x1 .f32) (h : arg.IsWhole) (x : Vec Ideal S64x1 .f32) : FVec Ideal S64x1 .f32 :=
  View.readAt (Elt Ideal) arg.view (Rect.unit (s := S64x1) ![0, 0] S64x1.size inb_S64x1_S64x1_0_0).toLoadRect (h.unread x)
abbrev ldkg (arg : Memref sig .tc .vmem S1x64 .f32) (h : arg.IsWhole) (x : Vec Ideal S1x64 .f32) : FVec Ideal S1x64 .f32 :=
  View.readAt (Elt Ideal) arg.view (Rect.unit (s := S1x64) ![0, 0] S1x64.size inb_S1x64_S1x64_0_0).toLoadRect (h.unread x)

theorem inb_b : ∀ h : Fin 8, ∀ a, (![h.val, 0, 0] : Fin 3 → Nat) a + S1x256x128.size a ≤ S8x256x128.size a := by decide
theorem inb_s : ∀ h : Fin 8, ∀ a, (![h.val] : Fin 1 → Nat) a + S1.size a ≤ S8.size a := by decide
abbrev ldb (arg : Memref sig .tc .vmem S8x256x128 .f32) (ha : arg.IsWhole) (x : Vec Ideal S8x256x128 .f32) (h : Fin 8) : Vec Ideal S1x256x128 .f32 :=
  View.readAt (Elt Ideal) arg.view (Rect.unit (s := S8x256x128) ![h.val, 0, 0] S1x256x128.size (inb_b h)).toLoadRect (ha.unread x)
abbrev lds (arg : Memref sig .tc .smem S8 .f32) (ha : arg.IsWhole) (x : Vec Ideal S8 .f32) (h : Fin 8) : Elt Ideal .f32 :=
  View.readAt (Elt Ideal) arg.view (Rect.unit (s := S8) ![h.val] S1.size (inb_s h)).toLoadRect (ha.unread x) (Shape.Idx.first (show 0 < S1.numel by decide))

/-- Whether a point's block of tokens is the first. -/
abbrev fst (i : grid0.Coords) : BitVec 1 := Scalar.cmpi .eq (BitVec.ofNat 32 (i 0).val) 15#32

theorem hz : (![0, 0] : Fin 2 → Nat) = fun _ => 0 := funext fun a => by fin_cases a <;> rfl

/-- What a point loads. -/
structure Pt where
  first : BitVec 1
  lq : FVec Ideal S128x512 .f32
  lo : FVec Ideal S128x512 .f32
  lk : FVec Ideal S128x128 .f32
  lkp : FVec Ideal S128x128 .f32
  lv : FVec Ideal S128x128 .f32
  lvp : FVec Ideal S128x128 .f32
  lqg : FVec Ideal S64x1 .f32
  lkg : FVec Ideal S1x64 .f32
  σ : Fin 8 → Elt Ideal .f32
  b : Fin 8 → Vec Ideal S1x256x128 .f32

namespace Pt
variable (p : Pt)

def ds (h : Fin 8) : FVec Ideal S256x128 .f32 := hDs p.first p.lq p.lo p.lk p.lkp p.lv p.lvp p.lqg p.lkg p.σ p.b h
def dsk (h : Fin 8) : FVec Ideal S1x128 .f32 := hDsk p.first p.lq p.lo p.lk p.lkp p.lv p.lvp p.lqg p.lkg p.σ p.b h
def dq (h : Fin 8) : FVec Ideal S64x128 .f32 := hDq p.first p.lq p.lo p.lk p.lkp p.lv p.lvp p.lqg p.lkg p.σ p.b h
def dqg (h : Fin 8) : FVec Ideal S64x128 .f32 := hDqg p.first p.lq p.lo p.lk p.lkp p.lv p.lvp p.lqg p.lkg p.σ p.b h
def dk (j : Fin 2) : FVec Ideal S256x64 .f32 := kvDk p.first p.lq p.lo p.lk p.lkp p.lv p.lvp p.lqg p.lkg p.σ p.b j
def dv (j : Fin 2) : FVec Ideal S256x64 .f32 := kvDv p.first p.lq p.lo p.lk p.lkp p.lqg p.lkg p.σ p.b j

end Pt

/-- The block of a head's bias. -/
def headB (x : Vec Ideal S8x256x128 .f32) (h : Fin 8) : Vec Ideal S1x256x128 .f32 := fun y => x (ix3 h (y 1) (y 2))
/-- The columns of a key head. -/
def cols (x : Vec Ideal S128x128 .f32) (j : Fin 2) : FVec Ideal S128x64 .f32 := fun y => x (ix2 (y 0) (kc j (y 1)))

/-- What a point loads, from the windows' contents. -/
def pt (i : grid0.Coords) (x0 : Vec Ideal S128x512 .f32) (x1 x2 x3 x4 : Vec Ideal S128x128 .f32) (x5 : Vec Ideal S128x512 .f32) (x6 : Vec Ideal S64x1 .f32)
    (x7 : Vec Ideal S1x64 .f32) (x8 : Vec Ideal S8 .f32) (x9 : Vec Ideal S8x256x128 .f32) : Pt :=
  ⟨fst i, x0, x5, x1, x2, x3, x4, x6, x7, fun h => x8 (ix1 h), headB x9⟩

theorem ldq_eq (arg : Memref sig .tc .vmem S128x512 .f32) (h : arg.IsWhole) (x : Vec Ideal S128x512 .f32) : ldq arg h x = x := by
  unfold ldq
  rw [View.readAt_eq_ld, h.read_unread, View.ld_unit_zero (S := S128x512) hz]
theorem ldk_eq (arg : Memref sig .tc .vmem S128x128 .f32) (h : arg.IsWhole) (x : Vec Ideal S128x128 .f32) : ldk arg h x = x := by
  unfold ldk
  rw [View.readAt_eq_ld, h.read_unread, View.ld_unit_zero (S := S128x128) hz]
theorem ldqg_eq (arg : Memref sig .tc .vmem S64x1 .f32) (h : arg.IsWhole) (x : Vec Ideal S64x1 .f32) : ldqg arg h x = x := by
  unfold ldqg
  rw [View.readAt_eq_ld, h.read_unread, View.ld_unit_zero (S := S64x1) hz]
theorem ldkg_eq (arg : Memref sig .tc .vmem S1x64 .f32) (h : arg.IsWhole) (x : Vec Ideal S1x64 .f32) : ldkg arg h x = x := by
  unfold ldkg
  rw [View.readAt_eq_ld, h.read_unread, View.ld_unit_zero (S := S1x64) hz]
theorem ldb_eq (arg : Memref sig .tc .vmem S8x256x128 .f32) (ha : arg.IsWhole) (x : Vec Ideal S8x256x128 .f32) : ldb arg ha x = headB x := by
  funext h y
  unfold ldb
  rw [View.readAt_eq_ld, ha.read_unread]
  refine View.ld_unit_apply_of _ _ _ _ _ _ fun a => ?_
  match a with
  | 0 => have := (y 0).isLt; show h.val = h.val + (y 0).val; have h1 : (y 0).val < 1 := (y 0).isLt; omega
  | 1 => exact (Nat.zero_add _).symm
  | 2 => exact (Nat.zero_add _).symm
theorem lds_eq (arg : Memref sig .tc .smem S8 .f32) (ha : arg.IsWhole) (x : Vec Ideal S8 .f32) : lds arg ha x = fun h => x (ix1 h) := by
  funext h
  unfold lds
  rw [View.readAt_eq_ld, ha.read_unread]
  refine View.ld_unit_apply_of _ _ _ _ _ _ fun a => ?_
  match a with
  | 0 => rfl

/-- A load of a key head's columns. -/
theorem ldcols_eq (arg : Memref sig .tc .vmem S128x128 .f32) (ha : arg.IsWhole) (x : Vec Ideal S128x128 .f32) (j : Fin 2)
    (inb : ∀ a, (![0, 64 * j.val] : Fin 2 → Nat) a + S128x64.size a ≤ S128x128.size a) :
    View.readAt (Elt Ideal) arg.view (Rect.unit (s := S128x128) ![0, 64 * j.val] S128x64.size inb).toLoadRect (ha.unread x) = cols x j := by
  funext y
  rw [View.readAt_eq_ld, ha.read_unread]
  refine View.ld_unit_apply_of _ _ _ _ _ _ fun a => ?_
  match a with
  | 0 => exact (Nat.zero_add _).symm
  | 1 => rfl

/-- A load of one row of the sinks' accumulator. -/
theorem ldrow_eq (arg : Memref sig .tc .vmem S8x128 .f32) (ha : arg.IsWhole) (x : Vec Ideal S8x128 .f32) (h : Fin 8)
    (inb : ∀ a, (![h.val, 0] : Fin 2 → Nat) a + S1x128.size a ≤ S8x128.size a) (q : Fin 128) :
    View.readAt (Elt Ideal) arg.view (Rect.unit (s := S8x128) ![h.val, 0] S1x128.size inb).toLoadRect (ha.unread x) (ix2 0 q) = x (ix2 h q) := by
  rw [View.readAt_eq_ld, ha.read_unread]
  refine View.ld_unit_apply_of _ _ _ _ _ _ fun a => ?_
  match a with
  | 0 => rfl
  | 1 => exact (Nat.zero_add _).symm

theorem inb_k : ∀ j : Fin 2, ∀ a, (![0, 64 * j.val] : Fin 2 → Nat) a + S128x64.size a ≤ S128x128.size a := by decide
theorem inb_r : ∀ h : Fin 8, ∀ a, (![h.val, 0] : Fin 2 → Nat) a + S1x128.size a ≤ S8x128.size a := by decide

/-! ### Stores into one buffer, the last first -/

section Canon
variable {S : Shape}

theorem canon_hit {off size : Fin S.rank → Nat} {inb : ∀ a, off a + size a ≤ S.size a} {w : (Rect.unit off size inb).shape.Idx → Elt Ideal .f32}
    {L : List (View.Piece (Elt Ideal) S .f32)} {y : S.Idx} (x : (⟨S.rank, size⟩ : Shape).Idx) (hx : ∀ a, (y a : Nat) = off a + x a) :
    View.canon ((⟨Rect.unit off size inb, w⟩ : View.Piece (Elt Ideal) S .f32) :: L) y = w x := by
  have hy : y = (Rect.unit off size inb).emb x := by
    funext a
    refine Fin.ext ?_
    rw [hx, Rect.emb_apply]
    show off a + (x a : Nat) = off a + 1 * (x a : Nat)
    omega
  rw [hy, View.canon_cons_emb]

theorem canon_skip {off size : Fin S.rank → Nat} {inb : ∀ a, off a + size a ≤ S.size a} {w : (Rect.unit off size inb).shape.Idx → Elt Ideal .f32}
    {L : List (View.Piece (Elt Ideal) S .f32)} {y : S.Idx} (a : Fin S.rank) (ha : (y a : Nat) < off a ∨ off a + size a ≤ (y a : Nat)) :
    View.canon ((⟨Rect.unit off size inb, w⟩ : View.Piece (Elt Ideal) S .f32) :: L) y = View.canon L y := by
  refine View.canon_cons_of_not_mem _ _ fun hy => ?_
  replace hy : y ∈ (Rect.unit off size inb).set := hy
  rw [Rect.mem_set_unit] at hy
  have h := hy a
  omega
end Canon

/-- A block of heads written head by head. -/
theorem canon_heads {g0 g1 g2 g3 g4 g5 g6 g7 : Vec Ideal S1x256x128 .f32} {i0 : ∀ a, (![0, 0, 0] : Fin _ → Nat) a + S1x256x128.size a ≤ S8x256x128.size a} {i1 : ∀ a, (![1, 0, 0] : Fin _ → Nat) a + S1x256x128.size a ≤ S8x256x128.size a} {i2 : ∀ a, (![2, 0, 0] : Fin _ → Nat) a + S1x256x128.size a ≤ S8x256x128.size a} {i3 : ∀ a, (![3, 0, 0] : Fin _ → Nat) a + S1x256x128.size a ≤ S8x256x128.size a} {i4 : ∀ a, (![4, 0, 0] : Fin _ → Nat) a + S1x256x128.size a ≤ S8x256x128.size a} {i5 : ∀ a, (![5, 0, 0] : Fin _ → Nat) a + S1x256x128.size a ≤ S8x256x128.size a} {i6 : ∀ a, (![6, 0, 0] : Fin _ → Nat) a + S1x256x128.size a ≤ S8x256x128.size a} {i7 : ∀ a, (![7, 0, 0] : Fin _ → Nat) a + S1x256x128.size a ≤ S8x256x128.size a}
    {rest : List (View.Piece (Elt Ideal) S8x256x128 .f32)} (h : Fin 8) (k : Fin 256) (q : Fin 128) (v : Fin 8 → EReal)
    (h0 : g0 (ix3 0 k q) = v 0) (h1 : g1 (ix3 0 k q) = v 1) (h2 : g2 (ix3 0 k q) = v 2) (h3 : g3 (ix3 0 k q) = v 3) (h4 : g4 (ix3 0 k q) = v 4) (h5 : g5 (ix3 0 k q) = v 5) (h6 : g6 (ix3 0 k q) = v 6) (h7 : g7 (ix3 0 k q) = v 7) :
    View.canon (⟨Rect.unit (s := S8x256x128) ![7, 0, 0] S1x256x128.size i7, g7⟩ :: ⟨Rect.unit (s := S8x256x128) ![6, 0, 0] S1x256x128.size i6, g6⟩ :: ⟨Rect.unit (s := S8x256x128) ![5, 0, 0] S1x256x128.size i5, g5⟩ :: ⟨Rect.unit (s := S8x256x128) ![4, 0, 0] S1x256x128.size i4, g4⟩ :: ⟨Rect.unit (s := S8x256x128) ![3, 0, 0] S1x256x128.size i3, g3⟩ :: ⟨Rect.unit (s := S8x256x128) ![2, 0, 0] S1x256x128.size i2, g2⟩ :: ⟨Rect.unit (s := S8x256x128) ![1, 0, 0] S1x256x128.size i1, g1⟩ :: ⟨Rect.unit (s := S8x256x128) ![0, 0, 0] S1x256x128.size i0, g0⟩ :: rest) (ix3 h k q) = v h := by
  have key : ∀ {n : Nat} {hn : n < 8} {inb} {w : Vec Ideal S1x256x128 .f32} {L : List (View.Piece (Elt Ideal) S8x256x128 .f32)},
      View.canon ((⟨Rect.unit (s := S8x256x128) ![n, 0, 0] S1x256x128.size inb, w⟩ : View.Piece (Elt Ideal) S8x256x128 .f32) :: L) (ix3 ⟨n, hn⟩ k q) = w (ix3 0 k q) := by
    intro n hn inb w L
    refine canon_hit (S := S8x256x128) (ix3 0 k q) fun a => ?_
    match a with
    | 0 => rfl
    | 1 => exact (Nat.zero_add _).symm
    | 2 => exact (Nat.zero_add _).symm
  have skip : ∀ {h : Fin 8} {n : Nat} {inb} {w : Vec Ideal S1x256x128 .f32} {L : List (View.Piece (Elt Ideal) S8x256x128 .f32)} (_ : h.val < n),
      View.canon ((⟨Rect.unit (s := S8x256x128) ![n, 0, 0] S1x256x128.size inb, w⟩ : View.Piece (Elt Ideal) S8x256x128 .f32) :: L) (ix3 h k q) = View.canon L (ix3 h k q) :=
    fun hn => canon_skip (S := S8x256x128) 0 (.inl hn)
  match h with
  | 0 => exact (skip (by decide)).trans ((skip (by decide)).trans ((skip (by decide)).trans ((skip (by decide)).trans ((skip (by decide)).trans ((skip (by decide)).trans ((skip (by decide)).trans (key.trans h0)))))))
  | 1 => exact (skip (by decide)).trans ((skip (by decide)).trans ((skip (by decide)).trans ((skip (by decide)).trans ((skip (by decide)).trans ((skip (by decide)).trans (key.trans h1))))))
  | 2 => exact (skip (by decide)).trans ((skip (by decide)).trans ((skip (by decide)).trans ((skip (by decide)).trans ((skip (by decide)).trans (key.trans h2)))))
  | 3 => exact (skip (by decide)).trans ((skip (by decide)).trans ((skip (by decide)).trans ((skip (by decide)).trans (key.trans h3))))
  | 4 => exact (skip (by decide)).trans ((skip (by decide)).trans ((skip (by decide)).trans (key.trans h4)))
  | 5 => exact (skip (by decide)).trans ((skip (by decide)).trans (key.trans h5))
  | 6 => exact (skip (by decide)).trans (key.trans h6)
  | 7 => exact key.trans h7

/-- A block of rows written 64 rows at a time. -/
theorem canon_rows {g0 g1 g2 g3 g4 g5 g6 g7 : Vec Ideal S64x128 .f32} {i0 : ∀ a, (![0, 0] : Fin _ → Nat) a + S64x128.size a ≤ S512x128.size a} {i1 : ∀ a, (![64, 0] : Fin _ → Nat) a + S64x128.size a ≤ S512x128.size a} {i2 : ∀ a, (![128, 0] : Fin _ → Nat) a + S64x128.size a ≤ S512x128.size a} {i3 : ∀ a, (![192, 0] : Fin _ → Nat) a + S64x128.size a ≤ S512x128.size a} {i4 : ∀ a, (![256, 0] : Fin _ → Nat) a + S64x128.size a ≤ S512x128.size a} {i5 : ∀ a, (![320, 0] : Fin _ → Nat) a + S64x128.size a ≤ S512x128.size a} {i6 : ∀ a, (![384, 0] : Fin _ → Nat) a + S64x128.size a ≤ S512x128.size a} {i7 : ∀ a, (![448, 0] : Fin _ → Nat) a + S64x128.size a ≤ S512x128.size a}
    {rest : List (View.Piece (Elt Ideal) S512x128 .f32)} (h : Fin 8) (d : Fin 64) (t : Fin 128) (v : Fin 8 → EReal)
    (h0 : g0 (ix2 d t) = v 0) (h1 : g1 (ix2 d t) = v 1) (h2 : g2 (ix2 d t) = v 2) (h3 : g3 (ix2 d t) = v 3) (h4 : g4 (ix2 d t) = v 4) (h5 : g5 (ix2 d t) = v 5) (h6 : g6 (ix2 d t) = v 6) (h7 : g7 (ix2 d t) = v 7) :
    View.canon (⟨Rect.unit (s := S512x128) ![448, 0] S64x128.size i7, g7⟩ :: ⟨Rect.unit (s := S512x128) ![384, 0] S64x128.size i6, g6⟩ :: ⟨Rect.unit (s := S512x128) ![320, 0] S64x128.size i5, g5⟩ :: ⟨Rect.unit (s := S512x128) ![256, 0] S64x128.size i4, g4⟩ :: ⟨Rect.unit (s := S512x128) ![192, 0] S64x128.size i3, g3⟩ :: ⟨Rect.unit (s := S512x128) ![128, 0] S64x128.size i2, g2⟩ :: ⟨Rect.unit (s := S512x128) ![64, 0] S64x128.size i1, g1⟩ :: ⟨Rect.unit (s := S512x128) ![0, 0] S64x128.size i0, g0⟩ :: rest) (ix2 (qc h d) t) = v h := by
  have key : ∀ {n : Nat} {hn : n + d.val < 512} {inb} {w : Vec Ideal S64x128 .f32} {L : List (View.Piece (Elt Ideal) S512x128 .f32)},
      View.canon ((⟨Rect.unit (s := S512x128) ![n, 0] S64x128.size inb, w⟩ : View.Piece (Elt Ideal) S512x128 .f32) :: L) (ix2 ⟨n + d.val, hn⟩ t) = w (ix2 d t) := by
    intro n hn inb w L
    refine canon_hit (S := S512x128) (ix2 d t) fun a => ?_
    match a with
    | 0 => rfl
    | 1 => exact (Nat.zero_add _).symm
  have skip : ∀ {h : Fin 8} {n : Nat} {inb} {w : Vec Ideal S64x128 .f32} {L : List (View.Piece (Elt Ideal) S512x128 .f32)} (_ : 64 * h.val + d.val < n),
      View.canon ((⟨Rect.unit (s := S512x128) ![n, 0] S64x128.size inb, w⟩ : View.Piece (Elt Ideal) S512x128 .f32) :: L) (ix2 (qc h d) t) = View.canon L (ix2 (qc h d) t) :=
    fun hn => canon_skip (S := S512x128) 0 (.inl hn)
  have hd := d.isLt
  match h with
  | 0 => exact (skip (by simp <;> omega)).trans ((skip (by simp <;> omega)).trans ((skip (by simp <;> omega)).trans ((skip (by simp <;> omega)).trans ((skip (by simp <;> omega)).trans ((skip (by simp <;> omega)).trans ((skip (by simp <;> omega)).trans (key.trans h0)))))))
  | 1 => exact (skip (by simp <;> omega)).trans ((skip (by simp <;> omega)).trans ((skip (by simp <;> omega)).trans ((skip (by simp <;> omega)).trans ((skip (by simp <;> omega)).trans ((skip (by simp <;> omega)).trans (key.trans h1))))))
  | 2 => exact (skip (by simp <;> omega)).trans ((skip (by simp <;> omega)).trans ((skip (by simp <;> omega)).trans ((skip (by simp <;> omega)).trans ((skip (by simp <;> omega)).trans (key.trans h2)))))
  | 3 => exact (skip (by simp <;> omega)).trans ((skip (by simp <;> omega)).trans ((skip (by simp <;> omega)).trans ((skip (by simp <;> omega)).trans (key.trans h3))))
  | 4 => exact (skip (by simp <;> omega)).trans ((skip (by simp <;> omega)).trans ((skip (by simp <;> omega)).trans (key.trans h4)))
  | 5 => exact (skip (by simp <;> omega)).trans ((skip (by simp <;> omega)).trans (key.trans h5))
  | 6 => exact (skip (by simp <;> omega)).trans (key.trans h6)
  | 7 => exact key.trans h7

/-- The rows of the sinks' accumulator written one by one. -/
theorem canon_sinks {g0 g1 g2 g3 g4 g5 g6 g7 : Vec Ideal S1x128 .f32} {i0 : ∀ a, (![0, 0] : Fin _ → Nat) a + S1x128.size a ≤ S8x128.size a} {i1 : ∀ a, (![1, 0] : Fin _ → Nat) a + S1x128.size a ≤ S8x128.size a} {i2 : ∀ a, (![2, 0] : Fin _ → Nat) a + S1x128.size a ≤ S8x128.size a} {i3 : ∀ a, (![3, 0] : Fin _ → Nat) a + S1x128.size a ≤ S8x128.size a} {i4 : ∀ a, (![4, 0] : Fin _ → Nat) a + S1x128.size a ≤ S8x128.size a} {i5 : ∀ a, (![5, 0] : Fin _ → Nat) a + S1x128.size a ≤ S8x128.size a} {i6 : ∀ a, (![6, 0] : Fin _ → Nat) a + S1x128.size a ≤ S8x128.size a} {i7 : ∀ a, (![7, 0] : Fin _ → Nat) a + S1x128.size a ≤ S8x128.size a}
    {rest : List (View.Piece (Elt Ideal) S8x128 .f32)} (h : Fin 8) (q : Fin 128) (v : Fin 8 → EReal)
    (h0 : g0 (ix2 0 q) = v 0) (h1 : g1 (ix2 0 q) = v 1) (h2 : g2 (ix2 0 q) = v 2) (h3 : g3 (ix2 0 q) = v 3) (h4 : g4 (ix2 0 q) = v 4) (h5 : g5 (ix2 0 q) = v 5) (h6 : g6 (ix2 0 q) = v 6) (h7 : g7 (ix2 0 q) = v 7) :
    View.canon (⟨Rect.unit (s := S8x128) ![7, 0] S1x128.size i7, g7⟩ :: ⟨Rect.unit (s := S8x128) ![6, 0] S1x128.size i6, g6⟩ :: ⟨Rect.unit (s := S8x128) ![5, 0] S1x128.size i5, g5⟩ :: ⟨Rect.unit (s := S8x128) ![4, 0] S1x128.size i4, g4⟩ :: ⟨Rect.unit (s := S8x128) ![3, 0] S1x128.size i3, g3⟩ :: ⟨Rect.unit (s := S8x128) ![2, 0] S1x128.size i2, g2⟩ :: ⟨Rect.unit (s := S8x128) ![1, 0] S1x128.size i1, g1⟩ :: ⟨Rect.unit (s := S8x128) ![0, 0] S1x128.size i0, g0⟩ :: rest) (ix2 h q) = v h := by
  have key : ∀ {n : Nat} {hn : n < 8} {inb} {w : Vec Ideal S1x128 .f32} {L : List (View.Piece (Elt Ideal) S8x128 .f32)},
      View.canon ((⟨Rect.unit (s := S8x128) ![n, 0] S1x128.size inb, w⟩ : View.Piece (Elt Ideal) S8x128 .f32) :: L) (ix2 ⟨n, hn⟩ q) = w (ix2 0 q) := by
    intro n hn inb w L
    refine canon_hit (S := S8x128) (ix2 0 q) fun a => ?_
    match a with
    | 0 => rfl
    | 1 => exact (Nat.zero_add _).symm
  have skip : ∀ {h : Fin 8} {n : Nat} {inb} {w : Vec Ideal S1x128 .f32} {L : List (View.Piece (Elt Ideal) S8x128 .f32)} (_ : h.val < n),
      View.canon ((⟨Rect.unit (s := S8x128) ![n, 0] S1x128.size inb, w⟩ : View.Piece (Elt Ideal) S8x128 .f32) :: L) (ix2 h q) = View.canon L (ix2 h q) :=
    fun hn => canon_skip (S := S8x128) 0 (.inl hn)
  match h with
  | 0 => exact (skip (by decide)).trans ((skip (by decide)).trans ((skip (by decide)).trans ((skip (by decide)).trans ((skip (by decide)).trans ((skip (by decide)).trans ((skip (by decide)).trans (key.trans h0)))))))
  | 1 => exact (skip (by decide)).trans ((skip (by decide)).trans ((skip (by decide)).trans ((skip (by decide)).trans ((skip (by decide)).trans ((skip (by decide)).trans (key.trans h1))))))
  | 2 => exact (skip (by decide)).trans ((skip (by decide)).trans ((skip (by decide)).trans ((skip (by decide)).trans ((skip (by decide)).trans (key.trans h2)))))
  | 3 => exact (skip (by decide)).trans ((skip (by decide)).trans ((skip (by decide)).trans ((skip (by decide)).trans (key.trans h3))))
  | 4 => exact (skip (by decide)).trans ((skip (by decide)).trans ((skip (by decide)).trans (key.trans h4)))
  | 5 => exact (skip (by decide)).trans ((skip (by decide)).trans (key.trans h5))
  | 6 => exact (skip (by decide)).trans (key.trans h6)
  | 7 => exact key.trans h7

/-- A block of two key heads' columns. -/
theorem canon_cols {g0 g1 : Vec Ideal S128x64 .f32} {i0 : ∀ a, (![0, 0] : Fin _ → Nat) a + S128x64.size a ≤ S128x128.size a} {i1 : ∀ a, (![0, 64] : Fin _ → Nat) a + S128x64.size a ≤ S128x128.size a}
    {rest : List (View.Piece (Elt Ideal) S128x128 .f32)} (t : Fin 128) (j : Fin 2) (d : Fin 64) (v : Fin 2 → EReal)
    (h0 : g0 (ix2 t d) = v 0) (h1 : g1 (ix2 t d) = v 1) :
    View.canon (⟨Rect.unit (s := S128x128) ![0, 64] S128x64.size i1, g1⟩ :: ⟨Rect.unit (s := S128x128) ![0, 0] S128x64.size i0, g0⟩ :: rest) (ix2 t (kc j d)) = v j := by
  have key : ∀ {n : Nat} {hn : n + d.val < 128} {inb} {w : Vec Ideal S128x64 .f32} {L : List (View.Piece (Elt Ideal) S128x128 .f32)},
      View.canon ((⟨Rect.unit (s := S128x128) ![0, n] S128x64.size inb, w⟩ : View.Piece (Elt Ideal) S128x128 .f32) :: L) (ix2 t ⟨n + d.val, hn⟩) = w (ix2 t d) := by
    intro n hn inb w L
    refine canon_hit (S := S128x128) (ix2 t d) fun a => ?_
    match a with
    | 0 => exact (Nat.zero_add _).symm
    | 1 => rfl
  have skip : ∀ {j : Fin 2} {n : Nat} {inb} {w : Vec Ideal S128x64 .f32} {L : List (View.Piece (Elt Ideal) S128x128 .f32)} (_ : 64 * j.val + d.val < n),
      View.canon ((⟨Rect.unit (s := S128x128) ![0, n] S128x64.size inb, w⟩ : View.Piece (Elt Ideal) S128x128 .f32) :: L) (ix2 t (kc j d)) = View.canon L (ix2 t (kc j d)) :=
    fun hn => canon_skip (S := S128x128) 1 (.inl hn)
  have hd := d.isLt
  match j with
  | 0 => exact (skip (by simp <;> omega)).trans (key.trans h0)
  | 1 => exact key.trans h1

section Pieces

theorem acc_head (b : Vec Ideal S1x256x128 .f32) (d : FVec Ideal S256x128 .f32) (k : Fin 256) (q : Fin 128) :
    shapeCast S1x256x128 (addf (shapeCast S256x128 b shapeCasts_S1x256x128_S256x128) d) shapeCasts_S256x128_S1x256x128 (ix3 0 k q)
      = b (ix3 0 k q) + d (ix2 k q) := by
  pointwise

theorem acc_sink (b d : FVec Ideal S1x128 .f32) (q : Fin 128) :
    shapeCast S1x128 (addf b d) shapeCasts_S1x128_S1x128 (ix2 0 q) = b (ix2 0 q) + d (ix2 0 q) := by
  pointwise

theorem cast_row (d : FVec Ideal S64x128 .f32) (a : Fin 64) (t : Fin 128) : shapeCast S64x128 d shapeCasts_S64x128_S64x128 (ix2 a t) = d (ix2 a t) := by
  pointwise

theorem cast_col (d : FVec Ideal S128x64 .f32) (t : Fin 128) (a : Fin 64) : shapeCast S128x64 d shapeCasts_S128x64_S128x64 (ix2 t a) = d (ix2 t a) := by
  pointwise

theorem turn_row (x : FVec Ideal S512x128 .f32) (t : Fin 128) (c : Fin 512) :
    transpose S128x512 [1, 0] x transposes_S512x128_p1_0_S128x512 (ix2 t c) = x (ix2 c t) := by
  pointwise

theorem upper_apply (x : FVec Ideal S256x64 .f32) (t : Fin 128) (d : Fin 64) : upper x (ix2 t d) = x (ix2 (bef t) d) := by
  pointwise

theorem lanes_sink (x : FVec Ideal S8x128 .f32) (h : Fin 8) : k0_pay1 (F := Ideal) x (ix2 h 0) = ∑ q, x (ix2 h q) := by
  unfold k0_pay1
  pointwise

theorem lanes_gain (x : FVec Ideal S64x128 .f32) (d : Fin 64) : k0_pay2 (F := Ideal) x (ix2 d 0) = ∑ q, x (ix2 d q) := by
  unfold k0_pay2
  pointwise

end Pieces

/-- The gradient of one block's scaled keys: this block's part and what the block after left. -/
def Pt.dkT (p : Pt) (s : FVec Ideal S128x64 .f32) (j : Fin 2) : FVec Ideal S128x64 .f32 := addf (lower (p.dk j)) s
/-- The gradient of one block's values, likewise. -/
def Pt.dvT (p : Pt) (s : FVec Ideal S128x64 .f32) (j : Fin 2) : FVec Ideal S128x64 .f32 := addf (lower (p.dv j)) s
/-- The gradient of one block's keys. -/
def Pt.dkO (p : Pt) (s : FVec Ideal S128x64 .f32) (j : Fin 2) : FVec Ideal S128x64 .f32 := dkB (headK p.lk p.lkp j) p.lkg (p.dkT s j)
/-- One block's part of the keys' gain. -/
def Pt.dkg (p : Pt) (s : FVec Ideal S128x64 .f32) (j : Fin 2) : FVec Ideal S1x64 .f32 := dkgB (headK p.lk p.lkp j) (p.dkT s j)

/-- What a point loads through its windows. -/
def loads (i : grid0.Coords) (arg1 : Memref sig .tc .vmem S128x512 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x512 .f32) (harg6 : arg6.IsWhole)
    (arg7 : Memref sig .tc .vmem S64x1 .f32) (harg7 : arg7.IsWhole) (arg8 : Memref sig .tc .vmem S1x64 .f32) (harg8 : arg8.IsWhole)
    (arg9 : Memref sig .tc .smem S8 .f32) (harg9 : arg9.IsWhole) (arg10 : Memref sig .tc .vmem S8x256x128 .f32) (harg10 : arg10.IsWhole)
    (x0 : Vec Ideal S128x512 .f32) (x1 x2 x3 x4 : Vec Ideal S128x128 .f32) (x5 : Vec Ideal S128x512 .f32) (x6 : Vec Ideal S64x1 .f32)
    (x7 : Vec Ideal S1x64 .f32) (x8 : Vec Ideal S8 .f32) (x9 : Vec Ideal S8x256x128 .f32) : Pt :=
  ⟨fst i, ldq arg1 harg1 x0, ldq arg6 harg6 x5, ldk arg2 harg2 x1, ldk arg3 harg3 x2, ldk arg4 harg4 x3, ldk arg5 harg5 x4, ldqg arg7 harg7 x6, ldkg arg8 harg8 x7, lds arg9 harg9 x8, ldb arg10 harg10 x9⟩

theorem loads_eq (i : grid0.Coords) (arg1 : Memref sig .tc .vmem S128x512 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x512 .f32) (harg6 : arg6.IsWhole)
    (arg7 : Memref sig .tc .vmem S64x1 .f32) (harg7 : arg7.IsWhole) (arg8 : Memref sig .tc .vmem S1x64 .f32) (harg8 : arg8.IsWhole)
    (arg9 : Memref sig .tc .smem S8 .f32) (harg9 : arg9.IsWhole) (arg10 : Memref sig .tc .vmem S8x256x128 .f32) (harg10 : arg10.IsWhole)
    (x0 : Vec Ideal S128x512 .f32) (x1 x2 x3 x4 : Vec Ideal S128x128 .f32) (x5 : Vec Ideal S128x512 .f32) (x6 : Vec Ideal S64x1 .f32)
    (x7 : Vec Ideal S1x64 .f32) (x8 : Vec Ideal S8 .f32) (x9 : Vec Ideal S8x256x128 .f32) :
    loads i arg1 harg1 arg2 harg2 arg3 harg3 arg4 harg4 arg5 harg5 arg6 harg6 arg7 harg7 arg8 harg8 arg9 harg9 arg10 harg10 x0 x1 x2 x3 x4 x5 x6 x7 x8 x9
      = pt i x0 x1 x2 x3 x4 x5 x6 x7 x8 x9 := by
  unfold loads pt
  rw [ldq_eq, ldq_eq, ldk_eq, ldk_eq, ldk_eq, ldk_eq, ldqg_eq, ldkg_eq, lds_eq, ldb_eq]

/-! ### A whole buffer added to, and buffers cleared first -/

theorem acc_whole {arg : Memref sig .tc .vmem S64x128 .f32} {prev d : FVec Ideal S64x128 .f32} {L : List (View.Piece (Elt Ideal) S64x128 .f32)}
    {i0 i1 i2 : ∀ a, (![0, 0] : Fin 2 → Nat) a + S64x128.size a ≤ S64x128.size a} (y : S64x128.Idx) :
    View.canon ((⟨Rect.unit (s := S64x128) ![0, 0] S64x128.size i0, shapeCast S64x128 (addf (arg.view.readCov (Val := Elt Ideal)
      ((⟨Rect.unit (s := S64x128) ![0, 0] S64x128.size i1, prev⟩ : View.Piece (Elt Ideal) S64x128 .f32) :: L) (Rect.unit (s := S64x128) ![0, 0] S64x128.size i2).toLoadRect) d)
        shapeCasts_S64x128_S64x128⟩ : View.Piece (Elt Ideal) S64x128 .f32) :: (⟨Rect.unit (s := S64x128) ![0, 0] S64x128.size i1, prev⟩ : View.Piece (Elt Ideal) S64x128 .f32) :: L) y
      = View.canon ((⟨Rect.unit (s := S64x128) ![0, 0] S64x128.size i1, prev⟩ : View.Piece (Elt Ideal) S64x128 .f32) :: L) y + d y := by
  rw [View.canon_cons_unit_zero (S := S64x128) hz, View.canon_cons_unit_zero (S := S64x128) hz, View.readCov_cons_unit_lit' _ _ _ _ _ (by decide) (by decide)]
  obtain ⟨a, b, rfl⟩ : ∃ (a : Fin 64) (b : Fin 128), y = ix2 a b := ⟨_, _, eq_ix2 y⟩
  pointwise

theorem acc_first {arg : Memref sig .tc .vmem S64x128 .f32} {ha : arg.IsWhole} {x : Vec Ideal S64x128 .f32} {d : FVec Ideal S64x128 .f32}
    {i0 i2 : ∀ a, (![0, 0] : Fin 2 → Nat) a + S64x128.size a ≤ S64x128.size a} (y : S64x128.Idx) :
    View.canon [(⟨Rect.unit (s := S64x128) ![0, 0] S64x128.size i0, shapeCast S64x128 (addf (View.readAt (Elt Ideal) arg.view
      (Rect.unit (s := S64x128) ![0, 0] S64x128.size i2).toLoadRect (ha.unread x)) d) shapeCasts_S64x128_S64x128⟩ : View.Piece (Elt Ideal) S64x128 .f32)] y = x y + d y := by
  rw [View.canon_cons_unit_zero (S := S64x128) hz, View.readAt_eq_ld, ha.read_unread, View.ld_unit_zero (S := S64x128) hz]
  obtain ⟨a, b, rfl⟩ : ∃ (a : Fin 64) (b : Fin 128), y = ix2 a b := ⟨_, _, eq_ix2 y⟩
  pointwise

theorem clear_gain {i0 : ∀ a, (![0, 0] : Fin 2 → Nat) a + S64x128.size a ≤ S64x128.size a} (y : S64x128.Idx) :
    View.canon [(⟨Rect.unit (s := S64x128) ![0, 0] S64x128.size i0, shapeCast S64x128 (broadcast S64x128 (Scalar.ofBits (F := Ideal) .f32 0x00000000#32)) shapeCasts_S64x128_S64x128⟩ :
      View.Piece (Elt Ideal) S64x128 .f32)] y = 0 := by
  rw [View.canon_cons_unit_zero (S := S64x128) hz]
  obtain ⟨a, b, rfl⟩ : ∃ (a : Fin 64) (b : Fin 128), y = ix2 a b := ⟨_, _, eq_ix2 y⟩
  pointwise

theorem acc_kg {arg : Memref sig .tc .vmem S1x64 .f32} {prev d : FVec Ideal S1x64 .f32} {L : List (View.Piece (Elt Ideal) S1x64 .f32)}
    {i1 i2 : ∀ a, (![0, 0] : Fin 2 → Nat) a + S1x64.size a ≤ S1x64.size a} (y : S1x64.Idx) :
    addf (shapeCast S1x64 (arg.view.readCov (Val := Elt Ideal) ((⟨Rect.unit (s := S1x64) ![0, 0] S1x64.size i1, prev⟩ : View.Piece (Elt Ideal) S1x64 .f32) :: L)
      (Rect.unit (s := S1x64) ![0, 0] S1x64.size i2).toLoadRect) shapeCasts_S1x64_S1x64) d y = prev y + d y := by
  rw [View.readCov_cons_unit_lit' _ _ _ _ _ (by decide) (by decide)]
  obtain ⟨a, b, rfl⟩ : ∃ (a : Fin 1) (b : Fin 64), y = ix2 a b := ⟨_, _, eq_ix2 y⟩
  pointwise

theorem first_kg {arg : Memref sig .tc .vmem S1x64 .f32} {ha : arg.IsWhole} {x : Vec Ideal S1x64 .f32} {d : FVec Ideal S1x64 .f32}
    {i2 : ∀ a, (![0, 0] : Fin 2 → Nat) a + S1x64.size a ≤ S1x64.size a} (y : S1x64.Idx) :
    addf (shapeCast S1x64 (View.readAt (Elt Ideal) arg.view (Rect.unit (s := S1x64) ![0, 0] S1x64.size i2).toLoadRect (ha.unread x)) shapeCasts_S1x64_S1x64) d y
      = x y + d y := by
  rw [View.readAt_eq_ld, ha.read_unread, View.ld_unit_zero (S := S1x64) hz]
  obtain ⟨a, b, rfl⟩ : ∃ (a : Fin 1) (b : Fin 64), y = ix2 a b := ⟨_, _, eq_ix2 y⟩
  pointwise

theorem clear_kg (y : S1x64.Idx) : broadcast S1x64 (Scalar.ofBits (F := Ideal) .f32 0x00000000#32) y = 0 := by
  obtain ⟨a, b, rfl⟩ : ∃ (a : Fin 1) (b : Fin 64), y = ix2 a b := ⟨_, _, eq_ix2 y⟩
  pointwise

theorem skip_head {n : Nat} {inb : ∀ a, (![n, 0, 0] : Fin 3 → Nat) a + S1x256x128.size a ≤ S8x256x128.size a} {w : Vec Ideal S1x256x128 .f32}
    {L : List (View.Piece (Elt Ideal) S8x256x128 .f32)} {h : Fin 8} {k : Fin 256} {q : Fin 128} (hn : n + 1 ≤ h.val) :
    View.canon ((⟨Rect.unit (s := S8x256x128) ![n, 0, 0] S1x256x128.size inb, w⟩ : View.Piece (Elt Ideal) S8x256x128 .f32) :: L) (ix3 h k q) = View.canon L (ix3 h k q) :=
  canon_skip (S := S8x256x128) 0 (.inr hn)

theorem clear_head {i0 : ∀ a, (![0, 0, 0] : Fin 3 → Nat) a + S8x256x128.size a ≤ S8x256x128.size a} (h : Fin 8) (k : Fin 256) (q : Fin 128) :
    View.canon [(⟨Rect.unit (s := S8x256x128) ![0, 0, 0] S8x256x128.size i0, broadcast S8x256x128 (Scalar.ofBits (F := Ideal) .f32 0x00000000#32)⟩ :
      View.Piece (Elt Ideal) S8x256x128 .f32)] (ix3 h k q) = 0 := by
  rw [View.canon_cons_unit_zero (S := S8x256x128) (funext fun a => by fin_cases a <;> rfl)]
  pointwise

theorem read_head {arg : Memref sig .tc .vmem S8x256x128 .f32} {n : Nat} {hn : n < 8} {inb : ∀ a, (![n, 0, 0] : Fin 3 → Nat) a + S1x256x128.size a ≤ S8x256x128.size a}
    {L : List (View.Piece (Elt Ideal) S8x256x128 .f32)} {k : Fin 256} {q : Fin 128} :
    arg.view.readCov (Val := Elt Ideal) L (Rect.unit (s := S8x256x128) ![n, 0, 0] S1x256x128.size inb).toLoadRect (ix3 0 k q) = View.canon L (ix3 ⟨n, hn⟩ k q) := by
  rw [View.readCov_eq_canon']
  refine congrArg (View.canon L) (funext fun a => Fin.ext ?_)
  match a with
  | 0 => show n + 1 * 0 = n; omega
  | 1 => show 0 + 1 * k.val = k.val; omega
  | 2 => show 0 + 1 * q.val = q.val; omega

theorem skip_sink {n : Nat} {inb : ∀ a, (![n, 0] : Fin 2 → Nat) a + S1x128.size a ≤ S8x128.size a} {w : Vec Ideal S1x128 .f32}
    {L : List (View.Piece (Elt Ideal) S8x128 .f32)} {h : Fin 8} {q : Fin 128} (hn : n + 1 ≤ h.val) :
    View.canon ((⟨Rect.unit (s := S8x128) ![n, 0] S1x128.size inb, w⟩ : View.Piece (Elt Ideal) S8x128 .f32) :: L) (ix2 h q) = View.canon L (ix2 h q) :=
  canon_skip (S := S8x128) 0 (.inr hn)

theorem clear_sink {i0 : ∀ a, (![0, 0] : Fin 2 → Nat) a + S8x128.size a ≤ S8x128.size a} (h : Fin 8) (q : Fin 128) :
    View.canon [(⟨Rect.unit (s := S8x128) ![0, 0] S8x128.size i0, shapeCast S8x128 (broadcast S8x128 (Scalar.ofBits (F := Ideal) .f32 0x00000000#32)) shapeCasts_S8x128_S8x128⟩ :
      View.Piece (Elt Ideal) S8x128 .f32)] (ix2 h q) = 0 := by
  rw [View.canon_cons_unit_zero (S := S8x128) hz]
  pointwise

theorem read_sink {arg : Memref sig .tc .vmem S8x128 .f32} {n : Nat} {hn : n < 8} {inb : ∀ a, (![n, 0] : Fin 2 → Nat) a + S1x128.size a ≤ S8x128.size a}
    {L : List (View.Piece (Elt Ideal) S8x128 .f32)} {q : Fin 128} :
    arg.view.readCov (Val := Elt Ideal) L (Rect.unit (s := S8x128) ![n, 0] S1x128.size inb).toLoadRect (ix2 0 q) = View.canon L (ix2 ⟨n, hn⟩ q) := by
  rw [View.readCov_eq_canon']
  refine congrArg (View.canon L) (funext fun a => Fin.ext ?_)
  match a with
  | 0 => show n + 1 * 0 = n; omega
  | 1 => show 0 + 1 * q.val = q.val; omega

theorem clear_cols {i0 : ∀ a, (![0, 0] : Fin 2 → Nat) a + S128x128.size a ≤ S128x128.size a} (y : S128x128.Idx) :
    View.canon [(⟨Rect.unit (s := S128x128) ![0, 0] S128x128.size i0, shapeCast S128x128 (broadcast S128x128 (Scalar.ofBits (F := Ideal) .f32 0x00000000#32)) shapeCasts_S128x128_S128x128⟩ :
      View.Piece (Elt Ideal) S128x128 .f32)] y = 0 := by
  rw [View.canon_cons_unit_zero (S := S128x128) hz]
  obtain ⟨a, b, rfl⟩ : ∃ (a : Fin 128) (b : Fin 128), y = ix2 a b := ⟨_, _, eq_ix2 y⟩
  pointwise

theorem read_col0 {arg : Memref sig .tc .vmem S128x128 .f32} {inb : ∀ a, (![0, 0] : Fin 2 → Nat) a + S128x64.size a ≤ S128x128.size a}
    {i0 : ∀ a, (![0, 0] : Fin 2 → Nat) a + S128x128.size a ≤ S128x128.size a} :
    arg.view.readCov (Val := Elt Ideal) [(⟨Rect.unit (s := S128x128) ![0, 0] S128x128.size i0, shapeCast S128x128 (broadcast S128x128 (Scalar.ofBits (F := Ideal) .f32 0x00000000#32)) shapeCasts_S128x128_S128x128⟩ :
      View.Piece (Elt Ideal) S128x128 .f32)] (Rect.unit (s := S128x128) ![0, 0] S128x64.size inb).toLoadRect = fun _ => (0 : EReal) := by
  rw [View.readCov_eq_canon']
  exact funext fun y => clear_cols _

theorem read_col1 {arg : Memref sig .tc .vmem S128x128 .f32} {inb : ∀ a, (![0, 64] : Fin 2 → Nat) a + S128x64.size a ≤ S128x128.size a}
    {i0 : ∀ a, (![0, 0] : Fin 2 → Nat) a + S128x128.size a ≤ S128x128.size a} {i1 : ∀ a, (![0, 0] : Fin 2 → Nat) a + S128x64.size a ≤ S128x128.size a} {w : Vec Ideal S128x64 .f32} :
    arg.view.readCov (Val := Elt Ideal) [(⟨Rect.unit (s := S128x128) ![0, 0] S128x64.size i1, w⟩ : View.Piece (Elt Ideal) S128x128 .f32),
      (⟨Rect.unit (s := S128x128) ![0, 0] S128x128.size i0, shapeCast S128x128 (broadcast S128x128 (Scalar.ofBits (F := Ideal) .f32 0x00000000#32)) shapeCasts_S128x128_S128x128⟩ :
      View.Piece (Elt Ideal) S128x128 .f32)] (Rect.unit (s := S128x128) ![0, 64] S128x64.size inb).toLoadRect = fun _ => (0 : EReal) := by
  rw [View.readCov_eq_canon']
  exact funext fun y => (canon_skip (S := S128x128) 1 (.inr (by show 0 + 64 ≤ 64 + 1 * _; omega))).trans (clear_cols _)

/-- The queries' gain accumulated head after head. -/
theorem gain_sum (a : EReal) (f : Fin 8 → EReal) : ((((((((a + f 0) + f 1) + f 2) + f 3) + f 4) + f 5) + f 6) + f 7) = a + ∑ h, f h := by
  rw [Fin.sum_univ_eight]
  simp only [add_assoc]

end Cert.AttnIdeal.Hand

end
-- ==== Proof.AttnIn.lean ====
/-
  What a grid point of the attention's backward pass loads, as real numbers: point `t` handles block `15 − t`, from the last to
  the first. What the point computes from it is then the block's part of the gradients.
-/
module

public import proofs.«01_k».proof.Proof.AttnHost
public import proofs.«01_k».proof.Proof.AttnTiles

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnSpec Cert.AttnReal

/-- Where each window's block of point `t` begins, in blocks. -/
theorem idx_facts : ∀ t : Fin cfg0.N, win0_0.index t = ![15 - t.val, 0] ∧ win0_1.index t = ![15 - t.val, 16] ∧ win0_2.index t = ![14 - t.val, 16]
    ∧ win0_3.index t = ![15 - t.val, 17] ∧ win0_4.index t = ![14 - t.val, 17] ∧ win0_5.index t = ![15 - t.val, 0]
    ∧ win0_6.index t = ![0, 0] ∧ win0_7.index t = ![0, 0] ∧ win0_8.index t = ![0] ∧ win0_9.index t = ![0, 0, 0] := by decide +kernel

theorem first_facts : ∀ t : Fin cfg0.N, fst (grid0.coords t) = 1#1 ↔ 15 - t.val = 0 := by decide +kernel

section In
variable (m : (ℓ : Loc nD τ sig) → Buf (Elt Ideal) ℓ) (c : Dev nD) (t : Fin cfg0.N)

/-- The block of point `t`. -/
abbrev nb (t : Fin cfg0.N) : Fin 16 := ⟨15 - t.val, by omega⟩

theorem blk0 (r : Fin 128) (k : Fin 512) : X0_0 m c t (ix2 r k : S128x512.Idx) = A0 m c (ix2 (tok (nb t) r) ⟨k.val, by omega⟩) := by
  obtain ⟨e, -⟩ := idx_facts t
  rw [← V_q]
  unfold X0_0 Pipeline.Window.fill
  rw [dif_pos (moved0_0 t _)]
  unfold iblk
  rw [View.read_apply]
  refine congrArg (V m c main_v7) (funext fun a => Fin.ext ?_)
  match a with
  | ⟨0, _⟩ => show win0_0.index t 0 * 128 + 1 * r.val = _; rw [e]; show (15 - t.val) * 128 + 1 * r.val = 128 * (15 - t.val) + r.val; omega
  | ⟨1, _⟩ => show win0_0.index t 1 * 512 + 1 * k.val = _; rw [e]; show 0 * 512 + 1 * k.val = k.val; omega

theorem blk1 (r k : Fin 128) : iblk m c 1 t (ix2 r k : S128x128.Idx) = A0 m c (ix2 (tok (nb t) r) ⟨512 + k.val, by omega⟩) := by
  obtain ⟨-, e, -⟩ := idx_facts t
  rw [← V_k]
  unfold iblk
  rw [View.read_apply]
  refine congrArg (V m c main_v7) (funext fun a => Fin.ext ?_)
  match a with
  | ⟨0, _⟩ => show win0_1.index t 0 * 128 + 1 * r.val = _; rw [e]; show (15 - t.val) * 128 + 1 * r.val = 128 * (15 - t.val) + r.val; omega
  | ⟨1, _⟩ => show win0_1.index t 1 * 128 + 1 * k.val = _; rw [e]; show 16 * 128 + 1 * k.val = 2048 + k.val; omega

theorem blk2 (r k : Fin 128) : iblk m c 2 t (ix2 r k : S128x128.Idx) = A0 m c (ix2 (tok (prev (nb t)) r) ⟨512 + k.val, by omega⟩) := by
  obtain ⟨-, -, e, -⟩ := idx_facts t
  rw [← V_k]
  unfold iblk
  rw [View.read_apply]
  refine congrArg (V m c main_v7) (funext fun a => Fin.ext ?_)
  match a with
  | ⟨0, _⟩ => show win0_2.index t 0 * 128 + 1 * r.val = _; rw [e]; show (14 - t.val) * 128 + 1 * r.val = 128 * (15 - t.val - 1) + r.val; omega
  | ⟨1, _⟩ => show win0_2.index t 1 * 128 + 1 * k.val = _; rw [e]; show 16 * 128 + 1 * k.val = 2048 + k.val; omega

theorem blk3 (r k : Fin 128) : iblk m c 3 t (ix2 r k : S128x128.Idx) = A0 m c (ix2 (tok (nb t) r) ⟨640 + k.val, by omega⟩) := by
  obtain ⟨-, -, -, e, -⟩ := idx_facts t
  rw [← V_v]
  unfold iblk
  rw [View.read_apply]
  refine congrArg (V m c main_v7) (funext fun a => Fin.ext ?_)
  match a with
  | ⟨0, _⟩ => show win0_3.index t 0 * 128 + 1 * r.val = _; rw [e]; show (15 - t.val) * 128 + 1 * r.val = 128 * (15 - t.val) + r.val; omega
  | ⟨1, _⟩ => show win0_3.index t 1 * 128 + 1 * k.val = _; rw [e]; show 17 * 128 + 1 * k.val = 2176 + k.val; omega

theorem blk4 (r k : Fin 128) : iblk m c 4 t (ix2 r k : S128x128.Idx) = A0 m c (ix2 (tok (prev (nb t)) r) ⟨640 + k.val, by omega⟩) := by
  obtain ⟨-, -, -, -, e, -⟩ := idx_facts t
  rw [← V_v]
  unfold iblk
  rw [View.read_apply]
  refine congrArg (V m c main_v7) (funext fun a => Fin.ext ?_)
  match a with
  | ⟨0, _⟩ => show win0_4.index t 0 * 128 + 1 * r.val = _; rw [e]; show (14 - t.val) * 128 + 1 * r.val = 128 * (15 - t.val - 1) + r.val; omega
  | ⟨1, _⟩ => show win0_4.index t 1 * 128 + 1 * k.val = _; rw [e]; show 17 * 128 + 1 * k.val = 2176 + k.val; omega

theorem blk5 (r : Fin 128) (k : Fin 512) : iblk m c 5 t (ix2 r k : S128x512.Idx) = A1 m c (ix2 (tok (nb t) r) k) := by
  obtain ⟨-, -, -, -, -, e, -⟩ := idx_facts t
  unfold iblk
  rw [View.read_apply]
  refine congrArg (m ((c : Thread nD τ).loc main_arg1)) (funext fun a => Fin.ext ?_)
  match a with
  | ⟨0, _⟩ => show win0_5.index t 0 * 128 + 1 * r.val = _; rw [e]; show (15 - t.val) * 128 + 1 * r.val = 128 * (15 - t.val) + r.val; omega
  | ⟨1, _⟩ => show win0_5.index t 1 * 512 + 1 * k.val = _; rw [e]; show 0 * 512 + 1 * k.val = k.val; omega

theorem blk6 (d : Fin 64) : iblk m c 6 t (ix2 d 0 : S64x1.Idx) = A2 m c (ix1 d) := by
  obtain ⟨-, -, -, -, -, -, e, -⟩ := idx_facts t
  rw [← V_qg]
  unfold iblk
  rw [View.read_apply]
  refine congrArg (V m c main_v8) (funext fun a => Fin.ext ?_)
  match a with
  | ⟨0, _⟩ => show win0_6.index t 0 * 64 + 1 * d.val = _; rw [e]; show 0 * 64 + 1 * d.val = d.val; omega
  | ⟨1, _⟩ => show win0_6.index t 1 * 1 + 1 * 0 = _; rw [e]; rfl

theorem blk7 (d : Fin 64) : iblk m c 7 t (ix2 0 d : S1x64.Idx) = A3 m c (ix1 d) := by
  obtain ⟨-, -, -, -, -, -, -, e, -⟩ := idx_facts t
  rw [← V_kg]
  unfold iblk
  rw [View.read_apply]
  refine congrArg (V m c main_v9) (funext fun a => Fin.ext ?_)
  match a with
  | ⟨0, _⟩ => show win0_7.index t 0 * 1 + 1 * 0 = _; rw [e]; rfl
  | ⟨1, _⟩ => show win0_7.index t 1 * 64 + 1 * d.val = _; rw [e]; show 0 * 64 + 1 * d.val = d.val; omega

theorem blk8 (h : Fin 8) : iblk m c 8 t (ix1 h : S8.Idx) = A4 m c (ix1 h) := by
  obtain ⟨-, -, -, -, -, -, -, -, e, -⟩ := idx_facts t
  unfold iblk
  rw [View.read_apply]
  refine congrArg (m ((c : Thread nD τ).loc main_arg4)) (funext fun a => Fin.ext ?_)
  match a with
  | ⟨0, _⟩ => show win0_8.index t 0 * 8 + 1 * h.val = _; rw [e]; show 0 * 8 + 1 * h.val = h.val; omega

theorem blk9 (h : Fin 8) (k : Fin 256) (q : Fin 128) : iblk m c 9 t (ix3 h k q : S8x256x128.Idx) = if inWin q k then A5 m c (ix3 h q k) else ⊥ := by
  obtain ⟨-, -, -, -, -, -, -, -, -, e⟩ := idx_facts t
  rw [← V_b]
  unfold iblk
  rw [View.read_apply]
  refine congrArg (V m c main_v26) (funext fun a => Fin.ext ?_)
  match a with
  | ⟨0, _⟩ => show win0_9.index t 0 * 8 + 1 * h.val = _; rw [e]; show 0 * 8 + 1 * h.val = h.val; omega
  | ⟨1, _⟩ => show win0_9.index t 1 * 256 + 1 * k.val = _; rw [e]; show 0 * 256 + 1 * k.val = k.val; omega
  | ⟨2, _⟩ => show win0_9.index t 2 * 128 + 1 * q.val = _; rw [e]; show 0 * 128 + 1 * q.val = q.val; omega

/-- A key of the block itself, found in the pair of blocks. -/
theorem band_own (f : Fin 2048 → Fin 2 → Fin 64 → ℝ) (n : Fin 16) (j : Fin 2) (r : Fin 128) : band f n j (own r) = f (tok n r) j := by
  funext d
  unfold band
  rw [dif_neg (by show ¬(128 + r.val < 128); omega)]
  exact congrArg (fun x => f (tok n x) j d) (Fin.ext (by show 128 + r.val - 128 = r.val; omega))

/-- What point `t` loads. -/
abbrev P : Pt := pt (grid0.coords t) (X0_0 m c t) (iblk m c 1 t) (iblk m c 2 t) (iblk m c 3 t) (iblk m c 4 t) (iblk m c 5 t) (iblk m c 6 t)
  (iblk m c 7 t) (iblk m c 8 t) (iblk m c 9 t)

variable {m c} {I : Inp} (R : Reads m c I)

abbrev Kc (I : Inp) (n : Fin 16) (s k : Fin 128) : ℝ := I.X (tok n s) ⟨512 + k.val, by omega⟩
abbrev Vc (I : Inp) (n : Fin 16) (s k : Fin 128) : ℝ := I.X (tok n s) ⟨640 + k.val, by omega⟩

set_option maxHeartbeats 4000000 in
include R in
theorem holds : Holds (P m c t).first (P m c t).lq (P m c t).lo (P m c t).lk (P m c t).lkp (P m c t).lv (P m c t).lvp (P m c t).lqg (P m c t).lkg (P m c t).σ (P m c t).b
    (fun s k => I.X (tok (nb t) s) ⟨k.val, by omega⟩) (fun s k => I.G (tok (nb t) s) k) (Kc I (nb t)) (Kc I (prev (nb t))) (Vc I (nb t)) (Vc I (prev (nb t)))
    I.qg I.kg I.sk I.b inWin (mask (nb t)) where
  q s k := by show X0_0 m c t (ix2 s k : S128x512.Idx) = _; rw [blk0, R.x _ ⟨k.val, by omega⟩]
  o s k := by show iblk m c 5 t (ix2 s k : S128x512.Idx) = _; rw [blk5, R.g]
  k s k := by show iblk m c 1 t (ix2 s k : S128x128.Idx) = _; rw [blk1, R.x _ ⟨512 + k.val, by omega⟩]
  kp s k := by show iblk m c 2 t (ix2 s k : S128x128.Idx) = _; rw [blk2, R.x _ ⟨512 + k.val, by omega⟩]
  v s k := by show iblk m c 3 t (ix2 s k : S128x128.Idx) = _; rw [blk3, R.x _ ⟨640 + k.val, by omega⟩]
  vp s k := by show iblk m c 4 t (ix2 s k : S128x128.Idx) = _; rw [blk4, R.x _ ⟨640 + k.val, by omega⟩]
  qg d := by show iblk m c 6 t (ix2 d 0 : S64x1.Idx) = _; rw [blk6, R.qg]
  kg d := by show iblk m c 7 t (ix2 0 d : S1x64.Idx) = _; rw [blk7, R.kg]
  s h := by show iblk m c 8 t (ix1 h : S8.Idx) = _; rw [blk8, R.sk]
  b h k q := by show iblk m c 9 t (ix3 h k q : S8x256x128.Idx) = _; rw [blk9, R.b]
  m q k := and_congr Iff.rfl (not_congr (and_congr (first_facts t).symm Iff.rfl))

/-! ### What the point computes -/

include R

theorem ds_read (h : Fin 8) (k : Fin 256) (q : Fin 128) : (P m c t).ds h (ix2 k q) = (I.DS (nb t) h q k : EReal) := hDs_apply (holds t R) h k q
theorem dsk_read (h : Fin 8) (q : Fin 128) : (P m c t).dsk h (ix2 0 q) = (I.DSK (nb t) h q : EReal) := hDsk_apply (holds t R) h q
theorem dq_read (h : Fin 8) (d : Fin 64) (q : Fin 128) : (P m c t).dq h (ix2 d q) = (I.dQ (nb t) q h d : EReal) := hDq_apply (holds t R) h d q
theorem dqg_read (h : Fin 8) (d : Fin 64) (q : Fin 128) : (P m c t).dqg h (ix2 d q)
    = ((I.DQN (nb t) h q d * hat eps (I.Q (tok (nb t) q) h) d : ℝ) : EReal) := hDqg_apply (holds t R) h d q

theorem dk_read (j : Fin 2) (k : Fin 256) (d : Fin 64) : (P m c t).dk j (ix2 k d) = (heads4 I.DKN (nb t) j k d : EReal) := by
  refine (sum4_apply (hDk_apply (holds t R) _) (hDk_apply (holds t R) _) (hDk_apply (holds t R) _) (hDk_apply (holds t R) _) k d).trans ?_
  unfold heads4
  rw [Fin.sum_univ_four]
  rfl

theorem dv_read (j : Fin 2) (k : Fin 256) (d : Fin 64) : (P m c t).dv j (ix2 k d) = (heads4 I.DV (nb t) j k d : EReal) := by
  refine (sum4_apply (hDv_apply (holds t R) _) (hDv_apply (holds t R) _) (hDv_apply (holds t R) _) (hDv_apply (holds t R) _) k d).trans ?_
  unfold heads4
  rw [Fin.sum_univ_four]
  rfl

section Carried
variable {s : FVec Ideal S128x64 .f32} {j : Fin 2}

theorem dkT_read (hs : ∀ r d, s (ix2 r d) = (later I.DKN (nb t) j r d : EReal)) (r : Fin 128) (d : Fin 64) :
    (P m c t).dkT s j (ix2 r d) = (both I.DKN (nb t) j r d : EReal) := by
  unfold Pt.dkT lower
  pointwise [dk_read t R, hs]
  rw [← EReal.coe_add]
  rfl

theorem dvT_read (hs : ∀ r d, s (ix2 r d) = (later I.DV (nb t) j r d : EReal)) (r : Fin 128) (d : Fin 64) :
    (P m c t).dvT s j (ix2 r d) = (I.dV (nb t) r j d : EReal) := by
  unfold Pt.dvT lower
  pointwise [dv_read t R, hs]
  rw [← EReal.coe_add]
  rfl

theorem dkO_read (hs : ∀ r d, s (ix2 r d) = (later I.DKN (nb t) j r d : EReal)) (r : Fin 128) (d : Fin 64) :
    (P m c t).dkO s j (ix2 r d) = (I.dK (nb t) r j d : EReal) := by
  refine (dkB_apply (headK_apply (holds t R) j) (holds t R).kg (dkT_read t R hs) r d).trans ?_
  exact congrArg (fun x : Fin 64 → ℝ => ((nbwd eps x (fun e => both I.DKN (nb t) j r e * I.kg e) d : ℝ) : EReal)) (band_own I.K (nb t) j r)

theorem dkg_read (hs : ∀ r d, s (ix2 r d) = (later I.DKN (nb t) j r d : EReal)) (d : Fin 64) :
    (P m c t).dkg s j (ix2 0 d) = ((∑ r, both I.DKN (nb t) j r d * hat eps (I.K (tok (nb t) r) j) d : ℝ) : EReal) := by
  refine (dkgB_apply (headK_apply (holds t R) j) (dkT_read t R hs) d).trans ?_
  refine congrArg Real.toEReal (Finset.sum_congr rfl fun r _ => ?_)
  exact congrArg (fun x : Fin 64 → ℝ => both I.DKN (nb t) j r d * hat eps x d) (band_own I.K (nb t) j r)

end Carried

end In

end Cert.AttnIdeal.Hand

end
-- ==== Proof.AttnOutsA.lean ====
/-
  What one grid point of the attention's backward pass leaves, case A.
-/
module

public import proofs.«01_k».proof.Proof.AttnTiles
public import proofs.«01_k».proof.Proof.Gen.AttnIdeal.Value
public import Idealize.ShloMosaic.Lib.Pipeline.ValueKit.Tiles

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)
open Cert.AttnSpec Cert.AttnReal

set_option maxHeartbeats 4000000

section A
variable (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S64x1 .f32) (harg7 : arg7.IsWhole) (arg8 : Memref sig .tc .vmem S1x64 .f32) (harg8 : arg8.IsWhole) (arg9 : Memref sig .tc .smem S8 .f32) (harg9 : arg9.IsWhole) (arg10 : Memref sig .tc .vmem S8x256x128 .f32) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x256x128 .f32) (harg14 : arg14.IsWhole) (arg15 : Memref sig .tc .vmem S8x1 .f32) (harg15 : arg15.IsWhole) (arg16 : Memref sig .tc .vmem S64x1 .f32) (harg16 : arg16.IsWhole) (arg17 : Memref sig .tc .vmem S1x64 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S512x128 .f32) (harg20 : arg20.IsWhole) (arg21 : Memref sig .tc .vmem S8x128 .f32) (harg21 : arg21.IsWhole) (arg22 : Memref sig .tc .vmem S64x128 .f32) (harg22 : arg22.IsWhole) (hc0 : cond0_0 i) (hc1 : ¬cond0_1 i)
    (x0 : Vec Ideal S128x512 .f32) (x1 : Vec Ideal S128x128 .f32) (x2 : Vec Ideal S128x128 .f32) (x3 : Vec Ideal S128x128 .f32) (x4 : Vec Ideal S128x128 .f32) (x5 : Vec Ideal S128x512 .f32) (x6 : Vec Ideal S64x1 .f32) (x7 : Vec Ideal S1x64 .f32) (x8 : Vec Ideal S8 .f32) (x9 : Vec Ideal S8x256x128 .f32)

theorem outA_10 (t : Fin 128) (h : Fin 8) (d : Fin 64) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 t (qc h d))
    = (pt i x0 x1 x2 x3 x4 x5 x6 x7 x8 x9).dq h (ix2 d t) := by
  rw [← loads_eq i arg1 harg1 arg2 harg2 arg3 harg3 arg4 harg4 arg5 harg5 arg6 harg6 arg7 harg7 arg8 harg8 arg9 harg9 arg10 harg10]
  have key : ∀ h : Fin 8, shapeCast S64x128 (hDq (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) shapeCasts_S64x128_S64x128 (ix2 d t) = (loads i arg1 harg1 arg2 harg2 arg3 harg3 arg4 harg4 arg5 harg5 arg6 harg6 arg7 harg7 arg8 harg8 arg9 harg9 arg10 harg10 x0 x1 x2 x3 x4 x5 x6 x7 x8 x9).dq h (ix2 d t) := fun h => cast_row _ d t
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  rw [View.canon_unit_zero (S := S128x512) hz]
  show transpose S128x512 [1, 0] (kernelRun0_A.sl.v920 c i arg1 harg1 arg2 harg2 arg3 harg3 arg4 harg4 arg5 harg5 arg6 harg6 arg7 harg7 arg8 harg8 arg9 harg9 arg10 harg10 arg20 x0 x1 x2 x3 x4 x5 x6 x7 x8 x9) transposes_S512x128_p1_0_S128x512 (ix2 t (qc h d)) = _
  refine (turn_row _ _ _).trans ?_
  unfold kernelRun0_A.sl.v920
  rw [View.readCov_eq_canon']
  refine (congrArg (View.canon _) (show _ = ix2 (qc h d) t from ?_)).trans ?_
  · funext a
    match a with
    | 0 => exact Fin.ext (by show 0 + 1 * _ = _; omega)
    | 1 => exact Fin.ext (by show 0 + 1 * _ = _; omega)
  unfold kernelRun0_A.sl.HS2_8
  refine canon_rows (rest := []) h d t (fun h => (loads i arg1 harg1 arg2 harg2 arg3 harg3 arg4 harg4 arg5 harg5 arg6 harg6 arg7 harg7 arg8 harg8 arg9 harg9 arg10 harg10 x0 x1 x2 x3 x4 x5 x6 x7 x8 x9).dq h (ix2 d t)) ?_ ?_ ?_ ?_ ?_ ?_ ?_ ?_
  exacts [key 0, key 1, key 2, key 3, key 4, key 5, key 6, key 7]

theorem soutA_0 (t : Fin 128) (j : Fin 2) (d : Fin 64) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 t (kc j d))
    = (pt i x0 x1 x2 x3 x4 x5 x6 x7 x8 x9).dk j (ix2 (bef t) d) := by
  rw [← loads_eq i arg1 harg1 arg2 harg2 arg3 harg3 arg4 harg4 arg5 harg5 arg6 harg6 arg7 harg7 arg8 harg8 arg9 harg9 arg10 harg10]
  have key : ∀ j : Fin 2, shapeCast S128x64 (upper (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) shapeCasts_S128x64_S128x64 (ix2 t d) = (loads i arg1 harg1 arg2 harg2 arg3 harg3 arg4 harg4 arg5 harg5 arg6 harg6 arg7 harg7 arg8 harg8 arg9 harg9 arg10 harg10 x0 x1 x2 x3 x4 x5 x6 x7 x8 x9).dk j (ix2 (bef t) d) :=
    fun j => (cast_col _ _ _).trans (upper_apply _ _ _)
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  refine canon_cols t j d (fun j => (loads i arg1 harg1 arg2 harg2 arg3 harg3 arg4 harg4 arg5 harg5 arg6 harg6 arg7 harg7 arg8 harg8 arg9 harg9 arg10 harg10 x0 x1 x2 x3 x4 x5 x6 x7 x8 x9).dk j (ix2 (bef t) d)) ?_ ?_
  exacts [key 0, key 1]

theorem soutA_1 (t : Fin 128) (j : Fin 2) (d : Fin 64) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 t (kc j d))
    = (pt i x0 x1 x2 x3 x4 x5 x6 x7 x8 x9).dv j (ix2 (bef t) d) := by
  rw [← loads_eq i arg1 harg1 arg2 harg2 arg3 harg3 arg4 harg4 arg5 harg5 arg6 harg6 arg7 harg7 arg8 harg8 arg9 harg9 arg10 harg10]
  have key : ∀ j : Fin 2, shapeCast S128x64 (upper (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) j)) shapeCasts_S128x64_S128x64 (ix2 t d) = (loads i arg1 harg1 arg2 harg2 arg3 harg3 arg4 harg4 arg5 harg5 arg6 harg6 arg7 harg7 arg8 harg8 arg9 harg9 arg10 harg10 x0 x1 x2 x3 x4 x5 x6 x7 x8 x9).dv j (ix2 (bef t) d) :=
    fun j => (cast_col _ _ _).trans (upper_apply _ _ _)
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  refine canon_cols t j d (fun j => (loads i arg1 harg1 arg2 harg2 arg3 harg3 arg4 harg4 arg5 harg5 arg6 harg6 arg7 harg7 arg8 harg8 arg9 harg9 arg10 harg10 x0 x1 x2 x3 x4 x5 x6 x7 x8 x9).dv j (ix2 (bef t) d)) ?_ ?_
  exacts [key 0, key 1]

theorem outA_11 (t : Fin 128) (j : Fin 2) (d : Fin 64) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 t (kc j d))
    = (pt i x0 x1 x2 x3 x4 x5 x6 x7 x8 x9).dkO (fun _ => 0) j (ix2 t d) := by
  rw [← loads_eq i arg1 harg1 arg2 harg2 arg3 harg3 arg4 harg4 arg5 harg5 arg6 harg6 arg7 harg7 arg8 harg8 arg9 harg9 arg10 harg10]

  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dkO (fun _ => 0) j (ix2 t d)) ?_ ?_
  · exact congrArg (fun s => dkB (headK (ldk arg2 harg2 x1) (ldk arg3 harg3 x2) 0) (ldkg arg8 harg8 x7) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 0)) s) (ix2 t d)) read_col0
  · exact congrArg (fun s => dkB (headK (ldk arg2 harg2 x1) (ldk arg3 harg3 x2) 1) (ldkg arg8 harg8 x7) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 1)) s) (ix2 t d)) read_col1

theorem outA_12 (t : Fin 128) (j : Fin 2) (d : Fin 64) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 t (kc j d))
    = (pt i x0 x1 x2 x3 x4 x5 x6 x7 x8 x9).dvT (fun _ => 0) j (ix2 t d) := by
  rw [← loads_eq i arg1 harg1 arg2 harg2 arg3 harg3 arg4 harg4 arg5 harg5 arg6 harg6 arg7 harg7 arg8 harg8 arg9 harg9 arg10 harg10]

  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dvT (fun _ => 0) j (ix2 t d)) ?_ ?_
  · exact congrArg (fun s => addf (lower (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) 0)) s (ix2 t d)) read_col0
  · exact congrArg (fun s => addf (lower (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) 1)) s (ix2 t d)) read_col1

theorem outA_13 (h : Fin 8) (k : Fin 256) (q : Fin 128) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix3 h k q)
    = 0 + (pt i x0 x1 x2 x3 x4 x5 x6 x7 x8 x9).ds h (ix2 k q) := by
  rw [← loads_eq i arg1 harg1 arg2 harg2 arg3 harg3 arg4 harg4 arg5 harg5 arg6 harg6 arg7 harg7 arg8 harg8 arg9 harg9 arg10 harg10]
  show _ = 0 + (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 k q)
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  refine canon_heads h k q (fun h => 0 + (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 k q)) ?_ ?_ ?_ ?_ ?_ ?_ ?_ ?_
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 0) k q).trans (congrArg (· + _) ((read_head (hn := by decide)).trans ?_))

    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 1) k q).trans (congrArg (· + _) ((read_head (hn := by decide)).trans ?_))
    iterate 1 refine (skip_head (by decide)).trans ?_
    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 2) k q).trans (congrArg (· + _) ((read_head (hn := by decide)).trans ?_))
    iterate 2 refine (skip_head (by decide)).trans ?_
    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 3) k q).trans (congrArg (· + _) ((read_head (hn := by decide)).trans ?_))
    iterate 3 refine (skip_head (by decide)).trans ?_
    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 4) k q).trans (congrArg (· + _) ((read_head (hn := by decide)).trans ?_))
    iterate 4 refine (skip_head (by decide)).trans ?_
    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 5) k q).trans (congrArg (· + _) ((read_head (hn := by decide)).trans ?_))
    iterate 5 refine (skip_head (by decide)).trans ?_
    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 6) k q).trans (congrArg (· + _) ((read_head (hn := by decide)).trans ?_))
    iterate 6 refine (skip_head (by decide)).trans ?_
    exact clear_head _ _ _
  · refine (acc_head _ (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 7) k q).trans (congrArg (· + _) ((read_head (hn := by decide)).trans ?_))
    iterate 7 refine (skip_head (by decide)).trans ?_
    exact clear_head _ _ _

theorem soutA_3 (h : Fin 8) (q : Fin 128) : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 h q)
    = 0 + (pt i x0 x1 x2 x3 x4 x5 x6 x7 x8 x9).dsk h (ix2 0 q) := by
  rw [← loads_eq i arg1 harg1 arg2 harg2 arg3 harg3 arg4 harg4 arg5 harg5 arg6 harg6 arg7 harg7 arg8 harg8 arg9 harg9 arg10 harg10]
  show _ = 0 + (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 0 q)
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  refine canon_sinks h q (fun h => 0 + (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 0 q)) ?_ ?_ ?_ ?_ ?_ ?_ ?_ ?_
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 0) q).trans (congrArg (· + _) ((read_sink (hn := by decide)).trans ?_))

    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 1) q).trans (congrArg (· + _) ((read_sink (hn := by decide)).trans ?_))
    iterate 1 refine (skip_sink (by decide)).trans ?_
    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 2) q).trans (congrArg (· + _) ((read_sink (hn := by decide)).trans ?_))
    iterate 2 refine (skip_sink (by decide)).trans ?_
    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 3) q).trans (congrArg (· + _) ((read_sink (hn := by decide)).trans ?_))
    iterate 3 refine (skip_sink (by decide)).trans ?_
    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 4) q).trans (congrArg (· + _) ((read_sink (hn := by decide)).trans ?_))
    iterate 4 refine (skip_sink (by decide)).trans ?_
    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 5) q).trans (congrArg (· + _) ((read_sink (hn := by decide)).trans ?_))
    iterate 5 refine (skip_sink (by decide)).trans ?_
    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 6) q).trans (congrArg (· + _) ((read_sink (hn := by decide)).trans ?_))
    iterate 6 refine (skip_sink (by decide)).trans ?_
    exact clear_sink _ _
  · refine (acc_sink _ (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 7) q).trans (congrArg (· + _) ((read_sink (hn := by decide)).trans ?_))
    iterate 7 refine (skip_sink (by decide)).trans ?_
    exact clear_sink _ _

theorem outA_16 (d : Fin 64) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 0 d)
    = (0 + (pt i x0 x1 x2 x3 x4 x5 x6 x7 x8 x9).dkg (fun _ => 0) 0 (ix2 0 d)) + (pt i x0 x1 x2 x3 x4 x5 x6 x7 x8 x9).dkg (fun _ => 0) 1 (ix2 0 d) := by
  rw [← loads_eq i arg1 harg1 arg2 harg2 arg3 harg3 arg4 harg4 arg5 harg5 arg6 harg6 arg7 harg7 arg8 harg8 arg9 harg9 arg10 harg10]
  show _ = (0 + dkgB (headK (ldk arg2 harg2 x1) (ldk arg3 harg3 x2) 0) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 0)) (fun _ => (0 : EReal))) (ix2 0 d)) + dkgB (headK (ldk arg2 harg2 x1) (ldk arg3 harg3 x2) 1) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 1)) (fun _ => (0 : EReal))) (ix2 0 d)
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  rw [View.canon_cons_unit_zero (S := S1x64) hz]
  refine (acc_kg _).trans (congrArg₂ (· + ·) ((acc_kg _).trans (congrArg₂ (· + ·) (clear_kg _) ?_)) ?_)
  · exact congrArg (fun s => dkgB (headK (ldk arg2 harg2 x1) (ldk arg3 harg3 x2) 0) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 0)) s) (ix2 0 d)) read_col0
  · exact congrArg (fun s => dkgB (headK (ldk arg2 harg2 x1) (ldk arg3 harg3 x2) 1) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) 1)) s) (ix2 0 d)) read_col1

theorem soutA_4 (d : Fin 64) (q : Fin 128) : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 (ix2 d q)
    = 0 + ∑ h, (pt i x0 x1 x2 x3 x4 x5 x6 x7 x8 x9).dqg h (ix2 d q) := by
  rw [← loads_eq i arg1 harg1 arg2 harg2 arg3 harg3 arg4 harg4 arg5 harg5 arg6 harg6 arg7 harg7 arg8 harg8 arg9 harg9 arg10 harg10]
  show _ = 0 + ∑ h, (hDqg (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 d q)
  rw [← gain_sum 0 fun h => (hDqg (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 d q)]
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9)]
  unfold kernelRun0_A
  dsimp only
  exact (acc_whole _).trans (congrArg (· + _) ((acc_whole _).trans (congrArg (· + _) ((acc_whole _).trans (congrArg (· + _) ((acc_whole _).trans (congrArg (· + _)
    ((acc_whole _).trans (congrArg (· + _) ((acc_whole _).trans (congrArg (· + _) ((acc_whole _).trans (congrArg (· + _) ((acc_whole _).trans (congrArg (· + _) (clear_gain _))))))))))))))))

end A

end Cert.AttnIdeal.Hand

end
-- ==== Proof.AttnOutsB.lean ====
/-
  What one grid point of the attention's backward pass leaves, case B.
-/
module

public import proofs.«01_k».proof.Proof.AttnTiles
public import proofs.«01_k».proof.Proof.Gen.AttnIdeal.Value
public import Idealize.ShloMosaic.Lib.Pipeline.ValueKit.Tiles

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)
open Cert.AttnSpec Cert.AttnReal

set_option maxHeartbeats 1000000

section B
variable (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S64x1 .f32) (harg7 : arg7.IsWhole) (arg8 : Memref sig .tc .vmem S1x64 .f32) (harg8 : arg8.IsWhole) (arg9 : Memref sig .tc .smem S8 .f32) (harg9 : arg9.IsWhole) (arg10 : Memref sig .tc .vmem S8x256x128 .f32) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x256x128 .f32) (harg14 : arg14.IsWhole) (arg15 : Memref sig .tc .vmem S8x1 .f32) (harg15 : arg15.IsWhole) (arg16 : Memref sig .tc .vmem S64x1 .f32) (harg16 : arg16.IsWhole) (arg17 : Memref sig .tc .vmem S1x64 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S512x128 .f32) (harg20 : arg20.IsWhole) (arg21 : Memref sig .tc .vmem S8x128 .f32) (harg21 : arg21.IsWhole) (arg22 : Memref sig .tc .vmem S64x128 .f32) (harg22 : arg22.IsWhole) (hc0 : ¬cond0_0 i) (hc1 : ¬cond0_1 i)
    (x0 : Vec Ideal S128x512 .f32) (x1 : Vec Ideal S128x128 .f32) (x2 : Vec Ideal S128x128 .f32) (x3 : Vec Ideal S128x128 .f32) (x4 : Vec Ideal S128x128 .f32) (x5 : Vec Ideal S128x512 .f32) (x6 : Vec Ideal S64x1 .f32) (x7 : Vec Ideal S1x64 .f32) (x8 : Vec Ideal S8 .f32) (x9 : Vec Ideal S8x256x128 .f32) (xo13 : Vec Ideal S8x256x128 .f32) (xo16 : Vec Ideal S1x64 .f32) (xs0 : Vec Ideal S128x128 .f32) (xs1 : Vec Ideal S128x128 .f32) (xs3 : Vec Ideal S8x128 .f32) (xs4 : Vec Ideal S64x128 .f32)

theorem outB_10 (t : Fin 128) (h : Fin 8) (d : Fin 64) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (qc h d))
    = (pt i x0 x1 x2 x3 x4 x5 x6 x7 x8 x9).dq h (ix2 d t) := by
  rw [← loads_eq i arg1 harg1 arg2 harg2 arg3 harg3 arg4 harg4 arg5 harg5 arg6 harg6 arg7 harg7 arg8 harg8 arg9 harg9 arg10 harg10]
  have key : ∀ h : Fin 8, shapeCast S64x128 (hDq (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) shapeCasts_S64x128_S64x128 (ix2 d t) = (loads i arg1 harg1 arg2 harg2 arg3 harg3 arg4 harg4 arg5 harg5 arg6 harg6 arg7 harg7 arg8 harg8 arg9 harg9 arg10 harg10 x0 x1 x2 x3 x4 x5 x6 x7 x8 x9).dq h (ix2 d t) := fun h => cast_row _ d t
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  rw [View.canon_unit_zero (S := S128x512) hz]
  show transpose S128x512 [1, 0] (kernelRun0_B.sl.v920 c i arg1 harg1 arg2 harg2 arg3 harg3 arg4 harg4 arg5 harg5 arg6 harg6 arg7 harg7 arg8 harg8 arg9 harg9 arg10 harg10 arg20 x0 x1 x2 x3 x4 x5 x6 x7 x8 x9) transposes_S512x128_p1_0_S128x512 (ix2 t (qc h d)) = _
  refine (turn_row _ _ _).trans ?_
  unfold kernelRun0_B.sl.v920
  rw [View.readCov_eq_canon']
  refine (congrArg (View.canon _) (show _ = ix2 (qc h d) t from ?_)).trans ?_
  · funext a
    match a with
    | 0 => exact Fin.ext (by show 0 + 1 * _ = _; omega)
    | 1 => exact Fin.ext (by show 0 + 1 * _ = _; omega)
  unfold kernelRun0_B.sl.HS2_8
  refine canon_rows (rest := []) h d t (fun h => (loads i arg1 harg1 arg2 harg2 arg3 harg3 arg4 harg4 arg5 harg5 arg6 harg6 arg7 harg7 arg8 harg8 arg9 harg9 arg10 harg10 x0 x1 x2 x3 x4 x5 x6 x7 x8 x9).dq h (ix2 d t)) ?_ ?_ ?_ ?_ ?_ ?_ ?_ ?_
  exacts [key 0, key 1, key 2, key 3, key 4, key 5, key 6, key 7]

theorem outB_11 (t : Fin 128) (j : Fin 2) (d : Fin 64) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dkO (cols xs0 j) j (ix2 t d) := by
  rw [← loads_eq i arg1 harg1 arg2 harg2 arg3 harg3 arg4 harg4 arg5 harg5 arg6 harg6 arg7 harg7 arg8 harg8 arg9 harg9 arg10 harg10]
  have key : ∀ j : Fin 2, dkB (headK (ldk arg2 harg2 x1) (ldk arg3 harg3 x2) j) (ldkg arg8 harg8 x7) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) (View.readAt (Elt Ideal) arg18.view (Rect.unit (s := S128x128) ![0, 64 * j.val] S128x64.size (inb_k j)).toLoadRect (harg18.unread xs0))) (ix2 t d)
      = (loads i arg1 harg1 arg2 harg2 arg3 harg3 arg4 harg4 arg5 harg5 arg6 harg6 arg7 harg7 arg8 harg8 arg9 harg9 arg10 harg10 x0 x1 x2 x3 x4 x5 x6 x7 x8 x9).dkO (cols xs0 j) j (ix2 t d) := fun j => by
    rw [ldcols_eq]
    rfl
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dkO (cols xs0 j) j (ix2 t d)) ?_ ?_
  exacts [key 0, key 1]

theorem outB_12 (t : Fin 128) (j : Fin 2) (d : Fin 64) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dvT (cols xs1 j) j (ix2 t d) := by
  rw [← loads_eq i arg1 harg1 arg2 harg2 arg3 harg3 arg4 harg4 arg5 harg5 arg6 harg6 arg7 harg7 arg8 harg8 arg9 harg9 arg10 harg10]
  have key : ∀ j : Fin 2, addf (lower (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) j)) (View.readAt (Elt Ideal) arg19.view (Rect.unit (s := S128x128) ![0, 64 * j.val] S128x64.size (inb_k j)).toLoadRect (harg19.unread xs1)) (ix2 t d)
      = (loads i arg1 harg1 arg2 harg2 arg3 harg3 arg4 harg4 arg5 harg5 arg6 harg6 arg7 harg7 arg8 harg8 arg9 harg9 arg10 harg10 x0 x1 x2 x3 x4 x5 x6 x7 x8 x9).dvT (cols xs1 j) j (ix2 t d) := fun j => by
    rw [ldcols_eq]
    rfl
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dvT (cols xs1 j) j (ix2 t d)) ?_ ?_
  exacts [key 0, key 1]

theorem outB_13 (h : Fin 8) (k : Fin 256) (q : Fin 128) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix3 h k q)
    = xo13 (ix3 h k q) + (pt i x0 x1 x2 x3 x4 x5 x6 x7 x8 x9).ds h (ix2 k q) := by
  rw [← loads_eq i arg1 harg1 arg2 harg2 arg3 harg3 arg4 harg4 arg5 harg5 arg6 harg6 arg7 harg7 arg8 harg8 arg9 harg9 arg10 harg10]
  have key : ∀ h : Fin 8, shapeCast S1x256x128 (addf (shapeCast S256x128 (ldb arg14 harg14 xo13 h) shapeCasts_S1x256x128_S256x128) (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h))
      shapeCasts_S256x128_S1x256x128 (ix3 0 k q) = xo13 (ix3 h k q) + (loads i arg1 harg1 arg2 harg2 arg3 harg3 arg4 harg4 arg5 harg5 arg6 harg6 arg7 harg7 arg8 harg8 arg9 harg9 arg10 harg10 x0 x1 x2 x3 x4 x5 x6 x7 x8 x9).ds h (ix2 k q) := fun h => by
    rw [acc_head, ldb_eq]
    rfl
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  refine canon_heads (rest := []) h k q (fun h => xo13 (ix3 h k q) + (loads i arg1 harg1 arg2 harg2 arg3 harg3 arg4 harg4 arg5 harg5 arg6 harg6 arg7 harg7 arg8 harg8 arg9 harg9 arg10 harg10 x0 x1 x2 x3 x4 x5 x6 x7 x8 x9).ds h (ix2 k q)) ?_ ?_ ?_ ?_ ?_ ?_ ?_ ?_
  exacts [key 0, key 1, key 2, key 3, key 4, key 5, key 6, key 7]

theorem soutB_3 (h : Fin 8) (q : Fin 128) : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 h q)
    = xs3 (ix2 h q) + (pt i x0 x1 x2 x3 x4 x5 x6 x7 x8 x9).dsk h (ix2 0 q) := by
  rw [← loads_eq i arg1 harg1 arg2 harg2 arg3 harg3 arg4 harg4 arg5 harg5 arg6 harg6 arg7 harg7 arg8 harg8 arg9 harg9 arg10 harg10]
  have key : ∀ h : Fin 8, shapeCast S1x128 (addf (View.readAt (Elt Ideal) arg21.view (Rect.unit (s := S8x128) ![h.val, 0] S1x128.size (inb_r h)).toLoadRect (harg21.unread xs3))
      (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h)) shapeCasts_S1x128_S1x128 (ix2 0 q) = xs3 (ix2 h q) + (loads i arg1 harg1 arg2 harg2 arg3 harg3 arg4 harg4 arg5 harg5 arg6 harg6 arg7 harg7 arg8 harg8 arg9 harg9 arg10 harg10 x0 x1 x2 x3 x4 x5 x6 x7 x8 x9).dsk h (ix2 0 q) := fun h => by
    rw [acc_sink, ldrow_eq]
    rfl
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  refine canon_sinks (rest := []) h q (fun h => xs3 (ix2 h q) + (loads i arg1 harg1 arg2 harg2 arg3 harg3 arg4 harg4 arg5 harg5 arg6 harg6 arg7 harg7 arg8 harg8 arg9 harg9 arg10 harg10 x0 x1 x2 x3 x4 x5 x6 x7 x8 x9).dsk h (ix2 0 q)) ?_ ?_ ?_ ?_ ?_ ?_ ?_ ?_
  exacts [key 0, key 1, key 2, key 3, key 4, key 5, key 6, key 7]

theorem soutB_0 (t : Fin 128) (j : Fin 2) (d : Fin 64) : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dk j (ix2 (bef t) d) := by
  rw [← loads_eq i arg1 harg1 arg2 harg2 arg3 harg3 arg4 harg4 arg5 harg5 arg6 harg6 arg7 harg7 arg8 harg8 arg9 harg9 arg10 harg10]
  have key : ∀ j : Fin 2, shapeCast S128x64 (upper (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) shapeCasts_S128x64_S128x64 (ix2 t d) = (loads i arg1 harg1 arg2 harg2 arg3 harg3 arg4 harg4 arg5 harg5 arg6 harg6 arg7 harg7 arg8 harg8 arg9 harg9 arg10 harg10 x0 x1 x2 x3 x4 x5 x6 x7 x8 x9).dk j (ix2 (bef t) d) :=
    fun j => (cast_col _ _ _).trans (upper_apply _ _ _)
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dk j (ix2 (bef t) d)) ?_ ?_
  exacts [key 0, key 1]

theorem soutB_1 (t : Fin 128) (j : Fin 2) (d : Fin 64) : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dv j (ix2 (bef t) d) := by
  rw [← loads_eq i arg1 harg1 arg2 harg2 arg3 harg3 arg4 harg4 arg5 harg5 arg6 harg6 arg7 harg7 arg8 harg8 arg9 harg9 arg10 harg10]
  have key : ∀ j : Fin 2, shapeCast S128x64 (upper (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) j)) shapeCasts_S128x64_S128x64 (ix2 t d) = (loads i arg1 harg1 arg2 harg2 arg3 harg3 arg4 harg4 arg5 harg5 arg6 harg6 arg7 harg7 arg8 harg8 arg9 harg9 arg10 harg10 x0 x1 x2 x3 x4 x5 x6 x7 x8 x9).dv j (ix2 (bef t) d) :=
    fun j => (cast_col _ _ _).trans (upper_apply _ _ _)
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dv j (ix2 (bef t) d)) ?_ ?_
  exacts [key 0, key 1]

theorem outB_16 (d : Fin 64) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 0 d)
    = (xo16 (ix2 0 d) + (pt i x0 x1 x2 x3 x4 x5 x6 x7 x8 x9).dkg (cols xs0 0) 0 (ix2 0 d)) + (pt i x0 x1 x2 x3 x4 x5 x6 x7 x8 x9).dkg (cols xs0 1) 1 (ix2 0 d) := by
  rw [← loads_eq i arg1 harg1 arg2 harg2 arg3 harg3 arg4 harg4 arg5 harg5 arg6 harg6 arg7 harg7 arg8 harg8 arg9 harg9 arg10 harg10]
  have hk : ∀ j : Fin 2, dkgB (headK (ldk arg2 harg2 x1) (ldk arg3 harg3 x2) j) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) (View.readAt (Elt Ideal) arg18.view (Rect.unit (s := S128x128) ![0, 64 * j.val] S128x64.size (inb_k j)).toLoadRect (harg18.unread xs0))) = (loads i arg1 harg1 arg2 harg2 arg3 harg3 arg4 harg4 arg5 harg5 arg6 harg6 arg7 harg7 arg8 harg8 arg9 harg9 arg10 harg10 x0 x1 x2 x3 x4 x5 x6 x7 x8 x9).dkg (cols xs0 j) j := fun j => by
    rw [ldcols_eq]
    rfl
  rw [← hk 0, ← hk 1]
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  rw [View.canon_cons_unit_zero (S := S1x64) hz]
  exact (acc_kg _).trans (congrArg (· + _) (first_kg _))

theorem soutB_4 (d : Fin 64) (q : Fin 128) : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 d q)
    = xs4 (ix2 d q) + ∑ h, (pt i x0 x1 x2 x3 x4 x5 x6 x7 x8 x9).dqg h (ix2 d q) := by
  rw [← loads_eq i arg1 harg1 arg2 harg2 arg3 harg3 arg4 harg4 arg5 harg5 arg6 harg6 arg7 harg7 arg8 harg8 arg9 harg9 arg10 harg10]
  show _ = xs4 (ix2 d q) + ∑ h, (hDqg (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 d q)
  rw [← gain_sum (xs4 (ix2 d q)) fun h => (hDqg (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 d q)]
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_B
  dsimp only
  exact (acc_whole _).trans (congrArg (· + _) ((acc_whole _).trans (congrArg (· + _) ((acc_whole _).trans (congrArg (· + _) ((acc_whole _).trans (congrArg (· + _)
    ((acc_whole _).trans (congrArg (· + _) ((acc_whole _).trans (congrArg (· + _) ((acc_whole _).trans (congrArg (· + _) (acc_first _))))))))))))))

end B

end Cert.AttnIdeal.Hand

end
-- ==== Proof.AttnOutsC.lean ====
/-
  What one grid point of the attention's backward pass leaves, case C.
-/
module

public import proofs.«01_k».proof.Proof.AttnTiles
public import proofs.«01_k».proof.Proof.Gen.AttnIdeal.Value
public import Idealize.ShloMosaic.Lib.Pipeline.ValueKit.Tiles

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)
open Cert.AttnSpec Cert.AttnReal

set_option maxHeartbeats 1000000

section C
variable (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x512 .f32) (harg6 : arg6.IsWhole) (arg7 : Memref sig .tc .vmem S64x1 .f32) (harg7 : arg7.IsWhole) (arg8 : Memref sig .tc .vmem S1x64 .f32) (harg8 : arg8.IsWhole) (arg9 : Memref sig .tc .smem S8 .f32) (harg9 : arg9.IsWhole) (arg10 : Memref sig .tc .vmem S8x256x128 .f32) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S8x256x128 .f32) (harg14 : arg14.IsWhole) (arg15 : Memref sig .tc .vmem S8x1 .f32) (harg15 : arg15.IsWhole) (arg16 : Memref sig .tc .vmem S64x1 .f32) (harg16 : arg16.IsWhole) (arg17 : Memref sig .tc .vmem S1x64 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S512x128 .f32) (harg20 : arg20.IsWhole) (arg21 : Memref sig .tc .vmem S8x128 .f32) (harg21 : arg21.IsWhole) (arg22 : Memref sig .tc .vmem S64x128 .f32) (harg22 : arg22.IsWhole) (hc0 : ¬cond0_0 i) (hc1 : cond0_1 i)
    (x0 : Vec Ideal S128x512 .f32) (x1 : Vec Ideal S128x128 .f32) (x2 : Vec Ideal S128x128 .f32) (x3 : Vec Ideal S128x128 .f32) (x4 : Vec Ideal S128x128 .f32) (x5 : Vec Ideal S128x512 .f32) (x6 : Vec Ideal S64x1 .f32) (x7 : Vec Ideal S1x64 .f32) (x8 : Vec Ideal S8 .f32) (x9 : Vec Ideal S8x256x128 .f32) (xo13 : Vec Ideal S8x256x128 .f32) (xo16 : Vec Ideal S1x64 .f32) (xs0 : Vec Ideal S128x128 .f32) (xs1 : Vec Ideal S128x128 .f32) (xs3 : Vec Ideal S8x128 .f32) (xs4 : Vec Ideal S64x128 .f32)

theorem outC_10 (t : Fin 128) (h : Fin 8) (d : Fin 64) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (qc h d))
    = (pt i x0 x1 x2 x3 x4 x5 x6 x7 x8 x9).dq h (ix2 d t) := by
  rw [← loads_eq i arg1 harg1 arg2 harg2 arg3 harg3 arg4 harg4 arg5 harg5 arg6 harg6 arg7 harg7 arg8 harg8 arg9 harg9 arg10 harg10]
  have key : ∀ h : Fin 8, shapeCast S64x128 (hDq (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) shapeCasts_S64x128_S64x128 (ix2 d t) = (loads i arg1 harg1 arg2 harg2 arg3 harg3 arg4 harg4 arg5 harg5 arg6 harg6 arg7 harg7 arg8 harg8 arg9 harg9 arg10 harg10 x0 x1 x2 x3 x4 x5 x6 x7 x8 x9).dq h (ix2 d t) := fun h => cast_row _ d t
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  rw [View.canon_unit_zero (S := S128x512) hz]
  show transpose S128x512 [1, 0] (kernelRun0_C.sl.v920 c i arg1 harg1 arg2 harg2 arg3 harg3 arg4 harg4 arg5 harg5 arg6 harg6 arg7 harg7 arg8 harg8 arg9 harg9 arg10 harg10 arg20 x0 x1 x2 x3 x4 x5 x6 x7 x8 x9) transposes_S512x128_p1_0_S128x512 (ix2 t (qc h d)) = _
  refine (turn_row _ _ _).trans ?_
  unfold kernelRun0_C.sl.v920
  rw [View.readCov_eq_canon']
  refine (congrArg (View.canon _) (show _ = ix2 (qc h d) t from ?_)).trans ?_
  · funext a
    match a with
    | 0 => exact Fin.ext (by show 0 + 1 * _ = _; omega)
    | 1 => exact Fin.ext (by show 0 + 1 * _ = _; omega)
  unfold kernelRun0_C.sl.HS2_8
  refine canon_rows (rest := []) h d t (fun h => (loads i arg1 harg1 arg2 harg2 arg3 harg3 arg4 harg4 arg5 harg5 arg6 harg6 arg7 harg7 arg8 harg8 arg9 harg9 arg10 harg10 x0 x1 x2 x3 x4 x5 x6 x7 x8 x9).dq h (ix2 d t)) ?_ ?_ ?_ ?_ ?_ ?_ ?_ ?_
  exacts [key 0, key 1, key 2, key 3, key 4, key 5, key 6, key 7]

theorem outC_11 (t : Fin 128) (j : Fin 2) (d : Fin 64) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dkO (cols xs0 j) j (ix2 t d) := by
  rw [← loads_eq i arg1 harg1 arg2 harg2 arg3 harg3 arg4 harg4 arg5 harg5 arg6 harg6 arg7 harg7 arg8 harg8 arg9 harg9 arg10 harg10]
  have key : ∀ j : Fin 2, dkB (headK (ldk arg2 harg2 x1) (ldk arg3 harg3 x2) j) (ldkg arg8 harg8 x7) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) (View.readAt (Elt Ideal) arg18.view (Rect.unit (s := S128x128) ![0, 64 * j.val] S128x64.size (inb_k j)).toLoadRect (harg18.unread xs0))) (ix2 t d)
      = (loads i arg1 harg1 arg2 harg2 arg3 harg3 arg4 harg4 arg5 harg5 arg6 harg6 arg7 harg7 arg8 harg8 arg9 harg9 arg10 harg10 x0 x1 x2 x3 x4 x5 x6 x7 x8 x9).dkO (cols xs0 j) j (ix2 t d) := fun j => by
    rw [ldcols_eq]
    rfl
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dkO (cols xs0 j) j (ix2 t d)) ?_ ?_
  exacts [key 0, key 1]

theorem outC_12 (t : Fin 128) (j : Fin 2) (d : Fin 64) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dvT (cols xs1 j) j (ix2 t d) := by
  rw [← loads_eq i arg1 harg1 arg2 harg2 arg3 harg3 arg4 harg4 arg5 harg5 arg6 harg6 arg7 harg7 arg8 harg8 arg9 harg9 arg10 harg10]
  have key : ∀ j : Fin 2, addf (lower (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) j)) (View.readAt (Elt Ideal) arg19.view (Rect.unit (s := S128x128) ![0, 64 * j.val] S128x64.size (inb_k j)).toLoadRect (harg19.unread xs1)) (ix2 t d)
      = (loads i arg1 harg1 arg2 harg2 arg3 harg3 arg4 harg4 arg5 harg5 arg6 harg6 arg7 harg7 arg8 harg8 arg9 harg9 arg10 harg10 x0 x1 x2 x3 x4 x5 x6 x7 x8 x9).dvT (cols xs1 j) j (ix2 t d) := fun j => by
    rw [ldcols_eq]
    rfl
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dvT (cols xs1 j) j (ix2 t d)) ?_ ?_
  exacts [key 0, key 1]

theorem outC_13 (h : Fin 8) (k : Fin 256) (q : Fin 128) : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix3 h k q)
    = xo13 (ix3 h k q) + (pt i x0 x1 x2 x3 x4 x5 x6 x7 x8 x9).ds h (ix2 k q) := by
  rw [← loads_eq i arg1 harg1 arg2 harg2 arg3 harg3 arg4 harg4 arg5 harg5 arg6 harg6 arg7 harg7 arg8 harg8 arg9 harg9 arg10 harg10]
  have key : ∀ h : Fin 8, shapeCast S1x256x128 (addf (shapeCast S256x128 (ldb arg14 harg14 xo13 h) shapeCasts_S1x256x128_S256x128) (hDs (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h))
      shapeCasts_S256x128_S1x256x128 (ix3 0 k q) = xo13 (ix3 h k q) + (loads i arg1 harg1 arg2 harg2 arg3 harg3 arg4 harg4 arg5 harg5 arg6 harg6 arg7 harg7 arg8 harg8 arg9 harg9 arg10 harg10 x0 x1 x2 x3 x4 x5 x6 x7 x8 x9).ds h (ix2 k q) := fun h => by
    rw [acc_head, ldb_eq]
    rfl
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine canon_heads (rest := []) h k q (fun h => xo13 (ix3 h k q) + (loads i arg1 harg1 arg2 harg2 arg3 harg3 arg4 harg4 arg5 harg5 arg6 harg6 arg7 harg7 arg8 harg8 arg9 harg9 arg10 harg10 x0 x1 x2 x3 x4 x5 x6 x7 x8 x9).ds h (ix2 k q)) ?_ ?_ ?_ ?_ ?_ ?_ ?_ ?_
  exacts [key 0, key 1, key 2, key 3, key 4, key 5, key 6, key 7]

theorem soutC_3 (h : Fin 8) (q : Fin 128) : sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 h q)
    = xs3 (ix2 h q) + (pt i x0 x1 x2 x3 x4 x5 x6 x7 x8 x9).dsk h (ix2 0 q) := by
  rw [← loads_eq i arg1 harg1 arg2 harg2 arg3 harg3 arg4 harg4 arg5 harg5 arg6 harg6 arg7 harg7 arg8 harg8 arg9 harg9 arg10 harg10]
  have key : ∀ h : Fin 8, shapeCast S1x128 (addf (View.readAt (Elt Ideal) arg21.view (Rect.unit (s := S8x128) ![h.val, 0] S1x128.size (inb_r h)).toLoadRect (harg21.unread xs3))
      (hDsk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h)) shapeCasts_S1x128_S1x128 (ix2 0 q) = xs3 (ix2 h q) + (loads i arg1 harg1 arg2 harg2 arg3 harg3 arg4 harg4 arg5 harg5 arg6 harg6 arg7 harg7 arg8 harg8 arg9 harg9 arg10 harg10 x0 x1 x2 x3 x4 x5 x6 x7 x8 x9).dsk h (ix2 0 q) := fun h => by
    rw [acc_sink, ldrow_eq]
    rfl
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine canon_sinks (rest := []) h q (fun h => xs3 (ix2 h q) + (loads i arg1 harg1 arg2 harg2 arg3 harg3 arg4 harg4 arg5 harg5 arg6 harg6 arg7 harg7 arg8 harg8 arg9 harg9 arg10 harg10 x0 x1 x2 x3 x4 x5 x6 x7 x8 x9).dsk h (ix2 0 q)) ?_ ?_ ?_ ?_ ?_ ?_ ?_ ?_
  exacts [key 0, key 1, key 2, key 3, key 4, key 5, key 6, key 7]

theorem soutC_0 (t : Fin 128) (j : Fin 2) (d : Fin 64) : sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dk j (ix2 (bef t) d) := by
  rw [← loads_eq i arg1 harg1 arg2 harg2 arg3 harg3 arg4 harg4 arg5 harg5 arg6 harg6 arg7 harg7 arg8 harg8 arg9 harg9 arg10 harg10]
  have key : ∀ j : Fin 2, shapeCast S128x64 (upper (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) shapeCasts_S128x64_S128x64 (ix2 t d) = (loads i arg1 harg1 arg2 harg2 arg3 harg3 arg4 harg4 arg5 harg5 arg6 harg6 arg7 harg7 arg8 harg8 arg9 harg9 arg10 harg10 x0 x1 x2 x3 x4 x5 x6 x7 x8 x9).dk j (ix2 (bef t) d) :=
    fun j => (cast_col _ _ _).trans (upper_apply _ _ _)
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dk j (ix2 (bef t) d)) ?_ ?_
  exacts [key 0, key 1]

theorem soutC_1 (t : Fin 128) (j : Fin 2) (d : Fin 64) : sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 t (kc j d))
    = (pt i x0 x1 x2 x3 x4 x5 x6 x7 x8 x9).dv j (ix2 (bef t) d) := by
  rw [← loads_eq i arg1 harg1 arg2 harg2 arg3 harg3 arg4 harg4 arg5 harg5 arg6 harg6 arg7 harg7 arg8 harg8 arg9 harg9 arg10 harg10]
  have key : ∀ j : Fin 2, shapeCast S128x64 (upper (kvDv (fst i) (ldq arg1 harg1 x0) (ldq arg6 harg6 x5) (ldk arg2 harg2 x1) (ldk arg3 harg3 x2) (ldqg arg7 harg7 x6) (ldkg arg8 harg8 x7) (lds arg9 harg9 x8) (ldb arg10 harg10 x9) j)) shapeCasts_S128x64_S128x64 (ix2 t d) = (loads i arg1 harg1 arg2 harg2 arg3 harg3 arg4 harg4 arg5 harg5 arg6 harg6 arg7 harg7 arg8 harg8 arg9 harg9 arg10 harg10 x0 x1 x2 x3 x4 x5 x6 x7 x8 x9).dv j (ix2 (bef t) d) :=
    fun j => (cast_col _ _ _).trans (upper_apply _ _ _)
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine canon_cols (rest := []) t j d (fun j => (loads i arg1 harg1 arg2 harg2 arg3 harg3 arg4 harg4 arg5 harg5 arg6 harg6 arg7 harg7 arg8 harg8 arg9 harg9 arg10 harg10 x0 x1 x2 x3 x4 x5 x6 x7 x8 x9).dv j (ix2 (bef t) d)) ?_ ?_
  exacts [key 0, key 1]

theorem outC_16 (d : Fin 64) : out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 0 d)
    = (xo16 (ix2 0 d) + (pt i x0 x1 x2 x3 x4 x5 x6 x7 x8 x9).dkg (cols xs0 0) 0 (ix2 0 d)) + (pt i x0 x1 x2 x3 x4 x5 x6 x7 x8 x9).dkg (cols xs0 1) 1 (ix2 0 d) := by
  rw [← loads_eq i arg1 harg1 arg2 harg2 arg3 harg3 arg4 harg4 arg5 harg5 arg6 harg6 arg7 harg7 arg8 harg8 arg9 harg9 arg10 harg10]
  have hk : ∀ j : Fin 2, dkgB (headK (ldk arg2 harg2 x1) (ldk arg3 harg3 x2) j) (addf (lower (kvDk (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) j)) (View.readAt (Elt Ideal) arg18.view (Rect.unit (s := S128x128) ![0, 64 * j.val] S128x64.size (inb_k j)).toLoadRect (harg18.unread xs0))) = (loads i arg1 harg1 arg2 harg2 arg3 harg3 arg4 harg4 arg5 harg5 arg6 harg6 arg7 harg7 arg8 harg8 arg9 harg9 arg10 harg10 x0 x1 x2 x3 x4 x5 x6 x7 x8 x9).dkg (cols xs0 j) j := fun j => by
    rw [ldcols_eq]
    rfl
  rw [← hk 0, ← hk 1]
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  rw [View.canon_cons_unit_zero (S := S1x64) hz]
  exact (acc_kg _).trans (congrArg (· + _) (first_kg _))

theorem soutC_4 (d : Fin 64) (q : Fin 128) : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 d q)
    = xs4 (ix2 d q) + ∑ h, (pt i x0 x1 x2 x3 x4 x5 x6 x7 x8 x9).dqg h (ix2 d q) := by
  rw [← loads_eq i arg1 harg1 arg2 harg2 arg3 harg3 arg4 harg4 arg5 harg5 arg6 harg6 arg7 harg7 arg8 harg8 arg9 harg9 arg10 harg10]
  show _ = xs4 (ix2 d q) + ∑ h, (hDqg (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 d q)
  rw [← gain_sum (xs4 (ix2 d q)) fun h => (hDqg (fst i) (ldq arg1 harg1 x0) (ldq arg6 harg6 x5) (ldk arg2 harg2 x1) (ldk arg3 harg3 x2) (ldk arg4 harg4 x3) (ldk arg5 harg5 x4) (ldqg arg7 harg7 x6) (ldkg arg8 harg8 x7) (lds arg9 harg9 x8) (ldb arg10 harg10 x9) h) (ix2 d q)]
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  exact (acc_whole _).trans (congrArg (· + _) ((acc_whole _).trans (congrArg (· + _) ((acc_whole _).trans (congrArg (· + _) ((acc_whole _).trans (congrArg (· + _)
    ((acc_whole _).trans (congrArg (· + _) ((acc_whole _).trans (congrArg (· + _) ((acc_whole _).trans (congrArg (· + _) (acc_first _))))))))))))))

theorem outC_14 (h : Fin 8) : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 h 0)
    = ∑ q, sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 h q) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  rw [View.canon_unit_zero (S := S8x1) hz]
  refine (lanes_sink _ _).trans (Finset.sum_congr rfl fun q _ => ?_)
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine (congrFun (View.readCov_eq_canon' _ _ _) _).trans ?_
  refine congrArg (View.canon _) (funext fun a => Fin.ext ?_)
  match a with
  | 0 => exact (Nat.zero_add _).trans (Nat.one_mul _)
  | 1 => exact (Nat.zero_add _).trans (Nat.one_mul _)

theorem outC_15 (d : Fin 64) : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 d 0)
    = ∑ q, sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4 (ix2 d q) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  rw [View.canon_unit_zero (S := S64x1) hz]
  refine (lanes_gain _ _).trans (Finset.sum_congr rfl fun q _ => ?_)
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 xo13 xo16 xs0 xs1 xs3 xs4)]
  unfold kernelRun0_C
  dsimp only
  refine (congrFun (View.readCov_eq_canon' _ _ _) _).trans ?_
  refine congrArg (View.canon _) (funext fun a => Fin.ext ?_)
  match a with
  | 0 => exact (Nat.zero_add _).trans (Nat.one_mul _)
  | 1 => exact (Nat.zero_add _).trans (Nat.one_mul _)

end C

end Cert.AttnIdeal.Hand

end
-- ==== Proof.AttnAcc.lean ====
/-
  The grid of the attention's backward pass, point after point. What a point leaves in its windows and in its carried buffers is
  the block's gradients and the sums over the blocks done so far; the last point's sums are over all blocks.
-/
module

public import proofs.«01_k».proof.Proof.AttnIn
public import proofs.«01_k».proof.Proof.AttnOutsA
public import proofs.«01_k».proof.Proof.AttnOutsB
public import proofs.«01_k».proof.Proof.AttnOutsC

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnSpec Cert.AttnReal

/-- One point's step: what it leaves, from what it loads (`p`) and what it found (`a…`). -/
structure Step (p : Pt) (a13 : Vec Ideal S8x256x128 .f32) (a16 : Vec Ideal S1x64 .f32) (a0 a1 : Vec Ideal S128x128 .f32) (a3 : Vec Ideal S8x128 .f32)
    (a4 : Vec Ideal S64x128 .f32) (o10 : Vec Ideal S128x512 .f32) (o11 o12 : Vec Ideal S128x128 .f32) (o13 : Vec Ideal S8x256x128 .f32) (o16 : Vec Ideal S1x64 .f32)
    (s0 s1 : Vec Ideal S128x128 .f32) (s3 : Vec Ideal S8x128 .f32) (s4 : Vec Ideal S64x128 .f32) : Prop where
  q : ∀ r h d, o10 (ix2 r (qc h d)) = p.dq h (ix2 d r)
  k : ∀ r j d, o11 (ix2 r (kc j d)) = p.dkO (cols a0 j) j (ix2 r d)
  v : ∀ r j d, o12 (ix2 r (kc j d)) = p.dvT (cols a1 j) j (ix2 r d)
  b : ∀ h k q, o13 (ix3 h k q) = a13 (ix3 h k q) + p.ds h (ix2 k q)
  g : ∀ d, o16 (ix2 0 d) = (a16 (ix2 0 d) + p.dkg (cols a0 0) 0 (ix2 0 d)) + p.dkg (cols a0 1) 1 (ix2 0 d)
  ck : ∀ r j d, s0 (ix2 r (kc j d)) = p.dk j (ix2 (bef r) d)
  cv : ∀ r j d, s1 (ix2 r (kc j d)) = p.dv j (ix2 (bef r) d)
  cs : ∀ h q, s3 (ix2 h q) = a3 (ix2 h q) + p.dsk h (ix2 0 q)
  cg : ∀ d q, s4 (ix2 d q) = a4 (ix2 d q) + ∑ h, p.dqg h (ix2 d q)

/-- The real numbers a point at block `n` finds: the sums `S` so far, and what the block after left for this block's keys. -/
structure Found (I : Inp) (n : Fin 16) (S : (Fin 16 → ℝ) → ℝ) (a13 : Vec Ideal S8x256x128 .f32) (a16 : Vec Ideal S1x64 .f32) (a0 a1 : Vec Ideal S128x128 .f32)
    (a3 : Vec Ideal S8x128 .f32) (a4 : Vec Ideal S64x128 .f32) : Prop where
  b : ∀ h k q, a13 (ix3 h k q) = (S (fun i => I.DS i h q k) : EReal)
  g : ∀ d, a16 (ix2 0 d) = (S (fun i => I.dKGb i d) : EReal)
  ck : ∀ r j d, a0 (ix2 r (kc j d)) = (later I.DKN n j r d : EReal)
  cv : ∀ r j d, a1 (ix2 r (kc j d)) = (later I.DV n j r d : EReal)
  cs : ∀ h q, a3 (ix2 h q) = (S (fun i => I.DSK i h q) : EReal)
  cg : ∀ d q, a4 (ix2 d q) = (S (fun i => ∑ h, I.DQN i h q d * hat eps (I.Q (tok i q) h) d) : EReal)

/-- The sum over the blocks down to block `15 − t`. -/
def sofar (t : ℕ) (f : Fin 16 → ℝ) : ℝ := ∑ i ∈ Finset.range (t + 1), f ⟨15 - i, by omega⟩

/-- The real numbers a point leaves. -/
structure Left (I : Inp) (t : Fin cfg0.N) (o10 : Vec Ideal S128x512 .f32) (o11 o12 : Vec Ideal S128x128 .f32) (o13 : Vec Ideal S8x256x128 .f32) (o16 : Vec Ideal S1x64 .f32)
    (s0 s1 : Vec Ideal S128x128 .f32) (s3 : Vec Ideal S8x128 .f32) (s4 : Vec Ideal S64x128 .f32) : Prop where
  q : ∀ r h d, o10 (ix2 r (qc h d)) = (I.dQ (nb t) r h d : EReal)
  k : ∀ r j d, o11 (ix2 r (kc j d)) = (I.dK (nb t) r j d : EReal)
  v : ∀ r j d, o12 (ix2 r (kc j d)) = (I.dV (nb t) r j d : EReal)
  b : ∀ h k q, o13 (ix3 h k q) = (sofar t.val (fun i => I.DS i h q k) : EReal)
  g : ∀ d, o16 (ix2 0 d) = (sofar t.val (fun i => I.dKGb i d) : EReal)
  ck : ∀ r j d, s0 (ix2 r (kc j d)) = (heads4 I.DKN (nb t) j (befk r) d : EReal)
  cv : ∀ r j d, s1 (ix2 r (kc j d)) = (heads4 I.DV (nb t) j (befk r) d : EReal)
  cs : ∀ h q, s3 (ix2 h q) = (sofar t.val (fun i => I.DSK i h q) : EReal)
  cg : ∀ d q, s4 (ix2 d q) = (sofar t.val (fun i => ∑ h, I.DQN i h q d * hat eps (I.Q (tok i q) h) d) : EReal)

section Acc
variable {m : (ℓ : Loc nD τ sig) → Buf (Elt Ideal) ℓ} {c : Dev nD} {I : Inp} (R : Reads m c I) (t : Fin cfg0.N)

include R in
/-- From what a point found to what it leaves. -/
theorem left_of {a13 : Vec Ideal S8x256x128 .f32} {a16 : Vec Ideal S1x64 .f32} {a0 a1 : Vec Ideal S128x128 .f32} {a3 : Vec Ideal S8x128 .f32}
    {a4 : Vec Ideal S64x128 .f32} {o10 : Vec Ideal S128x512 .f32} {o11 o12 : Vec Ideal S128x128 .f32} {o13 : Vec Ideal S8x256x128 .f32} {o16 : Vec Ideal S1x64 .f32}
    {s0 s1 : Vec Ideal S128x128 .f32} {s3 : Vec Ideal S8x128 .f32} {s4 : Vec Ideal S64x128 .f32} {S : (Fin 16 → ℝ) → ℝ} (hS : ∀ f, S f + f (nb t) = sofar t.val f)
    (F : Found I (nb t) S a13 a16 a0 a1 a3 a4) (W : Step (P m c t) a13 a16 a0 a1 a3 a4 o10 o11 o12 o13 o16 s0 s1 s3 s4) :
    Left I t o10 o11 o12 o13 o16 s0 s1 s3 s4 where
  q r h d := (W.q r h d).trans (dq_read t R h d r)
  k r j d := (W.k r j d).trans (dkO_read t R (F.ck · j ·) r d)
  v r j d := (W.v r j d).trans (dvT_read t R (F.cv · j ·) r d)
  b h k q := by rw [W.b, F.b, ds_read t R, ← EReal.coe_add, ← hS]
  g d := by
    rw [W.g, F.g, dkg_read t R (F.ck · 0 ·), dkg_read t R (F.ck · 1 ·), ← EReal.coe_add, ← EReal.coe_add, ← hS, add_assoc]
    unfold Inp.dKGb
    simp only [Fin.sum_univ_two]
  ck r j d := (W.ck r j d).trans (dk_read t R j _ d)
  cv r j d := (W.cv r j d).trans (dv_read t R j _ d)
  cs h q := by rw [W.cs, F.cs, dsk_read t R, ← EReal.coe_add, ← hS]
  cg d q := by
    rw [W.cg, F.cg]
    simp only [dqg_read t R, AttnReal.sum]
    rw [← EReal.coe_add, ← hS]

/-- What the point before left is what the next finds. -/
theorem found_of {t : Fin cfg0.N} (h0 : t.val ≠ 0) (t' : Fin cfg0.N) (ht : t'.val = t.val - 1) {o10 : Vec Ideal S128x512 .f32} {o11 o12 : Vec Ideal S128x128 .f32} {o13 : Vec Ideal S8x256x128 .f32} {o16 : Vec Ideal S1x64 .f32}
    {s0 s1 : Vec Ideal S128x128 .f32} {s3 : Vec Ideal S8x128 .f32} {s4 : Vec Ideal S64x128 .f32} (L : Left I t' o10 o11 o12 o13 o16 s0 s1 s3 s4) :
    Found I (nb t) (sofar t'.val) o13 o16 s0 s1 s3 s4 := by
  have hN := lt_of_lt_of_eq t.isLt (show cfg0.N = 16 from N_0)
  have hl : (nb t).val + 1 < 16 := by show 15 - t.val + 1 < 16; omega
  have he : nb t' = ⟨(nb t).val + 1, hl⟩ := Fin.ext (by show 15 - t'.val = 15 - t.val + 1; omega)
  refine ⟨L.b, L.g, fun r j d => ?_, fun r j d => ?_, L.cs, L.cg⟩
  · rw [L.ck, he]; unfold later; rw [dif_pos hl]
  · rw [L.cv, he]; unfold later; rw [dif_pos hl]

/-- The first point finds cleared buffers. -/
theorem found_zero {t : Fin cfg0.N} (h0 : t.val = 0) : Found I (nb t) (fun _ => 0) (fun _ => 0) (fun _ => 0) (fun _ => 0) (fun _ => 0) (fun _ => 0) (fun _ => 0) := by
  have hl : ¬(nb t).val + 1 < 16 := by show ¬(15 - t.val + 1 < 16); omega
  refine ⟨fun _ _ _ => rfl, fun _ => rfl, fun r j d => ?_, fun r j d => ?_, fun _ _ => rfl, fun _ _ => rfl⟩ <;>
  · unfold later; rw [dif_neg hl]; rfl

variable (m c)

set_option maxHeartbeats 4000000 in
theorem stepA (h0 : t.val % 16 = 0) (h1 : ¬t.val % 16 = 15) : Step (P m c t) (fun _ => 0) (fun _ => 0) (fun _ => 0) (fun _ => 0) (fun _ => 0) (fun _ => 0)
    (outsAt0 m c t.val t.isLt).1 (outsAt0 m c t.val t.isLt).2.1 (outsAt0 m c t.val t.isLt).2.2.1 (outsAt0 m c t.val t.isLt).2.2.2.1 (outsAt0 m c t.val t.isLt).2.2.2.2.2.2.1
    (outsAt0 m c t.val t.isLt).2.2.2.2.2.2.2.1 (outsAt0 m c t.val t.isLt).2.2.2.2.2.2.2.2.1 (outsAt0 m c t.val t.isLt).2.2.2.2.2.2.2.2.2.1 (outsAt0 m c t.val t.isLt).2.2.2.2.2.2.2.2.2.2 := by
  rw [outsAt0_A m c t h0 h1]
  dsimp only
  refine ⟨fun r h d => ?_, fun r j d => ?_, fun r j d => ?_, fun h k q => ?_, fun d => ?_, fun r j d => ?_, fun r j d => ?_, fun h q => ?_, fun d q => ?_⟩
  · apply outA_10
  · apply outA_11
  · apply outA_12
  · apply outA_13
  · apply outA_16
  · apply soutA_0
  · apply soutA_1
  · apply soutA_3
  · apply soutA_4

/-- What the point before left. -/
abbrev was (t : Fin cfg0.N) := outsAt0 m c (t.val - 1) (Nat.lt_of_le_of_lt (Nat.sub_le _ _) t.isLt)

set_option maxHeartbeats 4000000 in
theorem stepB (h0 : ¬t.val % 16 = 0) (h1 : ¬t.val % 16 = 15) : Step (P m c t) (was m c t).2.2.2.1 (was m c t).2.2.2.2.2.2.1 (was m c t).2.2.2.2.2.2.2.1
    (was m c t).2.2.2.2.2.2.2.2.1 (was m c t).2.2.2.2.2.2.2.2.2.1 (was m c t).2.2.2.2.2.2.2.2.2.2
    (outsAt0 m c t.val t.isLt).1 (outsAt0 m c t.val t.isLt).2.1 (outsAt0 m c t.val t.isLt).2.2.1 (outsAt0 m c t.val t.isLt).2.2.2.1 (outsAt0 m c t.val t.isLt).2.2.2.2.2.2.1
    (outsAt0 m c t.val t.isLt).2.2.2.2.2.2.2.1 (outsAt0 m c t.val t.isLt).2.2.2.2.2.2.2.2.1 (outsAt0 m c t.val t.isLt).2.2.2.2.2.2.2.2.2.1 (outsAt0 m c t.val t.isLt).2.2.2.2.2.2.2.2.2.2 := by
  rw [outsAt0_B m c t h0 h1]
  dsimp only
  refine ⟨fun r h d => ?_, fun r j d => ?_, fun r j d => ?_, fun h k q => ?_, fun d => ?_, fun r j d => ?_, fun r j d => ?_, fun h q => ?_, fun d q => ?_⟩
  · apply outB_10
  · apply outB_11
  · apply outB_12
  · apply outB_13
  · apply outB_16
  · apply soutB_0
  · apply soutB_1
  · apply soutB_3
  · apply soutB_4

set_option maxHeartbeats 4000000 in
theorem stepC (h0 : ¬t.val % 16 = 0) (h1 : t.val % 16 = 15) : Step (P m c t) (was m c t).2.2.2.1 (was m c t).2.2.2.2.2.2.1 (was m c t).2.2.2.2.2.2.2.1
    (was m c t).2.2.2.2.2.2.2.2.1 (was m c t).2.2.2.2.2.2.2.2.2.1 (was m c t).2.2.2.2.2.2.2.2.2.2
    (outsAt0 m c t.val t.isLt).1 (outsAt0 m c t.val t.isLt).2.1 (outsAt0 m c t.val t.isLt).2.2.1 (outsAt0 m c t.val t.isLt).2.2.2.1 (outsAt0 m c t.val t.isLt).2.2.2.2.2.2.1
    (outsAt0 m c t.val t.isLt).2.2.2.2.2.2.2.1 (outsAt0 m c t.val t.isLt).2.2.2.2.2.2.2.2.1 (outsAt0 m c t.val t.isLt).2.2.2.2.2.2.2.2.2.1 (outsAt0 m c t.val t.isLt).2.2.2.2.2.2.2.2.2.2 := by
  rw [outsAt0_C m c t h0 h1]
  dsimp only
  refine ⟨fun r h d => ?_, fun r j d => ?_, fun r j d => ?_, fun h k q => ?_, fun d => ?_, fun r j d => ?_, fun r j d => ?_, fun h q => ?_, fun d q => ?_⟩
  · apply outC_10
  · apply outC_11
  · apply outC_12
  · apply outC_13
  · apply outC_16
  · apply soutC_0
  · apply soutC_1
  · apply soutC_3
  · apply soutC_4

set_option maxHeartbeats 4000000 in
/-- The last point also sums the carried rows over their lanes. -/
theorem stepC_lanes (h0 : ¬t.val % 16 = 0) (h1 : t.val % 16 = 15) :
    (∀ h, (outsAt0 m c t.val t.isLt).2.2.2.2.1 (ix2 h 0 : S8x1.Idx) = ∑ q, (outsAt0 m c t.val t.isLt).2.2.2.2.2.2.2.2.2.1 (ix2 h q : S8x128.Idx))
    ∧ ∀ d, (outsAt0 m c t.val t.isLt).2.2.2.2.2.1 (ix2 d 0 : S64x1.Idx) = ∑ q, (outsAt0 m c t.val t.isLt).2.2.2.2.2.2.2.2.2.2 (ix2 d q : S64x128.Idx) := by
  rw [outsAt0_C m c t h0 h1]
  dsimp only
  refine ⟨fun h => ?_, fun d => ?_⟩
  · apply outC_14
  · apply outC_15

variable {m c}

include R in
/-- What each point leaves, from the first on. -/
theorem left_all (n : ℕ) : ∀ (t : Fin cfg0.N) (_ : t.val = n), Left I t
    (outsAt0 m c t.val t.isLt).1 (outsAt0 m c t.val t.isLt).2.1 (outsAt0 m c t.val t.isLt).2.2.1 (outsAt0 m c t.val t.isLt).2.2.2.1 (outsAt0 m c t.val t.isLt).2.2.2.2.2.2.1
    (outsAt0 m c t.val t.isLt).2.2.2.2.2.2.2.1 (outsAt0 m c t.val t.isLt).2.2.2.2.2.2.2.2.1 (outsAt0 m c t.val t.isLt).2.2.2.2.2.2.2.2.2.1 (outsAt0 m c t.val t.isLt).2.2.2.2.2.2.2.2.2.2 := by
  induction n with
  | zero =>
    intro t ht
    refine left_of R t (S := fun _ => 0) (fun f => ?_) (found_zero ht) (stepA m c t (by omega) (by omega))
    unfold sofar
    rw [ht, Finset.sum_range_one, zero_add]
    exact congrArg f (Fin.ext (by show 15 - t.val = 15 - 0; omega))
  | succ n ih =>
    intro t ht
    have hN := lt_of_lt_of_eq t.isLt (show cfg0.N = 16 from N_0)
    have L := ih ⟨t.val - 1, Nat.lt_of_le_of_lt (Nat.sub_le _ _) t.isLt⟩ (by show t.val - 1 = n; omega)
    have F := found_of (t := t) (by omega) ⟨t.val - 1, Nat.lt_of_le_of_lt (Nat.sub_le _ _) t.isLt⟩ rfl L
    have hS : ∀ f, sofar (t.val - 1) f + f (nb t) = sofar t.val f := fun f => by
      unfold sofar
      rw [show t.val = t.val - 1 + 1 by omega, Finset.sum_range_succ _ (t.val - 1 + 1), show t.val - 1 + 1 - 1 + 1 = t.val - 1 + 1 by omega]
      exact congrArg (_ + f ·) (Fin.ext (by show 15 - t.val = 15 - (t.val - 1 + 1); omega))
    by_cases h1 : t.val % 16 = 15
    · exact left_of R t hS F (stepC m c t (by omega) h1)
    · exact left_of R t hS F (stepB m c t (by omega) h1)

end Acc

end Cert.AttnIdeal.Hand

end
-- ==== Proof.AttnFinal.lean ====
/-
  The arrays the attention's backward call leaves, as functions of the arguments' real numbers: every block's gradients of queries,
  keys and values where its tokens lie, and the sums over all blocks.
-/
module

public import proofs.«01_k».proof.Proof.AttnAcc
public import proofs.«01_k».proof.Proof.Gen.AttnIdeal.Value

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnSpec Cert.AttnReal

theorem out_facts : ∀ t : Fin cfg0.N, win0_10.index t = ![15 - t.val, 0] ∧ win0_11.index t = ![15 - t.val, 0] ∧ win0_12.index t = ![15 - t.val, 0]
    ∧ win0_13.index t = ![0, 0, 0] ∧ win0_14.index t = ![0, 0] ∧ win0_15.index t = ![0, 0] ∧ win0_16.index t = ![0, 0] := by decide +kernel

/-! ## The seven results -/

abbrev resQ (I : Inp) : Vec Ideal S2048x512 .f32 := fun i => (I.dQ (blk (i 0)) (pos (i 0)) (qhead (i 1)) (feat (i 1 : Fin 512)) : EReal)
abbrev resK (I : Inp) : Vec Ideal S2048x128 .f32 := fun i => (I.dK (blk (i 0)) (pos (i 0)) (khead (i 1)) (feat (i 1 : Fin 128)) : EReal)
abbrev resV (I : Inp) : Vec Ideal S2048x128 .f32 := fun i => (I.dV (blk (i 0)) (pos (i 0)) (khead (i 1)) (feat (i 1 : Fin 128)) : EReal)
abbrev resB (I : Inp) : Vec Ideal S8x256x128 .f32 := fun i => (I.dB (i 0) (i 1) (i 2) : EReal)
abbrev resS (I : Inp) : Vec Ideal S8x1 .f32 := fun i => (I.dS (i 0) : EReal)
abbrev resQG (I : Inp) : Vec Ideal S64x1 .f32 := fun i => (I.dQG (i 0) : EReal)
abbrev resKG (I : Inp) : Vec Ideal S1x64 .f32 := fun i => (I.dKG (i 1) : EReal)

theorem blk_tok (n : Fin 16) (r : Fin 128) : blk (tok n r) = n := Fin.ext (by show (128 * n.val + r.val) / 128 = n.val; omega)
theorem pos_tok (n : Fin 16) (r : Fin 128) : pos (tok n r) = r := Fin.ext (by show (128 * n.val + r.val) % 128 = r.val; omega)
theorem qc_eq (k : Fin 512) : qc (qhead k) (feat k) = k := Fin.ext (by show 64 * (k.val / 64) + k.val % 64 = k.val; omega)
theorem kc_eq (k : Fin 128) : kc (khead k) (feat k) = k := Fin.ext (by show 64 * (k.val / 64) + k.val % 64 = k.val; omega)

theorem sofar_last {t : ℕ} (h : t = 15) (f : Fin 16 → ℝ) : sofar t f = ∑ n, f n := by subst h; exact sum_rev f

section Final
variable {m : (ℓ : Loc nD τ sig) → Buf (Elt Ideal) ℓ} {c : Dev nD} {I : Inp} (R : Reads m c I)

include R in
theorem final10 : (dats m 0 c).arrAt 10 cfg0.N = resQ I := by
  refine (dats m 0 c).arrAt_eq_of_cover 10 (resQ I) (fun t _ => ?_) fun (i : S2048x512.Idx) => ?_
  · rw [Value.flushed10]
    have e := (out_facts t).1
    refine funext fun (j : S128x512.Idx) => ?_
    obtain ⟨r, k, rfl⟩ : ∃ (r : Fin 128) (k : Fin 512), j = ix2 r k := ⟨_, _, eq_ix2 j⟩
    have hi : ((cfg0.win 10).blk t).view.emb (ix2 r k : S128x512.Idx) = (ix2 (tok (nb t) r) k : S2048x512.Idx) := by
      refine funext fun a => Fin.ext ?_
      match a with
      | ⟨0, _⟩ => show win0_10.index t 0 * 128 + 1 * r.val = 128 * (15 - t.val) + r.val; rw [e]; show (15 - t.val) * 128 + 1 * r.val = _; omega
      | ⟨1, _⟩ => show win0_10.index t 1 * 512 + 1 * k.val = k.val; rw [e]; show 0 * 512 + 1 * k.val = _; omega
    show (outsAt0 m c t.val t.isLt).1 (ix2 r k : S128x512.Idx) = resQ I (((cfg0.win 10).blk t).view.emb (ix2 r k : S128x512.Idx))
    rw [hi]
    show _ = (I.dQ (blk (tok (nb t) r)) (pos (tok (nb t) r)) (qhead k) (feat k) : EReal)
    rw [blk_tok, pos_tok, ← (left_all R _ t rfl).q r (qhead k) (feat k), qc_eq]
  · have h0 : (i 0).val < 2048 := (i 0).isLt
    have h1 : (i 1).val < 512 := (i 1).isLt
    obtain ⟨t, ht⟩ : ∃ t : Fin cfg0.N, t.val = 15 - (i 0).val / 128 := ⟨⟨15 - (i 0).val / 128, by rw [show cfg0.N = 16 from N_0]; omega⟩, rfl⟩
    refine ⟨t, flush0_10 t, ?_⟩
    have e := (out_facts t).1
    show i ∈ ((View.whole main_v27_0).slice (win0_10.rect t)).set
    rw [View.set_slice_whole, Rect.mem_set_unit]
    intro a
    match a with
    | ⟨0, _⟩ => show win0_10.index t 0 * 128 ≤ (i 0).val ∧ (i 0).val < win0_10.index t 0 * 128 + 128; rw [e]; show (15 - t.val) * 128 ≤ _ ∧ _ < (15 - t.val) * 128 + 128; omega
    | ⟨1, _⟩ => show win0_10.index t 1 * 512 ≤ (i 1).val ∧ (i 1).val < win0_10.index t 1 * 512 + 512; rw [e]; show 0 * 512 ≤ _ ∧ _ < 0 * 512 + 512; omega

include R in
theorem final11 : (dats m 0 c).arrAt 11 cfg0.N = resK I := by
  refine (dats m 0 c).arrAt_eq_of_cover 11 (resK I) (fun t _ => ?_) fun (i : S2048x128.Idx) => ?_
  · rw [Value.flushed11]
    have e := (out_facts t).2.1
    refine funext fun (j : S128x128.Idx) => ?_
    obtain ⟨r, k, rfl⟩ : ∃ (r : Fin 128) (k : Fin 128), j = ix2 r k := ⟨_, _, eq_ix2 j⟩
    have hi : ((cfg0.win 11).blk t).view.emb (ix2 r k : S128x128.Idx) = (ix2 (tok (nb t) r) k : S2048x128.Idx) := by
      refine funext fun a => Fin.ext ?_
      match a with
      | ⟨0, _⟩ => show win0_11.index t 0 * 128 + 1 * r.val = 128 * (15 - t.val) + r.val; rw [e]; show (15 - t.val) * 128 + 1 * r.val = _; omega
      | ⟨1, _⟩ => show win0_11.index t 1 * 128 + 1 * k.val = k.val; rw [e]; show 0 * 128 + 1 * k.val = _; omega
    show (outsAt0 m c t.val t.isLt).2.1 (ix2 r k : S128x128.Idx) = resK I (((cfg0.win 11).blk t).view.emb (ix2 r k : S128x128.Idx))
    rw [hi]
    show _ = (I.dK (blk (tok (nb t) r)) (pos (tok (nb t) r)) (khead k) (feat k) : EReal)
    rw [blk_tok, pos_tok, ← (left_all R _ t rfl).k r (khead k) (feat k), kc_eq]
  · have h0 : (i 0).val < 2048 := (i 0).isLt
    have h1 : (i 1).val < 128 := (i 1).isLt
    obtain ⟨t, ht⟩ : ∃ t : Fin cfg0.N, t.val = 15 - (i 0).val / 128 := ⟨⟨15 - (i 0).val / 128, by rw [show cfg0.N = 16 from N_0]; omega⟩, rfl⟩
    refine ⟨t, flush0_11 t, ?_⟩
    have e := (out_facts t).2.1
    show i ∈ ((View.whole main_v27_1).slice (win0_11.rect t)).set
    rw [View.set_slice_whole, Rect.mem_set_unit]
    intro a
    match a with
    | ⟨0, _⟩ => show win0_11.index t 0 * 128 ≤ (i 0).val ∧ (i 0).val < win0_11.index t 0 * 128 + 128; rw [e]; show (15 - t.val) * 128 ≤ _ ∧ _ < (15 - t.val) * 128 + 128; omega
    | ⟨1, _⟩ => show win0_11.index t 1 * 128 ≤ (i 1).val ∧ (i 1).val < win0_11.index t 1 * 128 + 128; rw [e]; show 0 * 128 ≤ _ ∧ _ < 0 * 128 + 128; omega

include R in
theorem final12 : (dats m 0 c).arrAt 12 cfg0.N = resV I := by
  refine (dats m 0 c).arrAt_eq_of_cover 12 (resV I) (fun t _ => ?_) fun (i : S2048x128.Idx) => ?_
  · rw [Value.flushed12]
    have e := (out_facts t).2.2.1
    refine funext fun (j : S128x128.Idx) => ?_
    obtain ⟨r, k, rfl⟩ : ∃ (r : Fin 128) (k : Fin 128), j = ix2 r k := ⟨_, _, eq_ix2 j⟩
    have hi : ((cfg0.win 12).blk t).view.emb (ix2 r k : S128x128.Idx) = (ix2 (tok (nb t) r) k : S2048x128.Idx) := by
      refine funext fun a => Fin.ext ?_
      match a with
      | ⟨0, _⟩ => show win0_12.index t 0 * 128 + 1 * r.val = 128 * (15 - t.val) + r.val; rw [e]; show (15 - t.val) * 128 + 1 * r.val = _; omega
      | ⟨1, _⟩ => show win0_12.index t 1 * 128 + 1 * k.val = k.val; rw [e]; show 0 * 128 + 1 * k.val = _; omega
    show (outsAt0 m c t.val t.isLt).2.2.1 (ix2 r k : S128x128.Idx) = resV I (((cfg0.win 12).blk t).view.emb (ix2 r k : S128x128.Idx))
    rw [hi]
    show _ = (I.dV (blk (tok (nb t) r)) (pos (tok (nb t) r)) (khead k) (feat k) : EReal)
    rw [blk_tok, pos_tok, ← (left_all R _ t rfl).v r (khead k) (feat k), kc_eq]
  · have h0 : (i 0).val < 2048 := (i 0).isLt
    have h1 : (i 1).val < 128 := (i 1).isLt
    obtain ⟨t, ht⟩ : ∃ t : Fin cfg0.N, t.val = 15 - (i 0).val / 128 := ⟨⟨15 - (i 0).val / 128, by rw [show cfg0.N = 16 from N_0]; omega⟩, rfl⟩
    refine ⟨t, flush0_12 t, ?_⟩
    have e := (out_facts t).2.2.1
    show i ∈ ((View.whole main_v27_2).slice (win0_12.rect t)).set
    rw [View.set_slice_whole, Rect.mem_set_unit]
    intro a
    match a with
    | ⟨0, _⟩ => show win0_12.index t 0 * 128 ≤ (i 0).val ∧ (i 0).val < win0_12.index t 0 * 128 + 128; rw [e]; show (15 - t.val) * 128 ≤ _ ∧ _ < (15 - t.val) * 128 + 128; omega
    | ⟨1, _⟩ => show win0_12.index t 1 * 128 ≤ (i 1).val ∧ (i 1).val < win0_12.index t 1 * 128 + 128; rw [e]; show 0 * 128 ≤ _ ∧ _ < 0 * 128 + 128; omega

include R in
theorem final13 : (dats m 0 c).arrAt 13 cfg0.N = resB I := by
  refine (dats m 0 c).arrAt_eq_of_cover 13 (resB I) (fun t hf => ?_) fun (i : S8x256x128.Idx) => ?_
  · have hN := lt_of_lt_of_eq t.isLt (show cfg0.N = 16 from N_0)
    have hf := (flush0_13 t).1 hf
    have ht : t.val = 15 := by omega
    rw [Value.flushed13]
    have e := (out_facts t).2.2.2.1
    refine funext fun (j : S8x256x128.Idx) => ?_
    obtain ⟨r, k, l, rfl⟩ : ∃ (r : Fin 8) (k : Fin 256) (l : Fin 128), j = ix3 r k l := ⟨_, _, _, eq_ix3 j⟩
    have hi : ((cfg0.win 13).blk t).view.emb (ix3 r k l : S8x256x128.Idx) = (ix3 r k l : S8x256x128.Idx) := by
      refine funext fun a => Fin.ext ?_
      match a with
      | ⟨0, _⟩ => show win0_13.index t 0 * 8 + 1 * r.val = r.val; rw [e]; show 0 * 8 + 1 * r.val = _; omega
      | ⟨1, _⟩ => show win0_13.index t 1 * 256 + 1 * k.val = k.val; rw [e]; show 0 * 256 + 1 * k.val = _; omega
      | ⟨2, _⟩ => show win0_13.index t 2 * 128 + 1 * l.val = l.val; rw [e]; show 0 * 128 + 1 * l.val = _; omega
    show (outsAt0 m c t.val t.isLt).2.2.2.1 (ix3 r k l : S8x256x128.Idx) = resB I (((cfg0.win 13).blk t).view.emb (ix3 r k l : S8x256x128.Idx))
    rw [hi]
    exact ((left_all R _ t rfl).b r k l).trans (congrArg _ (sofar_last ht _))
  · have h0 : (i 0).val < 8 := (i 0).isLt
    have h1 : (i 1).val < 256 := (i 1).isLt
    have h2 : (i 2).val < 128 := (i 2).isLt
    obtain ⟨t, ht⟩ : ∃ t : Fin cfg0.N, t.val = 15 := ⟨⟨15, by rw [show cfg0.N = 16 from N_0]; omega⟩, rfl⟩
    refine ⟨t, (flush0_13 t).2 (by omega), ?_⟩
    have e := (out_facts t).2.2.2.1
    show i ∈ ((View.whole main_v27_3).slice (win0_13.rect t)).set
    rw [View.set_slice_whole, Rect.mem_set_unit]
    intro a
    match a with
    | ⟨0, _⟩ => show win0_13.index t 0 * 8 ≤ (i 0).val ∧ (i 0).val < win0_13.index t 0 * 8 + 8; rw [e]; show 0 * 8 ≤ _ ∧ _ < 0 * 8 + 8; omega
    | ⟨1, _⟩ => show win0_13.index t 1 * 256 ≤ (i 1).val ∧ (i 1).val < win0_13.index t 1 * 256 + 256; rw [e]; show 0 * 256 ≤ _ ∧ _ < 0 * 256 + 256; omega
    | ⟨2, _⟩ => show win0_13.index t 2 * 128 ≤ (i 2).val ∧ (i 2).val < win0_13.index t 2 * 128 + 128; rw [e]; show 0 * 128 ≤ _ ∧ _ < 0 * 128 + 128; omega

include R in
theorem final14 : (dats m 0 c).arrAt 14 cfg0.N = resS I := by
  refine (dats m 0 c).arrAt_eq_of_cover 14 (resS I) (fun t hf => ?_) fun (i : S8x1.Idx) => ?_
  · have hN := lt_of_lt_of_eq t.isLt (show cfg0.N = 16 from N_0)
    have hf := (flush0_14 t).1 hf
    have ht : t.val = 15 := by omega
    rw [Value.flushed14]
    have e := (out_facts t).2.2.2.2.1
    refine funext fun (j : S8x1.Idx) => ?_
    obtain ⟨r, k, rfl⟩ : ∃ (r : Fin 8) (k : Fin 1), j = ix2 r k := ⟨_, _, eq_ix2 j⟩
    have hi : ((cfg0.win 14).blk t).view.emb (ix2 r k : S8x1.Idx) = (ix2 r k : S8x1.Idx) := by
      refine funext fun a => Fin.ext ?_
      match a with
      | ⟨0, _⟩ => show win0_14.index t 0 * 8 + 1 * r.val = r.val; rw [e]; show 0 * 8 + 1 * r.val = _; omega
      | ⟨1, _⟩ => show win0_14.index t 1 * 1 + 1 * k.val = k.val; rw [e]; show 0 * 1 + 1 * k.val = _; omega
    show (outsAt0 m c t.val t.isLt).2.2.2.2.1 (ix2 r k : S8x1.Idx) = resS I (((cfg0.win 14).blk t).view.emb (ix2 r k : S8x1.Idx))
    rw [hi]
    obtain rfl : k = 0 := Subsingleton.elim _ _
    rw [(stepC_lanes m c t (by omega) hf).1 r]
    simp only [(left_all R _ t rfl).cs, sofar_last ht, AttnReal.sum]
    exact congrArg _ Finset.sum_comm
  · have h0 : (i 0).val < 8 := (i 0).isLt
    have h1 : (i 1).val < 1 := (i 1).isLt
    obtain ⟨t, ht⟩ : ∃ t : Fin cfg0.N, t.val = 15 := ⟨⟨15, by rw [show cfg0.N = 16 from N_0]; omega⟩, rfl⟩
    refine ⟨t, (flush0_14 t).2 (by omega), ?_⟩
    have e := (out_facts t).2.2.2.2.1
    show i ∈ ((View.whole main_v27_4).slice (win0_14.rect t)).set
    rw [View.set_slice_whole, Rect.mem_set_unit]
    intro a
    match a with
    | ⟨0, _⟩ => show win0_14.index t 0 * 8 ≤ (i 0).val ∧ (i 0).val < win0_14.index t 0 * 8 + 8; rw [e]; show 0 * 8 ≤ _ ∧ _ < 0 * 8 + 8; omega
    | ⟨1, _⟩ => show win0_14.index t 1 * 1 ≤ (i 1).val ∧ (i 1).val < win0_14.index t 1 * 1 + 1; rw [e]; show 0 * 1 ≤ _ ∧ _ < 0 * 1 + 1; omega

include R in
theorem final15 : (dats m 0 c).arrAt 15 cfg0.N = resQG I := by
  refine (dats m 0 c).arrAt_eq_of_cover 15 (resQG I) (fun t hf => ?_) fun (i : S64x1.Idx) => ?_
  · have hN := lt_of_lt_of_eq t.isLt (show cfg0.N = 16 from N_0)
    have hf := (flush0_15 t).1 hf
    have ht : t.val = 15 := by omega
    rw [Value.flushed15]
    have e := (out_facts t).2.2.2.2.2.1
    refine funext fun (j : S64x1.Idx) => ?_
    obtain ⟨r, k, rfl⟩ : ∃ (r : Fin 64) (k : Fin 1), j = ix2 r k := ⟨_, _, eq_ix2 j⟩
    have hi : ((cfg0.win 15).blk t).view.emb (ix2 r k : S64x1.Idx) = (ix2 r k : S64x1.Idx) := by
      refine funext fun a => Fin.ext ?_
      match a with
      | ⟨0, _⟩ => show win0_15.index t 0 * 64 + 1 * r.val = r.val; rw [e]; show 0 * 64 + 1 * r.val = _; omega
      | ⟨1, _⟩ => show win0_15.index t 1 * 1 + 1 * k.val = k.val; rw [e]; show 0 * 1 + 1 * k.val = _; omega
    show (outsAt0 m c t.val t.isLt).2.2.2.2.2.1 (ix2 r k : S64x1.Idx) = resQG I (((cfg0.win 15).blk t).view.emb (ix2 r k : S64x1.Idx))
    rw [hi]
    obtain rfl : k = 0 := Subsingleton.elim _ _
    rw [(stepC_lanes m c t (by omega) hf).2 r]
    simp only [(left_all R _ t rfl).cg, sofar_last ht, AttnReal.sum]
    exact congrArg _ Finset.sum_comm
  · have h0 : (i 0).val < 64 := (i 0).isLt
    have h1 : (i 1).val < 1 := (i 1).isLt
    obtain ⟨t, ht⟩ : ∃ t : Fin cfg0.N, t.val = 15 := ⟨⟨15, by rw [show cfg0.N = 16 from N_0]; omega⟩, rfl⟩
    refine ⟨t, (flush0_15 t).2 (by omega), ?_⟩
    have e := (out_facts t).2.2.2.2.2.1
    show i ∈ ((View.whole main_v27_5).slice (win0_15.rect t)).set
    rw [View.set_slice_whole, Rect.mem_set_unit]
    intro a
    match a with
    | ⟨0, _⟩ => show win0_15.index t 0 * 64 ≤ (i 0).val ∧ (i 0).val < win0_15.index t 0 * 64 + 64; rw [e]; show 0 * 64 ≤ _ ∧ _ < 0 * 64 + 64; omega
    | ⟨1, _⟩ => show win0_15.index t 1 * 1 ≤ (i 1).val ∧ (i 1).val < win0_15.index t 1 * 1 + 1; rw [e]; show 0 * 1 ≤ _ ∧ _ < 0 * 1 + 1; omega

include R in
theorem final16 : (dats m 0 c).arrAt 16 cfg0.N = resKG I := by
  refine (dats m 0 c).arrAt_eq_of_cover 16 (resKG I) (fun t hf => ?_) fun (i : S1x64.Idx) => ?_
  · have hN := lt_of_lt_of_eq t.isLt (show cfg0.N = 16 from N_0)
    have hf := (flush0_16 t).1 hf
    have ht : t.val = 15 := by omega
    rw [Value.flushed16]
    have e := (out_facts t).2.2.2.2.2.2
    refine funext fun (j : S1x64.Idx) => ?_
    obtain ⟨r, k, rfl⟩ : ∃ (r : Fin 1) (k : Fin 64), j = ix2 r k := ⟨_, _, eq_ix2 j⟩
    have hi : ((cfg0.win 16).blk t).view.emb (ix2 r k : S1x64.Idx) = (ix2 r k : S1x64.Idx) := by
      refine funext fun a => Fin.ext ?_
      match a with
      | ⟨0, _⟩ => show win0_16.index t 0 * 1 + 1 * r.val = r.val; rw [e]; show 0 * 1 + 1 * r.val = _; omega
      | ⟨1, _⟩ => show win0_16.index t 1 * 64 + 1 * k.val = k.val; rw [e]; show 0 * 64 + 1 * k.val = _; omega
    show (outsAt0 m c t.val t.isLt).2.2.2.2.2.2.1 (ix2 r k : S1x64.Idx) = resKG I (((cfg0.win 16).blk t).view.emb (ix2 r k : S1x64.Idx))
    rw [hi]
    obtain rfl : r = 0 := Subsingleton.elim _ _
    exact ((left_all R _ t rfl).g k).trans (congrArg _ (sofar_last ht _))
  · have h0 : (i 0).val < 1 := (i 0).isLt
    have h1 : (i 1).val < 64 := (i 1).isLt
    obtain ⟨t, ht⟩ : ∃ t : Fin cfg0.N, t.val = 15 := ⟨⟨15, by rw [show cfg0.N = 16 from N_0]; omega⟩, rfl⟩
    refine ⟨t, (flush0_16 t).2 (by omega), ?_⟩
    have e := (out_facts t).2.2.2.2.2.2
    show i ∈ ((View.whole main_v27_6).slice (win0_16.rect t)).set
    rw [View.set_slice_whole, Rect.mem_set_unit]
    intro a
    match a with
    | ⟨0, _⟩ => show win0_16.index t 0 * 1 ≤ (i 0).val ∧ (i 0).val < win0_16.index t 0 * 1 + 1; rw [e]; show 0 * 1 ≤ _ ∧ _ < 0 * 1 + 1; omega
    | ⟨1, _⟩ => show win0_16.index t 1 * 64 ≤ (i 1).val ∧ (i 1).val < win0_16.index t 1 * 64 + 64; rw [e]; show 0 * 64 ≤ _ ∧ _ < 0 * 64 + 64; omega

end Final

end Cert.AttnIdeal.Hand

end
-- ==== Proof.AttnMask.lean ====
/-
  The mask of the reference, decided at every block, query and key.
-/
module

public import proofs.«01_k».proof.Defs
public import proofs.«01_k».proof.Proof.AttnFull
public import proofs.«01_k».proof.Proof.Gen.AttnRefIdeal.Read
public import Idealize.ShloMosaic.Lib.Tactic
public import Idealize.ShloMosaic.Lib.Pointwise

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe
open Cert.AttnSpec Cert.AttnReal

theorem v90 (q : Fin 128) (k : Fin 256) : val_main_v90 (F := Ideal) (ix2 q k) = if inWin q k then 1#1 else 0#1 := by
  unfold val_main_v90 val_main_v89 val_main_v88 val_main_v87 val_main_v86 val_main_v85 val_main_v84 val_main_v83
    val_main_v82 val_main_v81 val_main_v80 val_main_v79 val_main_v78 val_main_v77 val_main_c_15 val_main_c_16 val_main_c_17
  pointwise
  revert q k
  decide +kernel

theorem v93 (n : Fin 16) (k : Fin 256) : val_main_v93 (F := Ideal) (ix2 n k) = if n.val = 0 ∧ k.val < 128 then 0#1 else 1#1 := by
  unfold val_main_v93 val_main_v92 val_main_v76 val_main_v75 val_main_v74 val_main_v73 val_main_v72 val_main_v71 val_main_v70 val_main_v69 val_main_v68
    val_main_v67 val_main_v66 val_main_c val_main_c_14 val_main_c_18
  pointwise
  revert n k
  decide +kernel

theorem and_bits (p r : Prop) [Decidable p] [Decidable r] :
    IntOp.andi (if p then 1#1 else 0#1) (if r then 0#1 else 1#1) = if p ∧ ¬r then 1#1 else 0#1 := by
  by_cases p <;> by_cases r <;> simp [*, IntOp.andi]

end Cert.AttnRefIdeal.Hand

end
-- ==== Proof.AttnRef.lean ====
/-
  The reference of the attention's gradient, read stage by stage over the real numbers: the scaled rows, the keys and values each
  block sees, the mask and the scores.
-/
module

public import proofs.«01_k».proof.Defs
public import proofs.«01_k».proof.Proof.AttnMask
public import proofs.«01_k».proof.Proof.Gen.AttnRefIdeal.Read
public import Idealize.ShloMosaic.Lib.Tactic
public import Idealize.ShloMosaic.Lib.Pointwise

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe
open Cert.AttnSpec Cert.AttnReal

/-- The arguments hold the real numbers of `I`. -/
structure Args (x0 : (⟨S2048x2312, .f32⟩ : BufTy).Contents (Elt Ideal)) (x1 : (⟨S2048x512, .f32⟩ : BufTy).Contents (Elt Ideal))
    (x2 x3 : (⟨S64, .f32⟩ : BufTy).Contents (Elt Ideal)) (x4 : (⟨S8, .f32⟩ : BufTy).Contents (Elt Ideal))
    (x5 : (⟨S8x128x256, .f32⟩ : BufTy).Contents (Elt Ideal)) (I : Inp) : Prop where
  x : ∀ s (c : Fin 768), x0 (ix2 s ⟨c.val, by omega⟩) = (I.X s c : EReal)
  g : ∀ s c, x1 (ix2 s c) = (I.G s c : EReal)
  qg : ∀ d, x2 (ix1 d) = (I.qg d : EReal)
  kg : ∀ d, x3 (ix1 d) = (I.kg d : EReal)
  sk : ∀ h, x4 (ix1 h) = (I.sk h : EReal)
  b : ∀ h q k, x5 (ix3 h q k) = (I.b h q k : EReal)

/-- The rows a block sees, zeros before the first block. -/
def bandz (f : Fin 2048 → Fin 2 → Fin 64 → ℝ) (n : Fin 16) (j : Fin 2) (k : Fin 256) (d : Fin 64) : ℝ :=
  if h : k.val < 128 then (if n.val = 0 then 0 else f (tok (prev n) ⟨k.val, h⟩) j d) else f (tok n ⟨k.val - 128, by omega⟩) j d

/-- The scaled keys a block sees in the reference. -/
abbrev kz (I : Inp) := bandz fun s j => nrm eps (I.K s j) I.kg
/-- The values a block sees in the reference. -/
abbrev vz (I : Inp) := bandz I.V

section Stages
variable {x0 : (⟨S2048x2312, .f32⟩ : BufTy).Contents (Elt Ideal)} {x1 : (⟨S2048x512, .f32⟩ : BufTy).Contents (Elt Ideal)}
  {x2 x3 : (⟨S64, .f32⟩ : BufTy).Contents (Elt Ideal)} {x4 : (⟨S8, .f32⟩ : BufTy).Contents (Elt Ideal)}
  {x5 : (⟨S8x128x256, .f32⟩ : BufTy).Contents (Elt Ideal)} {I : Inp} (A : Args x0 x1 x2 x3 x4 x5 I)

include A

theorem v6 (s : Fin 2048) (h : Fin 8) (d : Fin 64) : val_main_v6 (F := Ideal) x0 (ix3 s h d) = (I.Q s h d : EReal) := by
  unfold val_main_v6 val_main_v0
  pointwise
  unfold Inp.Q
  rw [← A.x]
  exact congrArg _ (congrArg (ix2 s) (Fin.ext (by show h.val * 64 + d.val = 64 * h.val + d.val; omega)))

theorem v25 (s : Fin 2048) (j : Fin 2) (d : Fin 64) : val_main_v25 (F := Ideal) x0 (ix3 s j d) = (I.K s j d : EReal) := by
  unfold val_main_v25 val_main_v1
  pointwise
  unfold Inp.K
  rw [← A.x]
  exact congrArg _ (congrArg (ix2 s) (Fin.ext (by show 512 + (j.val * 64 + d.val) = 512 + (64 * j.val + d.val); omega)))

theorem v44 (s : Fin 2048) (j : Fin 2) (d : Fin 64) : val_main_v44 (F := Ideal) x0 (ix3 s j d) = (I.V s j d : EReal) := by
  unfold val_main_v44 val_main_v2
  pointwise
  unfold Inp.V
  rw [← A.x]
  exact congrArg _ (congrArg (ix2 s) (Fin.ext (by show 640 + (j.val * 64 + d.val) = 640 + (64 * j.val + d.val); omega)))

theorem v15 (s : Fin 2048) (h : Fin 8) : val_main_v15 (F := Ideal) x0 (ix3 s h 0) = (ms (I.Q s h) : EReal) := by
  unfold val_main_v15 val_main_v14 val_main_cst_2 val_main_v13 val_main_v12 val_main_v11 val_main_v10 val_main_cst_0 val_main_cst_1 val_main_v7
  pointwise [v6 A]
  rw [head_bits, eps_bits]
  simp only [← EReal.coe_mul, AttnReal.sum]
  rw [AttnReal.div (by norm_num), ← EReal.coe_add]
  rfl

theorem v34 (s : Fin 2048) (j : Fin 2) : val_main_v34 (F := Ideal) x0 (ix3 s j 0) = (ms (I.K s j) : EReal) := by
  unfold val_main_v34 val_main_v33 val_main_cst_7 val_main_v32 val_main_v31 val_main_v30 val_main_v29 val_main_cst_5 val_main_cst_6 val_main_v26
  pointwise [v25 A]
  rw [head_bits, eps_bits]
  simp only [← EReal.coe_mul, AttnReal.sum]
  rw [AttnReal.div (by norm_num), ← EReal.coe_add]
  rfl

theorem v16 (s : Fin 2048) (h : Fin 8) : val_main_v16 (F := Ideal) x0 (ix3 s h 0) = (rr eps (I.Q s h) : EReal) := by
  unfold val_main_v16
  pointwise [v15 A]
  exact rr_rsqrt _

theorem v35 (s : Fin 2048) (j : Fin 2) : val_main_v35 (F := Ideal) x0 (ix3 s j 0) = (rr eps (I.K s j) : EReal) := by
  unfold val_main_v35
  pointwise [v34 A]
  exact rr_rsqrt _

theorem v21 (s : Fin 2048) (h : Fin 8) (d : Fin 64) : val_main_v21 (F := Ideal) x0 (ix3 s h d) = (hat eps (I.Q s h) d : EReal) := by
  unfold val_main_v21 val_main_v20
  pointwise [v6 A, v16 A]
  rw [← EReal.coe_mul]; rfl

theorem v40 (s : Fin 2048) (j : Fin 2) (d : Fin 64) : val_main_v40 (F := Ideal) x0 (ix3 s j d) = (hat eps (I.K s j) d : EReal) := by
  unfold val_main_v40 val_main_v39
  pointwise [v25 A, v35 A]
  rw [← EReal.coe_mul]; rfl

theorem v24 (s : Fin 2048) (h : Fin 8) (d : Fin 64) : val_main_v24 (F := Ideal) x0 x2 (ix3 s h d) = (nrm eps (I.Q s h) I.qg d : EReal) := by
  unfold val_main_v24 val_main_v23 val_main_v22
  pointwise [v21 A, A.qg]
  rw [← EReal.coe_mul]; rfl

theorem v43 (s : Fin 2048) (j : Fin 2) (d : Fin 64) : val_main_v43 (F := Ideal) x0 x3 (ix3 s j d) = (nrm eps (I.K s j) I.kg d : EReal) := by
  unfold val_main_v43 val_main_v42 val_main_v41
  pointwise [v40 A, A.kg]
  rw [← EReal.coe_mul]; rfl

theorem v45 (n : Fin 16) (q : Fin 128) (j : Fin 2) (g : Fin 4) (d : Fin 64) :
    val_main_v45 (F := Ideal) x0 x2 (ix5 n q j g d) = (I.qn n (qhd j g) q d : EReal) := by
  unfold val_main_v45
  pointwise [v24 A]
  exact congrArg₂ (fun s h => ((nrm eps (I.Q s h) I.qg d : ℝ) : EReal)) (Fin.ext (by show n.val * 128 + q.val = 128 * n.val + q.val; omega)) (Fin.ext (by show j.val * 4 + g.val = 4 * j.val + g.val; omega))

theorem v46 (n : Fin 16) (q : Fin 128) (j : Fin 2) (d : Fin 64) :
    val_main_v46 (F := Ideal) x0 x3 (ix4 n q j d) = (nrm eps (I.K (tok n q) j) I.kg d : EReal) := by
  unfold val_main_v46
  pointwise [v43 A]
  exact congrArg (fun s => ((nrm eps (I.K s j) I.kg d : ℝ) : EReal)) (Fin.ext (by show n.val * 128 + q.val = 128 * n.val + q.val; omega))

theorem v52 (n : Fin 16) (q : Fin 128) (j : Fin 2) (d : Fin 64) :
    val_main_v52 (F := Ideal) x0 (ix4 n q j d) = (I.V (tok n q) j d : EReal) := by
  unfold val_main_v52
  pointwise [v44 A]
  exact congrArg (fun s => ((I.V s j d : ℝ) : EReal)) (Fin.ext (by show n.val * 128 + q.val = 128 * n.val + q.val; omega))

theorem v51 (n : Fin 16) (k : Fin 256) (j : Fin 2) (d : Fin 64) :
    val_main_v51 (F := Ideal) x0 x3 (ix4 n k j d) = (kz I n j k d : EReal) := by
  unfold val_main_v51 val_main_v49 val_main_v48 val_main_v47 val_main_cst_9
  pointwise [v46 A]
  unfold kz bandz
  have hn : n.val < 1 ↔ n.val = 0 := Nat.lt_one_iff
  by_cases hk : k.val < 128 <;> by_cases h0 : n.val = 0 <;> simp only [hk, h0, hn, dif_pos, dif_neg, if_true, if_false, not_false_eq_true] <;> rfl

theorem v57 (n : Fin 16) (k : Fin 256) (j : Fin 2) (d : Fin 64) :
    val_main_v57 (F := Ideal) x0 (ix4 n k j d) = (vz I n j k d : EReal) := by
  unfold val_main_v57 val_main_v55 val_main_v54 val_main_v53 val_main_cst_11
  pointwise [v52 A]
  unfold vz bandz
  have hn : n.val < 1 ↔ n.val = 0 := Nat.lt_one_iff
  by_cases hk : k.val < 128 <;> by_cases h0 : n.val = 0 <;> simp only [hk, h0, hn, dif_pos, dif_neg, if_true, if_false, not_false_eq_true] <;> rfl

omit A

theorem v99_1 (n : Fin 16) (j : Fin 2) (g : Fin 4) (q : Fin 128) (k : Fin 256) : val_main_v99_1 (F := Ideal) (ix5 n j g q k) = if AttnSpec.mask n q k then 1#1 else 0#1 := by
  unfold val_main_v99_1 val_main_v98 val_main_v97 val_main_v96 val_main_v95 val_main_v94 val_main_v91
  pointwise [v90, v93]
  exact and_bits _ _

include A

theorem v65 (n : Fin 16) (j : Fin 2) (g : Fin 4) (q : Fin 128) (k : Fin 256) :
    val_main_v65 (F := Ideal) x0 x2 x3 x5 (ix5 n j g q k) = (score (I.qn n (qhd j g)) (kz I n j) (I.b (qhd j g)) q k : EReal) := by
  unfold val_main_v65 val_main_v64 val_main_v63 val_main_v62 val_main_v61 val_main_v60 val_main_cst_13 val_main_v59
  pointwise [val_main_v58_apply]
  have hl (x : Fin 64) : lidx_main_v58 (ix5 n j k q g) x = ix4 n k j x := eq_ix4 _
  have hr (x : Fin 64) : ridx_main_v58 (ix5 n j k q g) x = ix5 n q j g x := eq_ix5 _
  simp only [hl, hr, v51 A, v45 A, ← EReal.coe_mul, AttnReal.sum]
  rw [eighth_bits, show (⟨j.val * 4 + g.val, by omega⟩ : Fin 8) = qhd j g from Fin.ext (by show j.val * 4 + g.val = 4 * j.val + g.val; omega), A.b, ← EReal.coe_mul, ← EReal.coe_add]
  rfl

end Stages
end Cert.AttnRefIdeal.Hand
-- ==== Proof.AttnRefSoft.lean ====
/-
  The reference's softmax with the sink among the scores, and the gradient through it: the shift by the largest score drops out.
-/
module

public import proofs.«01_k».proof.Defs
public import proofs.«01_k».proof.Proof.AttnRef
public import proofs.«01_k».proof.Proof.Gen.AttnRefIdeal.Read
public import Idealize.ShloMosaic.Lib.Tactic
public import Idealize.ShloMosaic.Lib.Pointwise

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe
open Cert.AttnSpec Cert.AttnReal

/-- A finite number of extended reals below `⊤`, one of them real, has a real maximum. -/
theorem fold_real {ι : Type*} (s : Finset ι) (f : ι → EReal) (hf : ∀ i ∈ s, f i ≠ ⊤) {i : ι} (hi : i ∈ s) {x : ℝ} (hx : f i = x) :
    ∃ m : ℝ, s.fold max ⊥ f = m := by
  obtain ⟨m, hm⟩ := max_real s f hf x
  refine ⟨m, ?_⟩
  rw [← hm, max_eq_left]
  rw [← hx]
  exact (Finset.le_fold_max _).2 (Or.inr ⟨i, hi, le_rfl⟩)

/-- The reference's maximum over the scores and the sink. -/
theorem foldmax (x : Vec Ideal S16x2x4x128x257 .f32) (n : Fin 16) (j : Fin 2) (g : Fin 4) (q : Fin 128) :
    (Host.reduce (FloatOps.maximumf (F := Ideal) (φ := .f32)) x (val_main_cst_20 (F := Ideal)) reducesTo_S16x2x4x128x257_S16x2x4x128_d4 h_S_ (ix4 n j g q) : EReal)
      = Finset.fold max ⊥ (fun k => x (ix5 n j g q k)) Finset.univ := by
  have h : S16x2x4x128x257.Reduces [4] S16x2x4x128 := by decide
  rw [Host.reduce_eq_fold_single _ x _ _ h h_S_]
  unfold val_main_cst_20
  have hf : (x ∘ h.lift (ix4 n j g q)) = fun k : Fin 257 => x (ix5 n j g q k) := funext fun k => congrArg x (eq_ix5 _)
  rw [← bot_bits]
  exact congrArg (fun f => Finset.fold max (Ideal.ofBits .f32 0xFF800000#32) f (Finset.univ : Finset (Fin 257))) hf

theorem v109 (n : Fin 16) (j : Fin 2) (g : Fin 4) (q : Fin 128) : val_main_v109 (F := Ideal) (ix4 n j g q) = (⊥ : EReal) := by
  unfold val_main_v109 val_main_cst_22
  pointwise
  exact bot_bits

theorem maxi (a b : FVec Ideal S16x2x4x128 .f32) (i : S16x2x4x128.Idx) : maximumf a b i = max (a i) (b i) := rfl

theorem vmax (y : FVec Ideal S16x2x4x128 .f32) (n : Fin 16) (j : Fin 2) (g : Fin 4) (q : Fin 128) {m : ℝ} (hm : y (ix4 n j g q) = (m : EReal)) :
    maximumf (val_main_v109 (F := Ideal)) y (ix4 n j g q) = (m : EReal) := by
  rw [maxi, v109, hm]
  exact max_eq_right bot_le

/-- A key's place among the scores. -/
abbrev key (k : Fin 256) : Fin 257 := ⟨k.val, by omega⟩
/-- The sink's place. -/
abbrev sink : Fin 257 := ⟨256, by omega⟩

theorem sum257 {M : Type} [AddCommMonoid M] (f : Fin 257 → M) : ∑ k, f k = ∑ k, f (key k) + f sink := Fin.sum_univ_castSucc f

section Stages
variable {x0 : (⟨S2048x2312, .f32⟩ : BufTy).Contents (Elt Ideal)} {x1 : (⟨S2048x512, .f32⟩ : BufTy).Contents (Elt Ideal)}
  {x2 x3 : (⟨S64, .f32⟩ : BufTy).Contents (Elt Ideal)} {x4 : (⟨S8, .f32⟩ : BufTy).Contents (Elt Ideal)}
  {x5 : (⟨S8x128x256, .f32⟩ : BufTy).Contents (Elt Ideal)} {I : Inp} (A : Args x0 x1 x2 x3 x4 x5 I)

include A

/-- The score of a key, or the sink's in the last place. -/
def sc (I : Inp) (n : Fin 16) (h : Fin 8) (j : Fin 2) (q : Fin 128) (k : Fin 257) : EReal :=
  if hk : k.val < 256 then (if AttnSpec.mask n q ⟨k.val, hk⟩ then (score (I.qn n h) (kz I n j) (I.b h) q ⟨k.val, hk⟩ : EReal) else ⊥) else (I.sk h : EReal)

theorem v102 (n : Fin 16) (j : Fin 2) (g : Fin 4) (q : Fin 128) (k : Fin 257) :
    val_main_v102 (F := Ideal) x0 x2 x3 x4 x5 (ix5 n j g q k) = sc I n (qhd j g) j q k := by
  unfold val_main_v102 val_main_v101 val_main_v100 val_main_v99_0 val_main_call0_v2 val_main_call0_v0 val_main_cst_19
  pointwise [v65 A, v99_1]
  unfold sc
  rw [show (⟨j.val * 4 + g.val, by omega⟩ : Fin 8) = qhd j g from Fin.ext (by show j.val * 4 + g.val = 4 * j.val + g.val; omega), A.sk]
  by_cases hk : k.val < 256
  · rw [dif_pos hk, dif_pos hk]
    by_cases h : AttnSpec.mask n q ⟨k.val, hk⟩
    · rw [if_pos h, if_pos h]; rfl
    · rw [if_neg h, if_neg h]; exact bot_bits
  · rw [dif_neg hk, dif_neg hk]

theorem v103 (n : Fin 16) (j : Fin 2) (g : Fin 4) (q : Fin 128) : ∃ m : ℝ, val_main_v103 (F := Ideal) x0 x2 x3 x4 x5 (ix4 n j g q) = m := by
  obtain ⟨m, hm⟩ := fold_real Finset.univ (sc I n (qhd j g) j q) (fun k _ => by unfold sc; split_ifs <;> simp)
    (Finset.mem_univ sink) (show sc I n (qhd j g) j q sink = (I.sk (qhd j g) : EReal) from rfl)
  have h := foldmax (val_main_v102 (F := Ideal) x0 x2 x3 x4 x5) n j g q
  simp only [v102 A] at h
  exact ⟨m, h.trans hm⟩

theorem v110 (n : Fin 16) (j : Fin 2) (g : Fin 4) (q : Fin 128) : ∃ m : ℝ, val_main_v110 (F := Ideal) x0 x2 x3 x4 x5 (ix4 n j g q) = m := by
  obtain ⟨m, hm⟩ := v103 A n j g q
  exact ⟨m, vmax _ n j g q hm⟩

/-- The shift the reference takes off every score. -/
def sh (n : Fin 16) (j : Fin 2) (g : Fin 4) (q : Fin 128) : ℝ := (v110 A n j g q).choose
theorem v110_sh (n : Fin 16) (j : Fin 2) (g : Fin 4) (q : Fin 128) : val_main_v110 (F := Ideal) x0 x2 x3 x4 x5 (ix4 n j g q) = (sh A n j g q : EReal) :=
  (v110 A n j g q).choose_spec

/-- The exponential of the shift. -/
def es (n : Fin 16) (j : Fin 2) (g : Fin 4) (q : Fin 128) : ℝ := Real.exp (-sh A n j g q)
theorem es_pos (n : Fin 16) (j : Fin 2) (g : Fin 4) (q : Fin 128) : 0 < es A n j g q := Real.exp_pos _

theorem v122 (n : Fin 16) (j : Fin 2) (g : Fin 4) (q : Fin 128) (k : Fin 257) :
    val_main_v122 (F := Ideal) x0 x2 x3 x4 x5 (ix5 n j g q k) = sc I n (qhd j g) j q k - (sh A n j g q : EReal) := by
  unfold val_main_v122 val_main_v121 val_main_v120
  pointwise [v102 A, v110_sh A]

/-- The weight of a key in block `n`, as the reference sees the keys. -/
abbrev W (I : Inp) (n : Fin 16) (j : Fin 2) (g : Fin 4) := wt (I.qn n (qhd j g)) (kz I n j) (I.b (qhd j g)) (AttnSpec.mask n)
/-- The total weight. -/
abbrev T (I : Inp) (n : Fin 16) (j : Fin 2) (g : Fin 4) := tot (I.qn n (qhd j g)) (kz I n j) (I.b (qhd j g)) (I.sk (qhd j g)) (AttnSpec.mask n)

theorem v123_key (n : Fin 16) (j : Fin 2) (g : Fin 4) (q : Fin 128) (k : Fin 256) :
    val_main_v123 (F := Ideal) x0 x2 x3 x4 x5 (ix5 n j g q (key k)) = (W I n j g q k * es A n j g q : ℝ) := by
  unfold val_main_v123
  pointwise [v122 A]
  unfold W wt es
  rw [show sc I n (qhd j g) j q (key k) = if AttnSpec.mask n q k then (score (I.qn n (qhd j g)) (kz I n j) (I.b (qhd j g)) q k : EReal) else ⊥ from dif_pos k.isLt]
  by_cases h : AttnSpec.mask n q k
  · rw [if_pos h, if_pos h, ← EReal.coe_sub, ← Real.exp_add, ← sub_eq_add_neg]
    rfl
  · rw [if_neg h, if_neg h, zero_mul]
    rfl

theorem v123_sink (n : Fin 16) (j : Fin 2) (g : Fin 4) (q : Fin 128) :
    val_main_v123 (F := Ideal) x0 x2 x3 x4 x5 (ix5 n j g q sink) = (Real.exp (I.sk (qhd j g)) * es A n j g q : ℝ) := by
  unfold val_main_v123
  pointwise [v122 A]
  unfold es
  rw [show sc I n (qhd j g) j q sink = (I.sk (qhd j g) : EReal) from rfl, ← EReal.coe_sub, ← Real.exp_add, ← sub_eq_add_neg]
  rfl

theorem v125 (n : Fin 16) (j : Fin 2) (g : Fin 4) (q : Fin 128) :
    val_main_v125 (F := Ideal) x0 x2 x3 x4 x5 (ix5 n j g q 0) = (T I n j g q * es A n j g q : ℝ) := by
  unfold val_main_v125 val_main_v124 val_main_cst_28
  pointwise
  rw [sum257]
  simp only [v123_key A, v123_sink A, AttnReal.sum, ← EReal.coe_add]
  unfold T tot
  rw [add_mul, Finset.sum_mul]

theorem z_ne (n : Fin 16) (j : Fin 2) (g : Fin 4) (q : Fin 128) : T I n j g q * es A n j g q ≠ 0 :=
  mul_ne_zero (tot_pos ..).ne' (es_pos A n j g q).ne'

/-- The part of the attention a key gets, as the reference sees the keys. -/
abbrev Pr (I : Inp) (n : Fin 16) (j : Fin 2) (g : Fin 4) := prob (I.qn n (qhd j g)) (kz I n j) (I.b (qhd j g)) (I.sk (qhd j g)) (AttnSpec.mask n)

theorem v131 (n : Fin 16) (j : Fin 2) (g : Fin 4) (q : Fin 128) (k : Fin 256) :
    val_main_v131 (F := Ideal) x0 x2 x3 x4 x5 (ix5 n j g q k) = (Pr I n j g q k : EReal) := by
  unfold val_main_v131 val_main_v127 val_main_v126
  pointwise [v125 A]
  refine (congrArg (Ideal.div · _) (v123_key A n j g q k)).trans ?_
  show Ideal.div _ _ = _
  rw [AttnReal.div (z_ne A n j g q), mul_div_mul_right _ _ (es_pos A n j g q).ne']
  rfl

theorem v130 (n : Fin 16) (j : Fin 2) (g : Fin 4) (q : Fin 128) :
    val_main_v130 (F := Ideal) x0 x2 x3 x4 x5 (ix5 n j g q 0) = (1 / (T I n j g q * es A n j g q * (T I n j g q * es A n j g q)) : ℝ) := by
  unfold val_main_v130 val_main_v129 val_main_v128 val_main_cst_29
  pointwise [v125 A]
  rw [← EReal.coe_mul]
  exact AttnReal.div (x := 1) (mul_ne_zero (z_ne A n j g q) (z_ne A n j g q))

theorem v136 (n : Fin 16) (j : Fin 2) (g : Fin 4) (q : Fin 128) (d : Fin 64) :
    val_main_v136 (F := Ideal) x1 (ix5 n j d g q) = (I.og n (qhd j g) q d : EReal) := by
  unfold val_main_v136 val_main_v135
  pointwise [A.g]
  exact congrArg₂ (fun s c => ((I.G s c : ℝ) : EReal)) (Fin.ext (by show n.val * 128 + q.val = 128 * n.val + q.val; omega))
    (Fin.ext (by show j.val * 256 + g.val * 64 + d.val = 64 * (4 * j.val + g.val) + d.val; omega))

theorem v137 (n : Fin 16) (j : Fin 2) (g : Fin 4) (q : Fin 128) (k : Fin 256) :
    val_main_v137 (F := Ideal) x0 x1 (ix5 n j g q k) = (dp (vz I n j) (I.og n (qhd j g)) q k : EReal) := by
  rw [val_main_v137_apply]
  have hl (x : Fin 64) : lidx_main_v137 (ix5 n j g q k) x = ix5 n j x g q := eq_ix5 _
  have hr (x : Fin 64) : ridx_main_v137 (ix5 n j g q k) x = ix4 n k j x := eq_ix4 _
  simp only [hl, hr, v57 A, v136 A, ← EReal.coe_mul, AttnReal.sum]
  exact congrArg _ (Finset.sum_congr rfl fun d _ => mul_comm _ _)

theorem v140 (n : Fin 16) (j : Fin 2) (g : Fin 4) (q : Fin 128) (k : Fin 257) :
    val_main_v140 (F := Ideal) x0 x1 (ix5 n j g q k) = if hk : k.val < 256 then (dp (vz I n j) (I.og n (qhd j g)) q ⟨k.val, hk⟩ : EReal) else 0 := by
  unfold val_main_v140 val_main_cst_30
  pointwise [v137 A]

theorem v140_key (n : Fin 16) (j : Fin 2) (g : Fin 4) (q : Fin 128) (k : Fin 256) :
    val_main_v140 (F := Ideal) x0 x1 (ix5 n j g q (key k)) = (dp (vz I n j) (I.og n (qhd j g)) q k : EReal) := (v140 A n j g q _).trans (dif_pos k.isLt)

theorem v140_sink (n : Fin 16) (j : Fin 2) (g : Fin 4) (q : Fin 128) :
    val_main_v140 (F := Ideal) x0 x1 (ix5 n j g q sink) = 0 := (v140 A n j g q _).trans (dif_neg (lt_irrefl 256))

/-- The mean gradient of the attention, as the reference sees keys and values. -/
abbrev Dl (I : Inp) (n : Fin 16) (j : Fin 2) (g : Fin 4) :=
  delta (I.qn n (qhd j g)) (kz I n j) (vz I n j) (I.og n (qhd j g)) (I.b (qhd j g)) (I.sk (qhd j g)) (AttnSpec.mask n)

theorem v150 (n : Fin 16) (j : Fin 2) (g : Fin 4) (q : Fin 128) (k : Fin 257) :
    val_main_v150 (F := Ideal) x0 x1 x2 x3 x4 x5 (ix5 n j g q k) = (-(Dl I n j g q / (T I n j g q * es A n j g q)) : ℝ) := by
  unfold val_main_v150 val_main_v149 val_main_v146 val_main_v145 val_main_v144 val_main_v143 val_main_v142 val_main_v141 val_main_cst_32 val_main_cst_31
  pointwise [v130 A]
  rw [sum257]
  simp only [v123_key A, v123_sink A, v140_key A, v140_sink A, zero_mul, add_zero, ← EReal.coe_mul, AttnReal.sum, ← EReal.coe_neg]
  rw [show ∀ r : ℝ, ∑ _i : Fin 1, -r = -r from fun r => by simp]
  refine congrArg (fun r : ℝ => ((-r : ℝ) : EReal)) ?_
  unfold Dl delta
  rw [Finset.sum_div]
  refine Finset.sum_congr rfl fun k _ => ?_
  have h1 : T I n j g q ≠ 0 := (tot_pos ..).ne'
  have h2 := (es_pos A n j g q).ne'
  show _ = W I n j g q k / T I n j g q * _ / _
  field_simp

/-- The gradient of a score, as the reference sees keys and values. -/
abbrev Ds (I : Inp) (n : Fin 16) (j : Fin 2) (g : Fin 4) :=
  ds (I.qn n (qhd j g)) (kz I n j) (vz I n j) (I.og n (qhd j g)) (I.b (qhd j g)) (I.sk (qhd j g)) (AttnSpec.mask n)

theorem v153 (n : Fin 16) (j : Fin 2) (g : Fin 4) (q : Fin 128) (k : Fin 256) :
    val_main_v153 (F := Ideal) x0 x1 x2 x3 x4 x5 (ix5 n j g q k) = (Ds I n j g q k : EReal) := by
  unfold val_main_v153 val_main_v152 val_main_v151 val_main_v148 val_main_v147
  pointwise [v125 A, v150 A]
  refine (congrArg₂ (fun a b => (Ideal.div a _ + _) * b) (v140_key A n j g q k) (v123_key A n j g q k)).trans ?_
  show (Ideal.div _ _ + _) * _ = _
  rw [AttnReal.div (z_ne A n j g q), ← EReal.coe_add, ← EReal.coe_mul]
  refine congrArg _ ?_
  have h1 : T I n j g q ≠ 0 := (tot_pos ..).ne'
  have h2 := (es_pos A n j g q).ne'
  show _ = W I n j g q k / T I n j g q * (_ - Dl I n j g q)
  field_simp
  ring

theorem v154 (n : Fin 16) (j : Fin 2) (g : Fin 4) (q : Fin 128) :
    val_main_v154 (F := Ideal) x0 x1 x2 x3 x4 x5 (ix5 n j g q 0)
      = (dsk (I.qn n (qhd j g)) (kz I n j) (vz I n j) (I.og n (qhd j g)) (I.b (qhd j g)) (I.sk (qhd j g)) (AttnSpec.mask n) q : EReal) := by
  unfold val_main_v154 val_main_v152 val_main_v151 val_main_v148 val_main_v147
  pointwise [v125 A, v150 A]
  refine (congrArg₂ (fun a b => (Ideal.div a _ + _) * b) (v140_sink A n j g q) (v123_sink A n j g q)).trans ?_
  show (Ideal.div ((0 : ℝ) : EReal) _ + _) * _ = _
  rw [AttnReal.div (z_ne A n j g q), ← EReal.coe_add, ← EReal.coe_mul]
  refine congrArg _ ?_
  have h1 : T I n j g q ≠ 0 := (tot_pos ..).ne'
  have h2 := (es_pos A n j g q).ne'
  show _ = -(Real.exp (I.sk (qhd j g)) / T I n j g q * Dl I n j g q)
  field_simp
  ring

theorem v158 (n : Fin 16) (j : Fin 2) (g : Fin 4) (q : Fin 128) (k : Fin 256) :
    val_main_v158 (F := Ideal) x0 x1 x2 x3 x4 x5 (ix5 n j g q k) = (Ds I n j g q k : EReal) := by
  unfold val_main_v158 val_main_call1_v0 val_main_call1_cst
  pointwise [v153 A, v99_1]
  by_cases h : AttnSpec.mask n q k
  · rw [if_pos h]; rfl
  · rw [if_neg h, show Ds I n j g q k = 0 from ds_hidden h]; rfl

end Stages
end Cert.AttnRefIdeal.Hand
-- ==== Proof.AttnRefGrad.lean ====
/-
  The reference's gradients before the norms, and the sums over all blocks. What the reference puts before the first block never
  counts, for the mask hides it.
-/
module

public import proofs.«01_k».proof.Proof.AttnRefSoft

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe
open Cert.AttnSpec Cert.AttnReal

/-- A sum over the first, the fourth and the last axis, the last of size one. -/
theorem sum034 (v : S16x2x4x128x1.Idx → EReal) (a : Fin 2) (b : Fin 4) :
    Ideal.hostReduceAdd reducesTo_S16x2x4x128x1_S2x4_d0_3_4 v 0 (ix2 a b) = ∑ n : Fin 16, ∑ q : Fin 128, v (ix5 n a b q 0) := by
  refine (zero_add _).trans ((Finset.sum_filter_eq_sum_of_fiber _ (fun k : Fin 16 × Fin 128 => ix5 k.1 a b k.2 (0 : Fin 1))
    (fun _ _ e => Prod.ext (congrFun e 0) (congrFun e 3)) (fun i => ⟨fun e => ⟨(i 0, i 3), ?_⟩, ?_⟩) v).trans (Fintype.sum_prod_type _))
  · have h0 := congrFun e 0
    have h1 := congrFun e 1
    funext c
    match c with
    | ⟨0, _⟩ => rfl
    | ⟨1, _⟩ => exact h0.symm
    | ⟨2, _⟩ => exact h1.symm
    | ⟨3, _⟩ => rfl
    | ⟨4, _⟩ => exact Subsingleton.elim (α := Fin 1) _ _
  · rintro ⟨k, rfl⟩
    funext c
    match c with
    | ⟨0, _⟩ => rfl
    | ⟨1, _⟩ => rfl

/-- A key's own part and the next block's, as the reference pads them. -/
theorem both_pad (f : Fin 16 → Fin 8 → Fin 256 → Fin 64 → ℝ) (n : Fin 16) (j : Fin 2) (t : Fin 128) (d : Fin 64) :
    ((heads4 f n j (ownk t) d : EReal) + if h : n.val < 15 ∧ t.val < 128 then (heads4 f ⟨1 + n.val, by omega⟩ j (befk t) d : EReal) else 0) = (both f n j t d : EReal) := by
  unfold both later
  by_cases h : n.val < 15
  · rw [dif_pos ⟨h, t.isLt⟩, dif_pos (show n.val + 1 < 16 by omega), ← EReal.coe_add]
    exact congrArg (fun i => ((heads4 f n j (ownk t) d + heads4 f i j (befk t) d : ℝ) : EReal)) (Fin.ext (Nat.add_comm _ _))
  · rw [dif_neg fun h' => h h'.1, dif_neg (show ¬n.val + 1 < 16 by omega), add_zero, add_zero]

section Seen
variable (I : Inp)

theorem kvh_qhd (j : Fin 2) (g : Fin 4) : kvh (qhd j g) = j := Fin.ext (by show (4 * j.val + g.val) / 4 = j.val; omega)
theorem qhd_eq (h : Fin 8) : qhd ⟨h.val / 4, by omega⟩ ⟨h.val % 4, by omega⟩ = h := Fin.ext (by show 4 * (h.val / 4) + h.val % 4 = h.val; omega)

theorem kz_seen (n : Fin 16) (j : Fin 2) (q : Fin 128) (k : Fin 256) (h : AttnSpec.mask n q k) : kz I n j k = I.kn n j k := by
  funext d
  unfold kz bandz Inp.kn band
  by_cases hk : k.val < 128
  · rw [dif_pos hk, if_neg fun h0 => h.2 ⟨h0, hk⟩]
    simp only [dif_pos hk]
  · rw [dif_neg hk]
    simp only [dif_neg hk]

theorem vz_seen (n : Fin 16) (j : Fin 2) (q : Fin 128) (k : Fin 256) (h : AttnSpec.mask n q k) : vz I n j k = I.vb n j k := by
  funext d
  unfold vz bandz Inp.vb band
  by_cases hk : k.val < 128
  · rw [dif_pos hk, if_neg fun h0 => h.2 ⟨h0, hk⟩, dif_pos hk]
  · rw [dif_neg hk, dif_neg hk]

theorem Ds_eq (n : Fin 16) (j : Fin 2) (g : Fin 4) (q : Fin 128) (k : Fin 256) : Ds I n j g q k = I.DS n (qhd j g) q k := by
  unfold Inp.DS
  rw [kvh_qhd]
  exact ds_congr (kz_seen I n j) (vz_seen I n j) q k

end Seen

section Stages
variable {x0 : (⟨S2048x2312, .f32⟩ : BufTy).Contents (Elt Ideal)} {x1 : (⟨S2048x512, .f32⟩ : BufTy).Contents (Elt Ideal)}
  {x2 x3 : (⟨S64, .f32⟩ : BufTy).Contents (Elt Ideal)} {x4 : (⟨S8, .f32⟩ : BufTy).Contents (Elt Ideal)}
  {x5 : (⟨S8x128x256, .f32⟩ : BufTy).Contents (Elt Ideal)} {I : Inp} (A : Args x0 x1 x2 x3 x4 x5 I)

include A

/-- The gradient of the bias. -/
theorem v224 (h : Fin 8) (k : Fin 256) (q : Fin 128) : val_main_v224 (F := Ideal) x0 x1 x2 x3 x4 x5 (ix3 h k q) = (I.dB h k q : EReal) := by
  unfold val_main_v224 val_main_v162 val_main_v161 val_main_v160 val_main_v159 val_main_cst_34 val_main_cst_35
  pointwise [v158 A]
  simp only [Ds_eq, qhd_eq, AttnReal.sum]
  rw [show ∀ r : ℝ, ∑ _i : Fin 1, r = r from fun r => by simp]
  rfl

/-- The gradient of the sinks. -/
theorem v225 (h : Fin 8) : val_main_v225 (F := Ideal) x0 x1 x2 x3 x4 x5 (ix2 h 0) = (I.dS h : EReal) := by
  unfold val_main_v225 val_main_v157 val_main_v156 val_main_v155 val_main_cst_33
  pointwise
  refine (sum034 _ _ _).trans ?_
  simp only [v154 A, AttnReal.sum]
  unfold Inp.dS Inp.DSK
  refine congrArg _ (Finset.sum_congr rfl fun n _ => Finset.sum_congr rfl fun q _ => ?_)
  have hq := qhd_eq h
  have hk := kvh_qhd (⟨h.val / 4, by omega⟩ : Fin 2) (⟨h.val % 4, by omega⟩ : Fin 4)
  rw [hq] at hk ⊢
  rw [← hk, ← dsk_congr (kz_seen I n _) (vz_seen I n _)]

theorem v165 (n : Fin 16) (j : Fin 2) (k : Fin 256) (q : Fin 128) (g : Fin 4) :
    val_main_v165 (F := Ideal) x0 x1 x2 x3 x4 x5 (ix5 n j k q g) = (Ds I n j g q k * (1 / 8) : ℝ) := by
  unfold val_main_v165 val_main_v164 val_main_v163 val_main_cst_36
  pointwise [v158 A]
  rw [eighth_bits, ← EReal.coe_mul]

theorem v166 (n : Fin 16) (j : Fin 2) (q : Fin 128) (g : Fin 4) (d : Fin 64) :
    val_main_v166 (F := Ideal) x0 x1 x2 x3 x4 x5 (ix5 n j q g d) = (I.DQN n (qhd j g) q d : EReal) := by
  rw [val_main_v166_apply]
  have hl (x : Fin 256) : lidx_main_v166 (ix5 n j q g d) x = ix5 n j x q g := eq_ix5 _
  have hr (x : Fin 256) : ridx_main_v166 (ix5 n j q g d) x = ix4 n x j d := eq_ix4 _
  simp only [hl, hr, v165 A, v51 A, ← EReal.coe_mul, AttnReal.sum]
  refine congrArg _ ?_
  unfold Inp.DQN
  rw [kvh_qhd, ← dqn_congr (kz_seen I n j) (vz_seen I n j)]
  unfold dqn
  rw [Finset.sum_mul]
  exact Finset.sum_congr rfl fun k _ => mul_right_comm _ _ _

theorem v184 (s : Fin 2048) (h : Fin 8) (d : Fin 64) :
    val_main_v184 (F := Ideal) x0 x1 x2 x3 x4 x5 (ix3 s h d) = (I.DQN (blk s) h (pos s) d : EReal) := by
  unfold val_main_v184 val_main_v167
  pointwise [v166 A]
  rw [qhd_eq]

theorem v168 (n : Fin 16) (j : Fin 2) (k : Fin 256) (d : Fin 64) :
    val_main_v168 (F := Ideal) x0 x1 x2 x3 x4 x5 (ix4 n j k d) = (heads4 I.DKN n j k d : EReal) := by
  unfold val_main_v168
  pointwise [v165 A, v45 A]
  simp only [← EReal.coe_mul, AttnReal.sum]
  rw [Finset.sum_comm]
  refine congrArg _ (Finset.sum_congr rfl fun g _ => ?_)
  unfold Inp.DKN
  rw [kvh_qhd, ← dkn_congr (kz_seen I n j) (vz_seen I n j)]
  unfold dkn
  rw [Finset.sum_mul]
  exact Finset.sum_congr rfl fun q _ => mul_right_comm _ _ _

theorem v138 (n : Fin 16) (j : Fin 2) (d : Fin 64) (k : Fin 256) :
    val_main_v138 (F := Ideal) x0 x1 x2 x3 x4 x5 (ix4 n j d k) = (heads4 I.DV n j k d : EReal) := by
  unfold val_main_v138
  pointwise [v136 A, v131 A]
  simp only [← EReal.coe_mul, AttnReal.sum]
  refine congrArg _ (Finset.sum_congr rfl fun g _ => ?_)
  unfold Inp.DV
  rw [kvh_qhd, ← dv_congr (kz_seen I n j)]
  exact Finset.sum_congr rfl fun q _ => mul_comm _ _

theorem v183 (s : Fin 2048) (j : Fin 2) (d : Fin 64) :
    val_main_v183 (F := Ideal) x0 x1 x2 x3 x4 x5 (ix3 s j d) = (both I.DKN (blk s) j (pos s) d : EReal) := by
  unfold val_main_v183 val_main_v182 val_main_v181 val_main_v180 val_main_v178 val_main_v177 val_main_v169 val_main_cst_38
  pointwise [v168 A]
  exact both_pad I.DKN (blk s) j (pos s) d

theorem v176 (s : Fin 2048) (j : Fin 2) (d : Fin 64) :
    val_main_v176 (F := Ideal) x0 x1 x2 x3 x4 x5 (ix3 s j d) = (both I.DV (blk s) j (pos s) d : EReal) := by
  unfold val_main_v176 val_main_v175 val_main_v174 val_main_v173 val_main_v171 val_main_v170 val_main_v139 val_main_cst_37
  pointwise [v138 A]
  exact both_pad I.DV (blk s) j (pos s) d

end Stages
end Cert.AttnRefIdeal.Hand
-- ==== Proof.AttnRefNorm.lean ====
/-
  The reference's results: the gradients of queries and keys through the scaling of the rows, the values' gradient, and the gains'
  gradients summed over all tokens.
-/
module

public import proofs.«01_k».proof.Proof.AttnRefGrad

@[expose] public section

set_option maxRecDepth 16384

noncomputable section

namespace Cert.AttnRefIdeal.Hand

open Cert.AttnRefIdeal Cert.AttnRefIdeal.Gen Cert.AttnRefIdeal.Read Idealize.ShloMosaic Idealize.ShloMosaic.TcCoe
open Cert.AttnSpec Cert.AttnReal

theorem two_bits : Ideal.ofBits .f32 0x40000000#32 = ((2 : ℝ) : EReal) := by
  simp [Ideal.ofBits, Ideal.ieee, -EReal.coe_mul]; norm_num

/-- The scaling's gradient as the reference forms it. -/
theorem nbwd_eq (x t : Fin 64 → ℝ) (d : Fin 64) :
    t d * rr eps x + (∑ e, x e * t e) * (-(1 / 2) * (rr eps x / ms x)) / 64 * (2 * x d) = nbwd eps x t d := by
  have hs : ∑ e, t e * hat eps x e = (∑ e, x e * t e) * rr eps x := by
    rw [Finset.sum_mul]
    exact Finset.sum_congr rfl fun e _ => by unfold hat; ring
  unfold nbwd
  rw [hs, rr_sq]
  unfold hat
  ring

/-- A sum over the first two axes of three. -/
theorem sum01 {n0 n1 n2 : ℕ} (h : (⟨3, ![n0, n1, n2]⟩ : Shape).ReducesTo [0, 1] ⟨1, ![n2]⟩) (v : (⟨3, ![n0, n1, n2]⟩ : Shape).Idx → EReal) (d : Fin n2) :
    Ideal.hostReduceAdd h v 0 (ix1 d) = ∑ a : Fin n0, ∑ b : Fin n1, v (ix3 a b d) := by
  refine (zero_add _).trans ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans (Fintype.sum_prod_type _))
  · have h0 := congrFun e 0
    funext c
    match c with
    | ⟨0, _⟩ => rfl
    | ⟨1, _⟩ => rfl
    | ⟨2, _⟩ => exact h0.symm
  · rintro ⟨k, rfl⟩
    funext c
    match c with
    | ⟨0, _⟩ => rfl

/-- The tokens counted block by block. -/
theorem sum_tok (f : Fin 2048 → ℝ) : ∑ s, f s = ∑ n : Fin 16, ∑ t : Fin 128, f (tok n t) := by
  rw [← Fintype.sum_prod_type' fun n t => f (tok n t)]
  refine (Fintype.sum_equiv ⟨fun p : Fin 16 × Fin 128 => tok p.1 p.2, fun s => (blk s, pos s), fun p => Prod.ext ?_ ?_, fun s => ?_⟩ _ _ fun _ => rfl).symm
  · exact Fin.ext (by show (128 * p.1.val + p.2.val) / 128 = p.1.val; omega)
  · exact Fin.ext (by show (128 * p.1.val + p.2.val) % 128 = p.2.val; omega)
  · exact Fin.ext (by show 128 * (s.val / 128) + s.val % 128 = s.val; omega)

theorem tok_blk (s : Fin 2048) : tok (blk s) (pos s) = s := Fin.ext (by show 128 * (s.val / 128) + s.val % 128 = s.val; omega)
theorem blk_tok (n : Fin 16) (r : Fin 128) : blk (tok n r) = n := Fin.ext (by show (128 * n.val + r.val) / 128 = n.val; omega)
theorem pos_tok (n : Fin 16) (r : Fin 128) : pos (tok n r) = r := Fin.ext (by show (128 * n.val + r.val) % 128 = r.val; omega)

section Stages
variable {x0 : (⟨S2048x2312, .f32⟩ : BufTy).Contents (Elt Ideal)} {x1 : (⟨S2048x512, .f32⟩ : BufTy).Contents (Elt Ideal)}
  {x2 x3 : (⟨S64, .f32⟩ : BufTy).Contents (Elt Ideal)} {x4 : (⟨S8, .f32⟩ : BufTy).Contents (Elt Ideal)}
  {x5 : (⟨S8x128x256, .f32⟩ : BufTy).Contents (Elt Ideal)} {I : Inp} (A : Args x0 x1 x2 x3 x4 x5 I)

include A

/-! ## Queries -/

theorem v19 (s : Fin 2048) (h : Fin 8) : val_main_v19 (F := Ideal) x0 (ix3 s h 0) = (-(1 / 2) * (rr eps (I.Q s h) / ms (I.Q s h)) : ℝ) := by
  unfold val_main_v19 val_main_v18 val_main_v17 val_main_cst_3
  pointwise [v15 A, v16 A]
  rw [neg_half_bits, AttnReal.div (ms_pos _).ne', ← EReal.coe_mul]

theorem v9 (s : Fin 2048) (h : Fin 8) (d : Fin 64) : val_main_v9 (F := Ideal) x0 (ix3 s h d) = (2 * I.Q s h d : ℝ) := by
  unfold val_main_v9 val_main_v8 val_main_cst
  pointwise [v6 A]
  rw [two_bits, ← EReal.coe_mul]

theorem v209 (s : Fin 2048) (h : Fin 8) (d : Fin 64) :
    val_main_v209 (F := Ideal) x0 x1 x2 x3 x4 x5 (ix3 s h d) = (I.DQN (blk s) h (pos s) d * I.qg d : ℝ) := by
  unfold val_main_v209 val_main_v208 val_main_v22
  pointwise [v184 A, A.qg]
  rw [← EReal.coe_mul]

theorem v213 (s : Fin 2048) (h : Fin 8) :
    val_main_v213 (F := Ideal) x0 x1 x2 x3 x4 x5 (ix3 s h 0) = (∑ e, I.Q s h e * (I.DQN (blk s) h (pos s) e * I.qg e) : ℝ) := by
  unfold val_main_v213 val_main_v212 val_main_v211 val_main_cst_46
  pointwise [v209 A, v6 A]
  simp only [← EReal.coe_mul, AttnReal.sum]

theorem v219 (s : Fin 2048) (h : Fin 8) : val_main_v219 (F := Ideal) x0 x1 x2 x3 x4 x5 (ix2 s h)
    = ((∑ e, I.Q s h e * (I.DQN (blk s) h (pos s) e * I.qg e)) * (-(1 / 2) * (rr eps (I.Q s h) / ms (I.Q s h))) / 64 : ℝ) := by
  unfold val_main_v219 val_main_v218 val_main_v217 val_main_v216 val_main_cst_47 val_main_cst_48
  pointwise
  simp only [head_bits, Fin.sum_univ_one]
  erw [v213 A, v19 A]
  rw [← EReal.coe_mul, AttnReal.div (by norm_num)]

theorem v223 (s : Fin 2048) (k : Fin 512) :
    val_main_v223 (F := Ideal) x0 x1 x2 x3 x4 x5 (ix2 s k) = (I.dQ (blk s) (pos s) (qhead k) (feat k) : EReal) := by
  unfold val_main_v223 val_main_v222 val_main_v221 val_main_v220 val_main_v215 val_main_v214
  pointwise [v219 A, v9 A, v209 A, v16 A]
  simp only [← EReal.coe_mul, ← EReal.coe_add]
  unfold Inp.dQ
  rw [tok_blk, ← nbwd_eq]

/-! ## Keys -/

theorem v38 (s : Fin 2048) (h : Fin 2) : val_main_v38 (F := Ideal) x0 (ix3 s h 0) = (-(1 / 2) * (rr eps (I.K s h) / ms (I.K s h)) : ℝ) := by
  unfold val_main_v38 val_main_v37 val_main_v36 val_main_cst_8
  pointwise [v34 A, v35 A]
  rw [neg_half_bits, AttnReal.div (ms_pos _).ne', ← EReal.coe_mul]

theorem v28 (s : Fin 2048) (h : Fin 2) (d : Fin 64) : val_main_v28 (F := Ideal) x0 (ix3 s h d) = (2 * I.K s h d : ℝ) := by
  unfold val_main_v28 val_main_v27 val_main_cst_4
  pointwise [v25 A]
  rw [two_bits, ← EReal.coe_mul]

theorem v190 (s : Fin 2048) (h : Fin 2) (d : Fin 64) :
    val_main_v190 (F := Ideal) x0 x1 x2 x3 x4 x5 (ix3 s h d) = (both I.DKN (blk s) h (pos s) d * I.kg d : ℝ) := by
  unfold val_main_v190 val_main_v189 val_main_v41
  pointwise [v183 A, A.kg]
  rw [← EReal.coe_mul]

theorem v194 (s : Fin 2048) (h : Fin 2) :
    val_main_v194 (F := Ideal) x0 x1 x2 x3 x4 x5 (ix3 s h 0) = (∑ e, I.K s h e * (both I.DKN (blk s) h (pos s) e * I.kg e) : ℝ) := by
  unfold val_main_v194 val_main_v193 val_main_v192 val_main_cst_41
  pointwise [v190 A, v25 A]
  simp only [← EReal.coe_mul, AttnReal.sum]

theorem v200 (s : Fin 2048) (h : Fin 2) : val_main_v200 (F := Ideal) x0 x1 x2 x3 x4 x5 (ix2 s h)
    = ((∑ e, I.K s h e * (both I.DKN (blk s) h (pos s) e * I.kg e)) * (-(1 / 2) * (rr eps (I.K s h) / ms (I.K s h))) / 64 : ℝ) := by
  unfold val_main_v200 val_main_v199 val_main_v198 val_main_v197 val_main_cst_42 val_main_cst_43
  pointwise
  simp only [head_bits, Fin.sum_univ_one]
  erw [v194 A, v38 A]
  rw [← EReal.coe_mul, AttnReal.div (by norm_num)]

theorem v204 (s : Fin 2048) (k : Fin 128) :
    val_main_v204 (F := Ideal) x0 x1 x2 x3 x4 x5 (ix2 s k) = (I.dK (blk s) (pos s) (khead k) (feat k) : EReal) := by
  unfold val_main_v204 val_main_v203 val_main_v202 val_main_v201 val_main_v196 val_main_v195
  pointwise [v200 A, v28 A, v190 A, v35 A]
  simp only [← EReal.coe_mul, ← EReal.coe_add]
  unfold Inp.dK
  rw [tok_blk, ← nbwd_eq]

/-! ## Values -/

theorem v185 (s : Fin 2048) (k : Fin 128) :
    val_main_v185 (F := Ideal) x0 x1 x2 x3 x4 x5 (ix2 s k) = (I.dV (blk s) (pos s) (khead k) (feat k) : EReal) := by
  unfold val_main_v185
  pointwise [v176 A]
  rfl

/-! ## The gains -/

theorem v206 (d : Fin 64) : val_main_v206 (F := Ideal) x0 x1 x2 x3 x4 x5 (ix1 d) = (I.dQG d : EReal) := by
  unfold val_main_v206 val_main_v205 val_main_cst_44
  pointwise
  refine (sum01 reducesTo_S2048x8x64_S64_d0_1 _ d).trans ?_
  pointwise [v21 A, v184 A]
  simp only [← EReal.coe_mul, AttnReal.sum]
  rw [sum_tok]
  simp only [blk_tok, pos_tok]
  unfold Inp.dQG
  simp only [mul_comm]

theorem v226 (d : Fin 64) : val_main_v226 (F := Ideal) x0 x1 x2 x3 x4 x5 (ix2 d 0) = (I.dQG d : EReal) := by
  unfold val_main_v226 val_main_v210 val_main_v207 val_main_cst_45
  pointwise
  refine (sum01 reducesTo_S1x1x64_S64_d0_1 _ d).trans ?_
  pointwise [v206 A]
  simp

theorem v187 (d : Fin 64) : val_main_v187 (F := Ideal) x0 x1 x2 x3 x4 x5 (ix1 d) = (I.dKG d : EReal) := by
  unfold val_main_v187 val_main_v186 val_main_cst_39
  pointwise
  refine (sum01 reducesTo_S2048x2x64_S64_d0_1 _ d).trans ?_
  pointwise [v40 A, v183 A]
  simp only [← EReal.coe_mul, AttnReal.sum]
  rw [sum_tok]
  simp only [blk_tok, pos_tok]
  unfold Inp.dKG Inp.dKGb
  refine congrArg _ (Finset.sum_congr rfl fun n _ => ?_)
  rw [Finset.sum_comm]
  simp only [mul_comm]

theorem v227 (d : Fin 64) : val_main_v227 (F := Ideal) x0 x1 x2 x3 x4 x5 (ix2 0 d) = (I.dKG d : EReal) := by
  unfold val_main_v227 val_main_v191 val_main_v188 val_main_cst_40
  pointwise
  refine (sum01 reducesTo_S1x1x64_S64_d0_1 _ d).trans ?_
  pointwise [v187 A]
  simp

end Stages
end Cert.AttnRefIdeal.Hand
-- ==== Proof.Attn.lean ====
/-
  The attention's backward call: where its arguments are finite, the kernel and the reference end with the same seven gradients.
-/
module

public import proofs.«01_k».proof.Defs
public import proofs.«01_k».proof.Proof.Alg
public import proofs.«01_k».proof.Proof.AttnFinal
public import proofs.«01_k».proof.Proof.AttnRefNorm
public import proofs.«01_k».proof.Proof.Gen.AttnRefIdeal.Run

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnSpec Cert.AttnReal

/-- What the precondition says: the arguments hold real numbers. -/
theorem reads_of_pre [Cert.Pre_attn_finite.Facts] (x0 : Vec Ideal S2048x2312 .f32) (x1 : Vec Ideal S2048x512 .f32) (x2 x3 : Vec Ideal S64 .f32)
    (x4 : Vec Ideal S8 .f32) (x5 : Vec Ideal S8x128x256 .f32)
    (h0 : (Cert.Pre_attn_finite.fn (F := Ideal) x0 x1 x2 x3 x4 x5).1 = fun _ => 1#1)
    (h1 : (Cert.Pre_attn_finite.fn (F := Ideal) x0 x1 x2 x3 x4 x5).2.1 = fun _ => 1#1)
    (h2 : (Cert.Pre_attn_finite.fn (F := Ideal) x0 x1 x2 x3 x4 x5).2.2.1 = fun _ => 1#1)
    (h3 : (Cert.Pre_attn_finite.fn (F := Ideal) x0 x1 x2 x3 x4 x5).2.2.2.1 = fun _ => 1#1)
    (h4 : (Cert.Pre_attn_finite.fn (F := Ideal) x0 x1 x2 x3 x4 x5).2.2.2.2.1 = fun _ => 1#1)
    (h5 : (Cert.Pre_attn_finite.fn (F := Ideal) x0 x1 x2 x3 x4 x5).2.2.2.2.2 = fun _ => 1#1) :
    ∃ I : Inp, Cert.AttnRefIdeal.Hand.Args x0 x1 x2 x3 x4 x5 I := by
  have e0 (s : Fin 2048) (k : Fin 768) : ∃ a : ℝ, x0 (ix2 s ⟨k.val, by omega⟩) = a := by
    have hz : (extractStridedSlice Cert.Pre_attn_finite.S2048x768 ![0, 0] · Cert.Pre_attn_finite.Facts.slices_S2048x2312_S2048x768_0_0) x0 (ix2 s k)
        = x0 (ix2 s ⟨k.val, by omega⟩) := congrArg x0 (funext fun c => Fin.ext (by
      match c with
      | ⟨0, _⟩ => exact Nat.zero_add _
      | ⟨1, _⟩ => exact Nat.zero_add _))
    rw [← hz]
    exact Alg.finite_of_abs_lt _ (congrFun h0 (ix2 s k))
  have e1 (s : Fin 2048) (k : Fin 512) : ∃ a : ℝ, x1 (ix2 s k) = a := Alg.finite_of_abs_lt _ (congrFun h1 (ix2 s k))
  have e2 (d : Fin 64) : ∃ a : ℝ, x2 (ix1 d) = a := Alg.finite_of_abs_lt _ (congrFun h2 (ix1 d))
  have e3 (d : Fin 64) : ∃ a : ℝ, x3 (ix1 d) = a := Alg.finite_of_abs_lt _ (congrFun h3 (ix1 d))
  have e4 (h : Fin 8) : ∃ a : ℝ, x4 (ix1 h) = a := Alg.finite_of_abs_lt _ (congrFun h4 (ix1 h))
  have e5 (h : Fin 8) (q : Fin 128) (k : Fin 256) : ∃ a : ℝ, x5 (ix3 h q k) = a := Alg.finite_of_abs_lt _ (congrFun h5 (ix3 h q k))
  choose X hX using e0
  choose G hG using e1
  choose qg hqg using e2
  choose kg hkg using e3
  choose sk hsk using e4
  choose b hb using e5
  exact ⟨⟨X, G, qg, kg, sk, b⟩, hX, hG, hqg, hkg, hsk, hb⟩

/-- The claim: where every argument is finite, both programs end with the same seven gradients. -/
theorem values [hK : Cert.AttnIdeal.Facts] [hR : Cert.AttnRefIdeal.Facts] [hP : Cert.Pre_attn_finite.Facts] :
    algebraic_AttnIdeal_AttnRefIdeal_pre_attn_finite := fun m ρ m' ρ' hpre hag => by
  have hI (c : Dev nD) : ∃ I : Inp, Cert.AttnRefIdeal.Hand.Args (A0 m c) (A1 m c) (A2 m c) (A3 m c) (A4 m c) (A5 m c) I :=
    reads_of_pre _ _ _ _ _ _ (hpre c).1 (hpre c).2.1 (hpre c).2.2.1 (hpre c).2.2.2.1 (hpre c).2.2.2.2.1 (hpre c).2.2.2.2.2
  choose I A using hI
  have R (c : Dev nD) : Reads m c (I c) := ⟨(A c).x, (A c).g, (A c).qg, (A c).kg, (A c).sk, (A c).b⟩
  refine ⟨fun c => resQ (I c), fun c => resK (I c), fun c => resV (I c), fun c => resB (I c), fun c => resS (I c), fun c => resQG (I c), fun c => resKG (I c), ?_, ?_⟩
  · exact (θ_run defs _ _).mono (fun _ h c => ⟨(h c).1.trans (final10 (R c)), (h c).2.1.trans (final11 (R c)), (h c).2.2.1.trans (final12 (R c)),
      (h c).2.2.2.1.trans (final13 (R c)), (h c).2.2.2.2.1.trans (final14 (R c)), (h c).2.2.2.2.2.1.trans (final15 (R c)),
      (h c).2.2.2.2.2.2.1.trans (final16 (R c)), (h c).2.2.2.2.2.2.2⟩) (Value.run_blocks m ρ)
  · have B (c : Dev nD) : Cert.AttnRefIdeal.Hand.Args (m' ((c.tc : Thread Cert.AttnRefIdeal.nD Cert.AttnRefIdeal.τ).loc Cert.AttnRefIdeal.main_arg0))
        (m' ((c.tc : Thread Cert.AttnRefIdeal.nD Cert.AttnRefIdeal.τ).loc Cert.AttnRefIdeal.main_arg1))
        (m' ((c.tc : Thread Cert.AttnRefIdeal.nD Cert.AttnRefIdeal.τ).loc Cert.AttnRefIdeal.main_arg2))
        (m' ((c.tc : Thread Cert.AttnRefIdeal.nD Cert.AttnRefIdeal.τ).loc Cert.AttnRefIdeal.main_arg3))
        (m' ((c.tc : Thread Cert.AttnRefIdeal.nD Cert.AttnRefIdeal.τ).loc Cert.AttnRefIdeal.main_arg4))
        (m' ((c.tc : Thread Cert.AttnRefIdeal.nD Cert.AttnRefIdeal.τ).loc Cert.AttnRefIdeal.main_arg5)) (I c) := by
      obtain ⟨h0, h1, h2, h3, h4, h5⟩ := hag c
      rw [h0, h1, h2, h3, h4, h5]
      exact A c
    refine (θ_run _ _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩) (Cert.AttnRefIdeal.Value.run m' ρ')
    · refine (Cert.AttnRefIdeal.Read.val_main_v223_eq _).trans ?_
      refine funext fun (i : S2048x512.Idx) => ?_
      obtain ⟨s, k, rfl⟩ : ∃ (s : Fin 2048) (k : Fin 512), i = ix2 s k := ⟨_, _, eq_ix2 i⟩
      exact Cert.AttnRefIdeal.Hand.v223 (B c) s k
    · refine (Cert.AttnRefIdeal.Read.val_main_v204_eq _).trans ?_
      refine funext fun (i : S2048x128.Idx) => ?_
      obtain ⟨s, k, rfl⟩ : ∃ (s : Fin 2048) (k : Fin 128), i = ix2 s k := ⟨_, _, eq_ix2 i⟩
      exact Cert.AttnRefIdeal.Hand.v204 (B c) s k
    · refine (Cert.AttnRefIdeal.Read.val_main_v185_eq _).trans ?_
      refine funext fun (i : S2048x128.Idx) => ?_
      obtain ⟨s, k, rfl⟩ : ∃ (s : Fin 2048) (k : Fin 128), i = ix2 s k := ⟨_, _, eq_ix2 i⟩
      exact Cert.AttnRefIdeal.Hand.v185 (B c) s k
    · refine (Cert.AttnRefIdeal.Read.val_main_v224_eq _).trans ?_
      refine funext fun (i : S8x256x128.Idx) => ?_
      obtain ⟨h, k, q, rfl⟩ : ∃ (h : Fin 8) (k : Fin 256) (q : Fin 128), i = ix3 h k q := ⟨_, _, _, eq_ix3 i⟩
      exact Cert.AttnRefIdeal.Hand.v224 (B c) h k q
    · refine (Cert.AttnRefIdeal.Read.val_main_v225_eq _).trans ?_
      refine funext fun (i : S8x1.Idx) => ?_
      obtain ⟨h, z, rfl⟩ : ∃ (h : Fin 8) (z : Fin 1), i = ix2 h z := ⟨_, _, eq_ix2 i⟩
      rw [Subsingleton.elim z 0]
      exact Cert.AttnRefIdeal.Hand.v225 (B c) h
    · refine (Cert.AttnRefIdeal.Read.val_main_v226_eq _).trans ?_
      refine funext fun (i : S64x1.Idx) => ?_
      obtain ⟨d, z, rfl⟩ : ∃ (d : Fin 64) (z : Fin 1), i = ix2 d z := ⟨_, _, eq_ix2 i⟩
      rw [Subsingleton.elim z 0]
      exact Cert.AttnRefIdeal.Hand.v226 (B c) d
    · refine (Cert.AttnRefIdeal.Read.val_main_v227_eq _).trans ?_
      refine funext fun (i : S1x64.Idx) => ?_
      obtain ⟨z, d, rfl⟩ : ∃ (z : Fin 1) (d : Fin 64), i = ix2 z d := ⟨_, _, eq_ix2 i⟩
      rw [Subsingleton.elim z 0]
      exact Cert.AttnRefIdeal.Hand.v227 (B c) d

end Cert.AttnIdeal.Hand
-- ==== Proof.AttnFPoint.lean ====
/-
  What one grid point of the attention's forward pass computes for a query head, from the blocks it loads: the attention of
  the backward pass's module, applied to the values.
-/
module

public import proofs.«01_k».proof.Proof.AttnPoint
public import proofs.«01_k».proof.Proof.AttnTiles
public import proofs.«01_k».proof.Proof.Gen.AttnFIdeal.Skeleton

@[expose] public section

set_option maxRecDepth 16384

noncomputable section

namespace Cert.AttnFIdeal.Hand

open Cert.AttnFIdeal Cert.AttnFIdeal.Gen Idealize.ShloMosaic Idealize.ShloMosaic.TcCoe Idealize.SL.Sem
open Cert.AttnSpec Cert.AttnReal
open Cert.AttnIdeal.Hand (pair hP hP_apply Holds kv qc kc rq rk2 rqn rkn headB)

theorem slice_vt : ∀ j : Fin 2, S128x256.Slices ![64 * j.val, 0] S64x256 := by decide

/-- The values of a key head, features in rows. -/
def headVT (lv lvp : FVec Ideal S128x128 .f32) (j : Fin 2) : FVec Ideal S64x256 .bf16 :=
  truncf .bf16 (extractStridedSlice S64x256 ![64 * j.val, 0] (transpose S128x256 [1, 0] (pair lvp lv) transposes_S256x128_p1_0_S128x256) (slice_vt j)) bitsLt_bf16_f32

/-- What a point loads. -/
structure Pt where
  first : BitVec 1
  lq : FVec Ideal S128x512 .f32
  lk : FVec Ideal S128x128 .f32
  lkp : FVec Ideal S128x128 .f32
  lv : FVec Ideal S128x128 .f32
  lvp : FVec Ideal S128x128 .f32
  lqg : FVec Ideal S64x1 .f32
  lkg : FVec Ideal S1x64 .f32
  σ : Fin 8 → Elt Ideal .f32
  b : Fin 8 → Vec Ideal S1x256x128 .f32

/-- The output of a query head, features in rows. -/
def Pt.o (p : Pt) (h : Fin 8) : FVec Ideal S64x128 .f32 :=
  matmul dot_S64x256_S256x128_S64x128_1_0_0_1_n_n none (headVT p.lv p.lvp (kv h)) (truncf .bf16 (hP p.first p.lq p.lk p.lkp p.lqg p.lkg p.σ p.b h) bitsLt_bf16_f32)
    (constant S64x128 .f32 0x00000000#32)

section Read
variable {p : Pt} {lo : FVec Ideal S128x512 .f32} {Q O : Fin 128 → Fin 512 → ℝ} {K Kp V Vp : Fin 128 → Fin 128 → ℝ} {QG KG : Fin 64 → ℝ} {SK : Fin 8 → ℝ}
  {B : Fin 8 → Fin 128 → Fin 256 → ℝ} {W M : Fin 128 → Fin 256 → Prop} [∀ q k, Decidable (W q k)] [∀ q k, Decidable (M q k)]
  (H : Holds p.first p.lq lo p.lk p.lkp p.lv p.lvp p.lqg p.lkg p.σ p.b Q O K Kp V Vp QG KG SK B W M) (h : Fin 8)
include H

theorem headVT_apply (j : Fin 2) (d : Fin 64) (t : Fin 256) : headVT p.lv p.lvp j (ix2 d t) = (rk2 Vp V j t d : EReal) := by
  unfold headVT pair
  pointwise [H.v, H.vp]
  unfold rk2
  split <;> rfl

theorem o_apply (d : Fin 64) (q : Fin 128) : p.o h (ix2 d q)
    = ((∑ k, prob (rqn QG Q h) (rkn KG Kp K (kv h)) (B h) (SK h) M q k * rk2 Vp V (kv h) k d : ℝ) : EReal) := by
  unfold Pt.o
  pointwise [headVT_apply H, hP_apply H]
  simp only [← EReal.coe_mul, AttnReal.sum]
  simp only [mul_comm]

end Read

/-! ### The body's loads -/

abbrev ldq (arg : Memref sig .tc .vmem S128x512 .f32) (h : arg.IsWhole) (x : Vec Ideal S128x512 .f32) : FVec Ideal S128x512 .f32 :=
  View.readAt (Elt Ideal) arg.view (Rect.unit (s := S128x512) ![0, 0] S128x512.size inb_S128x512_S128x512_0_0).toLoadRect (h.unread x)
abbrev ldk (arg : Memref sig .tc .vmem S128x128 .f32) (h : arg.IsWhole) (x : Vec Ideal S128x128 .f32) : FVec Ideal S128x128 .f32 :=
  View.readAt (Elt Ideal) arg.view (Rect.unit (s := S128x128) ![0, 0] S128x128.size inb_S128x128_S128x128_0_0).toLoadRect (h.unread x)
abbrev ldqg (arg : Memref sig .tc .vmem S64x1 .f32) (h : arg.IsWhole) (x : Vec Ideal S64x1 .f32) : FVec Ideal S64x1 .f32 :=
  View.readAt (Elt Ideal) arg.view (Rect.unit (s := S64x1) ![0, 0] S64x1.size inb_S64x1_S64x1_0_0).toLoadRect (h.unread x)
abbrev ldkg (arg : Memref sig .tc .vmem S1x64 .f32) (h : arg.IsWhole) (x : Vec Ideal S1x64 .f32) : FVec Ideal S1x64 .f32 :=
  View.readAt (Elt Ideal) arg.view (Rect.unit (s := S1x64) ![0, 0] S1x64.size inb_S1x64_S1x64_0_0).toLoadRect (h.unread x)

theorem inb_b : ∀ h : Fin 8, ∀ a, (![h.val, 0, 0] : Fin 3 → Nat) a + S1x256x128.size a ≤ S8x256x128.size a := by decide
theorem inb_s : ∀ h : Fin 8, ∀ a, (![h.val] : Fin 1 → Nat) a + S1.size a ≤ S8.size a := by decide
abbrev ldb (arg : Memref sig .tc .vmem S8x256x128 .f32) (ha : arg.IsWhole) (x : Vec Ideal S8x256x128 .f32) (h : Fin 8) : Vec Ideal S1x256x128 .f32 :=
  View.readAt (Elt Ideal) arg.view (Rect.unit (s := S8x256x128) ![h.val, 0, 0] S1x256x128.size (inb_b h)).toLoadRect (ha.unread x)
abbrev lds (arg : Memref sig .tc .smem S8 .f32) (ha : arg.IsWhole) (x : Vec Ideal S8 .f32) (h : Fin 8) : Elt Ideal .f32 :=
  View.readAt (Elt Ideal) arg.view (Rect.unit (s := S8) ![h.val] S1.size (inb_s h)).toLoadRect (ha.unread x) (Shape.Idx.first (show 0 < S1.numel by decide))

/-- Whether a point's block of tokens is the first. -/
abbrev fst (i : grid0.Coords) : BitVec 1 := Scalar.cmpi .eq (BitVec.ofNat 32 (i 0).val) 0#32

theorem zero2 : (![0, 0] : Fin 2 → Nat) = fun _ => 0 := funext fun a => by fin_cases a <;> rfl

theorem ldq_eq (arg : Memref sig .tc .vmem S128x512 .f32) (h : arg.IsWhole) (x : Vec Ideal S128x512 .f32) : ldq arg h x = x := by
  unfold ldq
  rw [View.readAt_eq_ld, h.read_unread, View.ld_unit_zero (S := S128x512) zero2]
theorem ldk_eq (arg : Memref sig .tc .vmem S128x128 .f32) (h : arg.IsWhole) (x : Vec Ideal S128x128 .f32) : ldk arg h x = x := by
  unfold ldk
  rw [View.readAt_eq_ld, h.read_unread, View.ld_unit_zero (S := S128x128) zero2]
theorem ldqg_eq (arg : Memref sig .tc .vmem S64x1 .f32) (h : arg.IsWhole) (x : Vec Ideal S64x1 .f32) : ldqg arg h x = x := by
  unfold ldqg
  rw [View.readAt_eq_ld, h.read_unread, View.ld_unit_zero (S := S64x1) zero2]
theorem ldkg_eq (arg : Memref sig .tc .vmem S1x64 .f32) (h : arg.IsWhole) (x : Vec Ideal S1x64 .f32) : ldkg arg h x = x := by
  unfold ldkg
  rw [View.readAt_eq_ld, h.read_unread, View.ld_unit_zero (S := S1x64) zero2]
theorem ldb_eq (arg : Memref sig .tc .vmem S8x256x128 .f32) (ha : arg.IsWhole) (x : Vec Ideal S8x256x128 .f32) : ldb arg ha x = headB x := by
  funext h y
  unfold ldb
  rw [View.readAt_eq_ld, ha.read_unread]
  refine View.ld_unit_apply_of _ _ _ _ _ _ fun a => ?_
  match a with
  | 0 => have := (y 0).isLt; show h.val = h.val + (y 0).val; have h1 : (y 0).val < 1 := (y 0).isLt; omega
  | 1 => exact (Nat.zero_add _).symm
  | 2 => exact (Nat.zero_add _).symm
theorem lds_eq (arg : Memref sig .tc .smem S8 .f32) (ha : arg.IsWhole) (x : Vec Ideal S8 .f32) : lds arg ha x = fun h => x (ix1 h) := by
  funext h
  unfold lds
  rw [View.readAt_eq_ld, ha.read_unread]
  refine View.ld_unit_apply_of _ _ _ _ _ _ fun a => ?_
  match a with
  | 0 => rfl

/-- What a point loads, from the windows' contents. -/
def pt (i : grid0.Coords) (x0 : Vec Ideal S128x512 .f32) (x1 x2 x3 x4 : Vec Ideal S128x128 .f32) (x5 : Vec Ideal S64x1 .f32)
    (x6 : Vec Ideal S1x64 .f32) (x7 : Vec Ideal S8 .f32) (x8 : Vec Ideal S8x256x128 .f32) : Pt :=
  ⟨fst i, x0, x1, x2, x3, x4, x5, x6, fun h => x7 (ix1 h), headB x8⟩

/-- What a point loads through its windows. -/
def loads (i : grid0.Coords) (arg1 : Memref sig .tc .vmem S128x512 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S64x1 .f32) (harg6 : arg6.IsWhole)
    (arg7 : Memref sig .tc .vmem S1x64 .f32) (harg7 : arg7.IsWhole) (arg8 : Memref sig .tc .smem S8 .f32) (harg8 : arg8.IsWhole)
    (arg9 : Memref sig .tc .vmem S8x256x128 .f32) (harg9 : arg9.IsWhole)
    (x0 : Vec Ideal S128x512 .f32) (x1 x2 x3 x4 : Vec Ideal S128x128 .f32) (x5 : Vec Ideal S64x1 .f32)
    (x6 : Vec Ideal S1x64 .f32) (x7 : Vec Ideal S8 .f32) (x8 : Vec Ideal S8x256x128 .f32) : Pt :=
  ⟨fst i, ldq arg1 harg1 x0, ldk arg2 harg2 x1, ldk arg3 harg3 x2, ldk arg4 harg4 x3, ldk arg5 harg5 x4, ldqg arg6 harg6 x5, ldkg arg7 harg7 x6, lds arg8 harg8 x7, ldb arg9 harg9 x8⟩

theorem loads_eq (i : grid0.Coords) (arg1 : Memref sig .tc .vmem S128x512 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S64x1 .f32) (harg6 : arg6.IsWhole)
    (arg7 : Memref sig .tc .vmem S1x64 .f32) (harg7 : arg7.IsWhole) (arg8 : Memref sig .tc .smem S8 .f32) (harg8 : arg8.IsWhole)
    (arg9 : Memref sig .tc .vmem S8x256x128 .f32) (harg9 : arg9.IsWhole)
    (x0 : Vec Ideal S128x512 .f32) (x1 x2 x3 x4 : Vec Ideal S128x128 .f32) (x5 : Vec Ideal S64x1 .f32)
    (x6 : Vec Ideal S1x64 .f32) (x7 : Vec Ideal S8 .f32) (x8 : Vec Ideal S8x256x128 .f32) :
    loads i arg1 harg1 arg2 harg2 arg3 harg3 arg4 harg4 arg5 harg5 arg6 harg6 arg7 harg7 arg8 harg8 arg9 harg9 x0 x1 x2 x3 x4 x5 x6 x7 x8
      = pt i x0 x1 x2 x3 x4 x5 x6 x7 x8 := by
  unfold loads pt
  rw [ldq_eq, ldk_eq, ldk_eq, ldk_eq, ldk_eq, ldqg_eq, ldkg_eq, lds_eq, ldb_eq]

end Cert.AttnFIdeal.Hand

end
-- ==== Proof.AttnAtt.lean ====
/-
  The output of the windowed attention over all 2048 tokens, as a sum of real numbers.
-/
module

public import proofs.«01_k».proof.Proof.AttnFull

@[expose] public section

noncomputable section

namespace Cert.AttnSpec

/-- The attention's output for a query: its key head's values, each with its part. -/
def Inp.att (I : Inp) (n : Fin 16) (h : Fin 8) (q : Fin 128) (d : Fin 64) : ℝ :=
  ∑ k, prob (I.qn n h) (I.kn n (kvh h)) (I.b h) (I.sk h) (mask n) q k * I.vb n (kvh h) k d

end Cert.AttnSpec

end
-- ==== Proof.AttnFIn.lean ====
/-
  What the host prepares for the attention's forward pass, and what each grid point loads of it as real numbers: point `n`
  handles block `n`.
-/
module

public import proofs.«01_k».proof.Proof.AttnFPoint
public import proofs.«01_k».proof.Proof.AttnHost
public import proofs.«01_k».proof.Proof.AttnAtt
public import proofs.«01_k».proof.Proof.Gen.AttnFIdeal.Value
public import Idealize.ShloMosaic.Lib.StableHlo.ReadAt

@[expose] public section

set_option maxRecDepth 16384

noncomputable section

namespace Cert.AttnFIdeal.Hand

open Cert.AttnFIdeal Cert.AttnFIdeal.Gen Idealize.ShloMosaic Idealize.ShloMosaic.TcCoe Idealize.SL.Sem
open Cert.AttnSpec Cert.AttnReal
open Cert.AttnIdeal.Hand (win_bit Holds)
section In
variable (m : (ℓ : Loc nD τ sig) → Buf (Elt Ideal) ℓ) (c : Dev nD)

abbrev A0 : Vec Ideal S2048x2312 .f32 := m ((c : Thread nD τ).loc main_arg0)
abbrev A1 : Vec Ideal S64 .f32 := m ((c : Thread nD τ).loc main_arg1)
abbrev A2 : Vec Ideal S64 .f32 := m ((c : Thread nD τ).loc main_arg2)
abbrev A3 : Vec Ideal S8 .f32 := m ((c : Thread nD τ).loc main_arg3)
abbrev A4 : Vec Ideal S8x128x256 .f32 := m ((c : Thread nD τ).loc main_arg4)

/-- The arguments are these real numbers. -/
structure Reads (I : Inp) : Prop where
  x : ∀ s (k : Fin 768), A0 m c (ix2 s ⟨k.val, by omega⟩) = (I.X s k : EReal)
  qg : ∀ d, A1 m c (ix1 d) = (I.qg d : EReal)
  kg : ∀ d, A2 m c (ix1 d) = (I.kg d : EReal)
  sk : ∀ h, A3 m c (ix1 h) = (I.sk h : EReal)
  b : ∀ h q k, A4 m c (ix3 h q k) = (I.b h q k : EReal)

/-! ### What the host prepares -/

theorem V_q (s : Fin 2048) (k : Fin 512) : (V m c main_v7 : Vec Ideal S2048x2432 .f32) (ix2 s ⟨k.val, by omega⟩) = A0 m c (ix2 s ⟨k.val, by omega⟩) := by
  unfold V
  after_reads_at
  refine (congrFun (StableHlo.unary_result ..) _).trans ?_
  pointwise
  rfl

theorem V_k (s : Fin 2048) (k : Fin 128) : (V m c main_v7 : Vec Ideal S2048x2432 .f32) (ix2 s ⟨2048 + k.val, by omega⟩) = A0 m c (ix2 s ⟨512 + k.val, by omega⟩) := by
  unfold V
  after_reads_at
  rw [dif_neg (by omega), dif_neg (by omega), dif_neg (by omega), dif_pos (by omega)]
  refine (congrFun (StableHlo.unary_result ..) _).trans ?_
  pointwise
  rw [show (⟨512 + (2048 + k.val - 512 - 512 - 1024), by omega⟩ : Fin 2312) = ⟨512 + k.val, by omega⟩ from Fin.ext (by show 512 + (2048 + k.val - 512 - 512 - 1024) = 512 + k.val; omega)]
  exact congrFun (StableHlo.upto_unwritten [main_v0] rfl (by decide) _) _

theorem V_v (s : Fin 2048) (k : Fin 128) : (V m c main_v7 : Vec Ideal S2048x2432 .f32) (ix2 s ⟨2176 + k.val, by omega⟩) = A0 m c (ix2 s ⟨640 + k.val, by omega⟩) := by
  unfold V
  after_reads_at
  rw [dif_neg (by omega), dif_neg (by omega), dif_neg (by omega), dif_neg (by omega), dif_pos (by omega)]
  refine (congrFun (StableHlo.unary_result ..) _).trans ?_
  pointwise
  rw [show (⟨640 + (2176 + k.val - 512 - 512 - 1024 - 128), by omega⟩ : Fin 2312) = ⟨640 + k.val, by omega⟩ from Fin.ext (by show 640 + (2176 + k.val - 512 - 512 - 1024 - 128) = 640 + k.val; omega)]
  exact congrFun (StableHlo.upto_unwritten [main_v0, main_v1] rfl (by decide) _) _

theorem V_qg (d : Fin 64) : (V m c main_v8 : Vec Ideal S64x1 .f32) (ix2 d 0) = A1 m c (ix1 d) := by
  unfold V
  simp only [hostOps0, hostOps0_1, hostOps0_2, hostOps0_3, hostOps0_4, List.flatten_cons, List.flatten_nil, List.append_nil, List.cons_append, List.nil_append]
  after_results
  pointwise

theorem V_kg (d : Fin 64) : (V m c main_v9 : Vec Ideal S1x64 .f32) (ix2 0 d) = A2 m c (ix1 d) := by
  unfold V
  simp only [hostOps0, hostOps0_1, hostOps0_2, hostOps0_3, hostOps0_4, List.flatten_cons, List.flatten_nil, List.append_nil, List.cons_append, List.nil_append]
  after_results
  pointwise

/-- How far behind the query a key lies, as the host counts it. -/
def window_dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

theorem V_b (h : Fin 8) (k : Fin 256) (q : Fin 128) : (V m c main_v26 : Vec Ideal S8x256x128 .f32) (ix3 h k q)
    = if inWin q k then A4 m c (ix3 h q k) else ⊥ := by
  unfold V
  simp only [hostOps0, hostOps0_1, hostOps0_2, hostOps0_3, hostOps0_4, List.flatten_cons, List.flatten_nil, List.append_nil, List.cons_append, List.nil_append]
  after_results
  pointwise
  show select (broadcastInDim S8x128x256 ![0, 1, 2] bcast_S1x128x256_S8x128x256_0_1_2 (broadcastInDim S1x128x256 ![1, 2] bcast_S128x256_S1x128x256_1_2
    (andi (cmpi .sge window_dist (broadcastInDim S128x256 ![] bcast_S_S128x256 (constantI S_ 32 0#32)))
      (cmpi .slt window_dist (broadcastInDim S128x256 ![] bcast_S_S128x256 (constantI S_ 32 128#32))))))
    (A4 m c) (broadcastInDim S8x128x256 ![] bcast_S_S8x128x256 (constant (F := Ideal) S_ .f32 0xFF800000#32)) (ix3 h q k) = _
  unfold window_dist
  pointwise [win_bit, bot_bits]
  split <;> rfl

/-- Where each window's block of point `t` begins, in blocks. -/
theorem idx_facts : ∀ t : Fin cfg0.N, win0_0.index t = ![t.val, 0] ∧ win0_1.index t = ![t.val, 16] ∧ win0_2.index t = ![t.val - 1, 16]
    ∧ win0_3.index t = ![t.val, 17] ∧ win0_4.index t = ![t.val - 1, 17] ∧ win0_5.index t = ![0, 0]
    ∧ win0_6.index t = ![0, 0] ∧ win0_7.index t = ![0] ∧ win0_8.index t = ![0, 0, 0] := by decide +kernel

theorem first_facts : ∀ t : Fin cfg0.N, fst (grid0.coords t) = 1#1 ↔ t.val = 0 := by decide +kernel

variable (t : Fin cfg0.N)

/-- The block of point `t`. -/
abbrev nb (t : Fin cfg0.N) : Fin 16 := ⟨t.val, lt_of_lt_of_eq t.isLt (show cfg0.N = 16 from N_0)⟩

theorem blk0 (r : Fin 128) (k : Fin 512) : X0_0 m c t (ix2 r k : S128x512.Idx) = A0 m c (ix2 (tok (nb t) r) ⟨k.val, by omega⟩) := by
  obtain ⟨e, -⟩ := idx_facts t
  rw [← V_q]
  unfold X0_0 Pipeline.Window.fill
  rw [dif_pos (moved0_0 t _)]
  unfold iblk
  rw [View.read_apply]
  refine congrArg (V m c main_v7) (funext fun a => Fin.ext ?_)
  match a with
  | ⟨0, _⟩ => show win0_0.index t 0 * 128 + 1 * r.val = _; rw [e]; show (t.val) * 128 + 1 * r.val = 128 * (t.val) + r.val; omega
  | ⟨1, _⟩ => show win0_0.index t 1 * 512 + 1 * k.val = _; rw [e]; show 0 * 512 + 1 * k.val = k.val; omega

theorem blk1 (r k : Fin 128) : iblk m c 1 t (ix2 r k : S128x128.Idx) = A0 m c (ix2 (tok (nb t) r) ⟨512 + k.val, by omega⟩) := by
  obtain ⟨-, e, -⟩ := idx_facts t
  rw [← V_k]
  unfold iblk
  rw [View.read_apply]
  refine congrArg (V m c main_v7) (funext fun a => Fin.ext ?_)
  match a with
  | ⟨0, _⟩ => show win0_1.index t 0 * 128 + 1 * r.val = _; rw [e]; show (t.val) * 128 + 1 * r.val = 128 * (t.val) + r.val; omega
  | ⟨1, _⟩ => show win0_1.index t 1 * 128 + 1 * k.val = _; rw [e]; show 16 * 128 + 1 * k.val = 2048 + k.val; omega

theorem blk2 (r k : Fin 128) : iblk m c 2 t (ix2 r k : S128x128.Idx) = A0 m c (ix2 (tok (prev (nb t)) r) ⟨512 + k.val, by omega⟩) := by
  obtain ⟨-, -, e, -⟩ := idx_facts t
  rw [← V_k]
  unfold iblk
  rw [View.read_apply]
  refine congrArg (V m c main_v7) (funext fun a => Fin.ext ?_)
  match a with
  | ⟨0, _⟩ => show win0_2.index t 0 * 128 + 1 * r.val = _; rw [e]; show (t.val - 1) * 128 + 1 * r.val = 128 * (t.val - 1) + r.val; omega
  | ⟨1, _⟩ => show win0_2.index t 1 * 128 + 1 * k.val = _; rw [e]; show 16 * 128 + 1 * k.val = 2048 + k.val; omega

theorem blk3 (r k : Fin 128) : iblk m c 3 t (ix2 r k : S128x128.Idx) = A0 m c (ix2 (tok (nb t) r) ⟨640 + k.val, by omega⟩) := by
  obtain ⟨-, -, -, e, -⟩ := idx_facts t
  rw [← V_v]
  unfold iblk
  rw [View.read_apply]
  refine congrArg (V m c main_v7) (funext fun a => Fin.ext ?_)
  match a with
  | ⟨0, _⟩ => show win0_3.index t 0 * 128 + 1 * r.val = _; rw [e]; show (t.val) * 128 + 1 * r.val = 128 * (t.val) + r.val; omega
  | ⟨1, _⟩ => show win0_3.index t 1 * 128 + 1 * k.val = _; rw [e]; show 17 * 128 + 1 * k.val = 2176 + k.val; omega

theorem blk4 (r k : Fin 128) : iblk m c 4 t (ix2 r k : S128x128.Idx) = A0 m c (ix2 (tok (prev (nb t)) r) ⟨640 + k.val, by omega⟩) := by
  obtain ⟨-, -, -, -, e, -⟩ := idx_facts t
  rw [← V_v]
  unfold iblk
  rw [View.read_apply]
  refine congrArg (V m c main_v7) (funext fun a => Fin.ext ?_)
  match a with
  | ⟨0, _⟩ => show win0_4.index t 0 * 128 + 1 * r.val = _; rw [e]; show (t.val - 1) * 128 + 1 * r.val = 128 * (t.val - 1) + r.val; omega
  | ⟨1, _⟩ => show win0_4.index t 1 * 128 + 1 * k.val = _; rw [e]; show 17 * 128 + 1 * k.val = 2176 + k.val; omega

theorem blk5 (d : Fin 64) : iblk m c 5 t (ix2 d 0 : S64x1.Idx) = A1 m c (ix1 d) := by
  obtain ⟨-, -, -, -, -, e, -⟩ := idx_facts t
  rw [← V_qg]
  unfold iblk
  rw [View.read_apply]
  refine congrArg (V m c main_v8) (funext fun a => Fin.ext ?_)
  match a with
  | ⟨0, _⟩ => show win0_5.index t 0 * 64 + 1 * d.val = _; rw [e]; show 0 * 64 + 1 * d.val = d.val; omega
  | ⟨1, _⟩ => show win0_5.index t 1 * 1 + 1 * 0 = _; rw [e]; rfl

theorem blk6 (d : Fin 64) : iblk m c 6 t (ix2 0 d : S1x64.Idx) = A2 m c (ix1 d) := by
  obtain ⟨-, -, -, -, -, -, e, -⟩ := idx_facts t
  rw [← V_kg]
  unfold iblk
  rw [View.read_apply]
  refine congrArg (V m c main_v9) (funext fun a => Fin.ext ?_)
  match a with
  | ⟨0, _⟩ => show win0_6.index t 0 * 1 + 1 * 0 = _; rw [e]; rfl
  | ⟨1, _⟩ => show win0_6.index t 1 * 64 + 1 * d.val = _; rw [e]; show 0 * 64 + 1 * d.val = d.val; omega

theorem blk7 (h : Fin 8) : iblk m c 7 t (ix1 h : S8.Idx) = A3 m c (ix1 h) := by
  obtain ⟨-, -, -, -, -, -, -, e, -⟩ := idx_facts t
  unfold iblk
  rw [View.read_apply]
  refine congrArg (m ((c : Thread nD τ).loc main_arg3)) (funext fun a => Fin.ext ?_)
  match a with
  | ⟨0, _⟩ => show win0_7.index t 0 * 8 + 1 * h.val = _; rw [e]; show 0 * 8 + 1 * h.val = h.val; omega

theorem blk8 (h : Fin 8) (k : Fin 256) (q : Fin 128) : iblk m c 8 t (ix3 h k q : S8x256x128.Idx) = if inWin q k then A4 m c (ix3 h q k) else ⊥ := by
  obtain ⟨-, -, -, -, -, -, -, -, e⟩ := idx_facts t
  rw [← V_b]
  unfold iblk
  rw [View.read_apply]
  refine congrArg (V m c main_v26) (funext fun a => Fin.ext ?_)
  match a with
  | ⟨0, _⟩ => show win0_8.index t 0 * 8 + 1 * h.val = _; rw [e]; show 0 * 8 + 1 * h.val = h.val; omega
  | ⟨1, _⟩ => show win0_8.index t 1 * 256 + 1 * k.val = _; rw [e]; show 0 * 256 + 1 * k.val = k.val; omega
  | ⟨2, _⟩ => show win0_8.index t 2 * 128 + 1 * q.val = _; rw [e]; show 0 * 128 + 1 * q.val = q.val; omega

/-- What point `t` loads. -/
abbrev P : Pt := pt (grid0.coords t) (X0_0 m c t) (iblk m c 1 t) (iblk m c 2 t) (iblk m c 3 t) (iblk m c 4 t) (iblk m c 5 t)
  (iblk m c 6 t) (iblk m c 7 t) (iblk m c 8 t)

variable {m c} {I : Inp} (R : Reads m c I)

abbrev Kc (I : Inp) (n : Fin 16) (s k : Fin 128) : ℝ := I.X (tok n s) ⟨512 + k.val, by omega⟩
abbrev Vc (I : Inp) (n : Fin 16) (s k : Fin 128) : ℝ := I.X (tok n s) ⟨640 + k.val, by omega⟩

set_option maxHeartbeats 4000000 in
include R in
theorem holds : Holds (P m c t).first (P m c t).lq (fun _ => 0) (P m c t).lk (P m c t).lkp (P m c t).lv (P m c t).lvp (P m c t).lqg (P m c t).lkg (P m c t).σ (P m c t).b
    (fun s k => I.X (tok (nb t) s) ⟨k.val, by omega⟩) (fun _ _ => 0) (Kc I (nb t)) (Kc I (prev (nb t))) (Vc I (nb t)) (Vc I (prev (nb t)))
    I.qg I.kg I.sk I.b inWin (mask (nb t)) where
  q s k := by show X0_0 m c t (ix2 s k : S128x512.Idx) = _; rw [blk0, R.x _ ⟨k.val, by omega⟩]
  o s k := rfl
  k s k := by show iblk m c 1 t (ix2 s k : S128x128.Idx) = _; rw [blk1, R.x _ ⟨512 + k.val, by omega⟩]
  kp s k := by show iblk m c 2 t (ix2 s k : S128x128.Idx) = _; rw [blk2, R.x _ ⟨512 + k.val, by omega⟩]
  v s k := by show iblk m c 3 t (ix2 s k : S128x128.Idx) = _; rw [blk3, R.x _ ⟨640 + k.val, by omega⟩]
  vp s k := by show iblk m c 4 t (ix2 s k : S128x128.Idx) = _; rw [blk4, R.x _ ⟨640 + k.val, by omega⟩]
  qg d := by show iblk m c 5 t (ix2 d 0 : S64x1.Idx) = _; rw [blk5, R.qg]
  kg d := by show iblk m c 6 t (ix2 0 d : S1x64.Idx) = _; rw [blk6, R.kg]
  s h := by show iblk m c 7 t (ix1 h : S8.Idx) = _; rw [blk7, R.sk]
  b h k q := by show iblk m c 8 t (ix3 h k q : S8x256x128.Idx) = _; rw [blk8, R.b]
  m q k := and_congr Iff.rfl (not_congr (and_congr (first_facts t).symm Iff.rfl))

/-- The output of a query head at a point: its part of the attention applied to the values. -/
theorem o_read (R : Reads m c I) (h : Fin 8) (d : Fin 64) (q : Fin 128) : (P m c t).o h (ix2 d q) = (I.att (nb t) h q d : EReal) := o_apply (holds t R) h d q

end In

end Cert.AttnFIdeal.Hand

end
-- ==== Proof.AttnFOut.lean ====
/-
  What one grid point of the attention's forward pass leaves: each query head's output, turned so that tokens lie in rows.
-/
module

public import proofs.«01_k».proof.Proof.AttnFIn
public import Idealize.ShloMosaic.Lib.Pipeline.ValueKit.Tiles

@[expose] public section

set_option maxRecDepth 16384

noncomputable section

namespace Cert.AttnFIdeal.Hand

open Cert.AttnFIdeal Cert.AttnFIdeal.Gen Idealize.ShloMosaic Idealize.ShloMosaic.TcCoe Idealize.SL.Sem
open Cert.AttnSpec Cert.AttnReal
open Cert.AttnIdeal.Hand (qc cast_row turn_row canon_rows)

set_option maxHeartbeats 4000000

theorem out_9 (c : Dev nD) (i : grid0.Coords) (arg1 : Memref sig .tc .vmem S128x512 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S64x1 .f32) (harg6 : arg6.IsWhole)
    (arg7 : Memref sig .tc .vmem S1x64 .f32) (harg7 : arg7.IsWhole) (arg8 : Memref sig .tc .smem S8 .f32) (harg8 : arg8.IsWhole)
    (arg9 : Memref sig .tc .vmem S8x256x128 .f32) (harg9 : arg9.IsWhole)
    (arg10 : Memref sig .tc .vmem S128x512 .f32) (harg10 : arg10.IsWhole) (arg11 : Memref sig .tc .vmem S512x128 .f32) (harg11 : arg11.IsWhole)
    (x0 : Vec Ideal S128x512 .f32) (x1 x2 x3 x4 : Vec Ideal S128x128 .f32) (x5 : Vec Ideal S64x1 .f32)
    (x6 : Vec Ideal S1x64 .f32) (x7 : Vec Ideal S8 .f32) (x8 : Vec Ideal S8x256x128 .f32)
    (t : Fin 128) (h : Fin 8) (d : Fin 64) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 t (qc h d))
      = (pt i x0 x1 x2 x3 x4 x5 x6 x7 x8).o h (ix2 d t) := by
  rw [← loads_eq i arg1 harg1 arg2 harg2 arg3 harg3 arg4 harg4 arg5 harg5 arg6 harg6 arg7 harg7 arg8 harg8 arg9 harg9]
  have key : ∀ h : Fin 8, shapeCast S64x128 ((loads i arg1 harg1 arg2 harg2 arg3 harg3 arg4 harg4 arg5 harg5 arg6 harg6 arg7 harg7 arg8 harg8 arg9 harg9 x0 x1 x2 x3 x4 x5 x6 x7 x8).o h) shapeCasts_S64x128_S64x128 (ix2 d t)
      = (loads i arg1 harg1 arg2 harg2 arg3 harg3 arg4 harg4 arg5 harg5 arg6 harg6 arg7 harg7 arg8 harg8 arg9 harg9 x0 x1 x2 x3 x4 x5 x6 x7 x8).o h (ix2 d t) := fun h => cast_row _ _ _
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  rw [View.canon_unit_zero (S := S128x512) zero2]
  show transpose S128x512 [1, 0] (kernelRun0_A.sl.v438 c i arg1 harg1 arg2 harg2 arg3 harg3 arg4 harg4 arg5 harg5 arg6 harg6 arg7 harg7 arg8 harg8 arg9 harg9 arg11 x0 x1 x2 x3 x4 x5 x6 x7 x8) transposes_S512x128_p1_0_S128x512 (ix2 t (qc h d)) = _
  refine (turn_row _ _ _).trans ?_
  unfold kernelRun0_A.sl.v438
  rw [View.readCov_eq_canon']
  refine (congrArg (View.canon _) (show _ = ix2 (qc h d) t from ?_)).trans ?_
  · funext a
    match a with
    | 0 => exact Fin.ext (by show 0 + 1 * _ = _; omega)
    | 1 => exact Fin.ext (by show 0 + 1 * _ = _; omega)
  unfold kernelRun0_A.sl.HS0_8
  refine canon_rows (rest := []) h d t (fun h => (loads i arg1 harg1 arg2 harg2 arg3 harg3 arg4 harg4 arg5 harg5 arg6 harg6 arg7 harg7 arg8 harg8 arg9 harg9 x0 x1 x2 x3 x4 x5 x6 x7 x8).o h (ix2 d t)) ?_ ?_ ?_ ?_ ?_ ?_ ?_ ?_
  exacts [key 0, key 1, key 2, key 3, key 4, key 5, key 6, key 7]

end Cert.AttnFIdeal.Hand

end
-- ==== Proof.AttnFFinal.lean ====
/-
  The array the attention's forward call leaves, as a function of the arguments' real numbers.
-/
module

public import proofs.«01_k».proof.Proof.AttnFOut
public import proofs.«01_k».proof.Proof.AttnFinal

@[expose] public section

set_option maxRecDepth 16384

noncomputable section

namespace Cert.AttnFIdeal.Hand

open Cert.AttnFIdeal Cert.AttnFIdeal.Gen Idealize.ShloMosaic Idealize.ShloMosaic.TcCoe Idealize.SL.Sem
open Cert.AttnSpec Cert.AttnReal
open Cert.AttnIdeal.Hand (qc qc_eq blk_tok pos_tok)

theorem out_facts : ∀ t : Fin cfg0.N, win0_9.index t = ![t.val, 0] := by decide +kernel

/-- The result: every token's output, head by head. -/
abbrev resO (I : Inp) : Vec Ideal S2048x512 .f32 := fun i => (I.att (blk (i 0)) (qhead (i 1)) (pos (i 0)) (feat (i 1 : Fin 512)) : EReal)

variable {m : (ℓ : Loc nD τ sig) → Buf (Elt Ideal) ℓ} {c : Dev nD} {I : Inp} (R : Reads m c I)

include R in
theorem final9 : (dats m 0 c).arrAt 9 cfg0.N = resO I := by
  refine (dats m 0 c).arrAt_eq_of_cover 9 (resO I) (fun t _ => ?_) fun (i : S2048x512.Idx) => ?_
  · rw [Value.flushed9]
    have e := out_facts t
    refine funext fun (j : S128x512.Idx) => ?_
    obtain ⟨r, k, rfl⟩ : ∃ (r : Fin 128) (k : Fin 512), j = ix2 r k := ⟨_, _, eq_ix2 j⟩
    have hi : ((cfg0.win 9).blk t).view.emb (ix2 r k : S128x512.Idx) = (ix2 (tok (nb t) r) k : S2048x512.Idx) := by
      refine funext fun a => Fin.ext ?_
      match a with
      | ⟨0, _⟩ => show win0_9.index t 0 * 128 + 1 * r.val = 128 * (t.val) + r.val; rw [e]; show (t.val) * 128 + 1 * r.val = _; omega
      | ⟨1, _⟩ => show win0_9.index t 1 * 512 + 1 * k.val = k.val; rw [e]; show 0 * 512 + 1 * k.val = _; omega
    show outsAt0 m c t (ix2 r k : S128x512.Idx) = resO I (((cfg0.win 9).blk t).view.emb (ix2 r k : S128x512.Idx))
    rw [hi]
    show _ = (I.att (blk (tok (nb t) r)) (qhead k) (pos (tok (nb t) r)) (feat k) : EReal)
    rw [blk_tok, pos_tok, ← o_read t R (qhead k) (feat k) r]
    unfold outsAt0
    refine (congrArg (fun k : Fin 512 => out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
      (X0_0 m c t) (iblk m c 1 t) (iblk m c 2 t) (iblk m c 3 t) (iblk m c 4 t) (iblk m c 5 t) (iblk m c 6 t) (iblk m c 7 t) (iblk m c 8 t) (ix2 r k)) (qc_eq k).symm).trans ?_
    exact out_9 ..
  · have h0 : (i 0).val < 2048 := (i 0).isLt
    have h1 : (i 1).val < 512 := (i 1).isLt
    obtain ⟨t, ht⟩ : ∃ t : Fin cfg0.N, t.val = (i 0).val / 128 := ⟨⟨(i 0).val / 128, by rw [show cfg0.N = 16 from N_0]; omega⟩, rfl⟩
    refine ⟨t, flush0_9 t, ?_⟩
    have e := out_facts t
    show i ∈ ((View.whole main_v27).slice (win0_9.rect t)).set
    rw [View.set_slice_whole, Rect.mem_set_unit]
    intro a
    match a with
    | ⟨0, _⟩ => show win0_9.index t 0 * 128 ≤ (i 0).val ∧ (i 0).val < win0_9.index t 0 * 128 + 128; rw [e]; show (t.val) * 128 ≤ _ ∧ _ < (t.val) * 128 + 128; omega
    | ⟨1, _⟩ => show win0_9.index t 1 * 512 ≤ (i 1).val ∧ (i 1).val < win0_9.index t 1 * 512 + 512; rw [e]; show 0 * 512 ≤ _ ∧ _ < 0 * 512 + 512; omega

end Cert.AttnFIdeal.Hand

end
-- ==== Proof.AttnFRef.lean ====
/-
  The reference of the attention's forward call: its stages are the forward stages of the reference of the gradient, so its
  result is the attention of that reference's scaled rows and values.
-/
module

public import proofs.«01_k».proof.Proof.AttnRefGrad
public import proofs.«01_k».proof.Proof.AttnAtt
public import proofs.«01_k».proof.Proof.Gen.AttnFRefIdeal.Read
public import Idealize.ShloMosaic.Lib.Tactic
public import Idealize.ShloMosaic.Lib.Pointwise

@[expose] public section

set_option maxRecDepth 16384

noncomputable section

namespace Cert.AttnFRefIdeal.Hand

open Cert.AttnFRefIdeal Cert.AttnFRefIdeal.Gen Cert.AttnFRefIdeal.Read Idealize.ShloMosaic Idealize.ShloMosaic.TcCoe
open Cert.AttnSpec Cert.AttnReal
open Cert.AttnRefIdeal.Hand (Args kz_seen vz_seen kvh_qhd)

section Stages
variable {x0 : (⟨S2048x2312, .f32⟩ : BufTy).Contents (Elt Ideal)} {x1 x2 : (⟨S64, .f32⟩ : BufTy).Contents (Elt Ideal)}
  {x3 : (⟨S8, .f32⟩ : BufTy).Contents (Elt Ideal)} {x4 : (⟨S8x128x256, .f32⟩ : BufTy).Contents (Elt Ideal)}

/-- The parts of the attention are those the gradient's reference computes. -/
theorem parts : val_main_v102 (F := Ideal) x0 x1 x2 x3 x4 = Cert.AttnRefIdeal.Read.val_main_v131 (F := Ideal) x0 x1 x2 x3 x4 := rfl

/-- So are the values each block sees. -/
theorem vals : val_main_v45 (F := Ideal) x0 = Cert.AttnRefIdeal.Read.val_main_v57 (F := Ideal) x0 := rfl

variable {g : (⟨S2048x512, .f32⟩ : BufTy).Contents (Elt Ideal)} {I : Inp} (A : Args x0 g x1 x2 x3 x4 I)

include A

theorem v103 (n : Fin 16) (j : Fin 2) (g : Fin 4) (q : Fin 128) (d : Fin 64) :
    val_main_v103 (F := Ideal) x0 x1 x2 x3 x4 (ix5 n j d g q) = (I.att n (qhd j g) q d : EReal) := by
  rw [val_main_v103_apply, parts, vals]
  have hl (k : Fin 256) : lidx_main_v103 (ix5 n j d g q) k = ix4 n k j d := eq_ix4 _
  have hr (k : Fin 256) : ridx_main_v103 (ix5 n j d g q) k = ix5 n j g q k := eq_ix5 _
  simp only [hl, hr, Cert.AttnRefIdeal.Hand.v57 A, Cert.AttnRefIdeal.Hand.v131 A, ← EReal.coe_mul, AttnReal.sum]
  refine congrArg _ (Finset.sum_congr rfl fun k _ => ?_)
  rw [kvh_qhd, mul_comm]
  by_cases h : AttnSpec.mask n q k
  · rw [vz_seen I n j q k h]
    exact congrArg (· * _) (prob_congr (kz_seen I n j) q k)
  · rw [prob_hidden h]
    exact (congrArg (· * _) (prob_hidden h)).trans (by rw [zero_mul, zero_mul])

theorem v105 (s : Fin 2048) (c : Fin 512) : val_main_v105 (F := Ideal) x0 x1 x2 x3 x4 (ix2 s c) = (I.att (blk s) (qhead c) (pos s) (feat c) : EReal) := by
  unfold val_main_v105 val_main_v104
  pointwise [v103 A]
  exact congrArg (fun h => ((I.att (blk s) h (pos s) (feat c) : ℝ) : EReal)) (Fin.ext (by show _ = c.val / 64; dsimp only; omega))

end Stages
end Cert.AttnFRefIdeal.Hand

end
-- ==== Proof.AttnF.lean ====
/-
  The attention's forward call: where its arguments are finite, the kernel and the reference end with the same output.
-/
module

public import proofs.«01_k».proof.Defs
public import proofs.«01_k».proof.Proof.Alg
public import proofs.«01_k».proof.Proof.AttnFFinal
public import proofs.«01_k».proof.Proof.AttnFRef
public import proofs.«01_k».proof.Proof.Gen.AttnFRefIdeal.Run

@[expose] public section

set_option maxRecDepth 16384

noncomputable section

namespace Cert.AttnFIdeal.Hand

open Cert.AttnFIdeal Cert.AttnFIdeal.Gen Idealize.ShloMosaic Idealize.ShloMosaic.TcCoe Idealize.SL.Sem
open Cert.AttnSpec Cert.AttnReal

/-- What the precondition says: the arguments hold real numbers; the cotangent is not among them and stays zero. -/
theorem reads_of_pre [Cert.Pre_attnf_finite.Facts] (x0 : Vec Ideal S2048x2312 .f32) (x1 x2 : Vec Ideal S64 .f32)
    (x3 : Vec Ideal S8 .f32) (x4 : Vec Ideal S8x128x256 .f32)
    (h0 : (Cert.Pre_attnf_finite.fn (F := Ideal) x0 x1 x2 x3 x4).1 = fun _ => 1#1)
    (h1 : (Cert.Pre_attnf_finite.fn (F := Ideal) x0 x1 x2 x3 x4).2.1 = fun _ => 1#1)
    (h2 : (Cert.Pre_attnf_finite.fn (F := Ideal) x0 x1 x2 x3 x4).2.2.1 = fun _ => 1#1)
    (h3 : (Cert.Pre_attnf_finite.fn (F := Ideal) x0 x1 x2 x3 x4).2.2.2.1 = fun _ => 1#1)
    (h4 : (Cert.Pre_attnf_finite.fn (F := Ideal) x0 x1 x2 x3 x4).2.2.2.2 = fun _ => 1#1) :
    ∃ I : Inp, Cert.AttnRefIdeal.Hand.Args x0 (fun _ => 0) x1 x2 x3 x4 I := by
  have e0 (s : Fin 2048) (k : Fin 768) : ∃ a : ℝ, x0 (ix2 s ⟨k.val, by omega⟩) = a := by
    have hz : (extractStridedSlice Cert.Pre_attnf_finite.S2048x768 ![0, 0] · Cert.Pre_attnf_finite.Facts.slices_S2048x2312_S2048x768_0_0) x0 (ix2 s k)
        = x0 (ix2 s ⟨k.val, by omega⟩) := congrArg x0 (funext fun c => Fin.ext (by
      match c with
      | ⟨0, _⟩ => exact Nat.zero_add _
      | ⟨1, _⟩ => exact Nat.zero_add _))
    rw [← hz]
    exact Alg.finite_of_abs_lt _ (congrFun h0 (ix2 s k))
  have e1 (d : Fin 64) : ∃ a : ℝ, x1 (ix1 d) = a := Alg.finite_of_abs_lt _ (congrFun h1 (ix1 d))
  have e2 (d : Fin 64) : ∃ a : ℝ, x2 (ix1 d) = a := Alg.finite_of_abs_lt _ (congrFun h2 (ix1 d))
  have e3 (h : Fin 8) : ∃ a : ℝ, x3 (ix1 h) = a := Alg.finite_of_abs_lt _ (congrFun h3 (ix1 h))
  have e4 (h : Fin 8) (q : Fin 128) (k : Fin 256) : ∃ a : ℝ, x4 (ix3 h q k) = a := Alg.finite_of_abs_lt _ (congrFun h4 (ix3 h q k))
  choose X hX using e0
  choose qg hqg using e1
  choose kg hkg using e2
  choose sk hsk using e3
  choose b hb using e4
  exact ⟨⟨X, fun _ _ => 0, qg, kg, sk, b⟩, hX, fun _ _ => rfl, hqg, hkg, hsk, hb⟩

/-- The claim: where every argument is finite, both programs end with the same output. -/
theorem values [hK : Cert.AttnFIdeal.Facts] [hR : Cert.AttnFRefIdeal.Facts] [hP : Cert.Pre_attnf_finite.Facts] :
    algebraic_AttnFIdeal_AttnFRefIdeal_pre_attnf_finite := fun m ρ m' ρ' hpre hag => by
  have hI (c : Dev nD) : ∃ I : Inp, Cert.AttnRefIdeal.Hand.Args (A0 m c) (fun _ => 0) (A1 m c) (A2 m c) (A3 m c) (A4 m c) I :=
    reads_of_pre _ _ _ _ _ (hpre c).1 (hpre c).2.1 (hpre c).2.2.1 (hpre c).2.2.2.1 (hpre c).2.2.2.2
  choose I A using hI
  have R (c : Dev nD) : Reads m c (I c) := ⟨(A c).x, (A c).qg, (A c).kg, (A c).sk, (A c).b⟩
  refine ⟨fun c => resO (I c), ?_, ?_⟩
  · exact (θ_run defs _ _).mono (fun _ h c => ⟨(h c).1.trans (final9 (R c)), (h c).2⟩) (Value.run_blocks m ρ)
  · have B (c : Dev nD) : Cert.AttnRefIdeal.Hand.Args (m' ((c.tc : Thread Cert.AttnFRefIdeal.nD Cert.AttnFRefIdeal.τ).loc Cert.AttnFRefIdeal.main_arg0))
        (fun _ => 0)
        (m' ((c.tc : Thread Cert.AttnFRefIdeal.nD Cert.AttnFRefIdeal.τ).loc Cert.AttnFRefIdeal.main_arg1))
        (m' ((c.tc : Thread Cert.AttnFRefIdeal.nD Cert.AttnFRefIdeal.τ).loc Cert.AttnFRefIdeal.main_arg2))
        (m' ((c.tc : Thread Cert.AttnFRefIdeal.nD Cert.AttnFRefIdeal.τ).loc Cert.AttnFRefIdeal.main_arg3))
        (m' ((c.tc : Thread Cert.AttnFRefIdeal.nD Cert.AttnFRefIdeal.τ).loc Cert.AttnFRefIdeal.main_arg4)) (I c) := by
      obtain ⟨h0, h1, h2, h3, h4⟩ := hag c
      rw [h0, h1, h2, h3, h4]
      exact A c
    refine (θ_run _ _ _).mono (fun r h c => ⟨(h c).1.trans ?_, (h c).2⟩) (Cert.AttnFRefIdeal.Value.run m' ρ')
    refine (Cert.AttnFRefIdeal.Read.val_main_v105_eq _ _).trans ?_
    refine funext fun (i : S2048x512.Idx) => ?_
    obtain ⟨s, k, rfl⟩ : ∃ (s : Fin 2048) (k : Fin 512), i = ix2 s k := ⟨_, _, eq_ix2 i⟩
    exact Cert.AttnFRefIdeal.Hand.v105 (B c) s k

end Cert.AttnFIdeal.Hand

end
-- ==== Proof.InSpec.lean ====
/-
  The gradients of a norm followed by a projection, over the real numbers, and the order of the projection's columns: the call
  reads queries, gate, convolution, keys, values and steps, the array holds queries, keys, values, gate, convolution and steps.
-/
module

public import proofs.«01_k».proof.Proof.AttnReal

@[expose] public section

noncomputable section

namespace Cert.InSpec

open Cert.AttnReal (eps eps_pos)
open Idealize.ShloMosaic

/-! ## The order of the columns -/

/-- A row of the projection in the order the call reads it, with zeros after the steps. -/
def turned (f : Fin 2312 → ℝ) (j : Fin 2432) : ℝ :=
  if _ : j.val < 512 then f ⟨j.val, by omega⟩
  else if _ : j.val < 2048 then f ⟨j.val + 256, by omega⟩
  else if _ : j.val < 2304 then f ⟨j.val - 1536, by omega⟩
  else if _ : j.val < 2312 then f ⟨j.val, by omega⟩
  else 0

/-- Where a column of the array stands in that order. -/
def place (l : Fin 2312) : Fin 2432 :=
  if l.val < 512 then ⟨l.val, by omega⟩
  else if _ : l.val < 768 then ⟨l.val + 1536, by omega⟩
  else if _ : l.val < 2304 then ⟨l.val - 256, by omega⟩
  else ⟨l.val, by omega⟩

theorem place_val (l : Fin 2312) : (place l).val
    = if l.val < 512 then l.val else if l.val < 768 then l.val + 1536 else if l.val < 2304 then l.val - 256 else l.val := by
  unfold place
  split_ifs <;> rfl

theorem place_inj : Function.Injective place := fun a b h => by
  have e := congrArg Fin.val h
  rw [place_val, place_val] at e
  apply Fin.ext
  split_ifs at e <;> omega

/-- The column that stands at place `j`, by its number. -/
theorem turned_eq (f : Fin 2312 → ℝ) (j : Fin 2432) (l : ℕ) (h : l < 2312)
    (hl : (j.val < 512 ∧ l = j.val) ∨ (512 ≤ j.val ∧ j.val < 2048 ∧ l = j.val + 256) ∨ (2048 ≤ j.val ∧ j.val < 2304 ∧ l + 1536 = j.val)
      ∨ (2304 ≤ j.val ∧ l = j.val)) : f ⟨l, h⟩ = turned f j := by
  unfold turned
  rcases hl with ⟨_, e⟩ | ⟨_, _, e⟩ | ⟨_, _, e⟩ | ⟨_, e⟩
  · rw [dif_pos (by omega)]; exact congrArg f (Fin.ext e)
  · rw [dif_neg (by omega), dif_pos (by omega)]; exact congrArg f (Fin.ext e)
  · rw [dif_neg (by omega), dif_neg (by omega), dif_pos (by omega)]; exact congrArg f (Fin.ext (show l = j.val - 1536 by omega))
  · rw [dif_neg (by omega), dif_neg (by omega), dif_neg (by omega), dif_pos (by omega)]; exact congrArg f (Fin.ext e)

theorem turned_end (f : Fin 2312 → ℝ) (j : Fin 2432) (h : 2312 ≤ j.val) : turned f j = 0 := by
  unfold turned
  rw [dif_neg (by omega), dif_neg (by omega), dif_neg (by omega), dif_neg (by omega)]

/-- Six arrays side by side, each a part of a row, are the row in the call's order. -/
theorem turned_parts (f : Fin 2312 → ℝ) (j : Fin 2432) (z : EReal) (hz : z = 0) :
    (if _ : j.val < 512 then (f ⟨j.val, by omega⟩ : EReal)
    else if _ : j.val - 512 < 512 then (f ⟨768 + (j.val - 512), by omega⟩ : EReal)
    else if _ : j.val - 512 - 512 < 1024 then (f ⟨1280 + (j.val - 512 - 512), by omega⟩ : EReal)
    else if _ : j.val - 512 - 512 - 1024 < 128 then (f ⟨512 + (j.val - 512 - 512 - 1024), by omega⟩ : EReal)
    else if _ : j.val - 512 - 512 - 1024 - 128 < 128 then (f ⟨640 + (j.val - 512 - 512 - 1024 - 128), by omega⟩ : EReal)
    else if _ : j.val - 512 - 512 - 1024 - 128 - 128 < 8 then (f ⟨2304 + (j.val - 512 - 512 - 1024 - 128 - 128), by omega⟩ : EReal)
    else z) = (turned f j : EReal) := by
  have hj := j.isLt
  split_ifs
  iterate 6 exact congrArg _ (turned_eq _ _ _ _ (by omega))
  rw [hz, turned_end f j (by omega), EReal.coe_zero]

theorem turned_place (f : Fin 2312 → ℝ) (l : Fin 2312) : turned f (place l) = f l := by
  refine (turned_eq f _ l.val l.isLt ?_).symm
  rw [place_val]
  have hl := l.isLt
  split_ifs <;> omega

theorem turned_off (f : Fin 2312 → ℝ) (j : Fin 2432) (h : j ∉ Set.range place) : turned f j = 0 := by
  refine turned_end f j (Nat.le_of_not_lt fun hj => h ?_)
  refine ⟨⟨if j.val < 512 then j.val else if j.val < 2048 then j.val + 256 else if j.val < 2304 then j.val - 1536 else j.val, by split_ifs <;> omega⟩,
    Fin.ext ?_⟩
  rw [place_val]
  simp only
  split_ifs <;> omega

/-- The order of the columns does not matter to a product of two rows, and the zeros add nothing. -/
theorem turned_dot (f g : Fin 2312 → ℝ) : ∑ j, turned f j * turned g j = ∑ l, f l * g l :=
  (Fintype.sum_of_injective place place_inj (fun l => f l * g l) (fun j => turned f j * turned g j)
    (fun j h => by show turned f j * turned g j = 0; rw [turned_off f j h, zero_mul])
    (fun l => by show f l * g l = _; rw [turned_place, turned_place])).symm

/-! ## The norm -/

/-- The mean square of a row, with the constant below the root. -/
def ms (x : Fin 1024 → ℝ) : ℝ := (∑ e, x e * x e) / 1024 + eps

/-- The reciprocal root mean square of a row. -/
def rr (x : Fin 1024 → ℝ) : ℝ := (√(ms x))⁻¹

/-- The row scaled to unit mean square. -/
def hat (x : Fin 1024 → ℝ) (k : Fin 1024) : ℝ := x k * rr x

theorem ms_pos (x : Fin 1024 → ℝ) : 0 < ms x := by
  have : 0 ≤ ∑ e, x e * x e := Finset.sum_nonneg fun e _ => mul_self_nonneg _
  have := eps_pos
  unfold ms; positivity

theorem rr_rsqrt (x : Fin 1024 → ℝ) : Ideal.rsqrt (ms x : EReal) = (rr x : EReal) := AttnReal.rsqrt (ms_pos x)

theorem rr_cube (x : Fin 1024 → ℝ) : rr x / ms x = rr x * rr x * rr x := by
  have h := ms_pos x
  have h2 : √(ms x) * √(ms x) = ms x := Real.mul_self_sqrt h.le
  have h3 : √(ms x) ≠ 0 := by positivity
  rw [rr, div_eq_iff h.ne']
  nth_rewrite 5 [← h2]
  field_simp

/-! ## The gradients -/

/-- The arguments as real numbers: the cotangent of the projection, the stream, the gain and the weight. -/
structure Inp where
  P : Fin 2048 → Fin 2312 → ℝ
  X : Fin 2048 → Fin 1024 → ℝ
  G : Fin 1024 → ℝ
  W : Fin 1024 → Fin 2312 → ℝ

/-- The gradient of the normed row. -/
def Inp.dh (I : Inp) (s : Fin 2048) (k : Fin 1024) : ℝ := ∑ l, I.P s l * I.W k l

/-- The gradient of the row itself. -/
def Inp.dx (I : Inp) (s : Fin 2048) (k : Fin 1024) : ℝ :=
  rr (I.X s) * (I.dh s k * I.G k - hat (I.X s) k * ((∑ e, I.dh s e * I.G e * hat (I.X s) e) / 1024))

/-- The gradient of the weight, its columns in the array's order. -/
def Inp.dw (I : Inp) (k : Fin 1024) (l : Fin 2312) : ℝ := ∑ s, hat (I.X s) k * I.G k * I.P s l

/-- The gradient of the gain. -/
def Inp.dg (I : Inp) (k : Fin 1024) : ℝ := ∑ s, I.dh s k * hat (I.X s) k

/-- The row's gradient by the chain rule through the root of the mean square. -/
theorem Inp.dx_eq (I : Inp) (s : Fin 2048) (k : Fin 1024) :
    I.dh s k * I.G k * rr (I.X s)
      + (∑ e, I.X s e * (I.dh s e * I.G e)) * (-(1 / 2) * (rr (I.X s) / ms (I.X s))) / 1024 * (2 * I.X s k) = I.dx s k := by
  have hs : ∑ e, I.dh s e * I.G e * hat (I.X s) e = (∑ e, I.X s e * (I.dh s e * I.G e)) * rr (I.X s) := by
    rw [Finset.sum_mul]
    exact Finset.sum_congr rfl fun e _ => by unfold hat; ring
  unfold Inp.dx
  rw [hs, rr_cube]
  unfold hat
  ring

end Cert.InSpec

end
-- ==== Proof.InBody.lean ====
/-
  What one point of the norm's and projection's gradient leaves in its three outputs: the rows' gradient, and the two sums
  that stay in place, set to zero at the first point and added to at every later one.
-/
module

public import proofs.«01_k».proof.Proof.Gen.InIdeal.Value
public import Idealize.ShloMosaic.Lib.Tactic
public import Idealize.ShloMosaic.Lib.Pointwise

@[expose] public section

set_option maxRecDepth 16384

noncomputable section

namespace Cert.InIdeal.Hand

open Cert.InIdeal Cert.InIdeal.Gen Idealize.ShloMosaic Idealize.ShloMosaic.TcCoe Idealize.SL.Sem

theorem hz : (![0, 0] : Fin 2 → Nat) = fun _ => 0 := funext fun a => by fin_cases a <;> rfl

section Bodies
variable {F : FTy → Type} [FloatOps F]
variable (c : Dev nD) (i : grid0.Coords) (a1 : Memref sig .tc .vmem S512x512 .f32) (h1 : a1.IsWhole) (a2 : Memref sig .tc .vmem S512x512 .f32) (h2 : a2.IsWhole) (a3 : Memref sig .tc .vmem S512x1024 .f32) (h3 : a3.IsWhole) (a4 : Memref sig .tc .vmem S512x128 .f32) (h4 : a4.IsWhole)
  (a5 : Memref sig .tc .vmem S512x128 .f32) (h5 : a5.IsWhole) (a6 : Memref sig .tc .vmem S512x128 .f32) (h6 : a6.IsWhole) (a7 : Memref sig .tc .vmem S512x1024 .f32) (h7 : a7.IsWhole) (a8 : Memref sig .tc .vmem S1x1024 .f32) (h8 : a8.IsWhole)
  (a9 : Memref sig .tc .vmem S1024x2432 .bf16) (h9 : a9.IsWhole) (a10 : Memref sig .tc .vmem S512x1024 .f32) (h10 : a10.IsWhole) (a11 : Memref sig .tc .vmem S512x1024 .f32) (h11 : a11.IsWhole) (a12 : Memref sig .tc .vmem S1024x2432 .f32) (h12 : a12.IsWhole)
  (a13 : Memref sig .tc .vmem S1x1024 .f32) (h13 : a13.IsWhole)
  (x0 x1 : Vec F S512x512 .f32) (x2 : Vec F S512x1024 .f32) (x3 x4 x5 : Vec F S512x128 .f32) (x6 : Vec F S512x1024 .f32)
  (x7 : Vec F S1x1024 .f32) (x8 : Vec F S1024x2432 .bf16) (x9 : Vec F S512x1024 .f32) (y : Vec F S1024x2432 .f32) (z : Vec F S1x1024 .f32)

/-- The rows at the first point. -/
theorem rows_A (hc : cond0_0 i) : out0_A_10 c i a1 h1 a2 h2 a3 h3 a4 h4 a5 h5 a6 h6 a7 h7 a8 h8 a9 h9 a10 h10 a11 h11 a12 h12 a13 h13
    hc x0 x1 x2 x3 x4 x5 x6 x7 x8 x9 = k0_pay4 (k0_pay7 x0 x1 x2 x3 x4 x5) (k0_pay8 x6) (k0_pay9 x6) (k0_pay10 x7) x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13
    hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S512x512) hz, View.ld_unit_zero (S := S512x1024) hz, View.ld_unit_zero (S := S512x128) hz, View.ld_unit_zero (S := S1x1024) hz, View.ld_unit_zero (S := S1024x2432) hz]

/-- Likewise at every later point. -/
theorem rows_B (hc : ¬cond0_0 i) : out0_B_10 c i a1 h1 a2 h2 a3 h3 a4 h4 a5 h5 a6 h6 a7 h7 a8 h8 a9 h9 a10 h10 a11 h11 a12 h12 a13 h13
    hc x0 x1 x2 x3 x4 x5 x6 x7 x8 x9 y z = k0_pay4 (k0_pay7 x0 x1 x2 x3 x4 x5) (k0_pay8 x6) (k0_pay9 x6) (k0_pay10 x7) x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13
    hc x0 x1 x2 x3 x4 x5 x6 x7 x8 x9 y z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S512x512) hz, View.ld_unit_zero (S := S512x1024) hz, View.ld_unit_zero (S := S512x128) hz, View.ld_unit_zero (S := S1x1024) hz, View.ld_unit_zero (S := S1024x2432) hz]

/-- The weight's sum at the first point starts from zero. -/
theorem weight_A (hc : cond0_0 i) : out0_A_11 c i a1 h1 a2 h2 a3 h3 a4 h4 a5 h5 a6 h6 a7 h7 a8 h8 a9 h9 a10 h10 a11 h11 a12 h12 a13 h13
    hc x0 x1 x2 x3 x4 x5 x6 x7 x8 x9 = k0_pay1 (k0_pay7 x0 x1 x2 x3 x4 x5) (k0_pay11 (k0_pay5 (F := F))) (k0_pay12 x6 x7) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13
    hc x0 x1 x2 x3 x4 x5 x6 x7 x8 x9)]
  unfold kernelRun0_A
  dsimp only
  sl_unfold_words
  rw [View.canon_cons_unit_zero (S := S1024x2432) hz, View.readCov_unit_zero (S := S1024x2432) _ hz]
  simp only [View.readAt_eq_ld, h1.read_unread, h2.read_unread, h3.read_unread, h4.read_unread, h5.read_unread, h6.read_unread, h7.read_unread, h8.read_unread, h9.read_unread, h10.read_unread,
    View.ld_unit_zero (S := S512x512) hz, View.ld_unit_zero (S := S512x1024) hz, View.ld_unit_zero (S := S512x128) hz, View.ld_unit_zero (S := S1x1024) hz, View.ld_unit_zero (S := S1024x2432) hz]

/-- A later point adds to what the sum held. -/
theorem weight_B (hc : ¬cond0_0 i) : out0_B_11 c i a1 h1 a2 h2 a3 h3 a4 h4 a5 h5 a6 h6 a7 h7 a8 h8 a9 h9 a10 h10 a11 h11 a12 h12 a13 h13
    hc x0 x1 x2 x3 x4 x5 x6 x7 x8 x9 y z = k0_pay1 (k0_pay7 x0 x1 x2 x3 x4 x5) (k0_pay11 y) (k0_pay12 x6 x7) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13
    hc x0 x1 x2 x3 x4 x5 x6 x7 x8 x9 y z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h12.read_unread,
    View.ld_unit_zero (S := S512x512) hz, View.ld_unit_zero (S := S512x1024) hz, View.ld_unit_zero (S := S512x128) hz, View.ld_unit_zero (S := S1x1024) hz, View.ld_unit_zero (S := S1024x2432) hz]

/-- The gain's sum at the first point starts from zero. -/
theorem gain_A (hc : cond0_0 i) : out0_A_12 c i a1 h1 a2 h2 a3 h3 a4 h4 a5 h5 a6 h6 a7 h7 a8 h8 a9 h9 a10 h10 a11 h11 a12 h12 a13 h13
    hc x0 x1 x2 x3 x4 x5 x6 x7 x8 x9 = k0_pay3 (k0_pay7 x0 x1 x2 x3 x4 x5) (k0_pay9 x6) x8 (k0_pay6 (F := F)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13
    hc x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread,
    View.ld_unit_zero (S := S512x512) hz, View.ld_unit_zero (S := S512x1024) hz, View.ld_unit_zero (S := S512x128) hz, View.ld_unit_zero (S := S1x1024) hz, View.ld_unit_zero (S := S1024x2432) hz]

/-- A later point adds to what the sum held. -/
theorem gain_B (hc : ¬cond0_0 i) : out0_B_12 c i a1 h1 a2 h2 a3 h3 a4 h4 a5 h5 a6 h6 a7 h7 a8 h8 a9 h9 a10 h10 a11 h11 a12 h12 a13 h13
    hc x0 x1 x2 x3 x4 x5 x6 x7 x8 x9 y z = k0_pay3 (k0_pay7 x0 x1 x2 x3 x4 x5) (k0_pay9 x6) x8 z := by
  unfold out0_B_12
  rw [View.read_writes_eq_canon _ _ _ (cover0_B_12 c i a1 h1 a2 h2 a3 h3 a4 h4 a5 h5 a6 h6 a7 h7 a8 h8 a9 h9 a10 h10 a11 h11 a12 h12 a13 h13
    hc x0 x1 x2 x3 x4 x5 x6 x7 x8 x9 y z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h13.read_unread,
    View.ld_unit_zero (S := S512x512) hz, View.ld_unit_zero (S := S512x1024) hz, View.ld_unit_zero (S := S512x128) hz, View.ld_unit_zero (S := S1x1024) hz, View.ld_unit_zero (S := S1024x2432) hz]

end Bodies

end Cert.InIdeal.Hand

end
-- ==== Proof.InHost.lean ====
/-
  What the call for the norm's and projection's gradient receives: the cotangent's columns cut into six arrays, the gain as a row
  and the weight's columns in the call's order, each with zeros after the steps.
-/
module

public import proofs.«01_k».proof.Proof.InSpec
public import proofs.«01_k».proof.Proof.InBody
public import Idealize.ShloMosaic.Lib.StableHlo.ReadAt

@[expose] public section

set_option maxRecDepth 16384

noncomputable section

namespace Cert.InIdeal.Hand

open Cert.InIdeal Cert.InIdeal.Gen Idealize.ShloMosaic Idealize.ShloMosaic.TcCoe Idealize.SL.Sem
open Cert.InSpec

variable (m : (ℓ : Loc nD τ sig) → Buf (Elt Ideal) ℓ) (c : Dev nD)

abbrev A0 : Vec Ideal S2048x2312 .f32 := m ((c : Thread nD τ).loc main_arg0)
abbrev A1 : Vec Ideal S2048x1024 .f32 := m ((c : Thread nD τ).loc main_arg1)
abbrev A2 : Vec Ideal S1024 .f32 := m ((c : Thread nD τ).loc main_arg2)
abbrev A3 : Vec Ideal S1024x2312 .f32 := m ((c : Thread nD τ).loc main_arg3)
abbrev A4 : Vec Ideal S2048x1024 .f32 := m ((c : Thread nD τ).loc main_arg4)

/-- The arguments are these real numbers. -/
structure Reads (I : Inp) : Prop where
  p : ∀ s l, A0 m c (ix2 s l) = (I.P s l : EReal)
  x : ∀ s k, A1 m c (ix2 s k) = (I.X s k : EReal)
  g : ∀ k, A2 m c (ix1 k) = (I.G k : EReal)
  w : ∀ k l, A3 m c (ix2 k l) = (I.W k l : EReal)

theorem int_zero : FloatOps.sitofp (F := Ideal) FTy.f32 0#32 = (0 : EReal) := by
  show (((0#32 : BitVec 32).toInt : ℝ) : EReal) = 0
  simp

theorem V_q (s : Fin 2048) (k : Fin 512) : (V m c main_v0 : Vec Ideal S2048x512 .f32) (ix2 s k) = A0 m c (ix2 s ⟨k.val, by omega⟩) := by
  unfold V
  after_reads_at

theorem V_z (s : Fin 2048) (k : Fin 512) : (V m c main_v3 : Vec Ideal S2048x512 .f32) (ix2 s k) = A0 m c (ix2 s ⟨768 + k.val, by omega⟩) := by
  unfold V
  after_reads_at

theorem V_xbc (s : Fin 2048) (k : Fin 1024) : (V m c main_v4 : Vec Ideal S2048x1024 .f32) (ix2 s k) = A0 m c (ix2 s ⟨1280 + k.val, by omega⟩) := by
  unfold V
  after_reads_at

theorem V_k (s : Fin 2048) (k : Fin 128) : (V m c main_v1 : Vec Ideal S2048x128 .f32) (ix2 s k) = A0 m c (ix2 s ⟨512 + k.val, by omega⟩) := by
  unfold V
  after_reads_at

theorem V_v (s : Fin 2048) (k : Fin 128) : (V m c main_v2 : Vec Ideal S2048x128 .f32) (ix2 s k) = A0 m c (ix2 s ⟨640 + k.val, by omega⟩) := by
  unfold V
  after_reads_at

theorem V_dt (s : Fin 2048) (k : Fin 128) : (V m c main_v6 : Vec Ideal S2048x128 .f32) (ix2 s k)
    = if h : k.val < 8 then A0 m c (ix2 s ⟨2304 + k.val, by omega⟩) else 0 := by
  unfold V
  after_reads_at
  rw [int_zero]

theorem V_g (k : Fin 1024) : (V m c main_v7 : Vec Ideal S1x1024 .f32) (ix2 0 k) = A2 m c (ix1 k) := by
  unfold V
  after_reads_at

/-- The memory as the host's first nineteen operations leave it: the weight's columns cut into six arrays. -/
abbrev cut (b : Ref sig .tc) : b.ty.Contents (Elt Ideal) :=
  StableHlo.upto [hostOps0, hostOps0_1, hostOps0_2, hostOps0_3, hostOps0_4].flatten (fun b => m (c, b)) 19 (Proc.tc.devRef b)

theorem W_q (k : Fin 1024) (l : Fin 512) : (cut m c main_v8 : Vec Ideal S1024x512 .f32) (ix2 k l) = A3 m c (ix2 k ⟨l.val, by omega⟩) := by
  unfold cut
  after_reads_at

theorem W_z (k : Fin 1024) (l : Fin 512) : (cut m c main_v11 : Vec Ideal S1024x512 .f32) (ix2 k l) = A3 m c (ix2 k ⟨768 + l.val, by omega⟩) := by
  unfold cut
  after_reads_at

theorem W_c (k : Fin 1024) (l : Fin 1024) : (cut m c main_v12 : Vec Ideal S1024x1024 .f32) (ix2 k l) = A3 m c (ix2 k ⟨1280 + l.val, by omega⟩) := by
  unfold cut
  after_reads_at

theorem W_k (k : Fin 1024) (l : Fin 128) : (cut m c main_v9 : Vec Ideal S1024x128 .f32) (ix2 k l) = A3 m c (ix2 k ⟨512 + l.val, by omega⟩) := by
  unfold cut
  after_reads_at

theorem W_v (k : Fin 1024) (l : Fin 128) : (cut m c main_v10 : Vec Ideal S1024x128 .f32) (ix2 k l) = A3 m c (ix2 k ⟨640 + l.val, by omega⟩) := by
  unfold cut
  after_reads_at

theorem W_dt (k : Fin 1024) (l : Fin 128) : (cut m c main_v14 : Vec Ideal S1024x128 .f32) (ix2 k l) = if h : l.val < 8 then A3 m c (ix2 k ⟨2304 + l.val, by omega⟩) else 0 := by
  unfold cut
  after_reads_at
  rw [int_zero]

theorem V_w {I : Inp} (R : Reads m c I) (k : Fin 1024) (j : Fin 2432) :
    (V m c main_v16 : Vec Ideal S1024x2432 .bf16) (ix2 k j) = (turned (I.W k) j : EReal) := by
  unfold V
  after_reads_at
  refine Eq.trans ?_ (turned_parts (I.W k) j 0 rfl)
  have e8 := W_q m c
  have e11 := W_z m c
  have e12 := W_c m c
  have e9 := W_k m c
  have e10 := W_v m c
  have e14 := W_dt m c
  simp only [cut, R.w] at e8 e11 e12 e9 e10 e14
  simp only [e8, e11, e12, e9, e10, e14]

end Cert.InIdeal.Hand

end
-- ==== Proof.InPoint.lean ====
/-
  One block of rows of the norm's and projection's gradient, read as real numbers: the cotangent's row in the call's order, the
  rows' gradient, and the block's share of the weight's and the gain's gradients.
-/
module

public import proofs.«01_k».proof.Proof.InSpec
public import proofs.«01_k».proof.Proof.Gen.InIdeal.Skeleton
public import Idealize.ShloMosaic.Lib.Tactic
public import Idealize.ShloMosaic.Lib.Pointwise

@[expose] public section

set_option maxRecDepth 16384

noncomputable section

namespace Cert.InIdeal.Hand

open Cert.InIdeal Cert.InIdeal.Gen Idealize.ShloMosaic Idealize.ShloMosaic.TcCoe
open Cert.InSpec

/-- The ten arrays of a point hold these real numbers; row `r` of the block is row `row r` of the whole. -/
structure Holds (x0 x1 : Vec Ideal S512x512 .f32) (x2 : Vec Ideal S512x1024 .f32) (x3 x4 x5 : Vec Ideal S512x128 .f32)
    (x6 : Vec Ideal S512x1024 .f32) (x7 : Vec Ideal S1x1024 .f32) (x8 : Vec Ideal S1024x2432 .bf16) (I : Inp) (row : Fin 512 → Fin 2048) : Prop where
  q : ∀ r (k : Fin 512), x0 (ix2 r k) = (I.P (row r) ⟨k.val, by omega⟩ : EReal)
  z : ∀ r (k : Fin 512), x1 (ix2 r k) = (I.P (row r) ⟨768 + k.val, by omega⟩ : EReal)
  c : ∀ r (k : Fin 1024), x2 (ix2 r k) = (I.P (row r) ⟨1280 + k.val, by omega⟩ : EReal)
  k : ∀ r (k : Fin 128), x3 (ix2 r k) = (I.P (row r) ⟨512 + k.val, by omega⟩ : EReal)
  v : ∀ r (k : Fin 128), x4 (ix2 r k) = (I.P (row r) ⟨640 + k.val, by omega⟩ : EReal)
  dt : ∀ r (k : Fin 128), x5 (ix2 r k) = if _ : k.val < 8 then (I.P (row r) ⟨2304 + k.val, by omega⟩ : EReal) else 0
  x : ∀ r k, x6 (ix2 r k) = (I.X (row r) k : EReal)
  g : ∀ k, x7 (ix2 0 k) = (I.G k : EReal)
  w : ∀ k j, x8 (ix2 k j) = (turned (I.W k) j : EReal)

section Point
variable {x0 x1 : Vec Ideal S512x512 .f32} {x2 : Vec Ideal S512x1024 .f32} {x3 x4 x5 : Vec Ideal S512x128 .f32}
  {x6 : Vec Ideal S512x1024 .f32} {x7 : Vec Ideal S1x1024 .f32} {x8 : Vec Ideal S1024x2432 .bf16} {I : Inp} {row : Fin 512 → Fin 2048}
  (H : Holds x0 x1 x2 x3 x4 x5 x6 x7 x8 I row)

include H

theorem pay7 (r : Fin 512) (j : Fin 2432) : k0_pay7 (F := Ideal) x0 x1 x2 x3 x4 x5 (ix2 r j) = (turned (I.P (row r)) j : EReal) := by
  unfold k0_pay7
  pointwise [H.q, H.z, H.c, H.k, H.v, H.dt]
  exact turned_parts _ _ _ rfl

theorem pay8 (r : Fin 512) : k0_pay8 (F := Ideal) x6 (ix2 r 0) = (rr (I.X (row r)) : EReal) := by
  unfold k0_pay8
  pointwise [H.x]
  simp only [Alg.width, AttnReal.eps_bits, ← EReal.coe_mul, AttnReal.sum]
  rw [AttnReal.div (by norm_num), ← EReal.coe_add]
  exact rr_rsqrt _

theorem pay9 (r : Fin 512) (k : Fin 1024) : k0_pay9 (F := Ideal) x6 (ix2 r k) = (hat (I.X (row r)) k : EReal) := by
  unfold k0_pay9
  pointwise [pay8 H, H.x]
  rw [← EReal.coe_mul]
  rfl

theorem pay12 (r : Fin 512) (k : Fin 1024) : k0_pay12 (F := Ideal) x6 x7 (ix2 r k) = (hat (I.X (row r)) k * I.G k : ℝ) := by
  unfold k0_pay12 k0_pay10
  pointwise [pay9 H, H.g]
  rw [← EReal.coe_mul]

theorem pay2 (r : Fin 512) (k : Fin 1024) : k0_pay2 (F := Ideal) (k0_pay7 x0 x1 x2 x3 x4 x5) x8 (ix2 r k) = (I.dh (row r) k : EReal) := by
  unfold k0_pay2
  pointwise [pay7 H, H.w]
  simp only [← EReal.coe_mul, AttnReal.sum]
  rw [turned_dot]
  rfl

/-- The block's share of the weight's gradient. -/
theorem pay1 (y : Vec Ideal S1024x2432 .f32) (k : Fin 1024) (j : Fin 2432) :
    k0_pay1 (F := Ideal) (k0_pay7 x0 x1 x2 x3 x4 x5) (k0_pay11 y) (k0_pay12 x6 x7) (ix2 k j)
      = y (ix2 k j) + (∑ r : Fin 512, hat (I.X (row r)) k * I.G k * turned (I.P (row r)) j : ℝ) := by
  unfold k0_pay1 k0_pay11
  pointwise [pay7 H, pay12 H]
  simp only [← EReal.coe_mul, AttnReal.sum]

/-- The block's share of the gain's gradient. -/
theorem pay3 (z : Vec Ideal S1x1024 .f32) (k : Fin 1024) :
    k0_pay3 (F := Ideal) (k0_pay7 x0 x1 x2 x3 x4 x5) (k0_pay9 x6) x8 z (ix2 0 k)
      = z (ix2 0 k) + (∑ r : Fin 512, I.dh (row r) k * hat (I.X (row r)) k : ℝ) := by
  unfold k0_pay3
  pointwise [pay2 H, pay9 H]
  simp only [← EReal.coe_mul, AttnReal.sum]

/-- The rows' gradient. -/
theorem pay4 (x9 : Vec Ideal S512x1024 .f32) (r : Fin 512) (k : Fin 1024) :
    k0_pay4 (F := Ideal) (k0_pay7 x0 x1 x2 x3 x4 x5) (k0_pay8 x6) (k0_pay9 x6) (k0_pay10 x7) x8 x9 (ix2 r k)
      = x9 (ix2 r k) + (I.dx (row r) k : EReal) := by
  unfold k0_pay4 k0_pay10
  pointwise [pay2 H, pay8 H, pay9 H, H.g, Alg.width]
  simp only [← EReal.coe_mul, AttnReal.sum]
  rw [AttnReal.div (by norm_num)]
  simp only [← EReal.coe_mul, ← EReal.coe_sub]
  rfl

end Point

end Cert.InIdeal.Hand

end
-- ==== Proof.InIn.lean ====
/-
  The blocks of a point: each array's block is rows `512 t` to `512 t + 511` of what the call receives; the gain and the weight are
  read whole. Read as real numbers where the arguments are finite.
-/
module

public import proofs.«01_k».proof.Proof.InHost
public import proofs.«01_k».proof.Proof.InPoint

@[expose] public section

set_option maxRecDepth 16384

noncomputable section

namespace Cert.InIdeal.Hand

open Cert.InIdeal Cert.InIdeal.Gen Idealize.ShloMosaic Idealize.ShloMosaic.TcCoe Idealize.SL.Sem
open Cert.InSpec

variable (m : (ℓ : Loc nD τ sig) → Buf (Elt Ideal) ℓ) (c : Dev nD) (t : Fin cfg0.N)

/-- Row `r` of block `t`, among all rows. -/
def row (r : Fin 512) : Fin 2048 :=
  ⟨t.val * 512 + r.val, by have := lt_of_lt_of_eq t.isLt (show cfg0.N = 4 from N_0); have := r.isLt; omega⟩

/-- The windows that move with the rows. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_9.index t = ![t.val, 0] ∧ win0_10.index t = ![t.val, 0] := by decide +kernel

/-- The windows that stay in place. -/
theorem idx_still : ∀ t : Fin cfg0.N, win0_7.index t = ![0, 0] ∧ win0_8.index t = ![0, 0] ∧ win0_11.index t = ![0, 0]
    ∧ win0_12.index t = ![0, 0] := by decide +kernel

theorem blk0 (r : Fin 512) (k : Fin 512) : (iblk m c 0 t : Vec Ideal S512x512 .f32) (ix2 r k) = (V m c main_v0 : Vec Ideal S2048x512 .f32) (ix2 (row t r) k) := by
  obtain ⟨e, -⟩ := idx_rows t
  unfold iblk
  rw [View.read_apply]
  refine congrArg (V m c main_v0 : Vec Ideal S2048x512 .f32) (funext fun a => Fin.ext ?_)
  match a with
  | ⟨0, _⟩ => show win0_0.index t 0 * 512 + 1 * r.val = _; rw [e]; show t.val * 512 + 1 * r.val = t.val * 512 + r.val; omega
  | ⟨1, _⟩ => show win0_0.index t 1 * 512 + 1 * k.val = _; rw [e]; show 0 * 512 + 1 * k.val = k.val; omega

theorem blk1 (r : Fin 512) (k : Fin 512) : (iblk m c 1 t : Vec Ideal S512x512 .f32) (ix2 r k) = (V m c main_v3 : Vec Ideal S2048x512 .f32) (ix2 (row t r) k) := by
  obtain ⟨-, e, -⟩ := idx_rows t
  unfold iblk
  rw [View.read_apply]
  refine congrArg (V m c main_v3 : Vec Ideal S2048x512 .f32) (funext fun a => Fin.ext ?_)
  match a with
  | ⟨0, _⟩ => show win0_1.index t 0 * 512 + 1 * r.val = _; rw [e]; show t.val * 512 + 1 * r.val = t.val * 512 + r.val; omega
  | ⟨1, _⟩ => show win0_1.index t 1 * 512 + 1 * k.val = _; rw [e]; show 0 * 512 + 1 * k.val = k.val; omega

theorem blk2 (r : Fin 512) (k : Fin 1024) : (iblk m c 2 t : Vec Ideal S512x1024 .f32) (ix2 r k) = (V m c main_v4 : Vec Ideal S2048x1024 .f32) (ix2 (row t r) k) := by
  obtain ⟨-, -, e, -⟩ := idx_rows t
  unfold iblk
  rw [View.read_apply]
  refine congrArg (V m c main_v4 : Vec Ideal S2048x1024 .f32) (funext fun a => Fin.ext ?_)
  match a with
  | ⟨0, _⟩ => show win0_2.index t 0 * 512 + 1 * r.val = _; rw [e]; show t.val * 512 + 1 * r.val = t.val * 512 + r.val; omega
  | ⟨1, _⟩ => show win0_2.index t 1 * 1024 + 1 * k.val = _; rw [e]; show 0 * 1024 + 1 * k.val = k.val; omega

theorem blk3 (r : Fin 512) (k : Fin 128) : (iblk m c 3 t : Vec Ideal S512x128 .f32) (ix2 r k) = (V m c main_v1 : Vec Ideal S2048x128 .f32) (ix2 (row t r) k) := by
  obtain ⟨-, -, -, e, -⟩ := idx_rows t
  unfold iblk
  rw [View.read_apply]
  refine congrArg (V m c main_v1 : Vec Ideal S2048x128 .f32) (funext fun a => Fin.ext ?_)
  match a with
  | ⟨0, _⟩ => show win0_3.index t 0 * 512 + 1 * r.val = _; rw [e]; show t.val * 512 + 1 * r.val = t.val * 512 + r.val; omega
  | ⟨1, _⟩ => show win0_3.index t 1 * 128 + 1 * k.val = _; rw [e]; show 0 * 128 + 1 * k.val = k.val; omega

theorem blk4 (r : Fin 512) (k : Fin 128) : (iblk m c 4 t : Vec Ideal S512x128 .f32) (ix2 r k) = (V m c main_v2 : Vec Ideal S2048x128 .f32) (ix2 (row t r) k) := by
  obtain ⟨-, -, -, -, e, -⟩ := idx_rows t
  unfold iblk
  rw [View.read_apply]
  refine congrArg (V m c main_v2 : Vec Ideal S2048x128 .f32) (funext fun a => Fin.ext ?_)
  match a with
  | ⟨0, _⟩ => show win0_4.index t 0 * 512 + 1 * r.val = _; rw [e]; show t.val * 512 + 1 * r.val = t.val * 512 + r.val; omega
  | ⟨1, _⟩ => show win0_4.index t 1 * 128 + 1 * k.val = _; rw [e]; show 0 * 128 + 1 * k.val = k.val; omega

theorem blk5 (r : Fin 512) (k : Fin 128) : (iblk m c 5 t : Vec Ideal S512x128 .f32) (ix2 r k) = (V m c main_v6 : Vec Ideal S2048x128 .f32) (ix2 (row t r) k) := by
  obtain ⟨-, -, -, -, -, e, -⟩ := idx_rows t
  unfold iblk
  rw [View.read_apply]
  refine congrArg (V m c main_v6 : Vec Ideal S2048x128 .f32) (funext fun a => Fin.ext ?_)
  match a with
  | ⟨0, _⟩ => show win0_5.index t 0 * 512 + 1 * r.val = _; rw [e]; show t.val * 512 + 1 * r.val = t.val * 512 + r.val; omega
  | ⟨1, _⟩ => show win0_5.index t 1 * 128 + 1 * k.val = _; rw [e]; show 0 * 128 + 1 * k.val = k.val; omega

theorem blk6 (r : Fin 512) (k : Fin 1024) : (iblk m c 6 t : Vec Ideal S512x1024 .f32) (ix2 r k) = (A1 m c : Vec Ideal S2048x1024 .f32) (ix2 (row t r) k) := by
  obtain ⟨-, -, -, -, -, -, e, -⟩ := idx_rows t
  unfold iblk
  rw [View.read_apply]
  refine congrArg (A1 m c : Vec Ideal S2048x1024 .f32) (funext fun a => Fin.ext ?_)
  match a with
  | ⟨0, _⟩ => show win0_6.index t 0 * 512 + 1 * r.val = _; rw [e]; show t.val * 512 + 1 * r.val = t.val * 512 + r.val; omega
  | ⟨1, _⟩ => show win0_6.index t 1 * 1024 + 1 * k.val = _; rw [e]; show 0 * 1024 + 1 * k.val = k.val; omega

theorem blk9 (r : Fin 512) (k : Fin 1024) : (iblk m c 9 t : Vec Ideal S512x1024 .f32) (ix2 r k) = (A4 m c : Vec Ideal S2048x1024 .f32) (ix2 (row t r) k) := by
  obtain ⟨-, -, -, -, -, -, -, e, -⟩ := idx_rows t
  unfold iblk
  rw [View.read_apply]
  refine congrArg (A4 m c : Vec Ideal S2048x1024 .f32) (funext fun a => Fin.ext ?_)
  match a with
  | ⟨0, _⟩ => show win0_9.index t 0 * 512 + 1 * r.val = _; rw [e]; show t.val * 512 + 1 * r.val = t.val * 512 + r.val; omega
  | ⟨1, _⟩ => show win0_9.index t 1 * 1024 + 1 * k.val = _; rw [e]; show 0 * 1024 + 1 * k.val = k.val; omega

theorem blk7 : (iblk m c 7 t : Vec Ideal S1x1024 .f32) = (V m c main_v7 : Vec Ideal S1x1024 .f32) := by
  obtain ⟨e, -⟩ := idx_still t
  refine funext fun (i : S1x1024.Idx) => ?_
  unfold iblk
  rw [View.read_apply]
  refine congrArg (V m c main_v7 : Vec Ideal S1x1024 .f32) (funext fun a => Fin.ext ?_)
  match a with
  | ⟨0, _⟩ => show win0_7.index t 0 * 1 + 1 * (i 0).val = _; rw [e]; show 0 * 1 + 1 * (i 0).val = (i 0).val; omega
  | ⟨1, _⟩ => show win0_7.index t 1 * 1024 + 1 * (i 1).val = _; rw [e]; show 0 * 1024 + 1 * (i 1).val = (i 1).val; omega

theorem blk8 : (iblk m c 8 t : Vec Ideal S1024x2432 .bf16) = (V m c main_v16 : Vec Ideal S1024x2432 .bf16) := by
  obtain ⟨-, e, -⟩ := idx_still t
  refine funext fun (i : S1024x2432.Idx) => ?_
  unfold iblk
  rw [View.read_apply]
  refine congrArg (V m c main_v16 : Vec Ideal S1024x2432 .bf16) (funext fun a => Fin.ext ?_)
  match a with
  | ⟨0, _⟩ => show win0_8.index t 0 * 1024 + 1 * (i 0).val = _; rw [e]; show 0 * 1024 + 1 * (i 0).val = (i 0).val; omega
  | ⟨1, _⟩ => show win0_8.index t 1 * 2432 + 1 * (i 1).val = _; rw [e]; show 0 * 2432 + 1 * (i 1).val = (i 1).val; omega

/-- The blocks of a point hold the rows' real numbers. -/
theorem holds {I : Inp} (R : Reads m c I) : Holds (iblk m c 0 t) (iblk m c 1 t) (iblk m c 2 t) (iblk m c 3 t) (iblk m c 4 t)
    (iblk m c 5 t) (iblk m c 6 t) (iblk m c 7 t) (iblk m c 8 t) I (row t) where
  q r k := by rw [blk0, V_q, R.p]
  z r k := by rw [blk1, V_z, R.p]
  c r k := by rw [blk2, V_xbc, R.p]
  k r k := by rw [blk3, V_k, R.p]
  v r k := by rw [blk4, V_v, R.p]
  dt r k := by rw [blk5, V_dt]; simp only [R.p]
  x r k := by rw [blk6, R.x]
  g k := by rw [blk7, V_g, R.g]
  w k j := by rw [blk8, V_w m c R]

end Cert.InIdeal.Hand

end
-- ==== Proof.InRef.lean ====
/-
  The reference of the norm's and projection's gradients, stage by stage, on finite arguments.
-/
module

public import proofs.«01_k».proof.Proof.InSpec
public import proofs.«01_k».proof.Proof.Gen.InRefIdeal.Read
public import Idealize.ShloMosaic.Lib.Pointwise

@[expose] public section

set_option maxRecDepth 16384

noncomputable section

namespace Cert.InRefIdeal.Hand

open Cert.InRefIdeal Cert.InRefIdeal.Gen Cert.InRefIdeal.Read Idealize.ShloMosaic Idealize.ShloMosaic.TcCoe
open Cert.InSpec

theorem neg_half : Ideal.ofBits .f32 0xBF000000#32 = ((-(1 / 2) : ℝ) : EReal) := AttnReal.neg_half_bits

/-- The arguments hold these real numbers. -/
structure Args (x0 : Vec Ideal S2048x2312 .f32) (x1 : Vec Ideal S2048x1024 .f32) (x2 : Vec Ideal S1024 .f32)
    (x3 : Vec Ideal S1024x2312 .f32) (I : Inp) : Prop where
  p : ∀ s l, x0 (ix2 s l) = (I.P s l : EReal)
  x : ∀ s k, x1 (ix2 s k) = (I.X s k : EReal)
  g : ∀ k, x2 (ix1 k) = (I.G k : EReal)
  w : ∀ k l, x3 (ix2 k l) = (I.W k l : EReal)

section Stages
variable {x0 : (⟨S2048x2312, .f32⟩ : BufTy).Contents (Elt Ideal)} {x1 : (⟨S2048x1024, .f32⟩ : BufTy).Contents (Elt Ideal)}
  {x2 : (⟨S1024, .f32⟩ : BufTy).Contents (Elt Ideal)} {x3 : (⟨S1024x2312, .f32⟩ : BufTy).Contents (Elt Ideal)}
  {x4 : (⟨S2048x1024, .f32⟩ : BufTy).Contents (Elt Ideal)} {I : Inp} (A : Args x0 x1 x2 x3 I)

include A

theorem v8 (s : Fin 2048) : val_main_v8 (F := Ideal) x1 (ix2 s 0) = (ms (I.X s) : EReal) := by
  unfold val_main_v8 val_main_v7 val_main_v6 val_main_v5 val_main_v4 val_main_v3 val_main_v0 val_main_cst_0 val_main_cst_1 val_main_cst_2
  pointwise [A.x]
  simp only [Alg.width, AttnReal.eps_bits, ← EReal.coe_mul, AttnReal.sum]
  rw [AttnReal.div (by norm_num), ← EReal.coe_add]
  rfl

theorem v9 (s : Fin 2048) : val_main_v9 (F := Ideal) x1 (ix2 s 0) = (rr (I.X s) : EReal) := by
  unfold val_main_v9
  pointwise [v8 A]
  exact rr_rsqrt _

theorem v14 (s : Fin 2048) (k : Fin 1024) : val_main_v14 (F := Ideal) x1 (ix2 s k) = (hat (I.X s) k : EReal) := by
  unfold val_main_v14 val_main_v13
  pointwise [v9 A, A.x]
  rw [← EReal.coe_mul]
  rfl

theorem v17 (s : Fin 2048) (k : Fin 1024) : val_main_v17 (F := Ideal) x1 x2 (ix2 s k) = (hat (I.X s) k * I.G k : ℝ) := by
  unfold val_main_v17 val_main_v16 val_main_v15
  pointwise [v14 A, A.g]
  rw [← EReal.coe_mul]

theorem v20 (k : Fin 1024) (l : Fin 2312) : val_main_v20 (F := Ideal) x0 x1 x2 (ix2 k l) = (I.dw k l : EReal) := by
  unfold val_main_v20 val_main_v19
  pointwise [v17 A, A.p]
  simp only [← EReal.coe_mul, AttnReal.sum]
  exact congrArg _ (Finset.sum_congr rfl fun s _ => mul_comm _ _)

theorem v21 (s : Fin 2048) (k : Fin 1024) : val_main_v21 (F := Ideal) x0 x3 (ix2 s k) = (I.dh s k : EReal) := by
  unfold val_main_v21
  pointwise [A.p, A.w]
  simp only [← EReal.coe_mul, AttnReal.sum]
  rfl

theorem v49 (k : Fin 1024) : val_main_v49 (F := Ideal) x0 x1 x3 (ix2 0 k) = (I.dg k : EReal) := by
  unfold val_main_v49 val_main_v27 val_main_v24 val_main_v23 val_main_v22 val_main_cst_4 val_main_cst_5
  pointwise [v14 A, v21 A]
  simp only [← EReal.coe_mul, AttnReal.sum, Fin.sum_univ_one]
  exact congrArg _ (Finset.sum_congr rfl fun s _ => mul_comm _ _)

theorem v26 (s : Fin 2048) (k : Fin 1024) : val_main_v26 (F := Ideal) x0 x2 x3 (ix2 s k) = (I.dh s k * I.G k : ℝ) := by
  unfold val_main_v26 val_main_v25 val_main_v15
  pointwise [v21 A, A.g]
  rw [← EReal.coe_mul]

theorem v12 (s : Fin 2048) : val_main_v12 (F := Ideal) x1 (ix2 s 0) = (-(1 / 2) * (rr (I.X s) / ms (I.X s)) : ℝ) := by
  unfold val_main_v12 val_main_v11 val_main_v10 val_main_cst_3
  pointwise [v8 A, v9 A]
  rw [neg_half, AttnReal.div (ms_pos _).ne', ← EReal.coe_mul]

theorem v30 (s : Fin 2048) : val_main_v30 (F := Ideal) x0 x1 x2 x3 (ix2 s 0) = (∑ e, I.X s e * (I.dh s e * I.G e) : ℝ) := by
  unfold val_main_v30 val_main_v29 val_main_v28 val_main_cst_6
  pointwise [v26 A, A.x]
  simp only [← EReal.coe_mul, AttnReal.sum]

theorem v36 (s : Fin 2048) : val_main_v36 (F := Ideal) x0 x1 x2 x3 (ix1 s)
    = ((∑ e, I.X s e * (I.dh s e * I.G e)) * (-(1 / 2) * (rr (I.X s) / ms (I.X s))) / 1024 : ℝ) := by
  unfold val_main_v36 val_main_v35 val_main_v34 val_main_v33 val_main_cst_7 val_main_cst_8
  pointwise
  simp only [Alg.width, Fin.sum_univ_one]
  erw [v30 A, v12 A]
  rw [← EReal.coe_mul, AttnReal.div (by norm_num)]

theorem v40 (s : Fin 2048) (k : Fin 1024) : val_main_v40 (F := Ideal) x0 x1 x2 x3 x4 (ix2 s k) = x4 (ix2 s k) + (I.dx s k : EReal) := by
  unfold val_main_v40 val_main_v39 val_main_v38 val_main_v37 val_main_v32 val_main_v31 val_main_v2 val_main_v1 val_main_cst
  pointwise [v26 A, v9 A, v36 A, A.x, Alg.two]
  simp only [← EReal.coe_mul, ← EReal.coe_add]
  rw [← Inp.dx_eq]

theorem v48 (k : Fin 1024) (j : Fin 2432) : val_main_v48 (F := Ideal) x0 x1 x2 (ix2 k j) = (turned (I.dw k) j : EReal) := by
  unfold val_main_v48 val_main_v47 val_main_v46 val_main_v45 val_main_v44 val_main_v43 val_main_v42 val_main_v41
  pointwise [v20 A]
  refine turned_parts _ _ _ ?_
  unfold val_main_call0_v0 val_main_c
  pointwise
  show (((0#32 : BitVec 32).toInt : ℝ) : EReal) = 0
  simp

end Stages

end Cert.InRefIdeal.Hand

end
-- ==== Proof.In.lean ====
/-
  The norm's and projection's gradient: where the arguments are finite, the kernel and the reference end with the same gradients
  of the stream, of the weight and of the gain.
-/
module

public import proofs.«01_k».proof.Defs
public import proofs.«01_k».proof.Proof.InIn
public import proofs.«01_k».proof.Proof.InRef
public import proofs.«01_k».proof.Proof.Gen.InRefIdeal.Run

@[expose] public section

set_option maxRecDepth 16384

noncomputable section

namespace Cert.InIdeal.Hand

open Cert.InIdeal Cert.InIdeal.Gen Idealize.ShloMosaic Idealize.ShloMosaic.TcCoe Idealize.SL.Sem
open Idealize.ShloMosaic.Pipeline (Dat)
open Cert.InSpec

variable {m : (ℓ : Loc nD τ sig) → Buf (Elt Ideal) ℓ} {c : Dev nD} {I : Inp}

/-- A quantity of one row, by the row's number. -/
def byNum (f : Fin 2048 → ℝ) (n : ℕ) : ℝ := if h : n < 2048 then f ⟨n, h⟩ else 0

theorem byNum_row (f : Fin 2048 → ℝ) (t : Fin cfg0.N) : ∑ r, f (row t r) = ∑ r : Fin 512, byNum f (t.val * 512 + r) :=
  Finset.sum_congr rfl fun r _ => by
    unfold byNum; rw [dif_pos (show t.val * 512 + r.val < 2048 from (row t r).isLt)]; rfl

/-- The blocks of rows up to point `n`. -/
def upTo (f : Fin 2048 → ℝ) (n : ℕ) : ℝ := ∑ p ∈ Finset.range (n + 1), ∑ r : Fin 512, byNum f (p * 512 + r)

theorem upTo_zero (f : Fin 2048 → ℝ) (h : 0 < cfg0.N) : upTo f 0 = ∑ r, f (row ⟨0, h⟩ r) := by
  rw [byNum_row]; exact Finset.sum_range_one _

theorem upTo_succ (f : Fin 2048 → ℝ) (n : ℕ) (h : n + 1 < cfg0.N) : upTo f (n + 1) = upTo f n + ∑ r, f (row ⟨n + 1, h⟩ r) := by
  rw [byNum_row]; exact Finset.sum_range_succ _ _

theorem upTo_all (f : Fin 2048 → ℝ) : upTo f 3 = ∑ s, f s := by
  unfold upTo
  rw [← Alg.sum_blocks 4 512 (byNum f)]
  exact Finset.sum_congr rfl fun s _ => dif_pos s.isLt

/-- What one row adds to the weight's gradient, and to the gain's. -/
def wTerm (I : Inp) (k : Fin 1024) (j : Fin 2432) (s : Fin 2048) : ℝ := hat (I.X s) k * I.G k * turned (I.P s) j
def gTerm (I : Inp) (k : Fin 1024) (s : Fin 2048) : ℝ := I.dh s k * hat (I.X s) k

theorem turned_sum (f : Fin 2048 → Fin 2312 → ℝ) (a : Fin 2048 → ℝ) (j : Fin 2432) :
    turned (fun l => ∑ s, a s * f s l) j = ∑ s, a s * turned (f s) j := by
  unfold turned
  split_ifs <;> simp

/-- The rows' gradient at every point. -/
theorem rows_eq (R : Reads m c I) (t : Fin cfg0.N) (r : Fin 512) (k : Fin 1024) :
    (outsAt0 m c t.val t.isLt).1 (ix2 r k) = A4 m c (ix2 (row t r) k) + (I.dx (row t r) k : EReal) := by
  rw [← blk9 m c t r k]
  by_cases h : t.val % 4 = 0
  · rw [outsAt0_A m c t h]; dsimp only; rw [rows_A, pay4 (holds m c t R)]
  · rw [outsAt0_B m c t h]; dsimp only; rw [rows_B, pay4 (holds m c t R)]

/-- The weight's sum after point `n`. -/
theorem weight_eq (R : Reads m c I) (k : Fin 1024) (j : Fin 2432) : ∀ (n : ℕ) (h : n < cfg0.N),
    (outsAt0 m c n h).2.1 (ix2 k j) = (upTo (wTerm I k j) n : EReal)
  | 0, h => by
    rw [show outsAt0 m c 0 h = _ from outsAt0_A m c ⟨0, h⟩ rfl]
    dsimp only
    rw [weight_A, pay1 (holds m c ⟨0, h⟩ R), upTo_zero _ h]
    unfold k0_pay5
    pointwise
    rfl
  | n + 1, h => by
    have hN : n + 1 < 4 := lt_of_lt_of_eq h (show cfg0.N = 4 from N_0)
    rw [show outsAt0 m c (n + 1) h = _ from outsAt0_B m c ⟨n + 1, h⟩ (by show ¬ (n + 1) % 4 = 0; omega)]
    dsimp only
    rw [weight_B, pay1 (holds m c ⟨n + 1, h⟩ R), upTo_succ _ n h, EReal.coe_add]
    exact congrArg (· + _) (weight_eq R k j n _)

/-- The gain's sum after point `n`. -/
theorem gain_eq (R : Reads m c I) (k : Fin 1024) : ∀ (n : ℕ) (h : n < cfg0.N),
    (outsAt0 m c n h).2.2 (ix2 0 k) = (upTo (gTerm I k) n : EReal)
  | 0, h => by
    rw [show outsAt0 m c 0 h = _ from outsAt0_A m c ⟨0, h⟩ rfl]
    dsimp only
    rw [gain_A, pay3 (holds m c ⟨0, h⟩ R), upTo_zero _ h]
    unfold k0_pay6
    pointwise
    rfl
  | n + 1, h => by
    have hN : n + 1 < 4 := lt_of_lt_of_eq h (show cfg0.N = 4 from N_0)
    rw [show outsAt0 m c (n + 1) h = _ from outsAt0_B m c ⟨n + 1, h⟩ (by show ¬ (n + 1) % 4 = 0; omega)]
    dsimp only
    rw [gain_B, pay3 (holds m c ⟨n + 1, h⟩ R), upTo_succ _ n h, EReal.coe_add]
    exact congrArg (· + _) (gain_eq R k n _)

/-! ## The three results -/

def resX (d : Vec Ideal S2048x1024 .f32) (I : Inp) : Vec Ideal S2048x1024 .f32 := fun i => d i + (I.dx (i 0) (i 1) : EReal)
def resW (I : Inp) : Vec Ideal S1024x2432 .f32 := fun i => (turned (I.dw (i 0)) (i 1) : EReal)
def resG (I : Inp) : Vec Ideal S1x1024 .f32 := fun i => (I.dg (i 1) : EReal)

theorem mem_rows (t : Fin cfg0.N) (i : S2048x1024.Idx) (h : (i 0).val / 512 = t.val) : i ∈ ((cfg0.win 10).blk t).view.set := by
  obtain ⟨-, -, -, -, -, -, -, -, e⟩ := idx_rows t
  have h1 : (i 1).val < 1024 := (i 1).isLt
  show i ∈ ((View.whole main_v17_0).slice (win0_10.rect t)).set
  rw [View.set_slice_whole, Rect.mem_set_unit]
  intro a
  match a with
  | ⟨0, _⟩ => show win0_10.index t 0 * 512 ≤ (i 0).val ∧ (i 0).val < win0_10.index t 0 * 512 + 512; rw [e]; show t.val * 512 ≤ _ ∧ _ < t.val * 512 + 512; omega
  | ⟨1, _⟩ => show win0_10.index t 1 * 1024 ≤ (i 1).val ∧ (i 1).val < win0_10.index t 1 * 1024 + 1024; rw [e]; show 0 * 1024 ≤ _ ∧ _ < 0 * 1024 + 1024; omega

theorem mem_weight (t : Fin cfg0.N) (i : S1024x2432.Idx) : i ∈ ((cfg0.win 11).blk t).view.set := by
  obtain ⟨-, -, e, -⟩ := idx_still t
  have h0 : (i 0).val < 1024 := (i 0).isLt
  have h1 : (i 1).val < 2432 := (i 1).isLt
  show i ∈ ((View.whole main_v17_1).slice (win0_11.rect t)).set
  rw [View.set_slice_whole, Rect.mem_set_unit]
  intro a
  match a with
  | ⟨0, _⟩ => show win0_11.index t 0 * 1024 ≤ (i 0).val ∧ (i 0).val < win0_11.index t 0 * 1024 + 1024; rw [e]; show 0 * 1024 ≤ _ ∧ _ < 0 * 1024 + 1024; omega
  | ⟨1, _⟩ => show win0_11.index t 1 * 2432 ≤ (i 1).val ∧ (i 1).val < win0_11.index t 1 * 2432 + 2432; rw [e]; show 0 * 2432 ≤ _ ∧ _ < 0 * 2432 + 2432; omega

theorem mem_gain (t : Fin cfg0.N) (i : S1x1024.Idx) : i ∈ ((cfg0.win 12).blk t).view.set := by
  obtain ⟨-, -, -, e⟩ := idx_still t
  have h0 : (i 0).val < 1 := (i 0).isLt
  have h1 : (i 1).val < 1024 := (i 1).isLt
  show i ∈ ((View.whole main_v17_2).slice (win0_12.rect t)).set
  rw [View.set_slice_whole, Rect.mem_set_unit]
  intro a
  match a with
  | ⟨0, _⟩ => show win0_12.index t 0 * 1 ≤ (i 0).val ∧ (i 0).val < win0_12.index t 0 * 1 + 1; rw [e]; show 0 * 1 ≤ _ ∧ _ < 0 * 1 + 1; omega
  | ⟨1, _⟩ => show win0_12.index t 1 * 1024 ≤ (i 1).val ∧ (i 1).val < win0_12.index t 1 * 1024 + 1024; rw [e]; show 0 * 1024 ≤ _ ∧ _ < 0 * 1024 + 1024; omega

theorem rows_final (R : Reads m c I) : (dats m 0 c).arrAt 10 cfg0.N = resX (A4 m c) I := by
  refine (dats m 0 c).arrAt_eq_of_cover 10 (resX (A4 m c) I) (fun t _ => ?_) fun i => ?_
  · rw [Value.flushed10]
    obtain ⟨-, -, -, -, -, -, -, -, e⟩ := idx_rows t
    refine funext fun (j : S512x1024.Idx) => ?_
    obtain ⟨r, k, rfl⟩ : ∃ (r : Fin 512) (k : Fin 1024), j = ix2 r k := ⟨_, _, eq_ix2 j⟩
    show (outsAt0 m c t.val t.isLt).1 (ix2 r k) = resX (A4 m c) I (((cfg0.win 10).blk t).view.emb (ix2 r k))
    rw [rows_eq R]
    refine congrArg (resX (A4 m c) I) (funext fun a => Fin.ext ?_ : ix2 (row t r) k = _)
    match a with
    | ⟨0, _⟩ => show t.val * 512 + r.val = win0_10.index t 0 * 512 + 1 * r.val; rw [e]; show _ = t.val * 512 + 1 * r.val; omega
    | ⟨1, _⟩ => show k.val = win0_10.index t 1 * 1024 + 1 * k.val; rw [e]; show _ = 0 * 1024 + 1 * k.val; omega
  · have h : (i 0).val < 2048 := (i 0).isLt
    exact ⟨⟨(i 0).val / 512, by rw [show cfg0.N = 4 from N_0]; omega⟩, flush0_10 _, mem_rows _ i rfl⟩

theorem weight_final (R : Reads m c I) : (dats m 0 c).arrAt 11 cfg0.N = resW I := by
  refine (dats m 0 c).arrAt_eq_of_cover 11 (resW I) (fun t hf => ?_) fun i => ?_
  · have h3 : t.val = 3 := by
      have := (flush0_11 t).mp hf; have := lt_of_lt_of_eq t.isLt (show cfg0.N = 4 from N_0); omega
    rw [Value.flushed11]
    obtain ⟨-, -, e, -⟩ := idx_still t
    refine funext fun (j : S1024x2432.Idx) => ?_
    obtain ⟨k, j, rfl⟩ : ∃ (k : Fin 1024) (l : Fin 2432), j = ix2 k l := ⟨_, _, eq_ix2 j⟩
    show (outsAt0 m c t.val t.isLt).2.1 (ix2 k j) = resW I (((cfg0.win 11).blk t).view.emb (ix2 k j))
    have hi : ix2 k j = ((cfg0.win 11).blk t).view.emb (ix2 k j) := funext fun a => Fin.ext (by
      match a with
      | ⟨0, _⟩ => show k.val = win0_11.index t 0 * 1024 + 1 * k.val; rw [e]; show _ = 0 * 1024 + 1 * k.val; omega
      | ⟨1, _⟩ => show j.val = win0_11.index t 1 * 2432 + 1 * j.val; rw [e]; show _ = 0 * 2432 + 1 * j.val; omega)
    rw [weight_eq R, h3, upTo_all, ← hi]
    exact congrArg Real.toEReal (turned_sum I.P (fun s => hat (I.X s) k * I.G k) j).symm
  · exact ⟨⟨3, by rw [show cfg0.N = 4 from N_0]; omega⟩, (flush0_11 _).mpr rfl, mem_weight _ i⟩

theorem gain_final (R : Reads m c I) : (dats m 0 c).arrAt 12 cfg0.N = resG I := by
  refine (dats m 0 c).arrAt_eq_of_cover 12 (resG I) (fun t hf => ?_) fun i => ?_
  · have h3 : t.val = 3 := by
      have := (flush0_12 t).mp hf; have := lt_of_lt_of_eq t.isLt (show cfg0.N = 4 from N_0); omega
    rw [Value.flushed12]
    obtain ⟨-, -, -, e⟩ := idx_still t
    refine funext fun (j : S1x1024.Idx) => ?_
    obtain ⟨z, k, rfl⟩ : ∃ (z : Fin 1) (k : Fin 1024), j = ix2 z k := ⟨_, _, eq_ix2 j⟩
    obtain rfl : z = 0 := Subsingleton.elim _ _
    show (outsAt0 m c t.val t.isLt).2.2 (ix2 0 k) = resG I (((cfg0.win 12).blk t).view.emb (ix2 0 k))
    have hi : ix2 0 k = ((cfg0.win 12).blk t).view.emb (ix2 0 k) := funext fun a => Fin.ext (by
      match a with
      | ⟨0, _⟩ => show 0 = win0_12.index t 0 * 1 + 1 * 0; rw [e]; rfl
      | ⟨1, _⟩ => show k.val = win0_12.index t 1 * 1024 + 1 * k.val; rw [e]; show _ = 0 * 1024 + 1 * k.val; omega)
    rw [gain_eq R, h3, upTo_all, ← hi]
    rfl
  · exact ⟨⟨3, by rw [show cfg0.N = 4 from N_0]; omega⟩, (flush0_12 _).mpr rfl, mem_gain _ i⟩

/-! ## The claim -/

/-- What the precondition says: the arguments hold real numbers. -/
theorem reads_of_pre [Cert.Pre_in_finite.Facts] (x0 : Vec Ideal S2048x2312 .f32) (x1 : Vec Ideal S2048x1024 .f32) (x2 : Vec Ideal S1024 .f32)
    (x3 : Vec Ideal S1024x2312 .f32) (x4 : Vec Ideal S2048x1024 .f32)
    (h0 : (Cert.Pre_in_finite.fn (F := Ideal) x0 x1 x2 x3 x4).1 = fun _ => 1#1)
    (h1 : (Cert.Pre_in_finite.fn (F := Ideal) x0 x1 x2 x3 x4).2.1 = fun _ => 1#1)
    (h2 : (Cert.Pre_in_finite.fn (F := Ideal) x0 x1 x2 x3 x4).2.2.1 = fun _ => 1#1)
    (h3 : (Cert.Pre_in_finite.fn (F := Ideal) x0 x1 x2 x3 x4).2.2.2 = fun _ => 1#1) :
    ∃ I : Inp, Cert.InRefIdeal.Hand.Args x0 x1 x2 x3 I := by
  have e0 (s : Fin 2048) (l : Fin 2312) : ∃ a : ℝ, x0 (ix2 s l) = a := Alg.finite_of_abs_lt _ (congrFun h0 (ix2 s l))
  have e1 (s : Fin 2048) (k : Fin 1024) : ∃ a : ℝ, x1 (ix2 s k) = a := Alg.finite_of_abs_lt _ (congrFun h1 (ix2 s k))
  have e2 (k : Fin 1024) : ∃ a : ℝ, x2 (ix1 k) = a := Alg.finite_of_abs_lt _ (congrFun h2 (ix1 k))
  have e3 (k : Fin 1024) (l : Fin 2312) : ∃ a : ℝ, x3 (ix2 k l) = a := Alg.finite_of_abs_lt _ (congrFun h3 (ix2 k l))
  choose P hP using e0
  choose X hX using e1
  choose G hG using e2
  choose W hW using e3
  exact ⟨⟨P, X, G, W⟩, hP, hX, hG, hW⟩

/-- The claim: where the cotangent, the stream, the gain and the weight are finite, both programs end with the same three gradients. -/
theorem values [hK : Cert.InIdeal.Facts] [hR : Cert.InRefIdeal.Facts] [hP : Cert.Pre_in_finite.Facts] :
    algebraic_InIdeal_InRefIdeal_pre_in_finite := fun m ρ m' ρ' hpre hag => by
  have hI (c : Dev nD) : ∃ I : Inp, Cert.InRefIdeal.Hand.Args (A0 m c) (A1 m c) (A2 m c) (A3 m c) I :=
    reads_of_pre _ _ _ _ (A4 m c) (hpre c).1 (hpre c).2.1 (hpre c).2.2.1 (hpre c).2.2.2
  choose I A using hI
  have R (c : Dev nD) : Reads m c (I c) := ⟨(A c).p, (A c).x, (A c).g, (A c).w⟩
  refine ⟨fun c => resX (A4 m c) (I c), fun c => resW (I c), fun c => resG (I c), ?_, ?_⟩
  · exact (θ_run defs _ _).mono (fun _ h c => ⟨(h c).1.trans (rows_final (R c)), (h c).2.1.trans (weight_final (R c)),
      (h c).2.2.1.trans (gain_final (R c)), (h c).2.2.2⟩) (Value.run_blocks m ρ)
  · have B (c : Dev nD) : Cert.InRefIdeal.Hand.Args (m' ((c.tc : Thread Cert.InRefIdeal.nD Cert.InRefIdeal.τ).loc Cert.InRefIdeal.main_arg0))
        (m' ((c.tc : Thread Cert.InRefIdeal.nD Cert.InRefIdeal.τ).loc Cert.InRefIdeal.main_arg1))
        (m' ((c.tc : Thread Cert.InRefIdeal.nD Cert.InRefIdeal.τ).loc Cert.InRefIdeal.main_arg2))
        (m' ((c.tc : Thread Cert.InRefIdeal.nD Cert.InRefIdeal.τ).loc Cert.InRefIdeal.main_arg3)) (I c) := by
      obtain ⟨h0, h1, h2, h3, -⟩ := hag c
      rw [h0, h1, h2, h3]
      exact A c
    refine (θ_run _ _ _).mono (fun r h c => ⟨(h c).1.trans ?_, (h c).2.1.trans ?_, (h c).2.2.1.trans ?_, (h c).2.2.2⟩)
      (Cert.InRefIdeal.Value.run m' ρ')
    · refine (Cert.InRefIdeal.Read.val_main_v40_eq _ _ _ _ _).trans ?_
      refine funext fun (i : S2048x1024.Idx) => ?_
      obtain ⟨s, k, rfl⟩ : ∃ (s : Fin 2048) (k : Fin 1024), i = ix2 s k := ⟨_, _, eq_ix2 i⟩
      refine (Cert.InRefIdeal.Hand.v40 (B c) s k).trans ?_
      rw [(hag c).2.2.2.2]
      rfl
    · refine (Cert.InRefIdeal.Read.val_main_v48_eq _ _).trans ?_
      refine funext fun (i : S1024x2432.Idx) => ?_
      obtain ⟨k, j, rfl⟩ : ∃ (k : Fin 1024) (j : Fin 2432), i = ix2 k j := ⟨_, _, eq_ix2 i⟩
      exact Cert.InRefIdeal.Hand.v48 (B c) k j
    · refine (Cert.InRefIdeal.Read.val_main_v49_eq _ _ _).trans ?_
      refine funext fun (i : S1x1024.Idx) => ?_
      obtain ⟨z, k, rfl⟩ : ∃ (z : Fin 1) (k : Fin 1024), i = ix2 z k := ⟨_, _, eq_ix2 i⟩
      obtain rfl : z = 0 := Subsingleton.elim _ _
      exact Cert.InRefIdeal.Hand.v49 (B c) k

end Cert.InIdeal.Hand

end
-- ==== Proof.ConvF.lean ====
/-
  The causal convolution and its gate, forward. Every point computes a tile of 128 columns from whole columns, so the result is
  read column by column: the four taps of `ConvCol.pre` and `p * logistic p`.
-/
module

public import proofs.«01_k».proof.Proof.Conv
public import proofs.«01_k».proof.Proof.Gen.ConvFIdeal.Value
public import proofs.«01_k».proof.Proof.Gen.ConvFRefIdeal.Run
public import proofs.«01_k».proof.Proof.Gen.ConvFRefIdeal.Read

@[expose] public section

set_option maxRecDepth 16384

noncomputable section

namespace Cert.ConvFIdeal.Hand

open Cert.ConvFIdeal Cert.ConvFIdeal.Gen Idealize.ShloMosaic Idealize.ShloMosaic.TcCoe Idealize.SL.Sem
open Idealize.ShloMosaic.Pipeline (Dat)
open Cert.ConvCol
open Cert.ConvIdeal.Hand (back_of hz col tap_back move_last)

/-- What the gate lets through, down a column `X` with taps `w` and bias `b`. -/
def act (X : Fin 2048 → EReal) (w : Fin 4 → EReal) (b : EReal) (r : Fin 2048) : EReal := pre X w b r * Ideal.logistic (pre X w b r)

theorem hm (n : ℕ) : n % 2048 < 2048 := Nat.mod_lt _ (by norm_num)

section Body
variable (v : Vec Ideal S2048x128 .f32) (b w0 w1 w2 w3 : Vec Ideal S1x128 .f32) (r : Fin 2048) (k : Fin 128)

theorem pay2_eq : k0_pay2 v = v := by
  funext j
  unfold k0_pay2
  pointwise

/-- The bias and the two taps that reach back farthest. -/
theorem pay3_apply : k0_pay3 v b w0 w1 (ix2 r k) = b (ix2 0 k) + w0 (ix2 0 k) * back (col v k) 3 r + w1 (ix2 0 k) * back (col v k) 2 r := by
  unfold k0_pay3
  rw [pay2_eq]
  pointwise
  refine congrArg₂ (· + ·) (congrArg₂ (· + ·) rfl (congrArg (_ * ·) ?_)) (congrArg (_ * ·) ?_)
  · exact back_of r (col v k) 3 (hm _) fun _ => hm _
  · exact back_of r (col v k) 2 (hm _) fun _ => hm _

/-- All four taps and the gate. -/
theorem pay1_apply (u : Vec Ideal S2048x128 .f32) : k0_pay1 v u w2 (k0_pay4 v) (k0_pay5 v) w3 (ix2 r k)
    = (fun p : EReal => p * Ideal.logistic p) (u (ix2 r k) + w2 (ix2 0 k) * back (col v k) 1 r + w3 (ix2 0 k) * v (ix2 r k)) := by
  unfold k0_pay1 k0_pay5 k0_pay4
  rw [pay2_eq]
  pointwise
  simp only [zero_sub]
  refine congrArg (fun p : EReal => p * Ideal.logistic p) (congrArg₂ (· + ·) (congrArg₂ (· + ·) rfl (congrArg (_ * ·) ?_)) rfl)
  exact back_of r (col v k) 1 (hm _) fun _ => hm _

end Body

/-- The body's result at an index. -/
theorem out3_apply (x0 : Vec Ideal S2048x128 .f32) (x1 : Vec Ideal S4x128 .f32) (x2 : Vec Ideal S1x128 .f32) (r : Fin 2048) (k : Fin 128) :
    out0_3 x0 x1 x2 (ix2 r k) = act (col x0 k) (fun a => x1 (ix2 a k)) (x2 (ix2 0 k)) r := by
  unfold out0_3
  rw [View.canon_unit_zero hz, View.ld_unit_zero (S := S2048x128) hz, pay2_eq, pay1_apply, pay3_apply]
  pointwise
  rfl

section Array
variable (m : (ℓ : Loc nD τ sig) → Buf (Elt Ideal) ℓ) (c : Dev nD)

abbrev P : Vec Ideal S2048x2312 .f32 := m ((c : Thread nD τ).loc main_arg0)
abbrev W : Vec Ideal S4x1024 .f32 := m ((c : Thread nD τ).loc main_arg1)
abbrev Bz : Vec Ideal S1024 .f32 := m ((c : Thread nD τ).loc main_arg2)

theorem V_proj (r : Fin 2048) (k : Fin 1024) :
    (V m c main_v7 : Vec Ideal S2048x2432 .f32) (ix2 r ⟨1024 + k.val, by omega⟩) = P m c (ix2 r ⟨1280 + k.val, by omega⟩) := by
  unfold V
  after_reads_at
  rw [dif_neg (by omega), dif_neg (by omega), dif_pos (by omega)]
  refine (congrFun (StableHlo.unary_result ..) _).trans ?_
  pointwise
  rw [show (⟨1280 + (1024 + k.val - 512 - 512), by omega⟩ : Fin 2312) = ⟨1280 + k.val, by omega⟩ from Fin.ext (by show 1280 + (1024 + k.val - 512 - 512) = 1280 + k.val; omega)]
  exact congrFun (StableHlo.upto_unwritten [main_v0, main_v1, main_v2, main_v3] rfl (by decide) _) _

theorem V_bias (k : Fin 1024) : (V m c main_v8 : Vec Ideal S1x1024 .f32) (ix2 0 k) = Bz m c (ix1 k) := by
  unfold V
  after_reads_at

/-- Where each window's block of point `t` begins, in blocks. -/
theorem idx_facts : ∀ t : Fin cfg0.N, win0_0.index t = ![0, 8 + t.val] ∧ win0_1.index t = ![0, t.val] ∧ win0_2.index t = ![0, t.val]
    ∧ win0_3.index t = ![0, t.val] := by decide +kernel

variable (t : Fin cfg0.N)

/-- Column `k` of tile `t`, among all the columns. -/
abbrev kk (k : Fin 128) : Fin 1024 :=
  ⟨t.val * 128 + k.val, by have := lt_of_lt_of_eq t.isLt (show cfg0.N = 8 from N_0); have := k.isLt; omega⟩

theorem blk0 (r : Fin 2048) (k : Fin 128) :
    (iblk m c 0 t : Vec Ideal S2048x128 .f32) (ix2 r k) = P m c (ix2 r ⟨1280 + (kk t k).val, by omega⟩) := by
  obtain ⟨e, -⟩ := idx_facts t
  rw [← V_proj]
  unfold iblk
  rw [View.read_apply]
  refine congrArg (V m c main_v7 : Vec Ideal S2048x2432 .f32) (funext fun a => Fin.ext ?_)
  match a with
  | ⟨0, _⟩ => show win0_0.index t 0 * 2048 + 1 * r.val = _; rw [e]; show 0 * 2048 + 1 * r.val = r.val; omega
  | ⟨1, _⟩ => show win0_0.index t 1 * 128 + 1 * k.val = _; rw [e]; show (8 + t.val) * 128 + 1 * k.val = 1024 + (t.val * 128 + k.val); omega

theorem blk1 (a : Fin 4) (k : Fin 128) : (iblk m c 1 t : Vec Ideal S4x128 .f32) (ix2 a k) = W m c (ix2 a (kk t k)) := by
  obtain ⟨-, e, -⟩ := idx_facts t
  unfold iblk
  rw [View.read_apply]
  refine congrArg (W m c) (funext fun b => Fin.ext ?_)
  match b with
  | ⟨0, _⟩ => show win0_1.index t 0 * 4 + 1 * a.val = _; rw [e]; show 0 * 4 + 1 * a.val = a.val; omega
  | ⟨1, _⟩ => show win0_1.index t 1 * 128 + 1 * k.val = _; rw [e]; show t.val * 128 + 1 * k.val = t.val * 128 + k.val; omega

theorem blk2 (k : Fin 128) : (iblk m c 2 t : Vec Ideal S1x128 .f32) (ix2 0 k) = Bz m c (ix1 (kk t k)) := by
  obtain ⟨-, -, e, -⟩ := idx_facts t
  rw [← V_bias]
  unfold iblk
  rw [View.read_apply]
  refine congrArg (V m c main_v8 : Vec Ideal S1x1024 .f32) (funext fun a => Fin.ext ?_)
  match a with
  | ⟨0, _⟩ => show win0_2.index t 0 * 1 + 1 * 0 = _; rw [e]; rfl
  | ⟨1, _⟩ => show win0_2.index t 1 * 128 + 1 * k.val = _; rw [e]; show t.val * 128 + 1 * k.val = t.val * 128 + k.val; omega

/-- The result: every column through taps and gate. -/
def res (p : Vec Ideal S2048x2312 .f32) (w : Vec Ideal S4x1024 .f32) (b : Vec Ideal S1024 .f32) : Vec Ideal S2048x1024 .f32 := fun i =>
  act (fun r => p (ix2 r ⟨1280 + (i 1).val, by have : (i 1).val < 1024 := (i 1).isLt; omega⟩)) (fun a => w (ix2 a (i 1))) (b (ix1 (i 1))) (i 0)

theorem res_apply (p : Vec Ideal S2048x2312 .f32) (w : Vec Ideal S4x1024 .f32) (b : Vec Ideal S1024 .f32) (r : Fin 2048) (k : Fin 1024) :
    res p w b (ix2 r k) = act (fun r => p (ix2 r ⟨1280 + k.val, by omega⟩)) (fun a => w (ix2 a k)) (b (ix1 k)) r := rfl

theorem final : (dats m 0 c).arrAt 3 cfg0.N = res (P m c) (W m c) (Bz m c) := by
  refine (dats m 0 c).arrAt_eq_of_cover 3 (res (P m c) (W m c) (Bz m c)) (fun t _ => ?_) fun (i : S2048x1024.Idx) => ?_
  · rw [Value.flushed3]
    obtain ⟨-, -, -, e⟩ := idx_facts t
    refine funext fun (j : S2048x128.Idx) => ?_
    obtain ⟨r, k, rfl⟩ : ∃ (r : Fin 2048) (k : Fin 128), j = ix2 r k := ⟨_, _, eq_ix2 j⟩
    show out0_3 (iblk m c 0 t) (iblk m c 1 t) (iblk m c 2 t) (ix2 r k) = res (P m c) (W m c) (Bz m c) (((cfg0.win 3).blk t).view.emb (ix2 r k))
    have hi : ix2 r (kk t k) = ((cfg0.win 3).blk t).view.emb (ix2 r k) := funext fun a => Fin.ext (by
      match a with
      | ⟨0, _⟩ => show r.val = win0_3.index t 0 * 2048 + 1 * r.val; rw [e]; show _ = 0 * 2048 + 1 * r.val; omega
      | ⟨1, _⟩ => show t.val * 128 + k.val = win0_3.index t 1 * 128 + 1 * k.val; rw [e]; show _ = t.val * 128 + 1 * k.val; omega)
    rw [out3_apply, blk2, ← hi, res_apply]
    simp only [blk1]
    exact congrArg (act · _ _ r) (funext fun r => blk0 m c t r k)
  · have h0 : (i 0).val < 2048 := (i 0).isLt
    have h1 : (i 1).val < 1024 := (i 1).isLt
    obtain ⟨t, ht⟩ : ∃ t : Fin cfg0.N, t.val = (i 1).val / 128 := ⟨⟨(i 1).val / 128, by rw [show cfg0.N = 8 from N_0]; omega⟩, rfl⟩
    refine ⟨t, flush0_3 t, ?_⟩
    obtain ⟨-, -, -, e⟩ := idx_facts t
    show i ∈ ((View.whole main_v9).slice (win0_3.rect t)).set
    rw [View.set_slice_whole, Rect.mem_set_unit]
    intro a
    match a with
    | ⟨0, _⟩ => show win0_3.index t 0 * 2048 ≤ (i 0).val ∧ (i 0).val < win0_3.index t 0 * 2048 + 2048; rw [e]; show 0 * 2048 ≤ _ ∧ _ < 0 * 2048 + 2048; omega
    | ⟨1, _⟩ => show win0_3.index t 1 * 128 ≤ (i 1).val ∧ (i 1).val < win0_3.index t 1 * 128 + 128; rw [e]; show t.val * 128 ≤ _ ∧ _ < t.val * 128 + 128; omega

end Array

section Reference
open Cert.ConvFRefIdeal.Read
variable (x0 : Vec Ideal S2048x2312 .f32) (x1 : Vec Ideal S4x1024 .f32) (x2 : Vec Ideal S1024 .f32) (r : Fin 2048) (k : Fin 1024)

/-- The reference's column `k` of the convolved part. -/
abbrev Xc (k : Fin 1024) : Fin 2048 → EReal := fun r => x0 (ix2 r ⟨1280 + k.val, by omega⟩)

theorem ref_tap0 : val_main_v10 (F := Ideal) x0 (ix2 r k) = back (Xc x0 k) 3 r := by
  unfold val_main_v10 val_main_v7 val_main_v6 val_main_v4 val_main_cst
  pointwise
  exact tap_back (Xc x0 k) _ 3 r (by omega) le_rfl _

theorem ref_tap1 : val_main_v18 (F := Ideal) x0 (ix2 r k) = back (Xc x0 k) 2 r := by
  unfold val_main_v18 val_main_v7 val_main_v6 val_main_v4 val_main_cst
  pointwise
  exact tap_back (Xc x0 k) _ 2 r (by omega) (by omega) _

theorem ref_tap2 : val_main_v25 (F := Ideal) x0 (ix2 r k) = back (Xc x0 k) 1 r := by
  unfold val_main_v25 val_main_v7 val_main_v6 val_main_v4 val_main_cst
  pointwise
  exact tap_back (Xc x0 k) _ 1 r (by omega) (by omega) _

theorem ref_tap3 : val_main_v32 (F := Ideal) x0 (ix2 r k) = back (Xc x0 k) 0 r := by
  rw [back_zero]
  unfold val_main_v32 val_main_v7 val_main_v6 val_main_v4 val_main_cst
  pointwise

theorem ref_pre : val_main_v39 (F := Ideal) x0 x1 x2 (ix2 r k) = pre (Xc x0 k) (fun a => x1 (ix2 a k)) (x2 (ix1 k)) r := by
  unfold val_main_v39 val_main_v38 val_main_v37 val_main_v36 val_main_v35 val_main_v34 val_main_v33 val_main_v31 val_main_v30
    val_main_v29 val_main_v28 val_main_v27 val_main_v26 val_main_v24 val_main_v23 val_main_v22 val_main_v21 val_main_v20
    val_main_v19 val_main_v17 val_main_v16 val_main_v15 val_main_v14 val_main_v13 val_main_v12 val_main_v11 val_main_v9
    val_main_v8 val_main_cst_0
  pointwise [ref_tap0, ref_tap1, ref_tap2, ref_tap3]
  rw [back_zero]
  exact move_last _ _ _ _ _

theorem ref_act : val_main_v40 (F := Ideal) x0 x1 x2 (ix2 r k) = act (Xc x0 k) (fun a => x1 (ix2 a k)) (x2 (ix1 k)) r := by
  unfold val_main_v40 val_main_call0_v5 val_main_call0_v4 val_main_call0_cst_0 val_main_call0_v3 val_main_call0_v2 val_main_call0_cst
    val_main_call0_v1 val_main_call0_v0
  pointwise [ref_pre]
  rfl

end Reference

/-- The claim: both programs end with the same activations. -/
theorem values [hK : Cert.ConvFIdeal.Facts] [hR : Cert.ConvFRefIdeal.Facts] : algebraic_ConvFIdeal_ConvFRefIdeal := fun m ρ m' ρ' _ hag => by
  refine ⟨fun c => res (P m c) (W m c) (Bz m c), ?_, ?_⟩
  · exact (θ_run defs _ _).mono (fun _ h c => ⟨(h c).1.trans (final m c), (h c).2⟩) (Value.run_blocks m ρ)
  · refine (θ_run _ _ _).mono (fun r h c => ⟨(h c).1.trans ?_, (h c).2⟩) (Cert.ConvFRefIdeal.Value.run m' ρ')
    rw [Cert.ConvFRefIdeal.Read.val_main_v40_eq, (hag c).1, (hag c).2.1, (hag c).2.2]
    refine funext fun (i : S2048x1024.Idx) => ?_
    obtain ⟨r, k, rfl⟩ : ∃ (r : Fin 2048) (k : Fin 1024), i = ix2 r k := ⟨_, _, eq_ix2 i⟩
    exact (ref_act (P m c) (W m c) (Bz m c) r k).trans (res_apply (P m c) (W m c) (Bz m c) r k).symm

end Cert.ConvFIdeal.Hand

end
-- ==== Proof.InF.lean ====
/-
  The norm and the input projection, forward: each row is divided by its root mean square, scaled by the gain and multiplied by the
  weight, whose columns stand in the order the call reads them with columns of zeros at the end.
-/
module

public import proofs.«01_k».proof.Defs
public import proofs.«01_k».proof.Proof.Gen.InFIdeal.Value
public import proofs.«01_k».proof.Proof.Gen.InFRefIdeal.Run
public import proofs.«01_k».proof.Proof.Gen.InFRefIdeal.Read
public import Idealize.ShloMosaic.Lib.Tactic
public import Idealize.ShloMosaic.Lib.Pointwise
public import Idealize.ShloMosaic.Lib.Pipeline.ValueKit.Tiles
public import Idealize.ShloMosaic.Lib.StableHlo.ReadAt

@[expose] public section

set_option maxRecDepth 16384

noncomputable section

namespace Cert.InFIdeal.Hand

open Cert.InFIdeal Cert.InFIdeal.Gen Idealize.ShloMosaic Idealize.ShloMosaic.TcCoe Idealize.SL.Sem
open Idealize.ShloMosaic.Pipeline (Dat)

/-- Six parts of a row side by side in the call's order, then `z`. -/
def partsWith (z : EReal) (f : Fin 2312 → EReal) (j : Fin 2432) : EReal :=
  if _ : j.val < 512 then f ⟨j.val, by omega⟩
  else if _ : j.val - 512 < 512 then f ⟨768 + (j.val - 512), by omega⟩
  else if _ : j.val - 512 - 512 < 1024 then f ⟨1280 + (j.val - 512 - 512), by omega⟩
  else if _ : j.val - 512 - 512 - 1024 < 128 then f ⟨512 + (j.val - 512 - 512 - 1024), by omega⟩
  else if _ : j.val - 512 - 512 - 1024 - 128 < 128 then f ⟨640 + (j.val - 512 - 512 - 1024 - 128), by omega⟩
  else if _ : j.val - 512 - 512 - 1024 - 128 - 128 < 8 then f ⟨2304 + (j.val - 512 - 512 - 1024 - 128 - 128), by omega⟩
  else z

/-- The same with zeros. -/
def parts : (Fin 2312 → EReal) → Fin 2432 → EReal := partsWith 0

/-- A product with rearranged columns is the product rearranged. -/
theorem parts_dot (h : Fin 1024 → EReal) (w : Fin 1024 → Fin 2312 → EReal) (j : Fin 2432) :
    ∑ k, h k * parts (w k) j = parts (fun l => ∑ k, h k * w k l) j := by
  unfold parts partsWith
  split_ifs <;> simp

/-- Entry `k` of a normed row `x` with gain `g`. -/
def normed (x g : Fin 1024 → EReal) (k : Fin 1024) : EReal :=
  x k * Ideal.rsqrt (Ideal.div (∑ e, x e * x e) (Ideal.ofBits .f32 0x44800000#32) + Ideal.ofBits .f32 0x358637BD#32) * g k

theorem hz : (![0, 0] : Fin 2 → Nat) = fun _ => 0 := funext fun a => by fin_cases a <;> rfl

/-- The body's result at an index. -/
theorem out3_apply (x : Vec Ideal S512x1024 .f32) (g : Vec Ideal S1x1024 .f32) (w : Vec Ideal S1024x2432 .bf16) (r : Fin 512) (j : Fin 2432) :
    out0_3 x g w (ix2 r j) = ∑ k : Fin 1024, normed (fun e => x (ix2 r e)) (fun e => g (ix2 0 e)) k * w (ix2 k j) := by
  unfold out0_3
  rw [View.canon_unit_zero hz, View.ld_unit_zero (S := S512x1024) hz, View.ld_unit_zero (S := S1x1024) hz, View.ld_unit_zero (S := S1024x2432) hz]
  unfold k0_pay1
  pointwise
  rfl

section Array
variable (m : (ℓ : Loc nD τ sig) → Buf (Elt Ideal) ℓ) (c : Dev nD)

abbrev A0 : Vec Ideal S2048x1024 .f32 := m ((c : Thread nD τ).loc main_arg0)
abbrev A1 : Vec Ideal S1024 .f32 := m ((c : Thread nD τ).loc main_arg1)
abbrev A2 : Vec Ideal S1024x2312 .f32 := m ((c : Thread nD τ).loc main_arg2)

theorem int_zero : FloatOps.sitofp (F := Ideal) FTy.f32 0#32 = (0 : EReal) := by
  show (((0#32 : BitVec 32).toInt : ℝ) : EReal) = 0
  simp

theorem V_g (k : Fin 1024) : (V m c main_v0 : Vec Ideal S1x1024 .f32) (ix2 0 k) = A1 m c (ix1 k) := by
  unfold V
  after_reads_at

/-- The memory as the host's first ten operations leave it: the weight's columns cut into six arrays. -/
abbrev cut (b : Ref sig .tc) : b.ty.Contents (Elt Ideal) :=
  StableHlo.upto [hostOps0, hostOps0_1, hostOps0_2].flatten (fun b => m (c, b)) 10 (Proc.tc.devRef b)

theorem W_q (k : Fin 1024) (l : Fin 512) : (cut m c main_v1 : Vec Ideal S1024x512 .f32) (ix2 k l) = A2 m c (ix2 k ⟨l.val, by omega⟩) := by
  unfold cut
  after_reads_at

theorem W_z (k : Fin 1024) (l : Fin 512) : (cut m c main_v4 : Vec Ideal S1024x512 .f32) (ix2 k l) = A2 m c (ix2 k ⟨768 + l.val, by omega⟩) := by
  unfold cut
  after_reads_at

theorem W_c (k : Fin 1024) (l : Fin 1024) : (cut m c main_v5 : Vec Ideal S1024x1024 .f32) (ix2 k l) = A2 m c (ix2 k ⟨1280 + l.val, by omega⟩) := by
  unfold cut
  after_reads_at

theorem W_k (k : Fin 1024) (l : Fin 128) : (cut m c main_v2 : Vec Ideal S1024x128 .f32) (ix2 k l) = A2 m c (ix2 k ⟨512 + l.val, by omega⟩) := by
  unfold cut
  after_reads_at

theorem W_v (k : Fin 1024) (l : Fin 128) : (cut m c main_v3 : Vec Ideal S1024x128 .f32) (ix2 k l) = A2 m c (ix2 k ⟨640 + l.val, by omega⟩) := by
  unfold cut
  after_reads_at

theorem W_dt (k : Fin 1024) (l : Fin 128) : (cut m c main_v7 : Vec Ideal S1024x128 .f32) (ix2 k l) = if h : l.val < 8 then A2 m c (ix2 k ⟨2304 + l.val, by omega⟩) else 0 := by
  unfold cut
  after_reads_at
  rw [int_zero]

theorem V_w (k : Fin 1024) (j : Fin 2432) : (V m c main_v9 : Vec Ideal S1024x2432 .bf16) (ix2 k j) = parts (fun l => A2 m c (ix2 k l)) j := by
  unfold V
  after_reads_at
  have e1 := W_q m c
  have e4 := W_z m c
  have e5 := W_c m c
  have e2 := W_k m c
  have e3 := W_v m c
  have e7 := W_dt m c
  simp only [cut] at e1 e4 e5 e2 e3 e7
  simp only [e1, e4, e5, e2, e3, e7]
  rfl

variable (t : Fin cfg0.N)

/-- Where each window's block of point `t` begins, in blocks. -/
theorem idx_facts : ∀ t : Fin cfg0.N, win0_0.index t = ![t.val, 0] ∧ win0_1.index t = ![0, 0] ∧ win0_2.index t = ![0, 0]
    ∧ win0_3.index t = ![t.val, 0] := by decide +kernel

/-- Row `r` of block `t`, among all rows. -/
abbrev row (r : Fin 512) : Fin 2048 :=
  ⟨t.val * 512 + r.val, by have := lt_of_lt_of_eq t.isLt (show cfg0.N = 4 from N_0); have := r.isLt; omega⟩

theorem blk0 (r : Fin 512) (k : Fin 1024) : (iblk m c 0 t : Vec Ideal S512x1024 .f32) (ix2 r k) = A0 m c (ix2 (row t r) k) := by
  obtain ⟨e, -⟩ := idx_facts t
  unfold iblk
  rw [View.read_apply]
  refine congrArg (A0 m c) (funext fun a => Fin.ext ?_)
  match a with
  | ⟨0, _⟩ => show win0_0.index t 0 * 512 + 1 * r.val = _; rw [e]; show t.val * 512 + 1 * r.val = t.val * 512 + r.val; omega
  | ⟨1, _⟩ => show win0_0.index t 1 * 1024 + 1 * k.val = _; rw [e]; show 0 * 1024 + 1 * k.val = k.val; omega

theorem blk1 (k : Fin 1024) : (iblk m c 1 t : Vec Ideal S1x1024 .f32) (ix2 0 k) = A1 m c (ix1 k) := by
  obtain ⟨-, e, -⟩ := idx_facts t
  rw [← V_g]
  unfold iblk
  rw [View.read_apply]
  refine congrArg (V m c main_v0 : Vec Ideal S1x1024 .f32) (funext fun a => Fin.ext ?_)
  match a with
  | ⟨0, _⟩ => show win0_1.index t 0 * 1 + 1 * 0 = _; rw [e]; rfl
  | ⟨1, _⟩ => show win0_1.index t 1 * 1024 + 1 * k.val = _; rw [e]; show 0 * 1024 + 1 * k.val = k.val; omega

theorem blk2 (k : Fin 1024) (j : Fin 2432) : (iblk m c 2 t : Vec Ideal S1024x2432 .bf16) (ix2 k j) = parts (fun l => A2 m c (ix2 k l)) j := by
  obtain ⟨-, -, e, -⟩ := idx_facts t
  rw [← V_w]
  unfold iblk
  rw [View.read_apply]
  refine congrArg (V m c main_v9 : Vec Ideal S1024x2432 .bf16) (funext fun a => Fin.ext ?_)
  match a with
  | ⟨0, _⟩ => show win0_2.index t 0 * 1024 + 1 * k.val = _; rw [e]; show 0 * 1024 + 1 * k.val = k.val; omega
  | ⟨1, _⟩ => show win0_2.index t 1 * 2432 + 1 * j.val = _; rw [e]; show 0 * 2432 + 1 * j.val = j.val; omega

/-- The result: the normed rows times the weight, columns in the call's order. -/
def res (x : Vec Ideal S2048x1024 .f32) (g : Vec Ideal S1024 .f32) (w : Vec Ideal S1024x2312 .f32) : Vec Ideal S2048x2432 .f32 := fun i =>
  parts (fun l => ∑ k : Fin 1024, normed (fun e => x (ix2 (i 0) e)) (fun e => g (ix1 e)) k * w (ix2 k l)) (i 1)

theorem res_apply (x : Vec Ideal S2048x1024 .f32) (g : Vec Ideal S1024 .f32) (w : Vec Ideal S1024x2312 .f32) (s : Fin 2048) (j : Fin 2432) :
    res x g w (ix2 s j) = parts (fun l => ∑ k : Fin 1024, normed (fun e => x (ix2 s e)) (fun e => g (ix1 e)) k * w (ix2 k l)) j := rfl

theorem final : (dats m 0 c).arrAt 3 cfg0.N = res (A0 m c) (A1 m c) (A2 m c) := by
  refine (dats m 0 c).arrAt_eq_of_cover 3 (res (A0 m c) (A1 m c) (A2 m c)) (fun t _ => ?_) fun (i : S2048x2432.Idx) => ?_
  · rw [Value.flushed3]
    obtain ⟨-, -, -, e⟩ := idx_facts t
    refine funext fun (j : S512x2432.Idx) => ?_
    obtain ⟨r, j, rfl⟩ : ∃ (r : Fin 512) (l : Fin 2432), j = ix2 r l := ⟨_, _, eq_ix2 j⟩
    show out0_3 (iblk m c 0 t) (iblk m c 1 t) (iblk m c 2 t) (ix2 r j) = res (A0 m c) (A1 m c) (A2 m c) (((cfg0.win 3).blk t).view.emb (ix2 r j))
    have hi : ix2 (row t r) j = ((cfg0.win 3).blk t).view.emb (ix2 r j) := funext fun a => Fin.ext (by
      match a with
      | ⟨0, _⟩ => show t.val * 512 + r.val = win0_3.index t 0 * 512 + 1 * r.val; rw [e]; show _ = t.val * 512 + 1 * r.val; omega
      | ⟨1, _⟩ => show j.val = win0_3.index t 1 * 2432 + 1 * j.val; rw [e]; show _ = 0 * 2432 + 1 * j.val; omega)
    rw [out3_apply, ← hi, res_apply, ← parts_dot]
    simp only [blk0, blk1, blk2]
  · have h0 : (i 0).val < 2048 := (i 0).isLt
    have h1 : (i 1).val < 2432 := (i 1).isLt
    obtain ⟨t, ht⟩ : ∃ t : Fin cfg0.N, t.val = (i 0).val / 512 := ⟨⟨(i 0).val / 512, by rw [show cfg0.N = 4 from N_0]; omega⟩, rfl⟩
    refine ⟨t, flush0_3 t, ?_⟩
    obtain ⟨-, -, -, e⟩ := idx_facts t
    show i ∈ ((View.whole main_v10).slice (win0_3.rect t)).set
    rw [View.set_slice_whole, Rect.mem_set_unit]
    intro a
    match a with
    | ⟨0, _⟩ => show win0_3.index t 0 * 512 ≤ (i 0).val ∧ (i 0).val < win0_3.index t 0 * 512 + 512; rw [e]; show t.val * 512 ≤ _ ∧ _ < t.val * 512 + 512; omega
    | ⟨1, _⟩ => show win0_3.index t 1 * 2432 ≤ (i 1).val ∧ (i 1).val < win0_3.index t 1 * 2432 + 2432; rw [e]; show 0 * 2432 ≤ _ ∧ _ < 0 * 2432 + 2432; omega

end Array

section Reference
open Cert.InFRefIdeal.Read
variable (x0 : Vec Ideal S2048x1024 .f32) (x1 : Vec Ideal S1024 .f32) (x2 : Vec Ideal S1024x2312 .f32) (s : Fin 2048)

theorem ref_normed (k : Fin 1024) : val_main_v12 (F := Ideal) x0 x1 (ix2 s k) = normed (fun e => x0 (ix2 s e)) (fun e => x1 (ix1 e)) k := by
  unfold val_main_v12 val_main_v11 val_main_v10 val_main_v9 val_main_v8 val_main_v7 val_main_v6 val_main_v5 val_main_cst_1 val_main_v4
    val_main_v3 val_main_cst_0 val_main_v2 val_main_v1 val_main_cst val_main_v0
  pointwise
  rfl

theorem ref_dot (l : Fin 2312) : val_main_v13 (F := Ideal) x0 x1 x2 (ix2 s l)
    = ∑ k : Fin 1024, normed (fun e => x0 (ix2 s e)) (fun e => x1 (ix1 e)) k * x2 (ix2 k l) := by
  unfold val_main_v13
  pointwise [ref_normed]

theorem ref_parts (j : Fin 2432) : val_main_v21 (F := Ideal) x0 x1 x2 (ix2 s j) = res x0 x1 x2 (ix2 s j) := by
  rw [res_apply]
  unfold val_main_v21 val_main_v20 val_main_v19 val_main_v18 val_main_v17 val_main_v16 val_main_v15 val_main_v14
  pointwise [ref_dot]
  refine congrArg (partsWith · (fun l => ∑ k : Fin 1024, normed (fun e => x0 (ix2 s e)) (fun e => x1 (ix1 e)) k * x2 (ix2 k l)) j) ?_
  unfold val_main_call0_v0 val_main_c
  pointwise
  exact int_zero

theorem ref_all : val_main_v21 (F := Ideal) x0 x1 x2 = res x0 x1 x2 := by
  refine funext fun (i : S2048x2432.Idx) => ?_
  obtain ⟨s, j, rfl⟩ : ∃ (s : Fin 2048) (j : Fin 2432), i = ix2 s j := ⟨_, _, eq_ix2 i⟩
  exact ref_parts x0 x1 x2 s j

end Reference

/-- The claim: both programs end with the same projection. -/
theorem values [hK : Cert.InFIdeal.Facts] [hR : Cert.InFRefIdeal.Facts] : algebraic_InFIdeal_InFRefIdeal := fun m ρ m' ρ' _ hag => by
  refine ⟨fun c => res (A0 m c) (A1 m c) (A2 m c), ?_, ?_⟩
  · exact (θ_run defs _ _).mono (fun _ h c => ⟨(h c).1.trans (final m c), (h c).2⟩) (Value.run_blocks m ρ)
  · refine (θ_run _ _ _).mono (fun r h c => ⟨(h c).1.trans ?_, (h c).2⟩) (Cert.InFRefIdeal.Value.run m' ρ')
    rw [Cert.InFRefIdeal.Read.val_main_v21_eq, (hag c).1, (hag c).2.1, (hag c).2.2]
    exact ref_all (A0 m c) (A1 m c) (A2 m c)

end Cert.InFIdeal.Hand

end
-- ==== Proof.MlpFBody.lean ====
/-
  What one point of the squared relu network leaves: the normed rows in scratch, the tile of hidden units before the relu, and the
  rows' result with the tile's share added. Each is written 256 rows at a time.
-/
module

public import proofs.«01_k».proof.Proof.AttnTiles
public import proofs.«01_k».proof.Proof.InF
public import proofs.«01_k».proof.Proof.Gen.MlpFIdeal.Value
public import Idealize.ShloMosaic.Lib.Tactic
public import Idealize.ShloMosaic.Lib.Pointwise
public import Idealize.ShloMosaic.Lib.Pipeline.ValueKit.Tiles

@[expose] public section

set_option maxRecDepth 16384

noncomputable section

namespace Cert.MlpFIdeal.Hand

open Cert.MlpFIdeal Cert.MlpFIdeal.Gen Idealize.ShloMosaic Idealize.ShloMosaic.TcCoe Idealize.SL.Sem
open Cert.AttnIdeal.Hand (canon_skip)
open Cert.InFIdeal.Hand (normed hz)

/-- The square of what the relu lets through. -/
def sq (u : EReal) : EReal := max u 0 * max u 0

/-! ## Rows written 256 at a time, and read back -/

theorem canon4 {et : EltTy} {g0 g1 g2 g3 : Vec Ideal S256x1024 et} {i0 : ∀ a, (![0, 0] : Fin 2 → Nat) a + S256x1024.size a ≤ S1024x1024.size a}
    {i1 : ∀ a, (![256, 0] : Fin 2 → Nat) a + S256x1024.size a ≤ S1024x1024.size a} {i2 : ∀ a, (![512, 0] : Fin 2 → Nat) a + S256x1024.size a ≤ S1024x1024.size a}
    {i3 : ∀ a, (![768, 0] : Fin 2 → Nat) a + S256x1024.size a ≤ S1024x1024.size a} {rest : List (View.Piece (Elt Ideal) S1024x1024 et)}
    (k : Fin 1024) (v : Fin 1024 → Elt Ideal et) (e0 : ∀ a : Fin 256, g0 (ix2 a k) = v ⟨0 + a.val, by omega⟩) (e1 : ∀ a : Fin 256, g1 (ix2 a k) = v ⟨256 + a.val, by omega⟩)
    (e2 : ∀ a : Fin 256, g2 (ix2 a k) = v ⟨512 + a.val, by omega⟩) (e3 : ∀ a : Fin 256, g3 (ix2 a k) = v ⟨768 + a.val, by omega⟩) (r : Fin 1024) :
    View.canon (⟨Rect.unit (s := S1024x1024) ![768, 0] S256x1024.size i3, g3⟩ :: ⟨Rect.unit (s := S1024x1024) ![512, 0] S256x1024.size i2, g2⟩
      :: ⟨Rect.unit (s := S1024x1024) ![256, 0] S256x1024.size i1, g1⟩ :: ⟨Rect.unit (s := S1024x1024) ![0, 0] S256x1024.size i0, g0⟩ :: rest) (ix2 r k) = v r := by
  have hit : ∀ {n : Nat} {inb} {w : Vec Ideal S256x1024 et} {L : List (View.Piece (Elt Ideal) S1024x1024 et)} (a : Fin 256) (_ : r.val = n + a.val),
      View.canon ((⟨Rect.unit (s := S1024x1024) ![n, 0] S256x1024.size inb, w⟩ : View.Piece (Elt Ideal) S1024x1024 et) :: L) (ix2 r k) = w (ix2 a k) := by
    intro n inb w L a ha
    have hy : (ix2 r k : S1024x1024.Idx) = (Rect.unit (s := S1024x1024) ![n, 0] S256x1024.size inb).emb (ix2 a k) := by
      refine funext fun b => Fin.ext ?_
      match b with
      | 0 => show r.val = n + 1 * a.val; omega
      | 1 => show k.val = 0 + 1 * k.val; omega
    rw [hy, View.canon_cons_emb]
  have skip : ∀ {n : Nat} {inb} {w : Vec Ideal S256x1024 et} {L : List (View.Piece (Elt Ideal) S1024x1024 et)} (_ : r.val < n),
      View.canon ((⟨Rect.unit (s := S1024x1024) ![n, 0] S256x1024.size inb, w⟩ : View.Piece (Elt Ideal) S1024x1024 et) :: L) (ix2 r k) = View.canon L (ix2 r k) :=
    fun {n inb _ _} hn => View.canon_cons_of_not_mem _ _ fun hy => by
      replace hy : (ix2 r k : S1024x1024.Idx) ∈ (Rect.unit (s := S1024x1024) ![n, 0] S256x1024.size inb).set := hy
      exact Nat.not_le.mpr hn (Rect.mem_set_unit.mp hy 0).1
  have hr := r.isLt
  have at_ : ∀ (n : ℕ) (h : n + (r.val - n) < 1024) (_ : n ≤ r.val), v ⟨n + (r.val - n), h⟩ = v r := fun n h hn =>
    congrArg v (Fin.ext (by show n + (r.val - n) = r.val; omega))
  by_cases h3 : 768 ≤ r.val
  · exact (hit ⟨r.val - 768, by omega⟩ (by show r.val = 768 + (r.val - 768); omega)).trans ((e3 _).trans (at_ 768 (by omega) h3))
  refine (skip (by omega)).trans ?_
  by_cases h2 : 512 ≤ r.val
  · exact (hit ⟨r.val - 512, by omega⟩ (by show r.val = 512 + (r.val - 512); omega)).trans ((e2 _).trans (at_ 512 (by omega) h2))
  refine (skip (by omega)).trans ?_
  by_cases h1 : 256 ≤ r.val
  · exact (hit ⟨r.val - 256, by omega⟩ (by show r.val = 256 + (r.val - 256); omega)).trans ((e1 _).trans (at_ 256 (by omega) h1))
  refine (skip (by omega)).trans ?_
  exact (hit ⟨r.val - 0, by omega⟩ (by show r.val = 0 + (r.val - 0); omega)).trans ((e0 _).trans (at_ 0 (by omega) (by omega)))

/-- 256 rows of an array from row `n`. -/
def cut {e : EltTy} (x : Vec Ideal S1024x1024 e) (n : ℕ) (hn : n ≤ 768) : Vec Ideal S256x1024 e := fun i =>
  x (ix2 ⟨n + (i 0).val, by have : (i 0).val < 256 := (i 0).isLt; omega⟩ (i 1))

theorem cut_apply {e : EltTy} (x : Vec Ideal S1024x1024 e) (n : ℕ) (hn : n ≤ 768) (a : Fin 256) (k : Fin 1024) :
    cut x n hn (ix2 a k) = x (ix2 ⟨n + a.val, by omega⟩ k) := rfl

theorem ld_cut {e : EltTy} (x : Vec Ideal S1024x1024 e) (n : ℕ) (hn : n ≤ 768)
    (inb : ∀ a, (![n, 0] : Fin 2 → Nat) a + S256x1024.size a ≤ S1024x1024.size a) :
    View.ld x (Rect.unit (s := S1024x1024) ![n, 0] S256x1024.size inb) = cut x n hn := by
  refine funext fun (i : S256x1024.Idx) => View.ld_unit_apply_of _ _ _ _ _ _ fun a => ?_
  match a with
  | 0 => rfl
  | 1 => exact (Nat.zero_add _).symm

theorem hz3 : (![0, 0, 0] : Fin 3 → Nat) = fun _ => 0 := funext fun a => by fin_cases a <;> rfl

/-- Rows read back from an array whose last stores lie before them. -/
theorem back_cut (a : Memref sig .tc .vmem S1024x1024 .f32) (x : Vec Ideal S1024x1024 .f32) (n : ℕ) (hn : n ≤ 768) {L : List (View.Piece (Elt Ideal) S1024x1024 .f32)}
    (inb : ∀ a, (![n, 0] : Fin 2 → Nat) a + S256x1024.size a ≤ S1024x1024.size a)
    (hL : ∀ (r k : Fin 1024), n ≤ r.val → View.canon L (ix2 r k) = x (ix2 r k)) :
    a.view.readCov (Val := Elt Ideal) L (Rect.unit (s := S1024x1024) ![n, 0] S256x1024.size inb).toLoadRect = cut x n hn := by
  refine funext fun (i : S256x1024.Idx) => ?_
  obtain ⟨b, k, rfl⟩ : ∃ (b : Fin 256) (k : Fin 1024), i = ix2 b k := ⟨_, _, eq_ix2 i⟩
  rw [View.readCov_eq_canon', cut_apply, ← hL _ _ (by show n ≤ n + b.val; omega)]
  refine congrArg (View.canon L) (funext fun a => Fin.ext ?_)
  match a with
  | 0 => show n + 1 * b.val = n + b.val; omega
  | 1 => show 0 + 1 * k.val = k.val; omega

/-- Likewise from the scratch, written whole. -/
theorem back_scr (a : Memref sig .tc .vmem S1024x1024 .bf16) (x : Vec Ideal S1024x1024 .bf16) (n : ℕ) (hn : n ≤ 768)
    {i0 : ∀ a, (![0, 0] : Fin 2 → Nat) a + S1024x1024.size a ≤ S1024x1024.size a} (inb : ∀ a, (![n, 0] : Fin 2 → Nat) a + S256x1024.size a ≤ S1024x1024.size a) :
    a.view.readCov (Val := Elt Ideal) [(⟨Rect.unit (s := S1024x1024) ![0, 0] S1024x1024.size i0, x⟩ : View.Piece (Elt Ideal) S1024x1024 .bf16)]
      (Rect.unit (s := S1024x1024) ![n, 0] S256x1024.size inb).toLoadRect = cut x n hn := by
  refine funext fun (i : S256x1024.Idx) => ?_
  obtain ⟨b, k, rfl⟩ : ∃ (b : Fin 256) (k : Fin 1024), i = ix2 b k := ⟨_, _, eq_ix2 i⟩
  rw [View.readCov_eq_canon', View.canon_cons_unit_zero (S := S1024x1024) hz, cut_apply]
  refine congrArg x (funext fun a => Fin.ext ?_)
  match a with
  | 0 => show n + 1 * b.val = n + b.val; omega
  | 1 => show 0 + 1 * k.val = k.val; omega

/-! ## The payloads -/

/-- Hidden unit `j` of row `r` before the relu. -/
def up (h : Vec Ideal S1024x1024 .bf16) (w : Vec Ideal S1x1024x1024 .bf16) (r j : Fin 1024) : EReal := ∑ e : Fin 1024, h (ix2 r e) * w (ix3 0 e j)

/-- The tile's share of entry `k` of row `r`. -/
def share (h : Vec Ideal S1024x1024 .bf16) (wu wd : Vec Ideal S1x1024x1024 .bf16) (r k : Fin 1024) : EReal :=
  ∑ j : Fin 1024, sq (up h wu r j) * wd (ix3 0 j k)

theorem pay3_apply (x : Vec Ideal S1024x1024 .f32) (g : Vec Ideal S1x1024 .f32) (r e : Fin 1024) :
    k0_pay3 (F := Ideal) x g (ix2 r e) = normed (fun e => x (ix2 r e)) (fun e => g (ix2 0 e)) e := by
  unfold k0_pay3
  pointwise
  rfl

theorem pay1_apply (h : Vec Ideal S256x1024 .bf16) (w : Vec Ideal S1x1024x1024 .bf16) (a : Fin 256) (j : Fin 1024) :
    k0_pay1 (F := Ideal) h w (ix2 a j) = ∑ e : Fin 1024, h (ix2 a e) * w (ix3 0 e j) := by
  unfold k0_pay1
  pointwise

theorem pay2_apply (h : Vec Ideal S256x1024 .bf16) (w : Vec Ideal S1x1024x1024 .bf16) (y : Vec Ideal S256x1024 .f32) (d : Vec Ideal S1x1024x1024 .bf16) (a : Fin 256) (k : Fin 1024) :
    k0_pay2 (F := Ideal) h w y d (ix2 a k) = y (ix2 a k) + ∑ j : Fin 1024, sq (∑ e : Fin 1024, h (ix2 a e) * w (ix3 0 e j)) * d (ix3 0 j k) := by
  unfold k0_pay2
  pointwise [pay1_apply]
  rfl

theorem pay4_eq : k0_pay4 (F := Ideal) = k0_pay1 := rfl
theorem pay6_eq : k0_pay6 (F := Ideal) = k0_pay1 := rfl
theorem pay9_eq : k0_pay9 (F := Ideal) = k0_pay1 := rfl
theorem pay5_eq : k0_pay5 (F := Ideal) = k0_pay2 := rfl
theorem pay10_eq : k0_pay10 (F := Ideal) = k0_pay2 := rfl
theorem pay8_eq (h : Vec Ideal S256x1024 .bf16) (w : Vec Ideal S1x1024x1024 .bf16) (y : Vec Ideal S256x1024 .f32) (d : Vec Ideal S1x1024x1024 .bf16) :
    k0_pay8 (F := Ideal) (k0_pay7 h w) y d = k0_pay2 h w y d := rfl

theorem pay2_at {h : Vec Ideal S1024x1024 .bf16} {w : Vec Ideal S1x1024x1024 .bf16} {y : Vec Ideal S1024x1024 .f32} {d : Vec Ideal S1x1024x1024 .bf16}
    (n : ℕ) (hn : n ≤ 768) {h' : Vec Ideal S256x1024 .bf16} {w' d' : Vec Ideal S1x1024x1024 .bf16} {y' : Vec Ideal S256x1024 .f32}
    (eh : h' = cut h n hn) (ew : w' = w) (ey : y' = cut y n hn) (ed : d' = d) (k : Fin 1024) (a : Fin 256) :
    k0_pay2 (F := Ideal) h' w' y' d' (ix2 a k) = y (ix2 ⟨n + a.val, by omega⟩ k) + share h w d ⟨n + a.val, by omega⟩ k := by
  subst eh ew ey ed
  rw [pay2_apply]
  rfl

theorem pay1_at {h : Vec Ideal S1024x1024 .bf16} {w : Vec Ideal S1x1024x1024 .bf16} (n : ℕ) (hn : n ≤ 768) {h' : Vec Ideal S256x1024 .bf16}
    {w' : Vec Ideal S1x1024x1024 .bf16} (eh : h' = cut h n hn) (ew : w' = w) (j : Fin 1024) (a : Fin 256) :
    k0_pay1 (F := Ideal) h' w' (ix2 a j) = up h w ⟨n + a.val, by omega⟩ j := by
  subst eh ew
  rw [pay1_apply]
  rfl

/-- A weight tile read whole. -/
theorem ldw (w : Vec Ideal S1x1024x1024 .bf16) (inb : ∀ a, (![0, 0, 0] : Fin 3 → Nat) a + S1x1024x1024.size a ≤ S1x1024x1024.size a) :
    View.ld w (Rect.unit (s := S1x1024x1024) ![0, 0, 0] S1x1024x1024.size inb) = w := View.ld_unit_zero (S := S1x1024x1024) hz3 _ _

section Bodies
variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1x1024x1024 .bf16) (h4 : a4.IsWhole) (a5 : Memref sig .tc .vmem S1x1024x1024 .bf16) (h5 : a5.IsWhole)
  (a6 : Memref sig .tc .vmem S1024x1024 .f32) (h6 : a6.IsWhole) (a7 : Memref sig .tc .vmem S1024x1024 .f32) (h7 : a7.IsWhole)
  (a8 : Memref sig .tc .vmem S1024x1024 .bf16) (h8 : a8.IsWhole)
  (x : Vec Ideal S1024x1024 .f32) (g : Vec Ideal S1x1024 .f32) (wu wd : Vec Ideal S1x1024x1024 .bf16) (y : Vec Ideal S1024x1024 .f32) (h : Vec Ideal S1024x1024 .bf16)

/-- A later point adds its tile's share to what the rows held. -/
theorem rows_B (hc : ¬cond0_0 i) (r k : Fin 1024) : out0_B_4 c i a2 h2 a3 h3 a4 h4 a5 h5 a6 h6 a7 h7 a8 h8 hc x g wu wd y h (ix2 r k)
    = y (ix2 r k) + share h wu wd r k := by
  unfold out0_B_4
  rw [View.read_writes_eq_canon _ _ _ (cover0_B_4 c i a2 h2 a3 h3 a4 h4 a5 h5 a6 h6 a7 h7 a8 h8 hc x g wu wd y h)]
  unfold kernelRun0_B
  dsimp only
  sl_unfold_words
  simp only [View.readAt_eq_ld, h4.read_unread, h5.read_unread, h6.read_unread, h8.read_unread]
  refine canon4 (et := .f32) k (fun r => y (ix2 r k) + share h wu wd r k) ?_ ?_ ?_ ?_ r
  · intro a; rw [pay5_eq]; exact pay2_at 0 (by decide) (ld_cut h 0 _ _) (ldw _ _) (ld_cut y 0 _ _) (ldw _ _) k a
  · intro a; rw [pay8_eq]; exact pay2_at 256 (by decide) (ld_cut h 256 _ _) (ldw _ _) (ld_cut y 256 _ _) (ldw _ _) k a
  · intro a; rw [pay10_eq]; exact pay2_at 512 (by decide) (ld_cut h 512 _ _) (ldw _ _) (ld_cut y 512 _ _) (ldw _ _) k a
  · intro a; exact pay2_at 768 (by decide) (ld_cut h 768 _ _) (ldw _ _) (ld_cut y 768 _ _) (ldw _ _) k a

/-- The tile of hidden units. -/
theorem tile_B (hc : ¬cond0_0 i) (r j : Fin 1024) : out0_B_5 c i a2 h2 a3 h3 a4 h4 a5 h5 a6 h6 a7 h7 a8 h8 hc x g wu wd y h (ix2 r j) = up h wu r j := by
  unfold out0_B_5
  rw [View.read_writes_eq_canon _ _ _ (cover0_B_5 c i a2 h2 a3 h3 a4 h4 a5 h5 a6 h6 a7 h7 a8 h8 hc x g wu wd y h)]
  unfold kernelRun0_B
  dsimp only
  sl_unfold_words
  simp only [View.readAt_eq_ld, h4.read_unread, h8.read_unread]
  refine canon4 (et := .f32) j (fun r => up h wu r j) ?_ ?_ ?_ ?_ r
  · intro a; rw [pay4_eq]; exact pay1_at 0 (by decide) (ld_cut h 0 _ _) (ldw _ _) j a
  · intro a; rw [pay6_eq]; exact pay1_at 256 (by decide) (ld_cut h 256 _ _) (ldw _ _) j a
  · intro a; rw [pay9_eq]; exact pay1_at 512 (by decide) (ld_cut h 512 _ _) (ldw _ _) j a
  · intro a; exact pay1_at 768 (by decide) (ld_cut h 768 _ _) (ldw _ _) j a

/-- A later point leaves the scratch. -/
theorem scr_B (hc : ¬cond0_0 i) : sout0_B_0 c i a2 h2 a3 h3 a4 h4 a5 h5 a6 h6 a7 h7 a8 h8 hc x g wu wd y h = h := rfl

/-- A row block's first point fills the scratch with the normed rows. -/
theorem scr_A (hc : cond0_0 i) : sout0_A_0 c i a2 h2 a3 h3 a4 h4 a5 h5 a6 h6 a7 h7 a8 h8 hc x g wu wd = k0_pay3 x g := by
  unfold sout0_A_0
  rw [View.read_writes_eq_canon _ _ _ (scover0_A_0 c i a2 h2 a3 h3 a4 h4 a5 h5 a6 h6 a7 h7 a8 h8 hc x g wu wd)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem tile_A (hc : cond0_0 i) (r j : Fin 1024) : out0_A_5 c i a2 h2 a3 h3 a4 h4 a5 h5 a6 h6 a7 h7 a8 h8 hc x g wu wd (ix2 r j) = up (k0_pay3 x g) wu r j := by
  unfold out0_A_5
  rw [View.read_writes_eq_canon _ _ _ (cover0_A_5 c i a2 h2 a3 h3 a4 h4 a5 h5 a6 h6 a7 h7 a8 h8 hc x g wu wd)]
  unfold kernelRun0_A
  dsimp only
  sl_unfold_words
  simp only [View.readAt_eq_ld, h2.read_unread, h3.read_unread, h4.read_unread, View.ld_unit_zero (S := S1024x1024) hz, View.ld_unit_zero (S := S1x1024) hz]
  refine canon4 (et := .f32) j (fun r => up (k0_pay3 x g) wu r j) ?_ ?_ ?_ ?_ r
  · intro a; rw [pay4_eq]; exact pay1_at 0 (by decide) (back_scr _ _ 0 _ _) (ldw _ _) j a
  · intro a; rw [pay6_eq]; exact pay1_at 256 (by decide) (back_scr _ _ 256 _ _) (ldw _ _) j a
  · intro a; rw [pay9_eq]; exact pay1_at 512 (by decide) (back_scr _ _ 512 _ _) (ldw _ _) j a
  · intro a; exact pay1_at 768 (by decide) (back_scr _ _ 768 _ _) (ldw _ _) j a

/-- The rows as they came, with stores before row `n`. -/
theorem under {w : Vec Ideal S256x1024 .f32} {n : ℕ} {inb : ∀ a, (![n, 0] : Fin 2 → Nat) a + S256x1024.size a ≤ S1024x1024.size a} {L : List (View.Piece (Elt Ideal) S1024x1024 .f32)}
    {p : ℕ} (hp : n + 256 ≤ p) (hL : ∀ (r k : Fin 1024), p ≤ r.val → View.canon L (ix2 r k) = x (ix2 r k)) (r k : Fin 1024) (hr : p ≤ r.val) :
    View.canon ((⟨Rect.unit (s := S1024x1024) ![n, 0] S256x1024.size inb, w⟩ : View.Piece (Elt Ideal) S1024x1024 .f32) :: L) (ix2 r k) = x (ix2 r k) :=
  (canon_skip (S := S1024x1024) 0 (.inr (by show n + 256 ≤ r.val; omega))).trans (hL r k hr)

theorem ground {i0 : ∀ a, (![0, 0] : Fin 2 → Nat) a + S1024x1024.size a ≤ S1024x1024.size a} {p : ℕ} (r k : Fin 1024) (_ : p ≤ r.val) :
    View.canon [(⟨Rect.unit (s := S1024x1024) ![0, 0] S1024x1024.size i0, x⟩ : View.Piece (Elt Ideal) S1024x1024 .f32)] (ix2 r k) = x (ix2 r k) := by
  rw [View.canon_cons_unit_zero (S := S1024x1024) hz]

theorem rows_A (hc : cond0_0 i) (r k : Fin 1024) : out0_A_4 c i a2 h2 a3 h3 a4 h4 a5 h5 a6 h6 a7 h7 a8 h8 hc x g wu wd (ix2 r k)
    = x (ix2 r k) + share (k0_pay3 x g) wu wd r k := by
  unfold out0_A_4
  rw [View.read_writes_eq_canon _ _ _ (cover0_A_4 c i a2 h2 a3 h3 a4 h4 a5 h5 a6 h6 a7 h7 a8 h8 hc x g wu wd)]
  unfold kernelRun0_A
  dsimp only
  sl_unfold_words
  simp only [View.readAt_eq_ld, h2.read_unread, h3.read_unread, h4.read_unread, h5.read_unread, View.ld_unit_zero (S := S1024x1024) hz, View.ld_unit_zero (S := S1x1024) hz]
  refine canon4 (et := .f32) k (fun r => x (ix2 r k) + share (k0_pay3 x g) wu wd r k) ?_ ?_ ?_ ?_ r
  · intro a; rw [pay5_eq]; exact pay2_at 0 (by decide) (back_scr _ _ 0 _ _) (ldw _ _) (back_cut _ x 0 _ _ (ground x)) (ldw _ _) k a
  · intro a; rw [pay8_eq]; exact pay2_at 256 (by decide) (back_scr _ _ 256 _ _) (ldw _ _) (back_cut _ x 256 _ _ (under x (by decide) (ground x))) (ldw _ _) k a
  · intro a; rw [pay10_eq]; exact pay2_at 512 (by decide) (back_scr _ _ 512 _ _) (ldw _ _) (back_cut _ x 512 _ _ (under x (by decide) (under x (by decide) (ground x)))) (ldw _ _) k a
  · intro a; exact pay2_at 768 (by decide) (back_scr _ _ 768 _ _) (ldw _ _) (back_cut _ x 768 _ _ (under x (by decide) (under x (by decide) (under x (by decide) (ground x))))) (ldw _ _) k a

end Bodies

end Cert.MlpFIdeal.Hand

end
-- ==== Proof.MlpF.lean ====
/-
  The squared relu network of one layer, forward: the normed rows times the first weight, the square of what the relu lets through
  times the second, added to the stream; the first product is the second result. The kernel takes the hidden units in four tiles.
-/
module

public import proofs.«01_k».proof.Defs
public import proofs.«01_k».proof.Proof.Alg
public import proofs.«01_k».proof.Proof.MlpFBody
public import proofs.«01_k».proof.Proof.Gen.MlpFRefIdeal.Run
public import proofs.«01_k».proof.Proof.Gen.MlpFRefIdeal.Read
public import Idealize.ShloMosaic.Lib.StableHlo.ReadAt

@[expose] public section

set_option maxRecDepth 16384

noncomputable section

namespace Cert.MlpFIdeal.Hand

open Cert.MlpFIdeal Cert.MlpFIdeal.Gen Idealize.ShloMosaic Idealize.ShloMosaic.TcCoe Idealize.SL.Sem
open Idealize.ShloMosaic.Pipeline (Dat)
open Cert.InFIdeal.Hand (normed)

/-! ## The two results, written down -/

section Results
variable (x : Vec Ideal S2048x1024 .f32) (g : Vec Ideal S1024 .f32) (wu : Vec Ideal S1024x4096 .f32) (wd : Vec Ideal S4096x1024 .f32)

/-- Entry `e` of normed row `s`. -/
def line (s : Fin 2048) (e : Fin 1024) : EReal := normed (fun e => x (ix2 s e)) (fun e => g (ix1 e)) e

/-- Hidden unit `l` of row `s` before the relu. -/
def unit (s : Fin 2048) (l : Fin 4096) : EReal := ∑ e : Fin 1024, line x g s e * wu (ix2 e l)

/-- What hidden unit `l` adds to entry `k` of row `s`. -/
def term (s : Fin 2048) (k : Fin 1024) (l : Fin 4096) : EReal := sq (unit x g wu s l) * wd (ix2 l k)

def resRows : Vec Ideal S2048x1024 .f32 := fun i => x i + ∑ l : Fin 4096, term x g wu wd (i 0) (i 1) l
def resUnits : Vec Ideal S2048x4096 .f32 := fun i => unit x g wu (i 0) (i 1)

theorem resRows_apply (s : Fin 2048) (k : Fin 1024) : resRows x g wu wd (ix2 s k) = x (ix2 s k) + ∑ l : Fin 4096, term x g wu wd s k l := rfl
theorem resUnits_apply (s : Fin 2048) (l : Fin 4096) : resUnits x g wu (ix2 s l) = unit x g wu s l := rfl

end Results

/-- Tile `p`'s share of a sum over the hidden units, by number. -/
def tile (f : Fin 4096 → EReal) (p : ℕ) : EReal := ∑ j : Fin 1024, (fun n => if h : n < 4096 then f ⟨n, h⟩ else 0) (p * 1024 + j.val)

theorem tile_of (f : Fin 4096 → EReal) (p : ℕ) (hp : p < 4) : tile f p = ∑ j : Fin 1024, f ⟨p * 1024 + j.val, by omega⟩ :=
  Finset.sum_congr rfl fun j _ => dif_pos (show p * 1024 + j.val < 4096 by omega)

theorem tiles (f : Fin 4096 → EReal) : ∑ p ∈ Finset.range 4, tile f p = ∑ l, f l := by
  unfold tile
  rw [← Alg.sum_blocks 4 1024 (fun n => if h : n < 4096 then f ⟨n, h⟩ else 0)]
  exact Finset.sum_congr rfl fun s _ => dif_pos s.isLt

section Array
variable (m : (ℓ : Loc nD τ sig) → Buf (Elt Ideal) ℓ) (c : Dev nD)

abbrev A0 : Vec Ideal S2048x1024 .f32 := m ((c : Thread nD τ).loc main_arg0)
abbrev A1 : Vec Ideal S1024 .f32 := m ((c : Thread nD τ).loc main_arg1)
abbrev A2 : Vec Ideal S1024x4096 .f32 := m ((c : Thread nD τ).loc main_arg2)
abbrev A3 : Vec Ideal S4096x1024 .f32 := m ((c : Thread nD τ).loc main_arg3)

theorem V_g (k : Fin 1024) : (V m c main_v3 : Vec Ideal S1x1024 .f32) (ix2 0 k) = A1 m c (ix1 k) := by
  unfold V
  after_reads_at

theorem V_u (p : Fin 4) (e j : Fin 1024) : (V m c main_v2 : Vec Ideal S4x1024x1024 .bf16) (ix3 p e j) = A2 m c (ix2 e ⟨p.val * 1024 + j.val, by omega⟩) := by
  unfold V
  after_reads_at

theorem V_d (p : Fin 4) (j k : Fin 1024) : (V m c main_v5 : Vec Ideal S4x1024x1024 .bf16) (ix3 p j k) = A3 m c (ix2 ⟨p.val * 1024 + j.val, by omega⟩ k) := by
  unfold V
  after_reads_at

variable (t : Fin cfg0.N)

/-- Where each window's block of point `t` begins, in blocks. -/
theorem idx_facts : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val / 4, 0] ∧ win0_5.index t = ![t.val / 4, t.val % 4] := by decide +kernel

theorem lt8 : t.val < 8 := lt_of_lt_of_eq t.isLt (show cfg0.N = 8 from N_0)

/-- Row `r` of point `t`'s block, among all rows; hidden unit `j` of its tile, among all. -/
abbrev row (r : Fin 1024) : Fin 2048 := ⟨t.val / 4 * 1024 + r.val, by have := lt8 t; omega⟩
abbrev col (j : Fin 1024) : Fin 4096 := ⟨t.val % 4 * 1024 + j.val, by omega⟩

theorem blk0 (r k : Fin 1024) : (iblk m c 0 t : Vec Ideal S1024x1024 .f32) (ix2 r k) = A0 m c (ix2 (row t r) k) := by
  obtain ⟨e, -⟩ := idx_facts t
  unfold iblk
  rw [View.read_apply]
  refine congrArg (A0 m c) (funext fun a => Fin.ext ?_)
  match a with
  | ⟨0, _⟩ => show win0_0.index t 0 * 1024 + 1 * r.val = _; rw [e]; show t.val / 4 * 1024 + 1 * r.val = t.val / 4 * 1024 + r.val; omega
  | ⟨1, _⟩ => show win0_0.index t 1 * 1024 + 1 * k.val = _; rw [e]; show 0 * 1024 + 1 * k.val = k.val; omega

theorem blk1 (k : Fin 1024) : (iblk m c 1 t : Vec Ideal S1x1024 .f32) (ix2 0 k) = A1 m c (ix1 k) := by
  obtain ⟨-, e, -⟩ := idx_facts t
  rw [← V_g]
  unfold iblk
  rw [View.read_apply]
  refine congrArg (V m c main_v3 : Vec Ideal S1x1024 .f32) (funext fun a => Fin.ext ?_)
  match a with
  | ⟨0, _⟩ => show win0_1.index t 0 * 1 + 1 * 0 = _; rw [e]; rfl
  | ⟨1, _⟩ => show win0_1.index t 1 * 1024 + 1 * k.val = _; rw [e]; show 0 * 1024 + 1 * k.val = k.val; omega

theorem blk2 (e j : Fin 1024) : (iblk m c 2 t : Vec Ideal S1x1024x1024 .bf16) (ix3 0 e j) = A2 m c (ix2 e (col t j)) := by
  obtain ⟨-, -, w, -⟩ := idx_facts t
  rw [← V_u m c ⟨t.val % 4, by omega⟩ e j]
  unfold iblk
  rw [View.read_apply]
  refine congrArg (V m c main_v2 : Vec Ideal S4x1024x1024 .bf16) (funext fun a => Fin.ext ?_)
  match a with
  | ⟨0, _⟩ => show win0_2.index t 0 * 1 + 1 * 0 = _; rw [w]; show t.val % 4 * 1 + 1 * 0 = t.val % 4; omega
  | ⟨1, _⟩ => show win0_2.index t 1 * 1024 + 1 * e.val = _; rw [w]; show 0 * 1024 + 1 * e.val = e.val; omega
  | ⟨2, _⟩ => show win0_2.index t 2 * 1024 + 1 * j.val = _; rw [w]; show 0 * 1024 + 1 * j.val = j.val; omega

theorem blk3 (j k : Fin 1024) : (iblk m c 3 t : Vec Ideal S1x1024x1024 .bf16) (ix3 0 j k) = A3 m c (ix2 (col t j) k) := by
  obtain ⟨-, -, -, w, -⟩ := idx_facts t
  rw [← V_d m c ⟨t.val % 4, by omega⟩ j k]
  unfold iblk
  rw [View.read_apply]
  refine congrArg (V m c main_v5 : Vec Ideal S4x1024x1024 .bf16) (funext fun a => Fin.ext ?_)
  match a with
  | ⟨0, _⟩ => show win0_3.index t 0 * 1 + 1 * 0 = _; rw [w]; show t.val % 4 * 1 + 1 * 0 = t.val % 4; omega
  | ⟨1, _⟩ => show win0_3.index t 1 * 1024 + 1 * j.val = _; rw [w]; show 0 * 1024 + 1 * j.val = j.val; omega
  | ⟨2, _⟩ => show win0_3.index t 2 * 1024 + 1 * k.val = _; rw [w]; show 0 * 1024 + 1 * k.val = k.val; omega

/-! ## What the points leave -/

theorem normed_rows (r e : Fin 1024) : k0_pay3 (F := Ideal) (iblk m c 0 t) (iblk m c 1 t) (ix2 r e) = line (A0 m c) (A1 m c) (row t r) e := by
  rw [pay3_apply]
  simp only [blk0, blk1]
  rfl

/-- The scratch after point `n` holds the normed rows of the point's block. -/
theorem scr_eq (r e : Fin 1024) : ∀ (n : ℕ) (h : n < cfg0.N), (outsAt0 m c n h).2.2 (ix2 r e) = line (A0 m c) (A1 m c) (row ⟨n, h⟩ r) e
  | 0, h => by
    rw [show outsAt0 m c 0 h = _ from outsAt0_A m c ⟨0, h⟩ rfl]
    dsimp only
    rw [scr_A, normed_rows]
  | n + 1, h => by
    by_cases h4 : (n + 1) % 4 = 0
    · rw [show outsAt0 m c (n + 1) h = _ from outsAt0_A m c ⟨n + 1, h⟩ h4]
      dsimp only
      rw [scr_A, normed_rows]
    · rw [show outsAt0 m c (n + 1) h = _ from outsAt0_B m c ⟨n + 1, h⟩ h4]
      dsimp only
      rw [scr_B]
      refine (scr_eq r e n (Nat.lt_of_succ_lt h)).trans (congrArg (line (A0 m c) (A1 m c) · e) (Fin.ext ?_))
      show n / 4 * 1024 + r.val = (n + 1) / 4 * 1024 + r.val
      omega

/-- From normed rows, a point's tile of hidden units and its share of a row's sum. -/
theorem up_eq {h : Vec Ideal S1024x1024 .bf16} {r : Fin 1024} (hh : ∀ e, h (ix2 r e) = line (A0 m c) (A1 m c) (row t r) e) (j : Fin 1024) :
    up h (iblk m c 2 t) r j = unit (A0 m c) (A1 m c) (A2 m c) (row t r) (col t j) := by
  unfold up
  simp only [hh, blk2]
  rfl

theorem share_eq {h : Vec Ideal S1024x1024 .bf16} {r : Fin 1024} (hh : ∀ e, h (ix2 r e) = line (A0 m c) (A1 m c) (row t r) e) (k : Fin 1024) :
    share h (iblk m c 2 t) (iblk m c 3 t) r k = tile (term (A0 m c) (A1 m c) (A2 m c) (A3 m c) (row t r) k) (t.val % 4) := by
  rw [tile_of _ _ (Nat.mod_lt _ (by decide))]
  unfold share
  simp only [up_eq m c t hh, blk3]
  rfl

theorem before (h4 : ¬t.val % 4 = 0) (r e : Fin 1024) : (outsAt0 m c (t.val - 1) (Nat.lt_of_le_of_lt (Nat.sub_le _ _) t.isLt)).2.2 (ix2 r e)
    = line (A0 m c) (A1 m c) (row t r) e := by
  refine (scr_eq m c r e _ _).trans (congrArg (line (A0 m c) (A1 m c) · e) (Fin.ext ?_))
  show (t.val - 1) / 4 * 1024 + r.val = t.val / 4 * 1024 + r.val
  omega

/-- The tile of hidden units at every point. -/
theorem units_eq (r j : Fin 1024) : (outsAt0 m c t.val t.isLt).2.1 (ix2 r j) = unit (A0 m c) (A1 m c) (A2 m c) (row t r) (col t j) := by
  by_cases h : t.val % 4 = 0
  · rw [outsAt0_A m c t h]; dsimp only; rw [tile_A, up_eq m c t (normed_rows m c t r)]
  · rw [outsAt0_B m c t h]; dsimp only; rw [tile_B, up_eq m c t (before m c t h r)]

/-- The rows after point `n`: the stream and the tiles so far. -/
theorem rows_eq (r k : Fin 1024) : ∀ (n : ℕ) (h : n < cfg0.N), (outsAt0 m c n h).1 (ix2 r k) = A0 m c (ix2 (row ⟨n, h⟩ r) k)
    + ∑ p ∈ Finset.range (n % 4 + 1), tile (term (A0 m c) (A1 m c) (A2 m c) (A3 m c) (row ⟨n, h⟩ r) k) p := by
  have first (n : ℕ) (h : n < cfg0.N) (h4 : n % 4 = 0) : (outsAt0 m c n h).1 (ix2 r k) = A0 m c (ix2 (row ⟨n, h⟩ r) k)
      + ∑ p ∈ Finset.range (n % 4 + 1), tile (term (A0 m c) (A1 m c) (A2 m c) (A3 m c) (row ⟨n, h⟩ r) k) p := by
    rw [show outsAt0 m c n h = _ from outsAt0_A m c ⟨n, h⟩ h4]
    dsimp only
    rw [rows_A, share_eq m c ⟨n, h⟩ (normed_rows m c ⟨n, h⟩ r), blk0]
    simp only [h4]
    rw [Finset.sum_range_one]
  intro n
  induction n with
  | zero => exact fun h => first 0 h rfl
  | succ n ih =>
    intro h
    by_cases h4 : (n + 1) % 4 = 0
    · exact first (n + 1) h h4
    · rw [show outsAt0 m c (n + 1) h = _ from outsAt0_B m c ⟨n + 1, h⟩ h4]
      dsimp only
      rw [rows_B, share_eq m c ⟨n + 1, h⟩ (before m c ⟨n + 1, h⟩ h4 r), Finset.sum_range_succ, ← add_assoc]
      refine congrArg (· + _) ((ih (Nat.lt_of_succ_lt h)).trans ?_)
      have hr : row ⟨n, Nat.lt_of_succ_lt h⟩ r = row ⟨n + 1, h⟩ r := Fin.ext (by show n / 4 * 1024 + r.val = (n + 1) / 4 * 1024 + r.val; omega)
      rw [hr, show n % 4 + 1 = (n + 1) % 4 by omega]

/-! ## The result arrays -/

theorem mem_rows (i : S2048x1024.Idx) (h : (i 0).val / 1024 = t.val / 4) : i ∈ ((cfg0.win 4).blk t).view.set := by
  obtain ⟨-, -, -, -, e, -⟩ := idx_facts t
  have h1 : (i 1).val < 1024 := (i 1).isLt
  show i ∈ ((View.whole main_v6_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024; rw [e]; show t.val / 4 * 1024 ≤ _ ∧ _ < t.val / 4 * 1024 + 1024; omega
  | ⟨1, _⟩ => show win0_4.index t 1 * 1024 ≤ (i 1).val ∧ (i 1).val < win0_4.index t 1 * 1024 + 1024; rw [e]; show 0 * 1024 ≤ _ ∧ _ < 0 * 1024 + 1024; omega

theorem mem_units (i : S2048x4096.Idx) (h0 : (i 0).val / 1024 = t.val / 4) (h1 : (i 1).val / 1024 = t.val % 4) : i ∈ ((cfg0.win 5).blk t).view.set := by
  obtain ⟨-, -, -, -, -, e⟩ := idx_facts t
  show i ∈ ((View.whole main_v6_1).slice (win0_5.rect t)).set
  rw [View.set_slice_whole, Rect.mem_set_unit]
  intro a
  match a with
  | ⟨0, _⟩ => show win0_5.index t 0 * 1024 ≤ (i 0).val ∧ (i 0).val < win0_5.index t 0 * 1024 + 1024; rw [e]; show t.val / 4 * 1024 ≤ _ ∧ _ < t.val / 4 * 1024 + 1024; omega
  | ⟨1, _⟩ => show win0_5.index t 1 * 1024 ≤ (i 1).val ∧ (i 1).val < win0_5.index t 1 * 1024 + 1024; rw [e]; show t.val % 4 * 1024 ≤ _ ∧ _ < t.val % 4 * 1024 + 1024; omega

theorem rows_final : (dats m 0 c).arrAt 4 cfg0.N = resRows (A0 m c) (A1 m c) (A2 m c) (A3 m c) := by
  refine (dats m 0 c).arrAt_eq_of_cover 4 (resRows (A0 m c) (A1 m c) (A2 m c) (A3 m c)) (fun t hf => ?_) fun i => ?_
  · have h3 : t.val % 4 = 3 := (flush0_4 t).mp hf
    rw [Value.flushed4]
    obtain ⟨-, -, -, -, e, -⟩ := idx_facts t
    refine funext fun (j : S1024x1024.Idx) => ?_
    obtain ⟨r, k, rfl⟩ : ∃ (r k : Fin 1024), j = ix2 r k := ⟨_, _, eq_ix2 j⟩
    show (outsAt0 m c t.val t.isLt).1 (ix2 r k) = resRows (A0 m c) (A1 m c) (A2 m c) (A3 m c) (((cfg0.win 4).blk t).view.emb (ix2 r k))
    have hi : ix2 (row t r) k = ((cfg0.win 4).blk t).view.emb (ix2 r k) := funext fun a => Fin.ext (by
      match a with
      | ⟨0, _⟩ => show t.val / 4 * 1024 + r.val = win0_4.index t 0 * 1024 + 1 * r.val; rw [e]; show _ = t.val / 4 * 1024 + 1 * r.val; omega
      | ⟨1, _⟩ => show k.val = win0_4.index t 1 * 1024 + 1 * k.val; rw [e]; show _ = 0 * 1024 + 1 * k.val; omega)
    rw [rows_eq, ← hi, resRows_apply, h3, tiles]
  · have h : (i 0).val < 2048 := (i 0).isLt
    obtain ⟨t, ht⟩ : ∃ t : Fin cfg0.N, t.val = (i 0).val / 1024 * 4 + 3 := ⟨⟨(i 0).val / 1024 * 4 + 3, by rw [show cfg0.N = 8 from N_0]; omega⟩, rfl⟩
    exact ⟨t, (flush0_4 t).mpr (by omega), mem_rows t i (by omega)⟩

theorem units_final : (dats m 0 c).arrAt 5 cfg0.N = resUnits (A0 m c) (A1 m c) (A2 m c) := by
  refine (dats m 0 c).arrAt_eq_of_cover 5 (resUnits (A0 m c) (A1 m c) (A2 m c)) (fun t _ => ?_) fun i => ?_
  · rw [Value.flushed5]
    obtain ⟨-, -, -, -, -, e⟩ := idx_facts t
    refine funext fun (j : S1024x1024.Idx) => ?_
    obtain ⟨r, k, rfl⟩ : ∃ (r k : Fin 1024), j = ix2 r k := ⟨_, _, eq_ix2 j⟩
    show (outsAt0 m c t.val t.isLt).2.1 (ix2 r k) = resUnits (A0 m c) (A1 m c) (A2 m c) (((cfg0.win 5).blk t).view.emb (ix2 r k))
    have hi : ix2 (row t r) (col t k) = ((cfg0.win 5).blk t).view.emb (ix2 r k) := funext fun a => Fin.ext (by
      match a with
      | ⟨0, _⟩ => show t.val / 4 * 1024 + r.val = win0_5.index t 0 * 1024 + 1 * r.val; rw [e]; show _ = t.val / 4 * 1024 + 1 * r.val; omega
      | ⟨1, _⟩ => show t.val % 4 * 1024 + k.val = win0_5.index t 1 * 1024 + 1 * k.val; rw [e]; show _ = t.val % 4 * 1024 + 1 * k.val; omega)
    rw [units_eq, ← hi, resUnits_apply]
  · have h : (i 0).val < 2048 := (i 0).isLt
    have h' : (i 1).val < 4096 := (i 1).isLt
    obtain ⟨t, ht⟩ : ∃ t : Fin cfg0.N, t.val = (i 0).val / 1024 * 4 + (i 1).val / 1024 :=
      ⟨⟨(i 0).val / 1024 * 4 + (i 1).val / 1024, by rw [show cfg0.N = 8 from N_0]; omega⟩, rfl⟩
    exact ⟨t, flush0_5 t, mem_units t i (by omega) (by omega)⟩

end Array

section Reference
open Cert.MlpFRefIdeal.Read
variable (x0 : Vec Ideal S2048x1024 .f32) (x1 : Vec Ideal S1024 .f32) (x2 : Vec Ideal S1024x4096 .f32) (x3 : Vec Ideal S4096x1024 .f32) (s : Fin 2048)

theorem ref_line (k : Fin 1024) : val_main_v12 (F := Ideal) x0 x1 (ix2 s k) = line x0 x1 s k := by
  unfold val_main_v12 val_main_v11 val_main_v10 val_main_v9 val_main_v8 val_main_v7 val_main_v6 val_main_v5 val_main_cst_1 val_main_v4
    val_main_v3 val_main_cst_0 val_main_v2 val_main_v1 val_main_cst val_main_v0
  pointwise
  rfl

theorem ref_unit (l : Fin 4096) : val_main_v13 (F := Ideal) x0 x1 x2 (ix2 s l) = unit x0 x1 x2 s l := by
  unfold val_main_v13
  pointwise [ref_line]
  rfl

theorem ref_sq (l : Fin 4096) : val_main_v15 (F := Ideal) x0 x1 x2 (ix2 s l) = sq (unit x0 x1 x2 s l) := by
  unfold val_main_v15 val_main_v14 val_main_call0_v0 val_main_call0_cst
  pointwise [ref_unit]
  rfl

theorem ref_rows (k : Fin 1024) : val_main_v17 (F := Ideal) x0 x1 x2 x3 (ix2 s k) = resRows x0 x1 x2 x3 (ix2 s k) := by
  rw [resRows_apply]
  unfold val_main_v17 val_main_v16
  pointwise [ref_sq]
  rfl

theorem ref_rows_all : val_main_v17 (F := Ideal) x0 x1 x2 x3 = resRows x0 x1 x2 x3 := by
  refine funext fun (i : S2048x1024.Idx) => ?_
  obtain ⟨s, j, rfl⟩ : ∃ (s : Fin 2048) (j : Fin 1024), i = ix2 s j := ⟨_, _, eq_ix2 i⟩
  exact ref_rows x0 x1 x2 x3 s j

theorem ref_units_all : val_main_v13 (F := Ideal) x0 x1 x2 = resUnits x0 x1 x2 := by
  refine funext fun (i : S2048x4096.Idx) => ?_
  obtain ⟨s, j, rfl⟩ : ∃ (s : Fin 2048) (j : Fin 4096), i = ix2 s j := ⟨_, _, eq_ix2 i⟩
  exact ref_unit x0 x1 x2 s j

end Reference

/-- The claim: both programs end with the same stream and the same hidden units. -/
theorem values [hK : Cert.MlpFIdeal.Facts] [hR : Cert.MlpFRefIdeal.Facts] : algebraic_MlpFIdeal_MlpFRefIdeal := fun m ρ m' ρ' _ hag => by
  refine ⟨fun c => resRows (A0 m c) (A1 m c) (A2 m c) (A3 m c), fun c => resUnits (A0 m c) (A1 m c) (A2 m c), ?_, ?_⟩
  · exact (θ_run defs _ _).mono (fun _ h c => ⟨(h c).1.trans (rows_final m c), (h c).2.1.trans (units_final m c), (h c).2.2⟩) (Value.run_blocks m ρ)
  · refine (θ_run _ _ _).mono (fun r h c => ⟨(h c).1.trans ?_, (h c).2.1.trans ?_, (h c).2.2⟩) (Cert.MlpFRefIdeal.Value.run m' ρ')
    · rw [Cert.MlpFRefIdeal.Read.val_main_v17_eq, (hag c).1, (hag c).2.1, (hag c).2.2.1, (hag c).2.2.2]
      exact ref_rows_all (A0 m c) (A1 m c) (A2 m c) (A3 m c)
    · rw [Cert.MlpFRefIdeal.Read.val_main_v13_eq, (hag c).1, (hag c).2.1, (hag c).2.2.1]
      exact ref_units_all (A0 m c) (A1 m c) (A2 m c)

end Cert.MlpFIdeal.Hand

end
-- ==== Proof.MlpDBody.lean ====
/-
  What one point of the squared relu network's gradient leaves: the tile's hidden gradient, the rows of the scratch with the tile's
  share added, and, at a row block's last tile, the gain's sum and the rows' gradient.
-/
module

public import proofs.«01_k».proof.Proof.MlpFBody
public import proofs.«01_k».proof.Proof.Gen.MlpDIdeal.Value

@[expose] public section

set_option maxRecDepth 16384

noncomputable section

namespace Cert.MlpDIdeal.Hand

open Cert.MlpDIdeal Cert.MlpDIdeal.Gen Idealize.ShloMosaic Idealize.ShloMosaic.TcCoe Idealize.SL.Sem
open Cert.InFIdeal.Hand (hz)
open Cert.MlpFIdeal.Hand (canon4 cut cut_apply ld_cut ldw under ground)

/-- The gradient of hidden unit `j` of row `r`. -/
def hid (d u : Vec Ideal S1024x1024 .f32) (wd : Vec Ideal S1x1024x1024 .bf16) (r j : Fin 1024) : EReal :=
  (∑ k : Fin 1024, d (ix2 r k) * wd (ix3 0 j k)) * (((2 : ℝ) : EReal) * max (u (ix2 r j)) 0)

/-- The tile's share of the gradient of the normed row `r`. -/
def back (d u : Vec Ideal S1024x1024 .f32) (wu wd : Vec Ideal S1x1024x1024 .bf16) (r k : Fin 1024) : EReal :=
  ∑ j : Fin 1024, hid d u wd r j * wu (ix3 0 k j)

/-- The scratch with the tile's share added. -/
def added (y d u : Vec Ideal S1024x1024 .f32) (wu wd : Vec Ideal S1x1024x1024 .bf16) : Vec Ideal S1024x1024 .f32 := fun i => y i + back d u wu wd (i 0) (i 1)

/-- What the scratch holds before a row block's first tile. -/
abbrev zeros : Vec Ideal S1024x1024 .f32 := k0_pay7 (F := Ideal)

/-! ## The payloads -/

theorem pay16_apply (d : Vec Ideal S256x1024 .f32) (w : Vec Ideal S1x1024x1024 .bf16) (u : Vec Ideal S256x1024 .f32) (a : Fin 256) (j : Fin 1024) :
    k0_pay16 (F := Ideal) d w u (ix2 a j) = (∑ k : Fin 1024, d (ix2 a k) * w (ix3 0 j k)) * (((2 : ℝ) : EReal) * max (u (ix2 a j)) 0) := by
  unfold k0_pay16
  pointwise [Alg.two]

theorem pay1_apply (p : Vec Ideal S256x1024 .bf16) (y : Vec Ideal S256x1024 .f32) (w : Vec Ideal S1x1024x1024 .bf16) (a : Fin 256) (k : Fin 1024) :
    k0_pay1 (F := Ideal) p y w (ix2 a k) = y (ix2 a k) + ∑ j : Fin 1024, p (ix2 a j) * w (ix3 0 k j) := by
  unfold k0_pay1
  pointwise

theorem pay8_eq : k0_pay8 (F := Ideal) = k0_pay16 := rfl
theorem pay10_eq : k0_pay10 (F := Ideal) = k0_pay16 := rfl
theorem pay14_eq (d : Vec Ideal S256x1024 .f32) (w : Vec Ideal S1x1024x1024 .bf16) (u : Vec Ideal S256x1024 .f32) :
    k0_pay14 (F := Ideal) (k0_pay12 d w) (k0_pay13 u) = k0_pay16 d w u := rfl
theorem pay9_eq (d : Vec Ideal S256x1024 .f32) (w : Vec Ideal S1x1024x1024 .bf16) (u y : Vec Ideal S256x1024 .f32) (v : Vec Ideal S1x1024x1024 .bf16) :
    k0_pay9 (F := Ideal) d w u y v = k0_pay1 (k0_pay16 d w u) y v := rfl
theorem pay11_eq (d : Vec Ideal S256x1024 .f32) (w : Vec Ideal S1x1024x1024 .bf16) (u y : Vec Ideal S256x1024 .f32) (v : Vec Ideal S1x1024x1024 .bf16) :
    k0_pay11 (F := Ideal) d w u y v = k0_pay1 (k0_pay16 d w u) y v := rfl
theorem pay15_eq (d : Vec Ideal S256x1024 .f32) (w : Vec Ideal S1x1024x1024 .bf16) (u y : Vec Ideal S256x1024 .f32) (v : Vec Ideal S1x1024x1024 .bf16) :
    k0_pay15 (F := Ideal) (k0_pay12 d w) (k0_pay13 u) y v = k0_pay1 (k0_pay16 d w u) y v := rfl

theorem hid_at {d u : Vec Ideal S1024x1024 .f32} {w : Vec Ideal S1x1024x1024 .bf16} (n : ℕ) (hn : n ≤ 768) {d' u' : Vec Ideal S256x1024 .f32}
    {w' : Vec Ideal S1x1024x1024 .bf16} (ed : d' = cut d n hn) (ew : w' = w) (eu : u' = cut u n hn) (j : Fin 1024) (a : Fin 256) :
    k0_pay16 (F := Ideal) d' w' u' (ix2 a j) = hid d u w ⟨n + a.val, by omega⟩ j := by
  subst ed ew eu
  rw [pay16_apply]
  rfl

theorem added_at {d u y : Vec Ideal S1024x1024 .f32} {w v : Vec Ideal S1x1024x1024 .bf16} (n : ℕ) (hn : n ≤ 768) {d' u' y' : Vec Ideal S256x1024 .f32}
    {w' v' : Vec Ideal S1x1024x1024 .bf16} (ed : d' = cut d n hn) (ew : w' = w) (eu : u' = cut u n hn) (ey : y' = cut y n hn) (ev : v' = v)
    (k : Fin 1024) (a : Fin 256) : k0_pay1 (F := Ideal) (k0_pay16 d' w' u') y' v' (ix2 a k) = added y d u v w (ix2 ⟨n + a.val, by omega⟩ k) := by
  subst ey ev
  rw [pay1_apply]
  simp only [hid_at n hn ed ew eu]
  rfl

/-- Rows read back from an array whose last stores lie before them. -/
theorem back_cut (a : Memref sig .tc .vmem S1024x1024 .f32) (x : Vec Ideal S1024x1024 .f32) (n : ℕ) (hn : n ≤ 768) {L : List (View.Piece (Elt Ideal) S1024x1024 .f32)}
    (inb : ∀ a, (![n, 0] : Fin 2 → Nat) a + S256x1024.size a ≤ S1024x1024.size a)
    (hL : ∀ (r k : Fin 1024), n ≤ r.val → View.canon L (ix2 r k) = x (ix2 r k)) :
    a.view.readCov (Val := Elt Ideal) L (Rect.unit (s := S1024x1024) ![n, 0] S256x1024.size inb).toLoadRect = cut x n hn := by
  refine funext fun (i : S256x1024.Idx) => ?_
  obtain ⟨b, k, rfl⟩ : ∃ (b : Fin 256) (k : Fin 1024), i = ix2 b k := ⟨_, _, eq_ix2 i⟩
  rw [View.readCov_eq_canon', cut_apply, ← hL _ _ (by show n ≤ n + b.val; omega)]
  refine congrArg (View.canon L) (funext fun a => Fin.ext ?_)
  match a with
  | 0 => show n + 1 * b.val = n + b.val; omega
  | 1 => show 0 + 1 * k.val = k.val; omega

/-- An array read whole after stores that give every entry. -/
theorem whole_back (a : Memref sig .tc .vmem S1024x1024 .f32) (x : Vec Ideal S1024x1024 .f32) {L : List (View.Piece (Elt Ideal) S1024x1024 .f32)}
    (inb : ∀ b, (![0, 0] : Fin 2 → Nat) b + S1024x1024.size b ≤ S1024x1024.size b) (hL : ∀ (r k : Fin 1024), View.canon L (ix2 r k) = x (ix2 r k)) :
    a.view.readCov (Val := Elt Ideal) L (Rect.unit (s := S1024x1024) ![0, 0] S1024x1024.size inb).toLoadRect = x := by
  refine funext fun (i : S1024x1024.Idx) => ?_
  obtain ⟨r, k, rfl⟩ : ∃ (r k : Fin 1024), i = ix2 r k := ⟨_, _, eq_ix2 i⟩
  rw [View.readCov_eq_canon', ← hL]
  refine congrArg (View.canon L) (funext fun b => Fin.ext ?_)
  match b with
  | 0 => show 0 + 1 * r.val = r.val; omega
  | 1 => show 0 + 1 * k.val = k.val; omega

section Bodies
variable (c : Dev nD) (i : grid0.Coords) (a2 : Memref sig .tc .vmem S1024x1024 .f32) (h2 : a2.IsWhole) (a3 : Memref sig .tc .vmem S1024x1024 .f32) (h3 : a3.IsWhole)
  (a4 : Memref sig .tc .vmem S1024x1024 .f32) (h4 : a4.IsWhole) (a5 : Memref sig .tc .vmem S1x1024 .f32) (h5 : a5.IsWhole)
  (a6 : Memref sig .tc .vmem S1x1024x1024 .bf16) (h6 : a6.IsWhole) (a7 : Memref sig .tc .vmem S1x1024x1024 .bf16) (h7 : a7.IsWhole)
  (a8 : Memref sig .tc .vmem S1024x1024 .f32) (h8 : a8.IsWhole) (a9 : Memref sig .tc .vmem S1024x1024 .bf16) (h9 : a9.IsWhole)
  (a10 : Memref sig .tc .vmem S1x1024 .f32) (h10 : a10.IsWhole) (a11 : Memref sig .tc .vmem S1024x1024 .f32) (h11 : a11.IsWhole)
  (d u x : Vec Ideal S1024x1024 .f32) (g : Vec Ideal S1x1024 .f32) (wu wd : Vec Ideal S1x1024x1024 .bf16) (z : Vec Ideal S1x1024 .f32) (y : Vec Ideal S1024x1024 .f32)

theorem hid_A (hc0 : cond0_0 i) (hc1 : cond0_1 i) (hc2 : ¬cond0_2 i) (r j : Fin 1024) :
    out0_A_7 c i a2 h2 a3 h3 a4 h4 a5 h5 a6 h6 a7 h7 a8 h8 a9 h9 a10 h10 a11 h11 hc0 hc1 hc2 d u x g wu wd (ix2 r j) = hid d u wd r j := by
  unfold out0_A_7
  rw [View.read_writes_eq_canon _ _ _ (cover0_A_7 c i a2 h2 a3 h3 a4 h4 a5 h5 a6 h6 a7 h7 a8 h8 a9 h9 a10 h10 a11 h11 hc0 hc1 hc2 d u x g wu wd)]
  unfold kernelRun0_A
  dsimp only
  sl_unfold_words
  simp only [View.readAt_eq_ld, h2.read_unread, h3.read_unread, h7.read_unread]
  refine canon4 (et := .bf16) j (fun r => hid d u wd r j) ?_ ?_ ?_ ?_ r
  · intro a; rw [pay8_eq]; exact hid_at 0 (by decide) (ld_cut d 0 _ _) (ldw _ _) (ld_cut u 0 _ _) j a
  · intro a; rw [pay10_eq]; exact hid_at 256 (by decide) (ld_cut d 256 _ _) (ldw _ _) (ld_cut u 256 _ _) j a
  · intro a; rw [pay14_eq]; exact hid_at 512 (by decide) (ld_cut d 512 _ _) (ldw _ _) (ld_cut u 512 _ _) j a
  · intro a; exact hid_at 768 (by decide) (ld_cut d 768 _ _) (ldw _ _) (ld_cut u 768 _ _) j a

theorem hid_D (hc0 : ¬cond0_0 i) (hc1 : cond0_1 i) (hc2 : ¬cond0_2 i) (r j : Fin 1024) :
    out0_D_7 c i a2 h2 a3 h3 a4 h4 a5 h5 a6 h6 a7 h7 a8 h8 a9 h9 a10 h10 a11 h11 hc0 hc1 hc2 d u x g wu wd (ix2 r j) = hid d u wd r j := by
  unfold out0_D_7
  rw [View.read_writes_eq_canon _ _ _ (cover0_D_7 c i a2 h2 a3 h3 a4 h4 a5 h5 a6 h6 a7 h7 a8 h8 a9 h9 a10 h10 a11 h11 hc0 hc1 hc2 d u x g wu wd)]
  unfold kernelRun0_D
  dsimp only
  sl_unfold_words
  simp only [View.readAt_eq_ld, h2.read_unread, h3.read_unread, h7.read_unread]
  refine canon4 (et := .bf16) j (fun r => hid d u wd r j) ?_ ?_ ?_ ?_ r
  · intro a; rw [pay8_eq]; exact hid_at 0 (by decide) (ld_cut d 0 _ _) (ldw _ _) (ld_cut u 0 _ _) j a
  · intro a; rw [pay10_eq]; exact hid_at 256 (by decide) (ld_cut d 256 _ _) (ldw _ _) (ld_cut u 256 _ _) j a
  · intro a; rw [pay14_eq]; exact hid_at 512 (by decide) (ld_cut d 512 _ _) (ldw _ _) (ld_cut u 512 _ _) j a
  · intro a; exact hid_at 768 (by decide) (ld_cut d 768 _ _) (ldw _ _) (ld_cut u 768 _ _) j a

theorem hid_B (hc0 : ¬cond0_0 i) (hc1 : ¬cond0_1 i) (hc2 : ¬cond0_2 i) (r j : Fin 1024) :
    out0_B_7 c i a2 h2 a3 h3 a4 h4 a5 h5 a6 h6 a7 h7 a8 h8 a9 h9 a10 h10 a11 h11 hc0 hc1 hc2 d u x g wu wd y (ix2 r j) = hid d u wd r j := by
  unfold out0_B_7
  rw [View.read_writes_eq_canon _ _ _ (cover0_B_7 c i a2 h2 a3 h3 a4 h4 a5 h5 a6 h6 a7 h7 a8 h8 a9 h9 a10 h10 a11 h11 hc0 hc1 hc2 d u x g wu wd y)]
  unfold kernelRun0_B
  dsimp only
  sl_unfold_words
  simp only [View.readAt_eq_ld, h2.read_unread, h3.read_unread, h7.read_unread]
  refine canon4 (et := .bf16) j (fun r => hid d u wd r j) ?_ ?_ ?_ ?_ r
  · intro a; rw [pay8_eq]; exact hid_at 0 (by decide) (ld_cut d 0 _ _) (ldw _ _) (ld_cut u 0 _ _) j a
  · intro a; rw [pay10_eq]; exact hid_at 256 (by decide) (ld_cut d 256 _ _) (ldw _ _) (ld_cut u 256 _ _) j a
  · intro a; rw [pay14_eq]; exact hid_at 512 (by decide) (ld_cut d 512 _ _) (ldw _ _) (ld_cut u 512 _ _) j a
  · intro a; exact hid_at 768 (by decide) (ld_cut d 768 _ _) (ldw _ _) (ld_cut u 768 _ _) j a

theorem hid_C (hc0 : ¬cond0_0 i) (hc1 : ¬cond0_1 i) (hc2 : cond0_2 i) (r j : Fin 1024) :
    out0_C_7 c i a2 h2 a3 h3 a4 h4 a5 h5 a6 h6 a7 h7 a8 h8 a9 h9 a10 h10 a11 h11 hc0 hc1 hc2 d u x g wu wd z y (ix2 r j) = hid d u wd r j := by
  unfold out0_C_7
  rw [View.read_writes_eq_canon _ _ _ (cover0_C_7 c i a2 h2 a3 h3 a4 h4 a5 h5 a6 h6 a7 h7 a8 h8 a9 h9 a10 h10 a11 h11 hc0 hc1 hc2 d u x g wu wd z y)]
  unfold kernelRun0_C
  dsimp only
  sl_unfold_words
  simp only [View.readAt_eq_ld, h2.read_unread, h3.read_unread, h7.read_unread]
  refine canon4 (et := .bf16) j (fun r => hid d u wd r j) ?_ ?_ ?_ ?_ r
  · intro a; rw [pay8_eq]; exact hid_at 0 (by decide) (ld_cut d 0 _ _) (ldw _ _) (ld_cut u 0 _ _) j a
  · intro a; rw [pay10_eq]; exact hid_at 256 (by decide) (ld_cut d 256 _ _) (ldw _ _) (ld_cut u 256 _ _) j a
  · intro a; rw [pay14_eq]; exact hid_at 512 (by decide) (ld_cut d 512 _ _) (ldw _ _) (ld_cut u 512 _ _) j a
  · intro a; exact hid_at 768 (by decide) (ld_cut d 768 _ _) (ldw _ _) (ld_cut u 768 _ _) j a

/-- The first tile of a row block starts the scratch at zero. -/
theorem scr_A (hc0 : cond0_0 i) (hc1 : cond0_1 i) (hc2 : ¬cond0_2 i) (r k : Fin 1024) :
    sout0_A_0 c i a2 h2 a3 h3 a4 h4 a5 h5 a6 h6 a7 h7 a8 h8 a9 h9 a10 h10 a11 h11 hc0 hc1 hc2 d u x g wu wd (ix2 r k) = added zeros d u wu wd (ix2 r k) := by
  unfold sout0_A_0
  rw [View.read_writes_eq_canon _ _ _ (scover0_A_0 c i a2 h2 a3 h3 a4 h4 a5 h5 a6 h6 a7 h7 a8 h8 a9 h9 a10 h10 a11 h11 hc0 hc1 hc2 d u x g wu wd)]
  unfold kernelRun0_A
  dsimp only
  sl_unfold_words
  simp only [View.readAt_eq_ld, h2.read_unread, h3.read_unread, h6.read_unread, h7.read_unread]
  unfold zeros
  generalize k0_pay7 (F := Ideal) = y0
  refine canon4 (et := .f32) k (fun r => added y0 d u wu wd (ix2 r k)) ?_ ?_ ?_ ?_ r
  · intro a; rw [pay9_eq]; exact added_at 0 (by decide) (ld_cut d 0 _ _) (ldw _ _) (ld_cut u 0 _ _) (back_cut _ y0 0 _ _ (ground y0)) (ldw _ _) k a
  · intro a; rw [pay11_eq]; exact added_at 256 (by decide) (ld_cut d 256 _ _) (ldw _ _) (ld_cut u 256 _ _) (back_cut _ y0 256 _ _ (under y0 (by decide) (ground y0))) (ldw _ _) k a
  · intro a; rw [pay15_eq]; exact added_at 512 (by decide) (ld_cut d 512 _ _) (ldw _ _) (ld_cut u 512 _ _) (back_cut _ y0 512 _ _ (under y0 (by decide) (under y0 (by decide) (ground y0)))) (ldw _ _) k a
  · intro a; exact added_at 768 (by decide) (ld_cut d 768 _ _) (ldw _ _) (ld_cut u 768 _ _) (back_cut _ y0 768 _ _ (under y0 (by decide) (under y0 (by decide) (under y0 (by decide) (ground y0))))) (ldw _ _) k a

theorem scr_D (hc0 : ¬cond0_0 i) (hc1 : cond0_1 i) (hc2 : ¬cond0_2 i) (r k : Fin 1024) :
    sout0_D_0 c i a2 h2 a3 h3 a4 h4 a5 h5 a6 h6 a7 h7 a8 h8 a9 h9 a10 h10 a11 h11 hc0 hc1 hc2 d u x g wu wd (ix2 r k) = added zeros d u wu wd (ix2 r k) := by
  unfold sout0_D_0
  rw [View.read_writes_eq_canon _ _ _ (scover0_D_0 c i a2 h2 a3 h3 a4 h4 a5 h5 a6 h6 a7 h7 a8 h8 a9 h9 a10 h10 a11 h11 hc0 hc1 hc2 d u x g wu wd)]
  unfold kernelRun0_D
  dsimp only
  sl_unfold_words
  simp only [View.readAt_eq_ld, h2.read_unread, h3.read_unread, h6.read_unread, h7.read_unread]
  unfold zeros
  generalize k0_pay7 (F := Ideal) = y0
  refine canon4 (et := .f32) k (fun r => added y0 d u wu wd (ix2 r k)) ?_ ?_ ?_ ?_ r
  · intro a; rw [pay9_eq]; exact added_at 0 (by decide) (ld_cut d 0 _ _) (ldw _ _) (ld_cut u 0 _ _) (back_cut _ y0 0 _ _ (ground y0)) (ldw _ _) k a
  · intro a; rw [pay11_eq]; exact added_at 256 (by decide) (ld_cut d 256 _ _) (ldw _ _) (ld_cut u 256 _ _) (back_cut _ y0 256 _ _ (under y0 (by decide) (ground y0))) (ldw _ _) k a
  · intro a; rw [pay15_eq]; exact added_at 512 (by decide) (ld_cut d 512 _ _) (ldw _ _) (ld_cut u 512 _ _) (back_cut _ y0 512 _ _ (under y0 (by decide) (under y0 (by decide) (ground y0)))) (ldw _ _) k a
  · intro a; exact added_at 768 (by decide) (ld_cut d 768 _ _) (ldw _ _) (ld_cut u 768 _ _) (back_cut _ y0 768 _ _ (under y0 (by decide) (under y0 (by decide) (under y0 (by decide) (ground y0))))) (ldw _ _) k a

/-- Later tiles add to what it held. -/
theorem scr_B (hc0 : ¬cond0_0 i) (hc1 : ¬cond0_1 i) (hc2 : ¬cond0_2 i) (r k : Fin 1024) :
    sout0_B_0 c i a2 h2 a3 h3 a4 h4 a5 h5 a6 h6 a7 h7 a8 h8 a9 h9 a10 h10 a11 h11 hc0 hc1 hc2 d u x g wu wd y (ix2 r k) = added y d u wu wd (ix2 r k) := by
  unfold sout0_B_0
  rw [View.read_writes_eq_canon _ _ _ (scover0_B_0 c i a2 h2 a3 h3 a4 h4 a5 h5 a6 h6 a7 h7 a8 h8 a9 h9 a10 h10 a11 h11 hc0 hc1 hc2 d u x g wu wd y)]
  unfold kernelRun0_B
  dsimp only
  sl_unfold_words
  simp only [View.readAt_eq_ld, h2.read_unread, h3.read_unread, h6.read_unread, h7.read_unread, h11.read_unread]
  refine canon4 (et := .f32) k (fun r => added y d u wu wd (ix2 r k)) ?_ ?_ ?_ ?_ r
  · intro a; rw [pay9_eq]; exact added_at 0 (by decide) (ld_cut d 0 _ _) (ldw _ _) (ld_cut u 0 _ _) (ld_cut y 0 _ _) (ldw _ _) k a
  · intro a; rw [pay11_eq]; exact added_at 256 (by decide) (ld_cut d 256 _ _) (ldw _ _) (ld_cut u 256 _ _) (ld_cut y 256 _ _) (ldw _ _) k a
  · intro a; rw [pay15_eq]; exact added_at 512 (by decide) (ld_cut d 512 _ _) (ldw _ _) (ld_cut u 512 _ _) (ld_cut y 512 _ _) (ldw _ _) k a
  · intro a; exact added_at 768 (by decide) (ld_cut d 768 _ _) (ldw _ _) (ld_cut u 768 _ _) (ld_cut y 768 _ _) (ldw _ _) k a

theorem scr_C (hc0 : ¬cond0_0 i) (hc1 : ¬cond0_1 i) (hc2 : cond0_2 i) (r k : Fin 1024) :
    sout0_C_0 c i a2 h2 a3 h3 a4 h4 a5 h5 a6 h6 a7 h7 a8 h8 a9 h9 a10 h10 a11 h11 hc0 hc1 hc2 d u x g wu wd z y (ix2 r k) = added y d u wu wd (ix2 r k) := by
  unfold sout0_C_0
  rw [View.read_writes_eq_canon _ _ _ (scover0_C_0 c i a2 h2 a3 h3 a4 h4 a5 h5 a6 h6 a7 h7 a8 h8 a9 h9 a10 h10 a11 h11 hc0 hc1 hc2 d u x g wu wd z y)]
  unfold kernelRun0_C
  dsimp only
  sl_unfold_words
  simp only [View.readAt_eq_ld, h2.read_unread, h3.read_unread, h6.read_unread, h7.read_unread, h11.read_unread]
  refine canon4 (et := .f32) k (fun r => added y d u wu wd (ix2 r k)) ?_ ?_ ?_ ?_ r
  · intro a; rw [pay9_eq]; exact added_at 0 (by decide) (ld_cut d 0 _ _) (ldw _ _) (ld_cut u 0 _ _) (ld_cut y 0 _ _) (ldw _ _) k a
  · intro a; rw [pay11_eq]; exact added_at 256 (by decide) (ld_cut d 256 _ _) (ldw _ _) (ld_cut u 256 _ _) (ld_cut y 256 _ _) (ldw _ _) k a
  · intro a; rw [pay15_eq]; exact added_at 512 (by decide) (ld_cut d 512 _ _) (ldw _ _) (ld_cut u 512 _ _) (ld_cut y 512 _ _) (ldw _ _) k a
  · intro a; exact added_at 768 (by decide) (ld_cut d 768 _ _) (ldw _ _) (ld_cut u 768 _ _) (ld_cut y 768 _ _) (ldw _ _) k a

/-- The gain's sum starts at zero and gains the row block's share at its last tile. -/
theorem gain_A (hc0 : cond0_0 i) (hc1 : cond0_1 i) (hc2 : ¬cond0_2 i) :
    out0_A_8 c i a2 h2 a3 h3 a4 h4 a5 h5 a6 h6 a7 h7 a8 h8 a9 h9 a10 h10 a11 h11 hc0 hc1 hc2 d u x g wu wd = k0_pay6 (F := Ideal) := by
  unfold out0_A_8
  rw [View.read_writes_eq_canon _ _ _ (cover0_A_8 c i a2 h2 a3 h3 a4 h4 a5 h5 a6 h6 a7 h7 a8 h8 a9 h9 a10 h10 a11 h11 hc0 hc1 hc2 d u x g wu wd)]
  unfold kernelRun0_A
  dsimp only
  sl_unfold_words
  exact View.canon_unit_zero hz _ _

theorem gain_B (hc0 : ¬cond0_0 i) (hc1 : ¬cond0_1 i) (hc2 : ¬cond0_2 i) :
    out0_B_8 c i a2 h2 a3 h3 a4 h4 a5 h5 a6 h6 a7 h7 a8 h8 a9 h9 a10 h10 a11 h11 hc0 hc1 hc2 d u x g wu wd y z = z := rfl

theorem gain_D (hc0 : ¬cond0_0 i) (hc1 : cond0_1 i) (hc2 : ¬cond0_2 i) :
    out0_D_8 c i a2 h2 a3 h3 a4 h4 a5 h5 a6 h6 a7 h7 a8 h8 a9 h9 a10 h10 a11 h11 hc0 hc1 hc2 d u x g wu wd z = z := rfl

theorem gain_C (hc0 : ¬cond0_0 i) (hc1 : ¬cond0_1 i) (hc2 : cond0_2 i) :
    out0_C_8 c i a2 h2 a3 h3 a4 h4 a5 h5 a6 h6 a7 h7 a8 h8 a9 h9 a10 h10 a11 h11 hc0 hc1 hc2 d u x g wu wd z y = k0_pay4 x (added y d u wu wd) z := by
  unfold out0_C_8
  rw [View.read_writes_eq_canon _ _ _ (cover0_C_8 c i a2 h2 a3 h3 a4 h4 a5 h5 a6 h6 a7 h7 a8 h8 a9 h9 a10 h10 a11 h11 hc0 hc1 hc2 d u x g wu wd z y)]
  unfold kernelRun0_C
  dsimp only
  sl_unfold_words
  rw [View.canon_unit_zero hz]
  simp only [View.readAt_eq_ld, h2.read_unread, h3.read_unread, h4.read_unread, h6.read_unread, h7.read_unread, h10.read_unread, h11.read_unread,
    View.ld_unit_zero (S := S1024x1024) hz, View.ld_unit_zero (S := S1x1024) hz]
  refine congrArg (k0_pay4 (F := Ideal) x · z) (whole_back _ _ _ fun r k => ?_)
  refine canon4 (et := .f32) k (fun r => added y d u wu wd (ix2 r k)) ?_ ?_ ?_ ?_ r
  · intro a; rw [pay9_eq]; exact added_at 0 (by decide) (ld_cut d 0 _ _) (ldw _ _) (ld_cut u 0 _ _) (ld_cut y 0 _ _) (ldw _ _) k a
  · intro a; rw [pay11_eq]; exact added_at 256 (by decide) (ld_cut d 256 _ _) (ldw _ _) (ld_cut u 256 _ _) (ld_cut y 256 _ _) (ldw _ _) k a
  · intro a; rw [pay15_eq]; exact added_at 512 (by decide) (ld_cut d 512 _ _) (ldw _ _) (ld_cut u 512 _ _) (ld_cut y 512 _ _) (ldw _ _) k a
  · intro a; exact added_at 768 (by decide) (ld_cut d 768 _ _) (ldw _ _) (ld_cut u 768 _ _) (ld_cut y 768 _ _) (ldw _ _) k a

/-- The rows' gradient, at a row block's last tile. -/
theorem rows_C (hc0 : ¬cond0_0 i) (hc1 : ¬cond0_1 i) (hc2 : cond0_2 i) :
    out0_C_6 c i a2 h2 a3 h3 a4 h4 a5 h5 a6 h6 a7 h7 a8 h8 a9 h9 a10 h10 a11 h11 hc0 hc1 hc2 d u x g wu wd z y = k0_pay5 x (added y d u wu wd) d g := by
  unfold out0_C_6
  rw [View.read_writes_eq_canon _ _ _ (cover0_C_6 c i a2 h2 a3 h3 a4 h4 a5 h5 a6 h6 a7 h7 a8 h8 a9 h9 a10 h10 a11 h11 hc0 hc1 hc2 d u x g wu wd z y)]
  unfold kernelRun0_C
  dsimp only
  sl_unfold_words
  rw [View.canon_unit_zero hz]
  simp only [View.readAt_eq_ld, h2.read_unread, h3.read_unread, h4.read_unread, h5.read_unread, h6.read_unread, h7.read_unread, h11.read_unread,
    View.ld_unit_zero (S := S1024x1024) hz, View.ld_unit_zero (S := S1x1024) hz]
  refine congrArg (k0_pay5 (F := Ideal) x · d g) (whole_back _ _ _ fun r k => ?_)
  refine canon4 (et := .f32) k (fun r => added y d u wu wd (ix2 r k)) ?_ ?_ ?_ ?_ r
  · intro a; rw [pay9_eq]; exact added_at 0 (by decide) (ld_cut d 0 _ _) (ldw _ _) (ld_cut u 0 _ _) (ld_cut y 0 _ _) (ldw _ _) k a
  · intro a; rw [pay11_eq]; exact added_at 256 (by decide) (ld_cut d 256 _ _) (ldw _ _) (ld_cut u 256 _ _) (ld_cut y 256 _ _) (ldw _ _) k a
  · intro a; rw [pay15_eq]; exact added_at 512 (by decide) (ld_cut d 512 _ _) (ldw _ _) (ld_cut u 512 _ _) (ld_cut y 512 _ _) (ldw _ _) k a
  · intro a; exact added_at 768 (by decide) (ld_cut d 768 _ _) (ldw _ _) (ld_cut u 768 _ _) (ld_cut y 768 _ _) (ldw _ _) k a

end Bodies

end Cert.MlpDIdeal.Hand

end
-- ==== Proof.MlpDSpec.lean ====
/-
  The gradients of a norm followed by a network of squared relu, over the real numbers: of the stream, of the hidden units before the
  relu and of the gain.
-/
module

public import proofs.«01_k».proof.Proof.InSpec

@[expose] public section

noncomputable section

namespace Cert.MlpSpec

open Cert.InSpec (ms rr hat rr_cube)

/-- The arguments as real numbers: the cotangent, the stream, the gain and the two weights. -/
structure Net where
  D : Fin 2048 → Fin 1024 → ℝ
  X : Fin 2048 → Fin 1024 → ℝ
  G : Fin 1024 → ℝ
  U : Fin 1024 → Fin 4096 → ℝ
  W : Fin 4096 → Fin 1024 → ℝ

variable (N : Net) (s : Fin 2048)

/-- The hidden units before the relu. -/
def Net.u (l : Fin 4096) : ℝ := ∑ k, hat (N.X s) k * N.G k * N.U k l

/-- Their gradient: the cotangent through the second weight, times twice what the relu lets through. -/
def Net.du (l : Fin 4096) : ℝ := (∑ k, N.D s k * N.W l k) * (2 * max (N.u s l) 0)

/-- The gradient of the normed row. -/
def Net.dh (k : Fin 1024) : ℝ := ∑ l, N.du s l * N.U k l

/-- What the network adds to the gradient of the row itself. -/
def Net.dx (k : Fin 1024) : ℝ :=
  rr (N.X s) * (N.dh s k * N.G k - hat (N.X s) k * ((∑ e, N.dh s e * N.G e * hat (N.X s) e) / 1024))

/-- The gradient of the gain. -/
def Net.dg (k : Fin 1024) : ℝ := ∑ s, N.dh s k * hat (N.X s) k

/-- The row's gradient by the chain rule through the root of the mean square. -/
theorem Net.dx_eq (k : Fin 1024) : N.dh s k * N.G k * rr (N.X s)
      + (∑ e, N.X s e * (N.dh s e * N.G e)) * (-(1 / 2) * (rr (N.X s) / ms (N.X s))) / 1024 * (2 * N.X s k) = N.dx s k := by
  have hs : ∑ e, N.dh s e * N.G e * hat (N.X s) e = (∑ e, N.X s e * (N.dh s e * N.G e)) * rr (N.X s) := by
    rw [Finset.sum_mul]
    exact Finset.sum_congr rfl fun e _ => by unfold hat; ring
  unfold Net.dx
  rw [hs, rr_cube]
  unfold hat
  ring

end Cert.MlpSpec

end
-- ==== Proof.MlpDRef.lean ====
/-
  The reference of the squared relu network's gradients, stage by stage, on finite arguments.
-/
module

public import proofs.«01_k».proof.Proof.MlpDSpec
public import proofs.«01_k».proof.Proof.Gen.MlpDRefIdeal.Read
public import Idealize.ShloMosaic.Lib.Pointwise

@[expose] public section

set_option maxRecDepth 16384

noncomputable section

namespace Cert.MlpDRefIdeal.Hand

open Cert.MlpDRefIdeal Cert.MlpDRefIdeal.Gen Cert.MlpDRefIdeal.Read Idealize.ShloMosaic Idealize.ShloMosaic.TcCoe
open Cert.InSpec (ms ms_pos rr rr_rsqrt hat)
open Cert.MlpSpec

/-- The arguments hold these real numbers. -/
structure Args (x0 x1 : Vec Ideal S2048x1024 .f32) (x2 : Vec Ideal S1024 .f32) (x3 : Vec Ideal S1024x4096 .f32) (x4 : Vec Ideal S4096x1024 .f32)
    (N : Net) : Prop where
  d : ∀ s k, x0 (ix2 s k) = (N.D s k : EReal)
  x : ∀ s k, x1 (ix2 s k) = (N.X s k : EReal)
  g : ∀ k, x2 (ix1 k) = (N.G k : EReal)
  u : ∀ k l, x3 (ix2 k l) = (N.U k l : EReal)
  w : ∀ l k, x4 (ix2 l k) = (N.W l k : EReal)

/-- The larger of a real number and zero. -/
theorem max_coe (a : ℝ) : max (a : EReal) 0 = (max a 0 : ℝ) := by
  rcases le_total a 0 with h | h
  · rw [max_eq_right h, max_eq_right (by exact_mod_cast h), EReal.coe_zero]
  · rw [max_eq_left h, max_eq_left (by exact_mod_cast h)]

section Stages
variable {x0 x1 : Vec Ideal S2048x1024 .f32} {x2 : Vec Ideal S1024 .f32} {x3 : Vec Ideal S1024x4096 .f32} {x4 : Vec Ideal S4096x1024 .f32}
  {N : Net} (A : Args x0 x1 x2 x3 x4 N)

include A

theorem v8 (s : Fin 2048) : val_main_v8 (F := Ideal) x1 (ix2 s 0) = (ms (N.X s) : EReal) := by
  unfold val_main_v8 val_main_v7 val_main_v6 val_main_v5 val_main_v4 val_main_v3 val_main_v0 val_main_cst_0 val_main_cst_1 val_main_cst_2
  pointwise [A.x]
  simp only [Alg.width, AttnReal.eps_bits, ← EReal.coe_mul, AttnReal.sum]
  rw [AttnReal.div (by norm_num), ← EReal.coe_add]
  rfl

theorem v9 (s : Fin 2048) : val_main_v9 (F := Ideal) x1 (ix2 s 0) = (rr (N.X s) : EReal) := by
  unfold val_main_v9
  pointwise [v8 A]
  exact rr_rsqrt _

theorem v14 (s : Fin 2048) (k : Fin 1024) : val_main_v14 (F := Ideal) x1 (ix2 s k) = (hat (N.X s) k : EReal) := by
  unfold val_main_v14 val_main_v13
  pointwise [v9 A, A.x]
  rw [← EReal.coe_mul]
  rfl

theorem v17 (s : Fin 2048) (k : Fin 1024) : val_main_v17 (F := Ideal) x1 x2 (ix2 s k) = (hat (N.X s) k * N.G k : ℝ) := by
  unfold val_main_v17 val_main_v16 val_main_v15
  pointwise [v14 A, A.g]
  rw [← EReal.coe_mul]

theorem v18 (s : Fin 2048) (l : Fin 4096) : val_main_v18 (F := Ideal) x1 x2 x3 (ix2 s l) = (N.u s l : EReal) := by
  unfold val_main_v18
  pointwise [v17 A, A.u]
  simp only [← EReal.coe_mul, AttnReal.sum]
  rfl

theorem v25 (s : Fin 2048) (l : Fin 4096) : val_main_v25 (F := Ideal) x1 x2 x3 (ix2 s l) = (2 * max (N.u s l) 0 : ℝ) := by
  unfold val_main_v25 val_main_v24 val_main_cst_6 val_main_v19 val_main_call0_v0 val_main_call0_cst
  pointwise [v18 A, Alg.two]
  rw [max_coe, ← EReal.coe_mul]

theorem v29 (s : Fin 2048) (l : Fin 4096) : val_main_v29 (F := Ideal) x0 x4 (ix2 s l) = (∑ k, N.D s k * N.W l k : ℝ) := by
  unfold val_main_v29 val_main_v28
  pointwise [A.d, A.w]
  simp only [← EReal.coe_mul, AttnReal.sum]

theorem v32 (s : Fin 2048) (l : Fin 4096) : val_main_v32 (F := Ideal) x0 x1 x2 x3 x4 (ix2 s l) = (N.du s l : EReal) := by
  unfold val_main_v32 val_main_v31 val_main_cst_7 val_main_v30 val_main_v21 val_main_v20 val_main_cst_4
  pointwise [v18 A, v25 A, v29 A]
  rw [← EReal.coe_mul]
  split_ifs with h
  · rfl
  · have h0 : N.u s l ≤ 0 := by exact_mod_cast not_lt.mp h
    unfold Net.du
    rw [max_eq_right h0, mul_zero, mul_zero, EReal.coe_zero]

theorem v33 (s : Fin 2048) (k : Fin 1024) : val_main_v33 (F := Ideal) x0 x1 x2 x3 x4 (ix2 s k) = (N.dh s k : EReal) := by
  unfold val_main_v33
  pointwise [v32 A, A.u]
  simp only [← EReal.coe_mul, AttnReal.sum]
  rfl

theorem v54 (k : Fin 1024) : val_main_v54 (F := Ideal) x0 x1 x2 x3 x4 (ix2 0 k) = (N.dg k : EReal) := by
  unfold val_main_v54 val_main_v39 val_main_v36 val_main_v35 val_main_v34 val_main_cst_8 val_main_cst_9
  pointwise [v14 A, v33 A]
  simp only [← EReal.coe_mul, AttnReal.sum, Fin.sum_univ_one]
  exact congrArg _ (Finset.sum_congr rfl fun s _ => mul_comm _ _)

theorem v38 (s : Fin 2048) (k : Fin 1024) : val_main_v38 (F := Ideal) x0 x1 x2 x3 x4 (ix2 s k) = (N.dh s k * N.G k : ℝ) := by
  unfold val_main_v38 val_main_v37 val_main_v15
  pointwise [v33 A, A.g]
  rw [← EReal.coe_mul]

theorem v12 (s : Fin 2048) : val_main_v12 (F := Ideal) x1 (ix2 s 0) = (-(1 / 2) * (rr (N.X s) / ms (N.X s)) : ℝ) := by
  unfold val_main_v12 val_main_v11 val_main_v10 val_main_cst_3
  pointwise [v8 A, v9 A]
  rw [AttnReal.neg_half_bits, AttnReal.div (ms_pos _).ne', ← EReal.coe_mul]

theorem v42 (s : Fin 2048) : val_main_v42 (F := Ideal) x0 x1 x2 x3 x4 (ix2 s 0) = (∑ e, N.X s e * (N.dh s e * N.G e) : ℝ) := by
  unfold val_main_v42 val_main_v41 val_main_v40 val_main_cst_10
  pointwise [v38 A, A.x]
  simp only [← EReal.coe_mul, AttnReal.sum]

theorem v48 (s : Fin 2048) : val_main_v48 (F := Ideal) x0 x1 x2 x3 x4 (ix1 s)
    = ((∑ e, N.X s e * (N.dh s e * N.G e)) * (-(1 / 2) * (rr (N.X s) / ms (N.X s))) / 1024 : ℝ) := by
  unfold val_main_v48 val_main_v47 val_main_v46 val_main_v45 val_main_cst_11 val_main_cst_12
  pointwise
  simp only [Alg.width, Fin.sum_univ_one]
  erw [v42 A, v12 A]
  rw [← EReal.coe_mul, AttnReal.div (by norm_num)]

theorem v52 (s : Fin 2048) (k : Fin 1024) : val_main_v52 (F := Ideal) x0 x1 x2 x3 x4 (ix2 s k) = x0 (ix2 s k) + (N.dx s k : EReal) := by
  unfold val_main_v52 val_main_v51 val_main_v50 val_main_v49 val_main_v44 val_main_v43 val_main_v2 val_main_v1 val_main_cst
  pointwise [v38 A, v9 A, v48 A, A.x, Alg.two]
  simp only [← EReal.coe_mul, ← EReal.coe_add]
  rw [← Net.dx_eq]

theorem v53 (s : Fin 2048) (l : Fin 4096) : val_main_v53 (F := Ideal) x0 x1 x2 x3 x4 (ix2 s l) = (N.du s l : EReal) := by
  unfold val_main_v53
  pointwise [v32 A]

end Stages

end Cert.MlpDRefIdeal.Hand

end
-- ==== Proof.MlpDIn.lean ====
/-
  The squared relu network's gradient, point by point: which rows and hidden units each block holds, and one block of rows read as
  real numbers.
-/
module

public import proofs.«01_k».proof.Proof.MlpDBody
public import proofs.«01_k».proof.Proof.MlpDRef
public import Idealize.ShloMosaic.Lib.StableHlo.ReadAt

@[expose] public section

set_option maxRecDepth 16384

noncomputable section

namespace Cert.MlpDIdeal.Hand

open Cert.MlpDIdeal Cert.MlpDIdeal.Gen Idealize.ShloMosaic Idealize.ShloMosaic.TcCoe Idealize.SL.Sem
open Cert.InSpec (rr rr_rsqrt hat)
open Cert.MlpSpec

section Array
variable (m : (ℓ : Loc nD τ sig) → Buf (Elt Ideal) ℓ) (c : Dev nD)

abbrev A0 : Vec Ideal S2048x1024 .f32 := m ((c : Thread nD τ).loc main_arg0)
abbrev A1 : Vec Ideal S2048x1024 .f32 := m ((c : Thread nD τ).loc main_arg1)
abbrev A2 : Vec Ideal S1024 .f32 := m ((c : Thread nD τ).loc main_arg2)
abbrev A3 : Vec Ideal S1024x4096 .f32 := m ((c : Thread nD τ).loc main_arg3)
abbrev A4 : Vec Ideal S4096x1024 .f32 := m ((c : Thread nD τ).loc main_arg4)

/-- Hidden unit `l` of row `s` before the relu, as the forward lines give it. -/
def unit (x : Vec Ideal S2048x1024 .f32) (g : Vec Ideal S1024 .f32) (w : Vec Ideal S1024x4096 .f32) (s : Fin 2048) (l : Fin 4096) : EReal :=
  ∑ e : Fin 1024, x (ix2 s e) * Ideal.rsqrt (Ideal.div (∑ e : Fin 1024, x (ix2 s e) * x (ix2 s e)) (Ideal.ofBits .f32 0x44800000#32)
    + Ideal.ofBits .f32 0x358637BD#32) * g (ix1 e) * w (ix2 e l)

theorem V_h (s : Fin 2048) (l : Fin 4096) : (V m c main_v18 : Vec Ideal S2048x4096 .f32) (ix2 s l)
    = unit (A1 m c) (A2 m c) (A3 m c) s l := by
  unfold V
  after_reads_at
  rfl

theorem V_g (k : Fin 1024) : (V m c main_v19 : Vec Ideal S1x1024 .f32) (ix2 0 k) = A2 m c (ix1 k) := by
  unfold V
  after_reads_at

theorem V_u (p : Fin 4) (e j : Fin 1024) : (V m c main_v2 : Vec Ideal S4x1024x1024 .bf16) (ix3 p e j) = A3 m c (ix2 e ⟨p.val * 1024 + j.val, by omega⟩) := by
  unfold V
  after_reads_at

theorem V_d (p : Fin 4) (j k : Fin 1024) : (V m c main_v4 : Vec Ideal S4x1024x1024 .bf16) (ix3 p j k) = A4 m c (ix2 ⟨p.val * 1024 + j.val, by omega⟩ k) := by
  unfold V
  after_reads_at

variable (t : Fin cfg0.N)

/-- Where each window's block of point `t` begins, in blocks. -/
theorem idx_in : ∀ t : Fin cfg0.N, win0_0.index t = ![t.val / 4, 0] ∧ win0_1.index t = ![t.val / 4, t.val % 4] ∧ win0_2.index t = ![t.val / 4, 0]
    ∧ win0_3.index t = ![0, 0] ∧ win0_4.index t = ![t.val % 4, 0, 0] ∧ win0_5.index t = ![t.val % 4, 0, 0] := by decide +kernel

theorem lt8 : t.val < 8 := lt_of_lt_of_eq t.isLt (show cfg0.N = 8 from N_0)

/-- Row `r` of point `t`'s block, among all rows; hidden unit `j` of its tile, among all. -/
abbrev row (r : Fin 1024) : Fin 2048 := ⟨t.val / 4 * 1024 + r.val, by have := lt8 t; omega⟩
abbrev col (j : Fin 1024) : Fin 4096 := ⟨t.val % 4 * 1024 + j.val, by omega⟩

theorem blk0 (r k : Fin 1024) : (iblk m c 0 t : Vec Ideal S1024x1024 .f32) (ix2 r k) = A0 m c (ix2 (row t r) k) := by
  obtain ⟨e, -⟩ := idx_in t
  unfold iblk
  rw [View.read_apply]
  refine congrArg (A0 m c) (funext fun a => Fin.ext ?_)
  match a with
  | ⟨0, _⟩ => show win0_0.index t 0 * 1024 + 1 * r.val = _; rw [e]; show t.val / 4 * 1024 + 1 * r.val = t.val / 4 * 1024 + r.val; omega
  | ⟨1, _⟩ => show win0_0.index t 1 * 1024 + 1 * k.val = _; rw [e]; show 0 * 1024 + 1 * k.val = k.val; omega

theorem blk1 (r j : Fin 1024) : (iblk m c 1 t : Vec Ideal S1024x1024 .f32) (ix2 r j) = (V m c main_v18 : Vec Ideal S2048x4096 .f32) (ix2 (row t r) (col t j)) := by
  obtain ⟨-, e, -⟩ := idx_in t
  unfold iblk
  rw [View.read_apply]
  refine congrArg (V m c main_v18 : Vec Ideal S2048x4096 .f32) (funext fun a => Fin.ext ?_)
  match a with
  | ⟨0, _⟩ => show win0_1.index t 0 * 1024 + 1 * r.val = _; rw [e]; show t.val / 4 * 1024 + 1 * r.val = t.val / 4 * 1024 + r.val; omega
  | ⟨1, _⟩ => show win0_1.index t 1 * 1024 + 1 * j.val = _; rw [e]; show t.val % 4 * 1024 + 1 * j.val = t.val % 4 * 1024 + j.val; omega

theorem blk2 (r k : Fin 1024) : (iblk m c 2 t : Vec Ideal S1024x1024 .f32) (ix2 r k) = A1 m c (ix2 (row t r) k) := by
  obtain ⟨-, -, e, -⟩ := idx_in t
  unfold iblk
  rw [View.read_apply]
  refine congrArg (A1 m c) (funext fun a => Fin.ext ?_)
  match a with
  | ⟨0, _⟩ => show win0_2.index t 0 * 1024 + 1 * r.val = _; rw [e]; show t.val / 4 * 1024 + 1 * r.val = t.val / 4 * 1024 + r.val; omega
  | ⟨1, _⟩ => show win0_2.index t 1 * 1024 + 1 * k.val = _; rw [e]; show 0 * 1024 + 1 * k.val = k.val; omega

theorem blk3 (k : Fin 1024) : (iblk m c 3 t : Vec Ideal S1x1024 .f32) (ix2 0 k) = A2 m c (ix1 k) := by
  obtain ⟨-, -, -, e, -⟩ := idx_in t
  rw [← V_g]
  unfold iblk
  rw [View.read_apply]
  refine congrArg (V m c main_v19 : Vec Ideal S1x1024 .f32) (funext fun a => Fin.ext ?_)
  match a with
  | ⟨0, _⟩ => show win0_3.index t 0 * 1 + 1 * 0 = _; rw [e]; rfl
  | ⟨1, _⟩ => show win0_3.index t 1 * 1024 + 1 * k.val = _; rw [e]; show 0 * 1024 + 1 * k.val = k.val; omega

theorem blk4 (e j : Fin 1024) : (iblk m c 4 t : Vec Ideal S1x1024x1024 .bf16) (ix3 0 e j) = A3 m c (ix2 e (col t j)) := by
  obtain ⟨-, -, -, -, w, -⟩ := idx_in t
  rw [← V_u m c ⟨t.val % 4, by omega⟩ e j]
  unfold iblk
  rw [View.read_apply]
  refine congrArg (V m c main_v2 : Vec Ideal S4x1024x1024 .bf16) (funext fun a => Fin.ext ?_)
  match a with
  | ⟨0, _⟩ => show win0_4.index t 0 * 1 + 1 * 0 = _; rw [w]; show t.val % 4 * 1 + 1 * 0 = t.val % 4; omega
  | ⟨1, _⟩ => show win0_4.index t 1 * 1024 + 1 * e.val = _; rw [w]; show 0 * 1024 + 1 * e.val = e.val; omega
  | ⟨2, _⟩ => show win0_4.index t 2 * 1024 + 1 * j.val = _; rw [w]; show 0 * 1024 + 1 * j.val = j.val; omega

theorem blk5 (j k : Fin 1024) : (iblk m c 5 t : Vec Ideal S1x1024x1024 .bf16) (ix3 0 j k) = A4 m c (ix2 (col t j) k) := by
  obtain ⟨-, -, -, -, -, w⟩ := idx_in t
  rw [← V_d m c ⟨t.val % 4, by omega⟩ j k]
  unfold iblk
  rw [View.read_apply]
  refine congrArg (V m c main_v4 : Vec Ideal S4x1024x1024 .bf16) (funext fun a => Fin.ext ?_)
  match a with
  | ⟨0, _⟩ => show win0_5.index t 0 * 1 + 1 * 0 = _; rw [w]; show t.val % 4 * 1 + 1 * 0 = t.val % 4; omega
  | ⟨1, _⟩ => show win0_5.index t 1 * 1024 + 1 * j.val = _; rw [w]; show 0 * 1024 + 1 * j.val = j.val; omega
  | ⟨2, _⟩ => show win0_5.index t 2 * 1024 + 1 * k.val = _; rw [w]; show 0 * 1024 + 1 * k.val = k.val; omega

end Array

/-- Tile `p`'s share of a sum over the hidden units, by number. -/
def tile (f : Fin 4096 → ℝ) (p : ℕ) : ℝ := ∑ j : Fin 1024, (fun n => if h : n < 4096 then f ⟨n, h⟩ else 0) (p * 1024 + j.val)

theorem tile_of (f : Fin 4096 → ℝ) (p : ℕ) (hp : p < 4) : tile f p = ∑ j : Fin 1024, f ⟨p * 1024 + j.val, by omega⟩ :=
  Finset.sum_congr rfl fun j _ => dif_pos (show p * 1024 + j.val < 4096 by omega)

theorem tiles (f : Fin 4096 → ℝ) : ∑ p ∈ Finset.range 4, tile f p = ∑ l, f l := by
  unfold tile
  rw [← Alg.sum_blocks 4 1024 (fun n => if h : n < 4096 then f ⟨n, h⟩ else 0)]
  exact Finset.sum_congr rfl fun s _ => dif_pos s.isLt

/-- What hidden unit `l` adds to the gradient of entry `k` of the normed row `s`. -/
def term (N : Net) (s : Fin 2048) (k : Fin 1024) (l : Fin 4096) : ℝ := N.du s l * N.U k l

section Real
variable {m : (ℓ : Loc nD τ sig) → Buf (Elt Ideal) ℓ} {c : Dev nD} {N : Net}
  (A : Cert.MlpDRefIdeal.Hand.Args (A0 m c) (A1 m c) (A2 m c) (A3 m c) (A4 m c) N) (t : Fin cfg0.N)

include A

theorem unit_eq (s : Fin 2048) (l : Fin 4096) : unit (A1 m c) (A2 m c) (A3 m c) s l = (N.u s l : EReal) := by
  unfold unit
  simp only [A.x, A.g, A.u, Alg.width, AttnReal.eps_bits, ← EReal.coe_mul, AttnReal.sum]
  have h : Ideal.rsqrt (Ideal.div ((∑ e, N.X s e * N.X s e : ℝ) : EReal) ((1024 : ℝ) : EReal) + ((AttnReal.eps : ℝ) : EReal)) = (rr (N.X s) : EReal) := by
    rw [AttnReal.div (by norm_num), ← EReal.coe_add]
    exact rr_rsqrt _
  rw [h]
  simp only [← EReal.coe_mul, AttnReal.sum]
  rfl

theorem hid_eq (r j : Fin 1024) : hid (iblk m c 0 t) (iblk m c 1 t) (iblk m c 5 t) r j = (N.du (row t r) (col t j) : EReal) := by
  unfold hid
  simp only [blk0, blk1, blk5, A.d, A.w]
  rw [V_h, unit_eq A, Cert.MlpDRefIdeal.Hand.max_coe]
  simp only [← EReal.coe_mul, AttnReal.sum]
  rfl

theorem back_eq (r k : Fin 1024) : back (iblk m c 0 t) (iblk m c 1 t) (iblk m c 4 t) (iblk m c 5 t) r k = (tile (term N (row t r) k) (t.val % 4) : EReal) := by
  rw [tile_of _ _ (Nat.mod_lt _ (by decide))]
  unfold back
  simp only [hid_eq A, blk4, A.u, ← EReal.coe_mul, AttnReal.sum]
  rfl

/-! A whole row block, from the gradient of its normed rows. -/

theorem rsq_eq (r : Fin 1024) : k0_pay2 (F := Ideal) (iblk m c 2 t) (ix2 r 0) = (rr (N.X (row t r)) : EReal) := by
  unfold k0_pay2
  pointwise [blk2, A.x]
  simp only [Alg.width, AttnReal.eps_bits, ← EReal.coe_mul, AttnReal.sum]
  rw [AttnReal.div (by norm_num), ← EReal.coe_add]
  exact rr_rsqrt _

theorem hat_eq (r k : Fin 1024) : k0_pay3 (F := Ideal) (iblk m c 2 t) (ix2 r k) = (hat (N.X (row t r)) k : EReal) := by
  unfold k0_pay3
  pointwise [rsq_eq A, blk2, A.x]
  rw [← EReal.coe_mul]
  rfl

variable {h : Vec Ideal S1024x1024 .f32} (H : ∀ r k, h (ix2 r k) = (N.dh (row t r) k : EReal))

include H

/-- The block's share of the gain's gradient. -/
theorem gain_add (z : Vec Ideal S1x1024 .f32) (k : Fin 1024) : k0_pay4 (F := Ideal) (iblk m c 2 t) h z (ix2 0 k)
    = z (ix2 0 k) + (∑ r : Fin 1024, N.dh (row t r) k * hat (N.X (row t r)) k : ℝ) := by
  unfold k0_pay4
  pointwise [hat_eq A, H]
  simp only [← EReal.coe_mul, AttnReal.sum]

/-- The rows' gradient. -/
theorem rows_add (r k : Fin 1024) : k0_pay5 (F := Ideal) (iblk m c 2 t) h (iblk m c 0 t) (iblk m c 3 t) (ix2 r k)
    = A0 m c (ix2 (row t r) k) + (N.dx (row t r) k : EReal) := by
  unfold k0_pay5
  pointwise [hat_eq A, rsq_eq A, H, blk0, blk3, A.g, Alg.width]
  simp only [← EReal.coe_mul, AttnReal.sum]
  rw [AttnReal.div (by norm_num)]
  simp only [← EReal.coe_mul, ← EReal.coe_sub]
  rfl

end Real

end Cert.MlpDIdeal.Hand

end
-- ==== Proof.MlpD.lean ====
/-
  The gradients of the norm and the network of squared relu of one layer: where the arguments are finite, the kernel and the
  reference end with the same gradients of the stream, of the hidden units and of the gain. The kernel takes the hidden units in four
  tiles and keeps the gradient of the normed rows in scratch until the last.
-/
module

public import proofs.«01_k».proof.Defs
public import proofs.«01_k».proof.Proof.Alg
public import proofs.«01_k».proof.Proof.MlpDIn
public import proofs.«01_k».proof.Proof.Gen.MlpDRefIdeal.Run

@[expose] public section

set_option maxRecDepth 16384

noncomputable section

namespace Cert.MlpDIdeal.Hand

open Cert.MlpDIdeal Cert.MlpDIdeal.Gen Idealize.ShloMosaic Idealize.ShloMosaic.TcCoe Idealize.SL.Sem
open Idealize.ShloMosaic.Pipeline (Dat)
open Cert.InSpec (hat)
open Cert.MlpSpec

/-! ## What the points leave -/

/-- A quantity of one row, by the row's number. -/
def byNum (f : Fin 2048 → ℝ) (n : ℕ) : ℝ := if h : n < 2048 then f ⟨n, h⟩ else 0

/-- The first `q` blocks of rows. -/
def blocks (f : Fin 2048 → ℝ) (q : ℕ) : ℝ := ∑ p ∈ Finset.range q, ∑ r : Fin 1024, byNum f (p * 1024 + r)

theorem blocks_all (f : Fin 2048 → ℝ) : blocks f 2 = ∑ s, f s := by
  unfold blocks
  rw [← Alg.sum_blocks 2 1024 (byNum f)]
  exact Finset.sum_congr rfl fun s _ => dif_pos s.isLt

theorem blocks_succ (f : Fin 2048 → ℝ) (t : Fin cfg0.N) : blocks f (t.val / 4 + 1) = blocks f (t.val / 4) + ∑ r, f (row t r) := by
  unfold blocks
  rw [Finset.sum_range_succ]
  refine congrArg (_ + ·) (Finset.sum_congr rfl fun r _ => ?_)
  have := lt8 t
  exact dif_pos (show t.val / 4 * 1024 + r.val < 2048 by omega)

/-- What one row adds to the gain's gradient. -/
def gTerm (N : Net) (k : Fin 1024) (s : Fin 2048) : ℝ := N.dh s k * hat (N.X s) k

section Points
variable {m : (ℓ : Loc nD τ sig) → Buf (Elt Ideal) ℓ} {c : Dev nD} {N : Net}
  (A : Cert.MlpDRefIdeal.Hand.Args (A0 m c) (A1 m c) (A2 m c) (A3 m c) (A4 m c) N)

include A

/-- The hidden gradient at every point. -/
theorem units_eq (t : Fin cfg0.N) (r j : Fin 1024) : (outsAt0 m c t.val t.isLt).2.1 (ix2 r j) = (N.du (row t r) (col t j) : EReal) := by
  rw [← hid_eq A]
  by_cases h1 : t.val % 4 = 0
  · by_cases h0 : t.val % 8 = 0
    · rw [outsAt0_A m c t h0 h1 (by omega)]; dsimp only; rw [hid_A]
    · rw [outsAt0_D m c t h0 h1 (by omega)]; dsimp only; rw [hid_D]
  · by_cases h2 : t.val % 4 = 3
    · rw [outsAt0_C m c t (by omega) h1 h2]; dsimp only; rw [hid_C]
    · rw [outsAt0_B m c t (by omega) h1 h2]; dsimp only; rw [hid_B]

theorem added_eq (t : Fin cfg0.N) (y : Vec Ideal S1024x1024 .f32) (r k : Fin 1024) :
    added y (iblk m c 0 t) (iblk m c 1 t) (iblk m c 4 t) (iblk m c 5 t) (ix2 r k) = y (ix2 r k) + (tile (term N (row t r) k) (t.val % 4) : EReal) := by
  rw [← back_eq A]
  rfl

omit A in
theorem zeros_apply (r k : Fin 1024) : zeros (ix2 r k) = ((0 : ℝ) : EReal) := by
  unfold zeros k0_pay7
  pointwise
  rfl

/-- The scratch after point `n`: the tiles so far. -/
theorem scr_eq (r k : Fin 1024) : ∀ (n : ℕ) (h : n < cfg0.N), (outsAt0 m c n h).2.2.2 (ix2 r k)
    = (∑ p ∈ Finset.range (n % 4 + 1), tile (term N (row ⟨n, h⟩ r) k) p : ℝ) := by
  have first (n : ℕ) (h : n < cfg0.N) (h4 : n % 4 = 0) : (outsAt0 m c n h).2.2.2 (ix2 r k)
      = (∑ p ∈ Finset.range (n % 4 + 1), tile (term N (row ⟨n, h⟩ r) k) p : ℝ) := by
    have e : added zeros (iblk m c 0 ⟨n, h⟩) (iblk m c 1 ⟨n, h⟩) (iblk m c 4 ⟨n, h⟩) (iblk m c 5 ⟨n, h⟩) (ix2 r k)
        = (∑ p ∈ Finset.range (n % 4 + 1), tile (term N (row ⟨n, h⟩ r) k) p : ℝ) := by
      rw [added_eq A, zeros_apply, ← EReal.coe_add, zero_add]
      simp only [h4, zero_add, Finset.sum_range_one]
    by_cases h0 : n % 8 = 0
    · rw [show outsAt0 m c n h = _ from outsAt0_A m c ⟨n, h⟩ h0 h4 (by show ¬ n % 4 = 3; omega)]; dsimp only; rw [scr_A, e]
    · rw [show outsAt0 m c n h = _ from outsAt0_D m c ⟨n, h⟩ h0 h4 (by show ¬ n % 4 = 3; omega)]; dsimp only; rw [scr_D, e]
  intro n
  induction n with
  | zero => exact fun h => first 0 h rfl
  | succ n ih =>
    intro h
    by_cases h4 : (n + 1) % 4 = 0
    · exact first (n + 1) h h4
    · have e : added (outsAt0 m c n (Nat.lt_of_succ_lt h)).2.2.2 (iblk m c 0 ⟨n + 1, h⟩) (iblk m c 1 ⟨n + 1, h⟩) (iblk m c 4 ⟨n + 1, h⟩)
          (iblk m c 5 ⟨n + 1, h⟩) (ix2 r k) = (∑ p ∈ Finset.range ((n + 1) % 4 + 1), tile (term N (row ⟨n + 1, h⟩ r) k) p : ℝ) := by
        have hr : row ⟨n, Nat.lt_of_succ_lt h⟩ r = row ⟨n + 1, h⟩ r := Fin.ext (by show n / 4 * 1024 + r.val = (n + 1) / 4 * 1024 + r.val; omega)
        rw [added_eq A, ih, hr, ← EReal.coe_add, Finset.sum_range_succ _ ((n + 1) % 4), show n % 4 + 1 = (n + 1) % 4 by omega]
      by_cases h2 : (n + 1) % 4 = 3
      · rw [show outsAt0 m c (n + 1) h = _ from outsAt0_C m c ⟨n + 1, h⟩ (by show ¬ (n + 1) % 8 = 0; omega) h4 h2]
        dsimp only
        exact (scr_C c _ _ _ _ _ _ _ _ _ _ _ _ _ _ _ _ _ _ _ _ _ _ _ _ _ _ _ _ _ _ _ _ r k).trans e
      · rw [show outsAt0 m c (n + 1) h = _ from outsAt0_B m c ⟨n + 1, h⟩ (by show ¬ (n + 1) % 8 = 0; omega) h4 h2]
        dsimp only
        exact (scr_B c _ _ _ _ _ _ _ _ _ _ _ _ _ _ _ _ _ _ _ _ _ _ _ _ _ _ _ _ _ _ _ r k).trans e

/-- At a row block's last tile the scratch ends with the gradient of the normed rows. -/
theorem full (t : Fin cfg0.N) (h2 : t.val % 4 = 3) (r k : Fin 1024) :
    added (outsAt0 m c (t.val - 1) (Nat.lt_of_le_of_lt (Nat.sub_le _ _) t.isLt)).2.2.2 (iblk m c 0 t) (iblk m c 1 t) (iblk m c 4 t) (iblk m c 5 t) (ix2 r k)
      = (N.dh (row t r) k : EReal) := by
  have hr : row ⟨t.val - 1, Nat.lt_of_le_of_lt (Nat.sub_le _ _) t.isLt⟩ r = row t r :=
    Fin.ext (by show (t.val - 1) / 4 * 1024 + r.val = t.val / 4 * 1024 + r.val; omega)
  rw [added_eq A, scr_eq A, hr, ← EReal.coe_add, h2, show (t.val - 1) % 4 + 1 = 3 by omega, ← Finset.sum_range_succ, tiles]
  rfl

/-- The rows' gradient, at a row block's last tile. -/
theorem rows_eq (t : Fin cfg0.N) (h2 : t.val % 4 = 3) (r k : Fin 1024) :
    (outsAt0 m c t.val t.isLt).1 (ix2 r k) = A0 m c (ix2 (row t r) k) + (N.dx (row t r) k : EReal) := by
  rw [outsAt0_C m c t (by omega) (by omega) h2]
  dsimp only
  rw [rows_C, rows_add A t (full A t h2)]

/-- The gain's sum after point `n`. -/
theorem gain_eq (k : Fin 1024) : ∀ (n : ℕ) (h : n < cfg0.N), (outsAt0 m c n h).2.2.1 (ix2 0 k) = (blocks (gTerm N k) ((n + 1) / 4) : EReal)
  | 0, h => by
    rw [show outsAt0 m c 0 h = _ from outsAt0_A m c ⟨0, h⟩ rfl rfl (by show ¬ 0 % 4 = 3; omega)]
    dsimp only
    rw [gain_A]
    unfold k0_pay6
    pointwise
    rfl
  | n + 1, h => by
    have hN : n + 1 < 8 := lt_of_lt_of_eq h (show cfg0.N = 8 from N_0)
    have h0 : ¬ (n + 1) % 8 = 0 := by omega
    by_cases h1 : (n + 1) % 4 = 0
    · rw [show outsAt0 m c (n + 1) h = _ from outsAt0_D m c ⟨n + 1, h⟩ h0 h1 (by show ¬ (n + 1) % 4 = 3; omega), show (n + 1 + 1) / 4 = (n + 1) / 4 by omega]
      dsimp only
      rw [gain_D]
      exact gain_eq k n _
    · by_cases h2 : (n + 1) % 4 = 3
      · rw [show outsAt0 m c (n + 1) h = _ from outsAt0_C m c ⟨n + 1, h⟩ h0 h1 h2]
        dsimp only
        rw [gain_C, gain_add A ⟨n + 1, h⟩ (full A ⟨n + 1, h⟩ h2), show (n + 1 + 1) / 4 = (n + 1) / 4 + 1 by omega,
          show blocks (gTerm N k) ((n + 1) / 4 + 1) = _ from blocks_succ (gTerm N k) ⟨n + 1, h⟩, EReal.coe_add]
        exact congrArg (· + _) (gain_eq k n _)
      · rw [show outsAt0 m c (n + 1) h = _ from outsAt0_B m c ⟨n + 1, h⟩ h0 h1 h2, show (n + 1 + 1) / 4 = (n + 1) / 4 by omega]
        dsimp only
        rw [gain_B]
        exact gain_eq k n _

end Points

/-! ## The three results -/

def resX (d : Vec Ideal S2048x1024 .f32) (N : Net) : Vec Ideal S2048x1024 .f32 := fun i => d i + (N.dx (i 0) (i 1) : EReal)
def resU (N : Net) : Vec Ideal S2048x4096 .bf16 := fun i => (N.du (i 0) (i 1) : EReal)
def resG (N : Net) : Vec Ideal S1x1024 .f32 := fun i => (N.dg (i 1) : EReal)

/-- Where each result's block of point `t` begins, in blocks. -/
theorem idx_out : ∀ t : Fin cfg0.N, win0_6.index t = ![t.val / 4, 0] ∧ win0_7.index t = ![t.val / 4, t.val % 4] ∧ win0_8.index t = ![0, 0] := by decide +kernel

theorem mem_rows (t : Fin cfg0.N) (i : S2048x1024.Idx) (h : (i 0).val / 1024 = t.val / 4) : i ∈ ((cfg0.win 6).blk t).view.set := by
  obtain ⟨e, -⟩ := idx_out t
  have h1 : (i 1).val < 1024 := (i 1).isLt
  show i ∈ ((View.whole main_v20_0).slice (win0_6.rect t)).set
  rw [View.set_slice_whole, Rect.mem_set_unit]
  intro a
  match a with
  | ⟨0, _⟩ => show win0_6.index t 0 * 1024 ≤ (i 0).val ∧ (i 0).val < win0_6.index t 0 * 1024 + 1024; rw [e]; show t.val / 4 * 1024 ≤ _ ∧ _ < t.val / 4 * 1024 + 1024; omega
  | ⟨1, _⟩ => show win0_6.index t 1 * 1024 ≤ (i 1).val ∧ (i 1).val < win0_6.index t 1 * 1024 + 1024; rw [e]; show 0 * 1024 ≤ _ ∧ _ < 0 * 1024 + 1024; omega

theorem mem_units (t : Fin cfg0.N) (i : S2048x4096.Idx) (h0 : (i 0).val / 1024 = t.val / 4) (h1 : (i 1).val / 1024 = t.val % 4) : i ∈ ((cfg0.win 7).blk t).view.set := by
  obtain ⟨-, e, -⟩ := idx_out t
  show i ∈ ((View.whole main_v20_1).slice (win0_7.rect t)).set
  rw [View.set_slice_whole, Rect.mem_set_unit]
  intro a
  match a with
  | ⟨0, _⟩ => show win0_7.index t 0 * 1024 ≤ (i 0).val ∧ (i 0).val < win0_7.index t 0 * 1024 + 1024; rw [e]; show t.val / 4 * 1024 ≤ _ ∧ _ < t.val / 4 * 1024 + 1024; omega
  | ⟨1, _⟩ => show win0_7.index t 1 * 1024 ≤ (i 1).val ∧ (i 1).val < win0_7.index t 1 * 1024 + 1024; rw [e]; show t.val % 4 * 1024 ≤ _ ∧ _ < t.val % 4 * 1024 + 1024; omega

theorem mem_gain (t : Fin cfg0.N) (i : S1x1024.Idx) : i ∈ ((cfg0.win 8).blk t).view.set := by
  obtain ⟨-, -, e⟩ := idx_out t
  have h0 : (i 0).val < 1 := (i 0).isLt
  have h1 : (i 1).val < 1024 := (i 1).isLt
  show i ∈ ((View.whole main_v20_2).slice (win0_8.rect t)).set
  rw [View.set_slice_whole, Rect.mem_set_unit]
  intro a
  match a with
  | ⟨0, _⟩ => show win0_8.index t 0 * 1 ≤ (i 0).val ∧ (i 0).val < win0_8.index t 0 * 1 + 1; rw [e]; show 0 * 1 ≤ _ ∧ _ < 0 * 1 + 1; omega
  | ⟨1, _⟩ => show win0_8.index t 1 * 1024 ≤ (i 1).val ∧ (i 1).val < win0_8.index t 1 * 1024 + 1024; rw [e]; show 0 * 1024 ≤ _ ∧ _ < 0 * 1024 + 1024; omega

section Finals
variable {m : (ℓ : Loc nD τ sig) → Buf (Elt Ideal) ℓ} {c : Dev nD} {N : Net}
  (A : Cert.MlpDRefIdeal.Hand.Args (A0 m c) (A1 m c) (A2 m c) (A3 m c) (A4 m c) N)

include A

theorem rows_final : (dats m 0 c).arrAt 6 cfg0.N = resX (A0 m c) N := by
  refine (dats m 0 c).arrAt_eq_of_cover 6 (resX (A0 m c) N) (fun t hf => ?_) fun i => ?_
  · have h3 : t.val % 4 = 3 := (flush0_6 t).mp hf
    rw [Value.flushed6]
    obtain ⟨e, -⟩ := idx_out t
    refine funext fun (j : S1024x1024.Idx) => ?_
    obtain ⟨r, k, rfl⟩ : ∃ (r k : Fin 1024), j = ix2 r k := ⟨_, _, eq_ix2 j⟩
    show (outsAt0 m c t.val t.isLt).1 (ix2 r k) = resX (A0 m c) N (((cfg0.win 6).blk t).view.emb (ix2 r k))
    rw [rows_eq A t h3]
    refine congrArg (resX (A0 m c) N) (funext fun a => Fin.ext ?_ : ix2 (row t r) k = _)
    match a with
    | ⟨0, _⟩ => show t.val / 4 * 1024 + r.val = win0_6.index t 0 * 1024 + 1 * r.val; rw [e]; show _ = t.val / 4 * 1024 + 1 * r.val; omega
    | ⟨1, _⟩ => show k.val = win0_6.index t 1 * 1024 + 1 * k.val; rw [e]; show _ = 0 * 1024 + 1 * k.val; omega
  · have h : (i 0).val < 2048 := (i 0).isLt
    obtain ⟨t, ht⟩ : ∃ t : Fin cfg0.N, t.val = (i 0).val / 1024 * 4 + 3 := ⟨⟨(i 0).val / 1024 * 4 + 3, by rw [show cfg0.N = 8 from N_0]; omega⟩, rfl⟩
    exact ⟨t, (flush0_6 t).mpr (by omega), mem_rows t i (by omega)⟩

theorem units_final : (dats m 0 c).arrAt 7 cfg0.N = resU N := by
  refine (dats m 0 c).arrAt_eq_of_cover 7 (resU N) (fun t _ => ?_) fun i => ?_
  · rw [Value.flushed7]
    obtain ⟨-, e, -⟩ := idx_out t
    refine funext fun (j : S1024x1024.Idx) => ?_
    obtain ⟨r, k, rfl⟩ : ∃ (r k : Fin 1024), j = ix2 r k := ⟨_, _, eq_ix2 j⟩
    show (outsAt0 m c t.val t.isLt).2.1 (ix2 r k) = resU N (((cfg0.win 7).blk t).view.emb (ix2 r k))
    rw [units_eq A]
    refine congrArg (resU N) (funext fun a => Fin.ext ?_ : ix2 (row t r) (col t k) = _)
    match a with
    | ⟨0, _⟩ => show t.val / 4 * 1024 + r.val = win0_7.index t 0 * 1024 + 1 * r.val; rw [e]; show _ = t.val / 4 * 1024 + 1 * r.val; omega
    | ⟨1, _⟩ => show t.val % 4 * 1024 + k.val = win0_7.index t 1 * 1024 + 1 * k.val; rw [e]; show _ = t.val % 4 * 1024 + 1 * k.val; omega
  · have h : (i 0).val < 2048 := (i 0).isLt
    have h' : (i 1).val < 4096 := (i 1).isLt
    obtain ⟨t, ht⟩ : ∃ t : Fin cfg0.N, t.val = (i 0).val / 1024 * 4 + (i 1).val / 1024 :=
      ⟨⟨(i 0).val / 1024 * 4 + (i 1).val / 1024, by rw [show cfg0.N = 8 from N_0]; omega⟩, rfl⟩
    exact ⟨t, flush0_7 t, mem_units t i (by omega) (by omega)⟩

theorem gain_final : (dats m 0 c).arrAt 8 cfg0.N = resG N := by
  refine (dats m 0 c).arrAt_eq_of_cover 8 (resG N) (fun t hf => ?_) fun i => ?_
  · have h7 : t.val = 7 := by
      have := (flush0_8 t).mp hf; have := lt8 t; omega
    rw [Value.flushed8]
    obtain ⟨-, -, e⟩ := idx_out t
    refine funext fun (j : S1x1024.Idx) => ?_
    obtain ⟨z, k, rfl⟩ : ∃ (z : Fin 1) (k : Fin 1024), j = ix2 z k := ⟨_, _, eq_ix2 j⟩
    obtain rfl : z = 0 := Subsingleton.elim _ _
    show (outsAt0 m c t.val t.isLt).2.2.1 (ix2 0 k) = resG N (((cfg0.win 8).blk t).view.emb (ix2 0 k))
    have hi : ix2 0 k = ((cfg0.win 8).blk t).view.emb (ix2 0 k) := funext fun a => Fin.ext (by
      match a with
      | ⟨0, _⟩ => show 0 = win0_8.index t 0 * 1 + 1 * 0; rw [e]; rfl
      | ⟨1, _⟩ => show k.val = win0_8.index t 1 * 1024 + 1 * k.val; rw [e]; show _ = 0 * 1024 + 1 * k.val; omega)
    rw [gain_eq A, h7, blocks_all, ← hi]
    rfl
  · exact ⟨⟨7, by rw [show cfg0.N = 8 from N_0]; omega⟩, (flush0_8 _).mpr rfl, mem_gain _ i⟩

end Finals

/-! ## The claim -/

/-- What the precondition says: the arguments hold real numbers. -/
theorem reads_of_pre [Cert.Pre_mlpd_finite.Facts] (x0 x1 : Vec Ideal S2048x1024 .f32) (x2 : Vec Ideal S1024 .f32)
    (x3 : Vec Ideal S1024x4096 .f32) (x4 : Vec Ideal S4096x1024 .f32)
    (h0 : (Cert.Pre_mlpd_finite.fn (F := Ideal) x0 x1 x2 x3 x4).1 = fun _ => 1#1)
    (h1 : (Cert.Pre_mlpd_finite.fn (F := Ideal) x0 x1 x2 x3 x4).2.1 = fun _ => 1#1)
    (h2 : (Cert.Pre_mlpd_finite.fn (F := Ideal) x0 x1 x2 x3 x4).2.2.1 = fun _ => 1#1)
    (h3 : (Cert.Pre_mlpd_finite.fn (F := Ideal) x0 x1 x2 x3 x4).2.2.2.1 = fun _ => 1#1)
    (h4 : (Cert.Pre_mlpd_finite.fn (F := Ideal) x0 x1 x2 x3 x4).2.2.2.2 = fun _ => 1#1) :
    ∃ N : Net, Cert.MlpDRefIdeal.Hand.Args x0 x1 x2 x3 x4 N := by
  have e0 (s : Fin 2048) (k : Fin 1024) : ∃ a : ℝ, x0 (ix2 s k) = a := Alg.finite_of_abs_lt _ (congrFun h0 (ix2 s k))
  have e1 (s : Fin 2048) (k : Fin 1024) : ∃ a : ℝ, x1 (ix2 s k) = a := Alg.finite_of_abs_lt _ (congrFun h1 (ix2 s k))
  have e2 (k : Fin 1024) : ∃ a : ℝ, x2 (ix1 k) = a := Alg.finite_of_abs_lt _ (congrFun h2 (ix1 k))
  have e3 (k : Fin 1024) (l : Fin 4096) : ∃ a : ℝ, x3 (ix2 k l) = a := Alg.finite_of_abs_lt _ (congrFun h3 (ix2 k l))
  have e4 (l : Fin 4096) (k : Fin 1024) : ∃ a : ℝ, x4 (ix2 l k) = a := Alg.finite_of_abs_lt _ (congrFun h4 (ix2 l k))
  choose D hD using e0
  choose X hX using e1
  choose G hG using e2
  choose U hU using e3
  choose W hW using e4
  exact ⟨⟨D, X, G, U, W⟩, hD, hX, hG, hU, hW⟩

/-- The claim: where the arguments are finite, both programs end with the same three gradients. -/
theorem values [hK : Cert.MlpDIdeal.Facts] [hR : Cert.MlpDRefIdeal.Facts] [hP : Cert.Pre_mlpd_finite.Facts] :
    algebraic_MlpDIdeal_MlpDRefIdeal_pre_mlpd_finite := fun m ρ m' ρ' hpre hag => by
  have hN (c : Dev nD) : ∃ N : Net, Cert.MlpDRefIdeal.Hand.Args (A0 m c) (A1 m c) (A2 m c) (A3 m c) (A4 m c) N :=
    reads_of_pre _ _ _ _ _ (hpre c).1 (hpre c).2.1 (hpre c).2.2.1 (hpre c).2.2.2.1 (hpre c).2.2.2.2
  choose N A using hN
  refine ⟨fun c => resX (A0 m c) (N c), fun c => resU (N c), fun c => resG (N c), ?_, ?_⟩
  · exact (θ_run defs _ _).mono (fun _ h c => ⟨(h c).1.trans (rows_final (A c)), (h c).2.1.trans (units_final (A c)),
      (h c).2.2.1.trans (gain_final (A c)), (h c).2.2.2⟩) (Value.run_blocks m ρ)
  · have B (c : Dev nD) : Cert.MlpDRefIdeal.Hand.Args (m' ((c.tc : Thread Cert.MlpDRefIdeal.nD Cert.MlpDRefIdeal.τ).loc Cert.MlpDRefIdeal.main_arg0))
        (m' ((c.tc : Thread Cert.MlpDRefIdeal.nD Cert.MlpDRefIdeal.τ).loc Cert.MlpDRefIdeal.main_arg1))
        (m' ((c.tc : Thread Cert.MlpDRefIdeal.nD Cert.MlpDRefIdeal.τ).loc Cert.MlpDRefIdeal.main_arg2))
        (m' ((c.tc : Thread Cert.MlpDRefIdeal.nD Cert.MlpDRefIdeal.τ).loc Cert.MlpDRefIdeal.main_arg3))
        (m' ((c.tc : Thread Cert.MlpDRefIdeal.nD Cert.MlpDRefIdeal.τ).loc Cert.MlpDRefIdeal.main_arg4)) (N c) := by
      obtain ⟨h0, h1, h2, h3, h4⟩ := hag c
      rw [h0, h1, h2, h3, h4]
      exact A c
    refine (θ_run _ _ _).mono (fun r h c => ⟨(h c).1.trans ?_, (h c).2.1.trans ?_, (h c).2.2.1.trans ?_, (h c).2.2.2⟩)
      (Cert.MlpDRefIdeal.Value.run m' ρ')
    · refine (Cert.MlpDRefIdeal.Read.val_main_v52_eq _ _).trans ?_
      refine funext fun (i : S2048x1024.Idx) => ?_
      obtain ⟨s, k, rfl⟩ : ∃ (s : Fin 2048) (k : Fin 1024), i = ix2 s k := ⟨_, _, eq_ix2 i⟩
      refine (Cert.MlpDRefIdeal.Hand.v52 (B c) s k).trans ?_
      rw [(hag c).1]
      rfl
    · refine (Cert.MlpDRefIdeal.Read.val_main_v53_eq _ _ _ _ _).trans ?_
      refine funext fun (i : S2048x4096.Idx) => ?_
      obtain ⟨s, l, rfl⟩ : ∃ (s : Fin 2048) (l : Fin 4096), i = ix2 s l := ⟨_, _, eq_ix2 i⟩
      exact Cert.MlpDRefIdeal.Hand.v53 (B c) s l
    · refine (Cert.MlpDRefIdeal.Read.val_main_v54_eq _ _ _ _ _).trans ?_
      refine funext fun (i : S1x1024.Idx) => ?_
      obtain ⟨z, k, rfl⟩ : ∃ (z : Fin 1) (k : Fin 1024), i = ix2 z k := ⟨_, _, eq_ix2 i⟩
      obtain rfl : z = 0 := Subsingleton.elim _ _
      exact Cert.MlpDRefIdeal.Hand.v54 (B c) k

end Cert.MlpDIdeal.Hand

end
-- ==== Proof.lean ====
/-
  The proof of `Cert.Claim`: the frames are the generated ones; a reference's counters are zero because it declares none; the value
  claims are in `Proof/Loss.lean` and its neighbours.
-/
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_conv_finite
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.Pre_attnf_finite
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Pre_in_finite
public import proofs.«01_k».proof.Proof.Gen.ConvF
public import proofs.«01_k».proof.Proof.Gen.ConvF.Frame
public import proofs.«01_k».proof.Proof.Gen.ConvFIdeal
public import proofs.«01_k».proof.Proof.Gen.ConvFIdeal.Frame
public import proofs.«01_k».proof.Proof.Gen.ConvFIdeal.Value
public import proofs.«01_k».proof.Proof.Gen.ConvFRefIdeal
public import proofs.«01_k».proof.Proof.Gen.ConvFRefIdeal.Run
public import proofs.«01_k».proof.Proof.Gen.ConvFRefIdeal.Read
public import proofs.«01_k».proof.Proof.Gen.InF
public import proofs.«01_k».proof.Proof.Gen.InF.Frame
public import proofs.«01_k».proof.Proof.Gen.InFIdeal
public import proofs.«01_k».proof.Proof.Gen.InFIdeal.Frame
public import proofs.«01_k».proof.Proof.Gen.InFIdeal.Value
public import proofs.«01_k».proof.Proof.Gen.InFRefIdeal
public import proofs.«01_k».proof.Proof.Gen.InFRefIdeal.Run
public import proofs.«01_k».proof.Proof.Gen.InFRefIdeal.Read
public import proofs.«01_k».proof.Proof.Gen.MlpF
public import proofs.«01_k».proof.Proof.Gen.MlpF.Frame
public import proofs.«01_k».proof.Proof.Gen.MlpFIdeal
public import proofs.«01_k».proof.Proof.Gen.MlpFIdeal.Frame
public import proofs.«01_k».proof.Proof.Gen.MlpFIdeal.Value
public import proofs.«01_k».proof.Proof.Gen.MlpFRefIdeal
public import proofs.«01_k».proof.Proof.Gen.MlpFRefIdeal.Run
public import proofs.«01_k».proof.Proof.Gen.MlpFRefIdeal.Read
public import proofs.«01_k».proof.Proof.Gen.MlpD
public import proofs.«01_k».proof.Proof.Gen.MlpD.Frame
public import proofs.«01_k».proof.Proof.Gen.MlpDIdeal
public import proofs.«01_k».proof.Proof.Gen.MlpDIdeal.Frame
public import proofs.«01_k».proof.Proof.Gen.MlpDIdeal.Value
public import proofs.«01_k».proof.Proof.Gen.MlpDRefIdeal
public import proofs.«01_k».proof.Proof.Gen.MlpDRefIdeal.Run
public import proofs.«01_k».proof.Proof.Gen.MlpDRefIdeal.Read
public import proofs.«01_k».proof.Proof.Gen.Pre_mlpd_finite
public import proofs.«01_k».proof.Proof.Loss
public import proofs.«01_k».proof.Proof.Conv
public import proofs.«01_k».proof.Proof.Attn
public import proofs.«01_k».proof.Proof.AttnF
public import proofs.«01_k».proof.Proof.In
public import proofs.«01_k».proof.Proof.ConvF
public import proofs.«01_k».proof.Proof.InF
public import proofs.«01_k».proof.Proof.MlpFBody
public import proofs.«01_k».proof.Proof.MlpF
public import proofs.«01_k».proof.Proof.MlpD

@[expose] public section

noncomputable section

namespace Cert.Proof

open Idealize.ShloMosaic Idealize.SL.Sem

theorem frame_loss_ref : @quiescent_LossRefIdeal Cert.LossRefIdeal.Gen.facts := fun m ρ _ =>
  (θ_run _ _ _).mono (fun _ h => ⟨fun c => (h c).2.2, funext fun g => match g with | ⟨_, s⟩ => by cases s <;> rename_i x <;> exact x.elim0⟩) (Cert.LossRefIdeal.Value.run m ρ)

theorem frame_conv_ref : @quiescent_ConvRefIdeal Cert.ConvRefIdeal.Gen.facts := fun m ρ _ =>
  (θ_run _ _ _).mono (fun _ h => ⟨fun c => (h c).2.2.2, funext fun g => match g with | ⟨_, s⟩ => by cases s <;> rename_i x <;> exact x.elim0⟩) (Cert.ConvRefIdeal.Value.run m ρ)

theorem frame_attn_ref : @quiescent_AttnRefIdeal Cert.AttnRefIdeal.Gen.facts := fun m ρ _ =>
  (θ_run _ _ _).mono (fun _ h => ⟨fun c => (h c).2.2.2.2.2.2.2, funext fun g => match g with | ⟨_, s⟩ => by cases s <;> rename_i x <;> exact x.elim0⟩) (Cert.AttnRefIdeal.Value.run m ρ)

theorem frame_attnf_ref : @quiescent_AttnFRefIdeal Cert.AttnFRefIdeal.Gen.facts := fun m ρ _ =>
  (θ_run _ _ _).mono (fun _ h => ⟨fun c => (h c).2, funext fun g => match g with | ⟨_, s⟩ => by cases s <;> rename_i x <;> exact x.elim0⟩) (Cert.AttnFRefIdeal.Value.run m ρ)

theorem frame_in_ref : @quiescent_InRefIdeal Cert.InRefIdeal.Gen.facts := fun m ρ _ =>
  (θ_run _ _ _).mono (fun _ h => ⟨fun c => (h c).2.2.2, funext fun g => match g with | ⟨_, s⟩ => by cases s <;> rename_i x <;> exact x.elim0⟩) (Cert.InRefIdeal.Value.run m ρ)

theorem frame_convf_ref : @quiescent_ConvFRefIdeal Cert.ConvFRefIdeal.Gen.facts := fun m ρ _ =>
  (θ_run _ _ _).mono (fun _ h => ⟨fun c => (h c).2, funext fun g => match g with | ⟨_, s⟩ => by cases s <;> rename_i x <;> exact x.elim0⟩) (Cert.ConvFRefIdeal.Value.run m ρ)

theorem frame_inf_ref : @quiescent_InFRefIdeal Cert.InFRefIdeal.Gen.facts := fun m ρ _ =>
  (θ_run _ _ _).mono (fun _ h => ⟨fun c => (h c).2, funext fun g => match g with | ⟨_, s⟩ => by cases s <;> rename_i x <;> exact x.elim0⟩) (Cert.InFRefIdeal.Value.run m ρ)

theorem frame_mlpf_ref : @quiescent_MlpFRefIdeal Cert.MlpFRefIdeal.Gen.facts := fun m ρ _ =>
  (θ_run _ _ _).mono (fun _ h => ⟨fun c => (h c).2.2, funext fun g => match g with | ⟨_, s⟩ => by cases s <;> rename_i x <;> exact x.elim0⟩) (Cert.MlpFRefIdeal.Value.run m ρ)

theorem frame_mlpd_ref : @quiescent_MlpDRefIdeal Cert.MlpDRefIdeal.Gen.facts := fun m ρ _ =>
  (θ_run _ _ _).mono (fun _ h => ⟨fun c => (h c).2.2.2, funext fun g => match g with | ⟨_, s⟩ => by cases s <;> rename_i x <;> exact x.elim0⟩) (Cert.MlpDRefIdeal.Value.run m ρ)

theorem claim : Cert.Claim := ⟨Cert.Loss.Gen.facts, Cert.LossIdeal.Gen.facts, Cert.LossRefIdeal.Gen.facts, Cert.Conv.Gen.facts, Cert.ConvIdeal.Gen.facts, Cert.ConvRefIdeal.Gen.facts, Cert.Attn.Gen.facts, Cert.AttnIdeal.Gen.facts, Cert.AttnRefIdeal.Gen.facts, Cert.AttnF.Gen.facts, Cert.AttnFIdeal.Gen.facts, Cert.AttnFRefIdeal.Gen.facts, Cert.In.Gen.facts, Cert.InIdeal.Gen.facts, Cert.InRefIdeal.Gen.facts, Cert.ConvF.Gen.facts, Cert.ConvFIdeal.Gen.facts, Cert.ConvFRefIdeal.Gen.facts, Cert.InF.Gen.facts, Cert.InFIdeal.Gen.facts, Cert.InFRefIdeal.Gen.facts, Cert.MlpF.Gen.facts, Cert.MlpFIdeal.Gen.facts, Cert.MlpFRefIdeal.Gen.facts, Cert.MlpD.Gen.facts, Cert.MlpDIdeal.Gen.facts, Cert.MlpDRefIdeal.Gen.facts, Cert.Pre_conv_finite.Gen.facts, Cert.Pre_attn_finite.Gen.facts, Cert.Pre_attnf_finite.Gen.facts, Cert.Pre_in_finite.Gen.facts, Cert.Pre_mlpd_finite.Gen.facts,
  fun m ρ _ => Cert.Loss.Gen.frame m ρ, fun m ρ _ => Cert.LossIdeal.Gen.frame m ρ, frame_loss_ref,
  fun m ρ _ => Cert.Conv.Gen.frame m ρ, fun m ρ _ => Cert.ConvIdeal.Gen.frame m ρ, fun m ρ _ => Cert.ConvIdeal.Gen.frame m ρ, frame_conv_ref, fun m ρ _ => frame_conv_ref m ρ trivial,
  fun m ρ _ => Cert.Attn.Gen.frame m ρ, fun m ρ _ => Cert.AttnIdeal.Gen.frame m ρ, fun m ρ _ => Cert.AttnIdeal.Gen.frame m ρ, frame_attn_ref, fun m ρ _ => frame_attn_ref m ρ trivial,
  fun m ρ _ => Cert.AttnF.Gen.frame m ρ, fun m ρ _ => Cert.AttnFIdeal.Gen.frame m ρ, fun m ρ _ => Cert.AttnFIdeal.Gen.frame m ρ, frame_attnf_ref, fun m ρ _ => frame_attnf_ref m ρ trivial,
  fun m ρ _ => Cert.In.Gen.frame m ρ, fun m ρ _ => Cert.InIdeal.Gen.frame m ρ, fun m ρ _ => Cert.InIdeal.Gen.frame m ρ, frame_in_ref, fun m ρ _ => frame_in_ref m ρ trivial,
  fun m ρ _ => Cert.ConvF.Gen.frame m ρ, fun m ρ _ => Cert.ConvFIdeal.Gen.frame m ρ, frame_convf_ref,
  fun m ρ _ => Cert.InF.Gen.frame m ρ, fun m ρ _ => Cert.InFIdeal.Gen.frame m ρ, frame_inf_ref,
  fun m ρ _ => Cert.MlpF.Gen.frame m ρ, fun m ρ _ => Cert.MlpFIdeal.Gen.frame m ρ, frame_mlpf_ref,
  fun m ρ _ => Cert.MlpD.Gen.frame m ρ, fun m ρ _ => Cert.MlpDIdeal.Gen.frame m ρ, fun m ρ _ => Cert.MlpDIdeal.Gen.frame m ρ, frame_mlpd_ref, fun m ρ _ => frame_mlpd_ref m ρ trivial,
  trivial, Cert.LossIdeal.Hand.values,
  trivial, Cert.ConvIdeal.Hand.values,
  IdealRules.named_const.statement Cert.AttnIdeal.κ "mask" .f32 0xF149F2CA#32 ⊥ rfl, Cert.AttnIdeal.Hand.values,
  IdealRules.named_const.statement Cert.AttnFIdeal.κ "mask" .f32 0xF149F2CA#32 ⊥ rfl, Cert.AttnFIdeal.Hand.values,
  trivial, Cert.InIdeal.Hand.values,
  trivial, Cert.ConvFIdeal.Hand.values,
  trivial, Cert.InFIdeal.Hand.values,
  trivial, Cert.MlpFIdeal.Hand.values,
  trivial, Cert.MlpDIdeal.Hand.values⟩

end Cert.Proof

end
